-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def preserves_Kernel_KernelIdeal : Prop :=
  IdealRules.named_const.Statement Cert.KernelIdeal.κ "scale" .f32 0x3E0293EE#32 (((Real.sqrt 128)⁻¹ * (Real.log 2)⁻¹ : ℝ) : EReal)
  ∧ IdealRules.named_const.Statement Cert.KernelIdeal.κ "neg_log2e" .f32 0xBFB8AA3B#32 ((-((Real.log 2)⁻¹) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v18) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v281) = v0 c
          ∧ r.2.mem ((c.tc : Thread Cert.Reference6Ideal.nD Cert.Reference6Ideal.τ).loc Cert.Reference6Ideal.main_v283) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v30_0)) (v1 : (c : Dev Cert.Kernel7Ideal.nD) → Buf (Elt Ideal) ((c.tc : Thread Cert.Kernel7Ideal.nD Cert.Kernel7Ideal.τ).loc Cert.Kernel7Ideal.main_v30_1)) (v2 : (c : Dev Cert.Kernel7Ideal.nD) → Buf (Elt Ideal) ((c.tc : Thread Cert.Kernel7Ideal.nD Cert.Kernel7Ideal.τ).loc Cert.Kernel7Ideal.main_v30_2)) (v3 : (c : Dev Cert.Kernel7Ideal.nD) → Buf (Elt Ideal) ((c.tc : Thread Cert.Kernel7Ideal.nD Cert.Kernel7Ideal.τ).loc Cert.Kernel7Ideal.main_v30_3)) (v4 : (c : Dev Cert.Kernel7Ideal.nD) → Buf (Elt Ideal) ((c.tc : Thread Cert.Kernel7Ideal.nD Cert.Kernel7Ideal.τ).loc Cert.Kernel7Ideal.main_v30_4)) (v5 : (c : Dev Cert.Kernel7Ideal.nD) → Buf (Elt Ideal) ((c.tc : Thread Cert.Kernel7Ideal.nD Cert.Kernel7Ideal.τ).loc Cert.Kernel7Ideal.main_v30_5)) (v6 : (c : Dev Cert.Kernel7Ideal.nD) → Buf (Elt Ideal) ((c.tc : Thread Cert.Kernel7Ideal.nD Cert.Kernel7Ideal.τ).loc Cert.Kernel7Ideal.main_v30_6)) (v7 : (c : Dev Cert.Kernel7Ideal.nD) → Buf (Elt Ideal) ((c.tc : Thread Cert.Kernel7Ideal.nD Cert.Kernel7Ideal.τ).loc Cert.Kernel7Ideal.main_v30_7)) (v8 : (c : Dev Cert.Kernel7Ideal.nD) → Buf (Elt Ideal) ((c.tc : Thread Cert.Kernel7Ideal.nD Cert.Kernel7Ideal.τ).loc Cert.Kernel7Ideal.main_v30_8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v30_0) = v0 c
          ∧ r.2.mem ((c.tc : Thread Cert.Kernel7Ideal.nD Cert.Kernel7Ideal.τ).loc Cert.Kernel7Ideal.main_v30_1) = v1 c
          ∧ r.2.mem ((c.tc : Thread Cert.Kernel7Ideal.nD Cert.Kernel7Ideal.τ).loc Cert.Kernel7Ideal.main_v30_2) = v2 c
          ∧ r.2.mem ((c.tc : Thread Cert.Kernel7Ideal.nD Cert.Kernel7Ideal.τ).loc Cert.Kernel7Ideal.main_v30_3) = v3 c
          ∧ r.2.mem ((c.tc : Thread Cert.Kernel7Ideal.nD Cert.Kernel7Ideal.τ).loc Cert.Kernel7Ideal.main_v30_4) = v4 c
          ∧ r.2.mem ((c.tc : Thread Cert.Kernel7Ideal.nD Cert.Kernel7Ideal.τ).loc Cert.Kernel7Ideal.main_v30_5) = v5 c
          ∧ r.2.mem ((c.tc : Thread Cert.Kernel7Ideal.nD Cert.Kernel7Ideal.τ).loc Cert.Kernel7Ideal.main_v30_6) = v6 c
          ∧ r.2.mem ((c.tc : Thread Cert.Kernel7Ideal.nD Cert.Kernel7Ideal.τ).loc Cert.Kernel7Ideal.main_v30_7) = v7 c
          ∧ r.2.mem ((c.tc : Thread Cert.Kernel7Ideal.nD Cert.Kernel7Ideal.τ).loc Cert.Kernel7Ideal.main_v30_8) = v8 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v112) = v0 c
          ∧ r.2.mem ((c.tc : Thread Cert.Reference7Ideal.nD Cert.Reference7Ideal.τ).loc Cert.Reference7Ideal.main_v132) = v1 c
          ∧ r.2.mem ((c.tc : Thread Cert.Reference7Ideal.nD Cert.Reference7Ideal.τ).loc Cert.Reference7Ideal.main_v137) = v2 c
          ∧ r.2.mem ((c.tc : Thread Cert.Reference7Ideal.nD Cert.Reference7Ideal.τ).loc Cert.Reference7Ideal.main_v140) = v3 c
          ∧ r.2.mem ((c.tc : Thread Cert.Reference7Ideal.nD Cert.Reference7Ideal.τ).loc Cert.Reference7Ideal.main_v142) = v4 c
          ∧ r.2.mem ((c.tc : Thread Cert.Reference7Ideal.nD Cert.Reference7Ideal.τ).loc Cert.Reference7Ideal.main_v145) = v5 c
          ∧ r.2.mem ((c.tc : Thread Cert.Reference7Ideal.nD Cert.Reference7Ideal.τ).loc Cert.Reference7Ideal.main_v149) = v6 c
          ∧ r.2.mem ((c.tc : Thread Cert.Reference7Ideal.nD Cert.Reference7Ideal.τ).loc Cert.Reference7Ideal.main_v151) = v7 c
          ∧ r.2.mem ((c.tc : Thread Cert.Reference7Ideal.nD Cert.Reference7Ideal.τ).loc Cert.Reference7Ideal.main_v152) = v8 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v16_0)) (v1 : (c : Dev Cert.Kernel8Ideal.nD) → Buf (Elt Ideal) ((c.tc : Thread Cert.Kernel8Ideal.nD Cert.Kernel8Ideal.τ).loc Cert.Kernel8Ideal.main_v16_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v16_0) = v0 c
          ∧ r.2.mem ((c.tc : Thread Cert.Kernel8Ideal.nD Cert.Kernel8Ideal.τ).loc Cert.Kernel8Ideal.main_v16_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_v16) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v16_0)) (v1 : (c : Dev Cert.Kernel9Ideal.nD) → Buf (Elt Ideal) ((c.tc : Thread Cert.Kernel9Ideal.nD Cert.Kernel9Ideal.τ).loc Cert.Kernel9Ideal.main_v16_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v16_0) = v0 c
          ∧ r.2.mem ((c.tc : Thread Cert.Kernel9Ideal.nD Cert.Kernel9Ideal.τ).loc Cert.Kernel9Ideal.main_v16_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_v16) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel.lean ====
abbrev S2x8192x1536 : Shape := ⟨3, ![2, 8192, 1536]⟩
abbrev S2x8192x512 : Shape := ⟨3, ![2, 8192, 512]⟩
abbrev S16384x512 : Shape := ⟨2, ![16384, 512]⟩
abbrev S2x32x256x4x128 : Shape := ⟨5, ![2, 32, 256, 4, 128]⟩
abbrev S2x4x32x128x256 : Shape := ⟨5, ![2, 4, 32, 128, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1024x128 : Shape := ⟨2, ![1024, 128]⟩
abbrev S1x1x32x128x256 : Shape := ⟨5, ![1, 1, 32, 128, 256]⟩
abbrev S1x8192x128 : Shape := ⟨3, ![1, 8192, 128]⟩
abbrev S256x128 : Shape := ⟨2, ![256, 128]⟩
abbrev S1x1x1x128x256 : Shape := ⟨5, ![1, 1, 1, 128, 256]⟩
abbrev S128x256 : Shape := ⟨2, ![128, 256]⟩
abbrev S1x256x128 : Shape := ⟨3, ![1, 256, 128]⟩
abbrev S512x128 : Shape := ⟨2, ![512, 128]⟩
abbrev S512x256 : Shape := ⟨2, ![512, 256]⟩
abbrev S512x1 : Shape := ⟨2, ![512, 1]⟩
abbrev S768x128 : Shape := ⟨2, ![768, 128]⟩
abbrev S768x256 : Shape := ⟨2, ![768, 256]⟩
abbrev S768x1 : Shape := ⟨2, ![768, 1]⟩
abbrev S1024x256 : Shape := ⟨2, ![1024, 256]⟩
abbrev S1024x1 : Shape := ⟨2, ![1024, 1]⟩

abbrev nBuf : Space → Nat
  | .hbm => 18
  | .vmem => 11
  | .smem => 0
  | _ => 0

abbrev bufTy : (tb : Table) → Fin (tcTables nBuf tb) → BufTy
  | .hbm, ⟨0, _⟩ => ⟨S2x8192x1536, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S16384x512, .f32⟩
  | .hbm, ⟨5, _⟩ => ⟨S2x32x256x4x128, .f32⟩
  | .hbm, ⟨6, _⟩ => ⟨S2x4x32x128x256, .f32⟩
  | .hbm, ⟨7, _⟩ => ⟨S2x4x32x128x256, .bf16⟩
  | .hbm, ⟨8, _⟩ => ⟨S2x8192x512, .bf16⟩
  | .hbm, ⟨9, _⟩ => ⟨S256, .i32⟩
  | .hbm, ⟨10, _⟩ => ⟨S256x1, .i32⟩
  | .hbm, ⟨11, _⟩ => ⟨S256, .i32⟩
  | .hbm, ⟨12, _⟩ => ⟨S1x256, .i32⟩
  | .hbm, ⟨13, _⟩ => ⟨S256x256, .i32⟩
  | .hbm, ⟨14, _⟩ => ⟨S256x256, .i32⟩
  | .hbm, ⟨15, _⟩ => ⟨S256x256, .i1⟩
  | .hbm, ⟨16, _⟩ => ⟨S256x256, .bf16⟩
  | .hbm, ⟨17, _⟩ => ⟨S16384x512, .bf16⟩
  | .local _ .vmem, ⟨0, _⟩ => ⟨S1024x128, .f32⟩
  | .local _ .vmem, ⟨1, _⟩ => ⟨S1024x128, .f32⟩
  | .local _ .vmem, ⟨2, _⟩ => ⟨S1x1x32x128x256, .bf16⟩
  | .local _ .vmem, ⟨3, _⟩ => ⟨S1x1x32x128x256, .bf16⟩
  | .local _ .vmem, ⟨4, _⟩ => ⟨S1x8192x128, .bf16⟩
  | .local _ .vmem, ⟨5, _⟩ => ⟨S1x8192x128, .bf16⟩
  | .local _ .vmem, ⟨6, _⟩ => ⟨S256x256, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .f32⟩
  | .local _ .vmem, ⟨10, _⟩ => ⟨S1024x128, .f32⟩
  | _, _ => ⟨S2x8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 4, 8], ![false, false, false]⟩

def k0_off1 (i : grid0.Coords) (c3_i32 : BitVec 32) : Fin 5 → Nat :=
  let c0_7 : Index := 0#32
  let c0_8 : Index := 0#32
  let arg2 : BitVec 32 := BitVec.ofNat 32 (i 2).val
  let c4_i32 : BitVec 32 := 4#32
  let v13 : BitVec 32 := Scalar.muli arg2 c4_i32
  let c0_i32 : BitVec 32 := 0#32
  let v14 : BitVec 32 := Scalar.addi v13 c0_i32
  let v15 : BitVec 32 := Scalar.addi v14 c3_i32
  let v17 : Index := Scalar.indexCast v15
  let c0_9 : Index := 0#32
  let c0_10 : Index := 0#32
  ![0, 0, v17.toNat, 0, 0]
def k0_mult1 (i : grid0.Coords) : BitVec 32 :=
  let arg2 : BitVec 32 := BitVec.ofNat 32 (i 2).val
  let c4_i32 : BitVec 32 := 4#32
  let v13 : BitVec 32 := Scalar.muli arg2 c4_i32
  let c0_i32 : BitVec 32 := 0#32
  let v14 : BitVec 32 := Scalar.addi v13 c0_i32
  let c3_i32 : BitVec 32 := 3#32
  let v15 : BitVec 32 := Scalar.addi v14 c3_i32
  let c256_i32_21 : BitVec 32 := 256#32
  let v53 : BitVec 32 := Scalar.muli v15 c256_i32_21
  v53
def k0_off2 (i : grid0.Coords) (c3_i32 : BitVec 32) : Fin 3 → Nat :=
  let c0_22 : Index := 0#32
  let arg2 : BitVec 32 := BitVec.ofNat 32 (i 2).val
  let c4_i32 : BitVec 32 := 4#32
  let v13 : BitVec 32 := Scalar.muli arg2 c4_i32
  let c0_i32 : BitVec 32 := 0#32
  let v14 : BitVec 32 := Scalar.addi v13 c0_i32
  let v15 : BitVec 32 := Scalar.addi v14 c3_i32
  let c256_i32_21 : BitVec 32 := 256#32
  let v53 : BitVec 32 := Scalar.muli v15 c256_i32_21
  let v54 : BitVec 32 := v53
  let v56 : Index := Scalar.indexCast v54
  let c0_23 : Index := 0#32
  ![0, v56.toNat, 0]
def k0_mult2 (i : grid0.Coords) : BitVec 32 :=
  let arg2 : BitVec 32 := BitVec.ofNat 32 (i 2).val
  let c4_i32_25 : BitVec 32 := 4#32
  let v61 : BitVec 32 := Scalar.muli arg2 c4_i32_25
  let c0_i32_26 : BitVec 32 := 0#32
  let v62 : BitVec 32 := Scalar.addi v61 c0_i32_26
  let c2_i32 : BitVec 32 := 2#32
  let v63 : BitVec 32 := Scalar.addi v62 c2_i32
  let c256_i32_43 : BitVec 32 := 256#32
  let v101 : BitVec 32 := Scalar.muli v63 c256_i32_43
  v101
def k0_mult3 (i : grid0.Coords) : BitVec 32 :=
  let arg2 : BitVec 32 := BitVec.ofNat 32 (i 2).val
  let c4_i32_47 : BitVec 32 := 4#32
  let v109 : BitVec 32 := Scalar.muli arg2 c4_i32_47
  let c0_i32_48 : BitVec 32 := 0#32
  let v110 : BitVec 32 := Scalar.addi v109 c0_i32_48
  let c1_i32 : BitVec 32 := 1#32
  let v111 : BitVec 32 := Scalar.addi v110 c1_i32
  let c256_i32_66 : BitVec 32 := 256#32
  let v149 : BitVec 32 := Scalar.muli v111 c256_i32_66
  v149
def k0_mult4 (i : grid0.Coords) : BitVec 32 :=
  let arg2 : BitVec 32 := BitVec.ofNat 32 (i 2).val
  let c4_i32_70 : BitVec 32 := 4#32
  let v157 : BitVec 32 := Scalar.muli arg2 c4_i32_70
  let c0_i32_71 : BitVec 32 := 0#32
  let v158 : BitVec 32 := Scalar.addi v157 c0_i32_71
  let c0_i32_72 : BitVec 32 := 0#32
  let v159 : BitVec 32 := Scalar.addi v158 c0_i32_72
  let c256_i32_90 : BitVec 32 := 256#32
  let v196 : BitVec 32 := Scalar.muli v159 c256_i32_90
  v196
@[reducible] def k0_t1_loop (i : grid0.Coords) : Scf.Loop 32 :=
  let c0_i32_125 : BitVec 32 := 0#32
  let arg2 : BitVec 32 := BitVec.ofNat 32 (i 2).val
  let c1_i32_123 : BitVec 32 := 1#32
  let v260 : BitVec 32 := Scalar.muli arg2 c1_i32_123
  let v261 : BitVec 32 := Scalar.subi v260 c0_i32_125
  let c1_i32_126 : BitVec 32 := 1#32
  let v263 : BitVec 32 := Scalar.divsi v261 c1_i32_126
  let v264 : BitVec 32 := Scalar.muli v263 c1_i32_126
  let v265 : BitVec 32 := Scalar.addi c0_i32_125 v264
  let c1_i32_127 : BitVec 32 := 1#32
  ⟨c0_i32_125, v265, c1_i32_127⟩
def k0_off3 (i : grid0.Coords) (k0_t1 : Fin (k0_t1_loop i).trips) (c0_i32_136 : BitVec 32) : Fin 5 → Nat :=
  let c0_137 : Index := 0#32
  let c0_138 : Index := 0#32
  let arg2 : BitVec 32 := BitVec.ofNat 32 (i 2).val
  let c4_i32_133 : BitVec 32 := 4#32
  let v269 : BitVec 32 := Scalar.muli arg2 c4_i32_133
  let c1_i32_134 : BitVec 32 := 1#32
  let v270 : BitVec 32 := Scalar.subi v269 c1_i32_134
  let c0_i32_125 : BitVec 32 := 0#32
  let c1_i32_127 : BitVec 32 := 1#32
  let arg10 : BitVec 32 := Scf.iv c0_i32_125 c1_i32_127 k0_t1
  let c4_i32_135 : BitVec 32 := 4#32
  let v271 : BitVec 32 := Scalar.muli arg10 c4_i32_135
  let v272 : BitVec 32 := Scalar.subi v270 v271
  let v273 : BitVec 32 := Scalar.subi v272 c0_i32_136
  let v274 : Index := Scalar.indexCast v273
  let c0_139 : Index := 0#32
  let c0_140 : Index := 0#32
  ![0, 0, v274.toNat, 0, 0]
def k0_mult5 (i : grid0.Coords) (k0_t1 : Fin (k0_t1_loop i).trips) : BitVec 32 :=
  let arg2 : BitVec 32 := BitVec.ofNat 32 (i 2).val
  let c4_i32_133 : BitVec 32 := 4#32
  let v269 : BitVec 32 := Scalar.muli arg2 c4_i32_133
  let c1_i32_134 : BitVec 32 := 1#32
  let v270 : BitVec 32 := Scalar.subi v269 c1_i32_134
  let c0_i32_125 : BitVec 32 := 0#32
  let c1_i32_127 : BitVec 32 := 1#32
  let arg10 : BitVec 32 := Scf.iv c0_i32_125 c1_i32_127 k0_t1
  let c4_i32_135 : BitVec 32 := 4#32
  let v271 : BitVec 32 := Scalar.muli arg10 c4_i32_135
  let v272 : BitVec 32 := Scalar.subi v270 v271
  let c0_i32_136 : BitVec 32 := 0#32
  let v273 : BitVec 32 := Scalar.subi v272 c0_i32_136
  let c256_i32_149 : BitVec 32 := 256#32
  let v296 : BitVec 32 := Scalar.muli v273 c256_i32_149
  v296
def k0_off4 (i : grid0.Coords) (k0_t1 : Fin (k0_t1_loop i).trips) (c0_i32_136 : BitVec 32) : Fin 3 → Nat :=
  let c0_150 : Index := 0#32
  let arg2 : BitVec 32 := BitVec.ofNat 32 (i 2).val
  let c4_i32_133 : BitVec 32 := 4#32
  let v269 : BitVec 32 := Scalar.muli arg2 c4_i32_133
  let c1_i32_134 : BitVec 32 := 1#32
  let v270 : BitVec 32 := Scalar.subi v269 c1_i32_134
  let c0_i32_125 : BitVec 32 := 0#32
  let c1_i32_127 : BitVec 32 := 1#32
  let arg10 : BitVec 32 := Scf.iv c0_i32_125 c1_i32_127 k0_t1
  let c4_i32_135 : BitVec 32 := 4#32
  let v271 : BitVec 32 := Scalar.muli arg10 c4_i32_135
  let v272 : BitVec 32 := Scalar.subi v270 v271
  let v273 : BitVec 32 := Scalar.subi v272 c0_i32_136
  let c256_i32_149 : BitVec 32 := 256#32
  let v296 : BitVec 32 := Scalar.muli v273 c256_i32_149
  let v297 : BitVec 32 := v296
  let v299 : Index := Scalar.indexCast v297
  let c0_151 : Index := 0#32
  ![0, v299.toNat, 0]
def k0_mult6 (i : grid0.Coords) (k0_t1 : Fin (k0_t1_loop i).trips) : BitVec 32 :=
  let arg2 : BitVec 32 := BitVec.ofNat 32 (i 2).val
  let c4_i32_133 : BitVec 32 := 4#32
  let v269 : BitVec 32 := Scalar.muli arg2 c4_i32_133
  let c1_i32_134 : BitVec 32 := 1#32
  let v270 : BitVec 32 := Scalar.subi v269 c1_i32_134
  let c0_i32_125 : BitVec 32 := 0#32
  let c1_i32_127 : BitVec 32 := 1#32
  let arg10 : BitVec 32 := Scf.iv c0_i32_125 c1_i32_127 k0_t1
  let c4_i32_135 : BitVec 32 := 4#32
  let v271 : BitVec 32 := Scalar.muli arg10 c4_i32_135
  let v272 : BitVec 32 := Scalar.subi v270 v271
  let c1_i32_153 : BitVec 32 := 1#32
  let v304 : BitVec 32 := Scalar.subi v272 c1_i32_153
  let c256_i32_166 : BitVec 32 := 256#32
  let v327 : BitVec 32 := Scalar.muli v304 c256_i32_166
  v327
def k0_mult7 (i : grid0.Coords) (k0_t1 : Fin (k0_t1_loop i).trips) : BitVec 32 :=
  let arg2 : BitVec 32 := BitVec.ofNat 32 (i 2).val
  let c4_i32_133 : BitVec 32 := 4#32
  let v269 : BitVec 32 := Scalar.muli arg2 c4_i32_133
  let c1_i32_134 : BitVec 32 := 1#32
  let v270 : BitVec 32 := Scalar.subi v269 c1_i32_134
  let c0_i32_125 : BitVec 32 := 0#32
  let c1_i32_127 : BitVec 32 := 1#32
  let arg10 : BitVec 32 := Scf.iv c0_i32_125 c1_i32_127 k0_t1
  let c4_i32_135 : BitVec 32 := 4#32
  let v271 : BitVec 32 := Scalar.muli arg10 c4_i32_135
  let v272 : BitVec 32 := Scalar.subi v270 v271
  let c2_i32_170 : BitVec 32 := 2#32
  let v335 : BitVec 32 := Scalar.subi v272 c2_i32_170
  let c256_i32_183 : BitVec 32 := 256#32
  let v358 : BitVec 32 := Scalar.muli v335 c256_i32_183
  v358
def k0_mult8 (i : grid0.Coords) (k0_t1 : Fin (k0_t1_loop i).trips) : BitVec 32 :=
  let arg2 : BitVec 32 := BitVec.ofNat 32 (i 2).val
  let c4_i32_133 : BitVec 32 := 4#32
  let v269 : BitVec 32 := Scalar.muli arg2 c4_i32_133
  let c1_i32_134 : BitVec 32 := 1#32
  let v270 : BitVec 32 := Scalar.subi v269 c1_i32_134
  let c0_i32_125 : BitVec 32 := 0#32
  let c1_i32_127 : BitVec 32 := 1#32
  let arg10 : BitVec 32 := Scf.iv c0_i32_125 c1_i32_127 k0_t1
  let c4_i32_135 : BitVec 32 := 4#32
  let v271 : BitVec 32 := Scalar.muli arg10 c4_i32_135
  let v272 : BitVec 32 := Scalar.subi v270 v271
  let c3_i32_187 : BitVec 32 := 3#32
  let v366 : BitVec 32 := Scalar.subi v272 c3_i32_187
  let c256_i32_200 : BitVec 32 := 256#32
  let v389 : BitVec 32 := Scalar.muli v366 c256_i32_200
  v389
@[reducible] def k0_t2_loop (i : grid0.Coords) : Scf.Loop 32 :=
  let c0_i32_125 : BitVec 32 := 0#32
  let arg2 : BitVec 32 := BitVec.ofNat 32 (i 2).val
  let c1_i32_123 : BitVec 32 := 1#32
  let v260 : BitVec 32 := Scalar.muli arg2 c1_i32_123
  let v261 : BitVec 32 := Scalar.subi v260 c0_i32_125
  let c1_i32_126 : BitVec 32 := 1#32
  let v263 : BitVec 32 := Scalar.divsi v261 c1_i32_126
  let v264 : BitVec 32 := Scalar.muli v263 c1_i32_126
  let v265 : BitVec 32 := Scalar.addi c0_i32_125 v264
  let v262 : BitVec 32 := Scalar.addi c0_i32_125 v261
  let c1_i32_128 : BitVec 32 := 1#32
  ⟨v265, v262, c1_i32_128⟩
def k0_off5 (i : grid0.Coords) (k0_t2 : Fin (k0_t2_loop i).trips) (c0_i32_136 : BitVec 32) : Fin 5 → Nat :=
  let c0_137 : Index := 0#32
  let c0_138 : Index := 0#32
  let arg2 : BitVec 32 := BitVec.ofNat 32 (i 2).val
  let c4_i32_133 : BitVec 32 := 4#32
  let v269 : BitVec 32 := Scalar.muli arg2 c4_i32_133
  let c1_i32_134 : BitVec 32 := 1#32
  let v270 : BitVec 32 := Scalar.subi v269 c1_i32_134
  let c0_i32_125 : BitVec 32 := 0#32
  let c1_i32_123 : BitVec 32 := 1#32
  let v260 : BitVec 32 := Scalar.muli arg2 c1_i32_123
  let v261 : BitVec 32 := Scalar.subi v260 c0_i32_125
  let c1_i32_126 : BitVec 32 := 1#32
  let v263 : BitVec 32 := Scalar.divsi v261 c1_i32_126
  let v264 : BitVec 32 := Scalar.muli v263 c1_i32_126
  let v265 : BitVec 32 := Scalar.addi c0_i32_125 v264
  let c1_i32_128 : BitVec 32 := 1#32
  let arg10 : BitVec 32 := Scf.iv v265 c1_i32_128 k0_t2
  let c4_i32_135 : BitVec 32 := 4#32
  let v271 : BitVec 32 := Scalar.muli arg10 c4_i32_135
  let v272 : BitVec 32 := Scalar.subi v270 v271
  let v273 : BitVec 32 := Scalar.subi v272 c0_i32_136
  let v274 : Index := Scalar.indexCast v273
  let c0_139 : Index := 0#32
  let c0_140 : Index := 0#32
  ![0, 0, v274.toNat, 0, 0]
def k0_mult9 (i : grid0.Coords) (k0_t2 : Fin (k0_t2_loop i).trips) : BitVec 32 :=
  let arg2 : BitVec 32 := BitVec.ofNat 32 (i 2).val
  let c4_i32_133 : BitVec 32 := 4#32
  let v269 : BitVec 32 := Scalar.muli arg2 c4_i32_133
  let c1_i32_134 : BitVec 32 := 1#32
  let v270 : BitVec 32 := Scalar.subi v269 c1_i32_134
  let c0_i32_125 : BitVec 32 := 0#32
  let c1_i32_123 : BitVec 32 := 1#32
  let v260 : BitVec 32 := Scalar.muli arg2 c1_i32_123
  let v261 : BitVec 32 := Scalar.subi v260 c0_i32_125
  let c1_i32_126 : BitVec 32 := 1#32
  let v263 : BitVec 32 := Scalar.divsi v261 c1_i32_126
  let v264 : BitVec 32 := Scalar.muli v263 c1_i32_126
  let v265 : BitVec 32 := Scalar.addi c0_i32_125 v264
  let c1_i32_128 : BitVec 32 := 1#32
  let arg10 : BitVec 32 := Scf.iv v265 c1_i32_128 k0_t2
  let c4_i32_135 : BitVec 32 := 4#32
  let v271 : BitVec 32 := Scalar.muli arg10 c4_i32_135
  let v272 : BitVec 32 := Scalar.subi v270 v271
  let c0_i32_136 : BitVec 32 := 0#32
  let v273 : BitVec 32 := Scalar.subi v272 c0_i32_136
  let c256_i32_149 : BitVec 32 := 256#32
  let v296 : BitVec 32 := Scalar.muli v273 c256_i32_149
  v296
def k0_off6 (i : grid0.Coords) (k0_t2 : Fin (k0_t2_loop i).trips) (c0_i32_136 : BitVec 32) : Fin 3 → Nat :=
  let c0_150 : Index := 0#32
  let arg2 : BitVec 32 := BitVec.ofNat 32 (i 2).val
  let c4_i32_133 : BitVec 32 := 4#32
  let v269 : BitVec 32 := Scalar.muli arg2 c4_i32_133
  let c1_i32_134 : BitVec 32 := 1#32
  let v270 : BitVec 32 := Scalar.subi v269 c1_i32_134
  let c0_i32_125 : BitVec 32 := 0#32
  let c1_i32_123 : BitVec 32 := 1#32
  let v260 : BitVec 32 := Scalar.muli arg2 c1_i32_123
  let v261 : BitVec 32 := Scalar.subi v260 c0_i32_125
  let c1_i32_126 : BitVec 32 := 1#32
  let v263 : BitVec 32 := Scalar.divsi v261 c1_i32_126
  let v264 : BitVec 32 := Scalar.muli v263 c1_i32_126
  let v265 : BitVec 32 := Scalar.addi c0_i32_125 v264
  let c1_i32_128 : BitVec 32 := 1#32
  let arg10 : BitVec 32 := Scf.iv v265 c1_i32_128 k0_t2
  let c4_i32_135 : BitVec 32 := 4#32
  let v271 : BitVec 32 := Scalar.muli arg10 c4_i32_135
  let v272 : BitVec 32 := Scalar.subi v270 v271
  let v273 : BitVec 32 := Scalar.subi v272 c0_i32_136
  let c256_i32_149 : BitVec 32 := 256#32
  let v296 : BitVec 32 := Scalar.muli v273 c256_i32_149
  let v297 : BitVec 32 := v296
  let v299 : Index := Scalar.indexCast v297
  let c0_151 : Index := 0#32
  ![0, v299.toNat, 0]
def k0_mult10 (i : grid0.Coords) (k0_t2 : Fin (k0_t2_loop i).trips) : BitVec 32 :=
  let arg2 : BitVec 32 := BitVec.ofNat 32 (i 2).val
  let c4_i32_133 : BitVec 32 := 4#32
  let v269 : BitVec 32 := Scalar.muli arg2 c4_i32_133
  let c1_i32_134 : BitVec 32 := 1#32
  let v270 : BitVec 32 := Scalar.subi v269 c1_i32_134
  let c0_i32_125 : BitVec 32 := 0#32
  let c1_i32_123 : BitVec 32 := 1#32
  let v260 : BitVec 32 := Scalar.muli arg2 c1_i32_123
  let v261 : BitVec 32 := Scalar.subi v260 c0_i32_125
  let c1_i32_126 : BitVec 32 := 1#32
  let v263 : BitVec 32 := Scalar.divsi v261 c1_i32_126
  let v264 : BitVec 32 := Scalar.muli v263 c1_i32_126
  let v265 : BitVec 32 := Scalar.addi c0_i32_125 v264
  let c1_i32_128 : BitVec 32 := 1#32
  let arg10 : BitVec 32 := Scf.iv v265 c1_i32_128 k0_t2
  let c4_i32_135 : BitVec 32 := 4#32
  let v271 : BitVec 32 := Scalar.muli arg10 c4_i32_135
  let v272 : BitVec 32 := Scalar.subi v270 v271
  let c1_i32_153 : BitVec 32 := 1#32
  let v304 : BitVec 32 := Scalar.subi v272 c1_i32_153
  let c256_i32_166 : BitVec 32 := 256#32
  let v327 : BitVec 32 := Scalar.muli v304 c256_i32_166
  v327
def k0_mult11 (i : grid0.Coords) (k0_t2 : Fin (k0_t2_loop i).trips) : BitVec 32 :=
  let arg2 : BitVec 32 := BitVec.ofNat 32 (i 2).val
  let c4_i32_133 : BitVec 32 := 4#32
  let v269 : BitVec 32 := Scalar.muli arg2 c4_i32_133
  let c1_i32_134 : BitVec 32 := 1#32
  let v270 : BitVec 32 := Scalar.subi v269 c1_i32_134
  let c0_i32_125 : BitVec 32 := 0#32
  let c1_i32_123 : BitVec 32 := 1#32
  let v260 : BitVec 32 := Scalar.muli arg2 c1_i32_123
  let v261 : BitVec 32 := Scalar.subi v260 c0_i32_125
  let c1_i32_126 : BitVec 32 := 1#32
  let v263 : BitVec 32 := Scalar.divsi v261 c1_i32_126
  let v264 : BitVec 32 := Scalar.muli v263 c1_i32_126
  let v265 : BitVec 32 := Scalar.addi c0_i32_125 v264
  let c1_i32_128 : BitVec 32 := 1#32
  let arg10 : BitVec 32 := Scf.iv v265 c1_i32_128 k0_t2
  let c4_i32_135 : BitVec 32 := 4#32
  let v271 : BitVec 32 := Scalar.muli arg10 c4_i32_135
  let v272 : BitVec 32 := Scalar.subi v270 v271
  let c2_i32_170 : BitVec 32 := 2#32
  let v335 : BitVec 32 := Scalar.subi v272 c2_i32_170
  let c256_i32_183 : BitVec 32 := 256#32
  let v358 : BitVec 32 := Scalar.muli v335 c256_i32_183
  v358
def k0_mult12 (i : grid0.Coords) (k0_t2 : Fin (k0_t2_loop i).trips) : BitVec 32 :=
  let arg2 : BitVec 32 := BitVec.ofNat 32 (i 2).val
  let c4_i32_133 : BitVec 32 := 4#32
  let v269 : BitVec 32 := Scalar.muli arg2 c4_i32_133
  let c1_i32_134 : BitVec 32 := 1#32
  let v270 : BitVec 32 := Scalar.subi v269 c1_i32_134
  let c0_i32_125 : BitVec 32 := 0#32
  let c1_i32_123 : BitVec 32 := 1#32
  let v260 : BitVec 32 := Scalar.muli arg2 c1_i32_123
  let v261 : BitVec 32 := Scalar.subi v260 c0_i32_125
  let c1_i32_126 : BitVec 32 := 1#32
  let v263 : BitVec 32 := Scalar.divsi v261 c1_i32_126
  let v264 : BitVec 32 := Scalar.muli v263 c1_i32_126
  let v265 : BitVec 32 := Scalar.addi c0_i32_125 v264
  let c1_i32_128 : BitVec 32 := 1#32
  let arg10 : BitVec 32 := Scf.iv v265 c1_i32_128 k0_t2
  let c4_i32_135 : BitVec 32 := 4#32
  let v271 : BitVec 32 := Scalar.muli arg10 c4_i32_135
  let v272 : BitVec 32 := Scalar.subi v270 v271
  let c3_i32_187 : BitVec 32 := 3#32
  let v366 : BitVec 32 := Scalar.subi v272 c3_i32_187
  let c256_i32_200 : BitVec 32 := 256#32
  let v389 : BitVec 32 := Scalar.muli v366 c256_i32_200
  v389
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x32x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "neg_log2e" => some ((-((Real.log 2)⁻¹) : ℝ) : EReal)
  | "scale" => some (((Real.sqrt 128)⁻¹ * (Real.log 2)⁻¹ : ℝ) : EReal)
  | _ => none
-- ==== ReferenceIdeal.lean ====
abbrev S2x8192x1536 : Shape := ⟨3, ![2, 8192, 1536]⟩
abbrev S2x8192x512 : Shape := ⟨3, ![2, 8192, 512]⟩
abbrev S2x8192x4x128 : Shape := ⟨4, ![2, 8192, 4, 128]⟩
abbrev S8192 : Shape := ⟨1, ![8192]⟩
abbrev S2x4x8192x8192 : Shape := ⟨4, ![2, 4, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S2x4x128x8192 : Shape := ⟨4, ![2, 4, 128, 8192]⟩
abbrev S16384x512 : Shape := ⟨2, ![16384, 512]⟩

abbrev nBuf : Space → Nat
  | .hbm => 72
  | .vmem => 0
  | .smem => 0
  | _ => 0

abbrev bufTy : (tb : Table) → Fin (tcTables nBuf tb) → BufTy
  | .hbm, ⟨0, _⟩ => ⟨S2x8192x1536, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x4x128, .f32⟩
  | .hbm, ⟨5, _⟩ => ⟨S2x8192x4x128, .f32⟩
  | .hbm, ⟨6, _⟩ => ⟨S2x8192x4x128, .f32⟩
  | .hbm, ⟨7, _⟩ => ⟨S8192, .i32⟩
  | .hbm, ⟨8, _⟩ => ⟨S2x4x8192x8192, .f32⟩
  | .hbm, ⟨9, _⟩ => ⟨S_, .f32⟩
  | .hbm, ⟨10, _⟩ => ⟨S_, .f32⟩
  | .hbm, ⟨11, _⟩ => ⟨S2x4x8192x8192, .f32⟩
  | .hbm, ⟨12, _⟩ => ⟨S2x4x8192x8192, .f32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S1x1x8192x8192, .i1⟩
  | .hbm, ⟨19, _⟩ => ⟨S2x4x8192x8192, .f32⟩
  | .hbm, ⟨20, _⟩ => ⟨S2x4x8192x8192, .f32⟩
  | .hbm, ⟨21, _⟩ => ⟨S_, .f32⟩
  | .hbm, ⟨22, _⟩ => ⟨S2x4x8192x8192, .f32⟩
  | .hbm, ⟨23, _⟩ => ⟨S2x4x8192x8192, .f32⟩
  | .hbm, ⟨24, _⟩ => ⟨S2x4x8192x8192, .f32⟩
  | .hbm, ⟨25, _⟩ => ⟨S2x4x8192x8192, .f32⟩
  | .hbm, ⟨26, _⟩ => ⟨S2x4x8192x8192, .i1⟩
  | .hbm, ⟨27, _⟩ => ⟨S2x4x8192x8192, .f32⟩
  | .hbm, ⟨28, _⟩ => ⟨S2x4x8192x8192, .f32⟩
  | .hbm, ⟨29, _⟩ => ⟨S2x4x8192x8192, .f32⟩
  | .hbm, ⟨30, _⟩ => ⟨S2x4x8192x8192, .f32⟩
  | .hbm, ⟨31, _⟩ => ⟨S2x4x8192x8192, .f32⟩
  | .hbm, ⟨32, _⟩ => ⟨S2x4x8192x8192, .f32⟩
  | .hbm, ⟨33, _⟩ => ⟨S2x4x8192x8192, .f32⟩
  | .hbm, ⟨34, _⟩ => ⟨S2x4x8192x8192, .f32⟩
  | .hbm, ⟨35, _⟩ => ⟨S2x4x8192x8192, .f32⟩
  | .hbm, ⟨36, _⟩ => ⟨S_, .f32⟩
  | .hbm, ⟨37, _⟩ => ⟨S_, .f32⟩
  | .hbm, ⟨38, _⟩ => ⟨S2x4x8192x8192, .i1⟩
  | .hbm, ⟨39, _⟩ => ⟨S2x4x8192x8192, .f32⟩
  | .hbm, ⟨40, _⟩ => ⟨S2x4x8192x8192, .f32⟩
  | .hbm, ⟨41, _⟩ => ⟨S_, .f32⟩
  | .hbm, ⟨42, _⟩ => ⟨S_, .f32⟩
  | .hbm, ⟨43, _⟩ => ⟨S2x4x8192x8192, .f32⟩
  | .hbm, ⟨44, _⟩ => ⟨S2x4x8192x8192, .f32⟩
  | .hbm, ⟨45, _⟩ => ⟨S2x4x8192x8192, .f32⟩
  | .hbm, ⟨46, _⟩ => ⟨S_, .f32⟩
  | .hbm, ⟨47, _⟩ => ⟨S2x4x8192x8192, .f32⟩
  | .hbm, ⟨48, _⟩ => ⟨S2x4x8192x8192, .f32⟩
  | .hbm, ⟨49, _⟩ => ⟨S2x4x8192x8192, .f32⟩
  | .hbm, ⟨50, _⟩ => ⟨S2x4x8192x8192, .f32⟩
  | .hbm, ⟨51, _⟩ => ⟨S2x4x8192x8192, .i1⟩
  | .hbm, ⟨52, _⟩ => ⟨S2x4x8192x8192, .f32⟩
  | .hbm, ⟨53, _⟩ => ⟨S2x4x8192x8192, .f32⟩
  | .hbm, ⟨54, _⟩ => ⟨S2x4x8192x8192, .f32⟩
  | .hbm, ⟨55, _⟩ => ⟨S2x4x8192x8192, .f32⟩
  | .hbm, ⟨56, _⟩ => ⟨S2x4x8192x8192, .f32⟩
  | .hbm, ⟨57, _⟩ => ⟨S2x4x8192x8192, .f32⟩
  | .hbm, ⟨58, _⟩ => ⟨S2x4x8192x8192, .f32⟩
  | .hbm, ⟨59, _⟩ => ⟨S2x4x8192x8192, .f32⟩
  | .hbm, ⟨60, _⟩ => ⟨S2x4x8192x8192, .f32⟩
  | .hbm, ⟨61, _⟩ => ⟨S2x4x8192x8192, .f32⟩
  | .hbm, ⟨62, _⟩ => ⟨S2x4x8192x8192, .f32⟩
  | .hbm, ⟨63, _⟩ => ⟨S_, .f32⟩
  | .hbm, ⟨64, _⟩ => ⟨S_, .f32⟩
  | .hbm, ⟨65, _⟩ => ⟨S2x4x8192x8192, .i1⟩
  | .hbm, ⟨66, _⟩ => ⟨S2x4x8192x8192, .f32⟩
  | .hbm, ⟨67, _⟩ => ⟨S2x4x8192x8192, .f32⟩
  | .hbm, ⟨68, _⟩ => ⟨S2x4x128x8192, .f32⟩
  | .hbm, ⟨69, _⟩ => ⟨S2x8192x4x128, .f32⟩
  | .hbm, ⟨70, _⟩ => ⟨S16384x512, .f32⟩
  | .hbm, ⟨71, _⟩ => ⟨S16384x512, .bf16⟩
  | _, _ => ⟨S2x8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v18 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_call2_cst : Ref sig .tc := ⟨.hbm, 41, rfl⟩
abbrev main_call2_v0 : Ref sig .tc := ⟨.hbm, 42, rfl⟩
abbrev main_v20 : Ref sig .tc := ⟨.hbm, 43, rfl⟩
abbrev main_v21 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024 : Shape := ⟨1, ![1024]⟩
abbrev S1024x2816 : Shape := ⟨2, ![1024, 2816]⟩
abbrev S3x2816 : Shape := ⟨2, ![3, 2816]⟩
abbrev S2816x1024 : Shape := ⟨2, ![2816, 1024]⟩
abbrev S16384x1024 : Shape := ⟨2, ![16384, 1024]⟩
abbrev S_ : Shape := ⟨0, ![]⟩
abbrev S8x2816 : Shape := ⟨2, ![8, 2816]⟩
abbrev S1x1024 : Shape := ⟨2, ![1, 1024]⟩
abbrev S512x1024 : Shape := ⟨2, ![512, 1024]⟩
abbrev S8x1024 : Shape := ⟨2, ![8, 1024]⟩
abbrev S1024x1408 : Shape := ⟨2, ![1024, 1408]⟩
abbrev S8x1408 : Shape := ⟨2, ![8, 1408]⟩
abbrev S1408x1024 : Shape := ⟨2, ![1408, 1024]⟩
abbrev S520x1024 : Shape := ⟨2, ![520, 1024]⟩
abbrev S520x1408 : Shape := ⟨2, ![520, 1408]⟩
abbrev S8 : Shape := ⟨1, ![8]⟩
abbrev S8x1 : Shape := ⟨2, ![8, 1]⟩
abbrev S512 : Shape := ⟨1, ![512]⟩
abbrev S512x1 : Shape := ⟨2, ![512, 1]⟩
abbrev S512x1408 : Shape := ⟨2, ![512, 1408]⟩
abbrev S1x1408 : Shape := ⟨2, ![1, 1408]⟩

abbrev nBuf : Space → Nat
  | .hbm => 15
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816x1024, .f32⟩
  | .hbm, ⟨6, _⟩ => ⟨S16384x1024, .f32⟩
  | .hbm, ⟨7, _⟩ => ⟨S_, .i32⟩
  | .hbm, ⟨8, _⟩ => ⟨S_, .f32⟩
  | .hbm, ⟨9, _⟩ => ⟨S8x2816, .f32⟩
  | .hbm, ⟨10, _⟩ => ⟨S1x1024, .f32⟩
  | .hbm, ⟨11, _⟩ => ⟨S1024x2816, .bf16⟩
  | .hbm, ⟨12, _⟩ => ⟨S1024x2816, .bf16⟩
  | .hbm, ⟨13, _⟩ => ⟨S2816x1024, .bf16⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S8x1408, .f32⟩
  | .local _ .vmem, ⟨10, _⟩ => ⟨S8x1408, .f32⟩
  | .local _ .vmem, ⟨11, _⟩ => ⟨S1408x1024, .bf16⟩
  | .local _ .vmem, ⟨12, _⟩ => ⟨S1408x1024, .bf16⟩
  | .local _ .vmem, ⟨13, _⟩ => ⟨S512x1024, .f32⟩
  | .local _ .vmem, ⟨14, _⟩ => ⟨S512x1024, .f32⟩
  | .local _ .vmem, ⟨15, _⟩ => ⟨S520x1024, .bf16⟩
  | .local _ .vmem, ⟨16, _⟩ => ⟨S520x1408, .f32⟩
  | .local _ .vmem, ⟨17, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32_37 : BitVec 32 := 1#32
  let v64 : BitVec 1 := Scalar.cmpi .eq arg1 c1_i32_37
  let v65 : BitVec 32 := Scalar.extui v64
  let c0_i32_38 : BitVec 32 := 0#32
  let v66 : BitVec 1 := Scalar.cmpi .ne v65 c0_i32_38
  v66

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S2x8192x1024 : Shape := ⟨3, ![2, 8192, 1024]⟩
abbrev S1024 : Shape := ⟨1, ![1024]⟩
abbrev S1024x2816 : Shape := ⟨2, ![1024, 2816]⟩
abbrev S3x2816 : Shape := ⟨2, ![3, 2816]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩
abbrev S2x8194x2816 : Shape := ⟨3, ![2, 8194, 2816]⟩
abbrev S1x2816 : Shape := ⟨2, ![1, 2816]⟩
abbrev S2816 : Shape := ⟨1, ![2816]⟩
abbrev S1x1x2816 : Shape := ⟨3, ![1, 1, 2816]⟩
abbrev S16384x1024 : Shape := ⟨2, ![16384, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816x1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S2x8192x2816, .f32⟩
  | .hbm, ⟨23, _⟩ => ⟨S_, .i32⟩
  | .hbm, ⟨24, _⟩ => ⟨S_, .f32⟩
  | .hbm, ⟨25, _⟩ => ⟨S2x8194x2816, .f32⟩
  | .hbm, ⟨26, _⟩ => ⟨S1x2816, .f32⟩
  | .hbm, ⟨27, _⟩ => ⟨S2816, .f32⟩
  | .hbm, ⟨28, _⟩ => ⟨S2x8192x2816, .f32⟩
  | .hbm, ⟨29, _⟩ => ⟨S1x1x2816, .f32⟩
  | .hbm, ⟨30, _⟩ => ⟨S2x8192x2816, .f32⟩
  | .hbm, ⟨31, _⟩ => ⟨S2x8192x2816, .f32⟩
  | .hbm, ⟨32, _⟩ => ⟨S1x2816, .f32⟩
  | .hbm, ⟨33, _⟩ => ⟨S2816, .f32⟩
  | .hbm, ⟨34, _⟩ => ⟨S2x8192x2816, .f32⟩
  | .hbm, ⟨35, _⟩ => ⟨S1x1x2816, .f32⟩
  | .hbm, ⟨36, _⟩ => ⟨S2x8192x2816, .f32⟩
  | .hbm, ⟨37, _⟩ => ⟨S2x8192x2816, .f32⟩
  | .hbm, ⟨38, _⟩ => ⟨S2x8192x2816, .f32⟩
  | .hbm, ⟨39, _⟩ => ⟨S1x2816, .f32⟩
  | .hbm, ⟨40, _⟩ => ⟨S2816, .f32⟩
  | .hbm, ⟨41, _⟩ => ⟨S2x8192x2816, .f32⟩
  | .hbm, ⟨42, _⟩ => ⟨S1x1x2816, .f32⟩
  | .hbm, ⟨43, _⟩ => ⟨S2x8192x2816, .f32⟩
  | .hbm, ⟨44, _⟩ => ⟨S2x8192x2816, .f32⟩
  | .hbm, ⟨45, _⟩ => ⟨S2x8192x2816, .f32⟩
  | .hbm, ⟨46, _⟩ => ⟨S2x8192x2816, .f32⟩
  | .hbm, ⟨47, _⟩ => ⟨S2x8192x2816, .f32⟩
  | .hbm, ⟨48, _⟩ => ⟨S_, .f32⟩
  | .hbm, ⟨49, _⟩ => ⟨S2x8192x2816, .f32⟩
  | .hbm, ⟨50, _⟩ => ⟨S2x8192x2816, .f32⟩
  | .hbm, ⟨51, _⟩ => ⟨S_, .f32⟩
  | .hbm, ⟨52, _⟩ => ⟨S2x8192x2816, .f32⟩
  | .hbm, ⟨53, _⟩ => ⟨S2x8192x2816, .f32⟩
  | .hbm, ⟨54, _⟩ => ⟨S2x8192x2816, .f32⟩
  | .hbm, ⟨55, _⟩ => ⟨S2x8192x2816, .f32⟩
  | .hbm, ⟨56, _⟩ => ⟨S2x8192x2816, .f32⟩
  | .hbm, ⟨57, _⟩ => ⟨S2x8192x1024, .f32⟩
  | .hbm, ⟨58, _⟩ => ⟨S2x8192x1024, .f32⟩
  | .hbm, ⟨59, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024 : Shape := ⟨1, ![1024]⟩
abbrev S1024x10240 : Shape := ⟨2, ![1024, 10240]⟩
abbrev S16384x1024 : Shape := ⟨2, ![16384, 1024]⟩
abbrev S1x1024 : Shape := ⟨2, ![1, 1024]⟩
abbrev S16384x2048 : Shape := ⟨2, ![16384, 2048]⟩
abbrev S16384x8192 : Shape := ⟨2, ![16384, 8192]⟩
abbrev S1024x1024 : Shape := ⟨2, ![1024, 1024]⟩
abbrev S1024x2048 : Shape := ⟨2, ![1024, 2048]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x10240, .bf16⟩
  | .hbm, ⟨3, _⟩ => ⟨S16384x1024, .f32⟩
  | .hbm, ⟨4, _⟩ => ⟨S1x1024, .f32⟩
  | .hbm, ⟨5, _⟩ => ⟨S16384x2048, .f32⟩
  | .hbm, ⟨6, _⟩ => ⟨S16384x8192, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S1024x2048, .f32⟩
  | .local _ .vmem, ⟨6, _⟩ => ⟨S1024x2048, .f32⟩
  | .local _ .vmem, ⟨7, _⟩ => ⟨S1024x2048, .bf16⟩
  | .local _ .vmem, ⟨8, _⟩ => ⟨S1024x2048, .bf16⟩
  | .local _ .vmem, ⟨9, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 5], ![false, false]⟩

def k0_cond2 (i : grid0.Coords) : BitVec 1 :=
  let arg1 : BitVec 32 := BitVec.ofNat 32 (i 1).val
  let c1_i32 : BitVec 32 := 1#32
  let v6 : BitVec 1 := Scalar.cmpi .slt arg1 c1_i32
  let v7 : BitVec 32 := Scalar.extui v6
  let c0_i32_4 : BitVec 32 := 0#32
  let v8 : BitVec 1 := Scalar.cmpi .ne v7 c0_i32_4
  v8

def k0_cond3 (i : grid0.Coords) : BitVec 1 :=
  let arg1 : BitVec 32 := BitVec.ofNat 32 (i 1).val
  let c1_i32_5 : BitVec 32 := 1#32
  let v9 : BitVec 1 := Scalar.cmpi .sge arg1 c1_i32_5
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S2x8192x1024 : Shape := ⟨3, ![2, 8192, 1024]⟩
abbrev S1024 : Shape := ⟨1, ![1024]⟩
abbrev S1024x10240 : Shape := ⟨2, ![1024, 10240]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x10240 : Shape := ⟨3, ![2, 8192, 10240]⟩
abbrev S16384x10240 : Shape := ⟨2, ![16384, 10240]⟩
abbrev S16384x2048 : Shape := ⟨2, ![16384, 2048]⟩
abbrev S16384x8192 : Shape := ⟨2, ![16384, 8192]⟩

abbrev nBuf : Space → Nat
  | .hbm => 25
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x10240, .bf16⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S1024x10240, .f32⟩
  | .hbm, ⟨20, _⟩ => ⟨S2x8192x10240, .f32⟩
  | .hbm, ⟨21, _⟩ => ⟨S16384x10240, .f32⟩
  | .hbm, ⟨22, _⟩ => ⟨S16384x2048, .f32⟩
  | .hbm, ⟨23, _⟩ => ⟨S16384x8192, .f32⟩
  | .hbm, ⟨24, _⟩ => ⟨S16384x8192, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel4.lean ====
abbrev S16384x1024 : Shape := ⟨2, ![16384, 1024]⟩
abbrev S16384x512 : Shape := ⟨2, ![16384, 512]⟩
abbrev S16384x8192 : Shape := ⟨2, ![16384, 8192]⟩
abbrev S4096 : Shape := ⟨1, ![4096]⟩
abbrev S512x1024 : Shape := ⟨2, ![512, 1024]⟩
abbrev S1024x1024 : Shape := ⟨2, ![1024, 1024]⟩
abbrev S4x1024 : Shape := ⟨2, ![4, 1024]⟩
abbrev S512x512 : Shape := ⟨2, ![512, 512]⟩
abbrev S1x1024 : Shape := ⟨2, ![1, 1024]⟩

abbrev nBuf : Space → Nat
  | .hbm => 19
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S16384x8192, .bf16⟩
  | .hbm, ⟨6, _⟩ => ⟨S4096, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S4x1024, .f32⟩
  | .hbm, ⟨13, _⟩ => ⟨S512x1024, .bf16⟩
  | .hbm, ⟨14, _⟩ => ⟨S512x1024, .bf16⟩
  | .hbm, ⟨15, _⟩ => ⟨S512x1024, .bf16⟩
  | .hbm, ⟨16, _⟩ => ⟨S512x1024, .bf16⟩
  | .hbm, ⟨17, _⟩ => ⟨S1024x1024, .bf16⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S4x1024, .f32⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S1024x1024, .bf16⟩
  | .local _ .vmem, ⟨24, _⟩ => ⟨S512x1024, .f32⟩
  | .local _ .vmem, ⟨25, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_8 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S16384x1024 : Shape := ⟨2, ![16384, 1024]⟩
abbrev S16384x512 : Shape := ⟨2, ![16384, 512]⟩
abbrev S16384x8192 : Shape := ⟨2, ![16384, 8192]⟩
abbrev S4096 : Shape := ⟨1, ![4096]⟩
abbrev S512x1024 : Shape := ⟨2, ![512, 1024]⟩
abbrev S1024x1024 : Shape := ⟨2, ![1024, 1024]⟩
abbrev S16384x4096 : Shape := ⟨2, ![16384, 4096]⟩
abbrev S1x4096 : Shape := ⟨2, ![1, 4096]⟩
abbrev S_ : Shape := ⟨0, ![]⟩
abbrev S16384x4x1024 : Shape := ⟨3, ![16384, 4, 1024]⟩
abbrev S16384x1x1024 : Shape := ⟨3, ![16384, 1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S16384x8192, .bf16⟩
  | .hbm, ⟨6, _⟩ => ⟨S4096, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S16384x4096, .bf16⟩
  | .hbm, ⟨13, _⟩ => ⟨S16384x4096, .f32⟩
  | .hbm, ⟨14, _⟩ => ⟨S1x4096, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S_, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4x1024, .f32⟩
  | .hbm, ⟨26, _⟩ => ⟨S16384x512, .f32⟩
  | .hbm, ⟨27, _⟩ => ⟨S16384x1024, .f32⟩
  | .hbm, ⟨28, _⟩ => ⟨S16384x512, .f32⟩
  | .hbm, ⟨29, _⟩ => ⟨S16384x1024, .f32⟩
  | .hbm, ⟨30, _⟩ => ⟨S16384x512, .f32⟩
  | .hbm, ⟨31, _⟩ => ⟨S16384x1024, .f32⟩
  | .hbm, ⟨32, _⟩ => ⟨S16384x512, .f32⟩
  | .hbm, ⟨33, _⟩ => ⟨S16384x1024, .f32⟩
  | .hbm, ⟨34, _⟩ => ⟨S16384x1x1024, .f32⟩
  | .hbm, ⟨35, _⟩ => ⟨S16384x1024, .f32⟩
  | .hbm, ⟨36, _⟩ => ⟨S16384x1024, .f32⟩
  | .hbm, ⟨37, _⟩ => ⟨S16384x1x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Kernel6.lean ====
abbrev S16384x8192 : Shape := ⟨2, ![16384, 8192]⟩
abbrev S31x512 : Shape := ⟨2, ![31, 512]⟩
abbrev S512 : Shape := ⟨1, ![512]⟩
abbrev S3x512 : Shape := ⟨2, ![3, 512]⟩
abbrev S_ : Shape := ⟨0, ![]⟩
abbrev S32x512 : Shape := ⟨2, ![32, 512]⟩
abbrev S8x512 : Shape := ⟨2, ![8, 512]⟩
abbrev S1x512 : Shape := ⟨2, ![1, 512]⟩
abbrev S16384x512 : Shape := ⟨2, ![16384, 512]⟩
abbrev S512x512 : Shape := ⟨2, ![512, 512]⟩
abbrev S16x512 : Shape := ⟨2, ![16, 512]⟩
abbrev S544x512 : Shape := ⟨2, ![544, 512]⟩
abbrev S528x512 : Shape := ⟨2, ![528, 512]⟩
abbrev S1x128 : Shape := ⟨2, ![1, 128]⟩
abbrev S64x128 : Shape := ⟨2, ![64, 128]⟩
abbrev S72x128 : Shape := ⟨2, ![72, 128]⟩
abbrev S512x1 : Shape := ⟨2, ![512, 1]⟩

abbrev nBuf : Space → Nat
  | .hbm => 17
  | .vmem => 30
  | .smem => 0
  | _ => 0

abbrev bufTy : (tb : Table) → Fin (tcTables nBuf tb) → BufTy
  | .hbm, ⟨0, _⟩ => ⟨S16384x8192, .bf16⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S3x512, .f32⟩
  | .hbm, ⟨6, _⟩ => ⟨S_, .i32⟩
  | .hbm, ⟨7, _⟩ => ⟨S_, .f32⟩
  | .hbm, ⟨8, _⟩ => ⟨S32x512, .f32⟩
  | .hbm, ⟨9, _⟩ => ⟨S_, .i32⟩
  | .hbm, ⟨10, _⟩ => ⟨S_, .f32⟩
  | .hbm, ⟨11, _⟩ => ⟨S8x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S16384x512, .bf16⟩
  | .hbm, ⟨16, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S32x512, .bf16⟩
  | .local _ .vmem, ⟨5, _⟩ => ⟨S32x512, .bf16⟩
  | .local _ .vmem, ⟨6, _⟩ => ⟨S32x512, .bf16⟩
  | .local _ .vmem, ⟨7, _⟩ => ⟨S32x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S16x512, .bf16⟩
  | .local _ .vmem, ⟨15, _⟩ => ⟨S16x512, .bf16⟩
  | .local _ .vmem, ⟨16, _⟩ => ⟨S16x512, .bf16⟩
  | .local _ .vmem, ⟨17, _⟩ => ⟨S16x512, .bf16⟩
  | .local _ .vmem, ⟨18, _⟩ => ⟨S32x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S8x512, .f32⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S544x512, .f32⟩
  | .local _ .vmem, ⟨28, _⟩ => ⟨S512x512, .f32⟩
  | .local _ .vmem, ⟨29, _⟩ => ⟨S528x512, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_8 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S32x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference6Ideal.lean ====
abbrev S16384x8192 : Shape := ⟨2, ![16384, 8192]⟩
abbrev S31x512 : Shape := ⟨2, ![31, 512]⟩
abbrev S512 : Shape := ⟨1, ![512]⟩
abbrev S3x512 : Shape := ⟨2, ![3, 512]⟩
abbrev S2x8192x8192 : Shape := ⟨3, ![2, 8192, 8192]⟩
abbrev S2x8192x512 : Shape := ⟨3, ![2, 8192, 512]⟩
abbrev S_ : Shape := ⟨0, ![]⟩
abbrev S2x8222x512 : Shape := ⟨3, ![2, 8222, 512]⟩
abbrev S1x512 : Shape := ⟨2, ![1, 512]⟩
abbrev S1x1x512 : Shape := ⟨3, ![1, 1, 512]⟩
abbrev S2x8192 : Shape := ⟨2, ![2, 8192]⟩
abbrev S2x8192x1 : Shape := ⟨3, ![2, 8192, 1]⟩
abbrev S2x8194x512 : Shape := ⟨3, ![2, 8194, 512]⟩
abbrev S16384x512 : Shape := ⟨2, ![16384, 512]⟩

abbrev nBuf : Space → Nat
  | .hbm => 309
  | .vmem => 0
  | .smem => 0
  | _ => 0

abbrev hbmTy0_0 (i : Nat) : BufTy := match i % 128 with
  | 0 => ⟨S16384x8192, .bf16⟩
  | 1 => ⟨S31x512, .f32⟩
  | 2 => ⟨S512, .f32⟩
  | 3 => ⟨S512, .f32⟩
  | 4 => ⟨S512, .f32⟩
  | 5 => ⟨S3x512, .f32⟩
  | 6 => ⟨S16384x8192, .f32⟩
  | 7 => ⟨S2x8192x8192, .f32⟩
  | 8 => ⟨S2x8192x512, .f32⟩
  | 9 => ⟨S2x8192x512, .f32⟩
  | 10 => ⟨S2x8192x512, .f32⟩
  | 11 => ⟨S2x8192x512, .f32⟩
  | 12 => ⟨S2x8192x512, .f32⟩
  | 13 => ⟨S2x8192x512, .f32⟩
  | 14 => ⟨S2x8192x512, .f32⟩
  | 15 => ⟨S_, .f32⟩
  | 16 => ⟨S2x8192x512, .f32⟩
  | 17 => ⟨S2x8192x512, .f32⟩
  | 18 => ⟨S_, .f32⟩
  | 19 => ⟨S2x8192x512, .f32⟩
  | 20 => ⟨S2x8192x512, .f32⟩
  | 21 => ⟨S2x8192x512, .f32⟩
  | 22 => ⟨S_, .i32⟩
  | 23 => ⟨S_, .f32⟩
  | 24 => ⟨S2x8222x512, .f32⟩
  | 25 => ⟨S1x512, .f32⟩
  | 26 => ⟨S512, .f32⟩
  | 27 => ⟨S2x8192x512, .f32⟩
  | 28 => ⟨S1x1x512, .f32⟩
  | 29 => ⟨S2x8192x512, .f32⟩
  | 30 => ⟨S2x8192x512, .f32⟩
  | 31 => ⟨S1x512, .f32⟩
  | 32 => ⟨S512, .f32⟩
  | 33 => ⟨S2x8192x512, .f32⟩
  | 34 => ⟨S1x1x512, .f32⟩
  | 35 => ⟨S2x8192x512, .f32⟩
  | 36 => ⟨S2x8192x512, .f32⟩
  | 37 => ⟨S2x8192x512, .f32⟩
  | 38 => ⟨S1x512, .f32⟩
  | 39 => ⟨S512, .f32⟩
  | 40 => ⟨S2x8192x512, .f32⟩
  | 41 => ⟨S1x1x512, .f32⟩
  | 42 => ⟨S2x8192x512, .f32⟩
  | 43 => ⟨S2x8192x512, .f32⟩
  | 44 => ⟨S2x8192x512, .f32⟩
  | 45 => ⟨S1x512, .f32⟩
  | 46 => ⟨S512, .f32⟩
  | 47 => ⟨S2x8192x512, .f32⟩
  | 48 => ⟨S1x1x512, .f32⟩
  | 49 => ⟨S2x8192x512, .f32⟩
  | 50 => ⟨S2x8192x512, .f32⟩
  | 51 => ⟨S2x8192x512, .f32⟩
  | 52 => ⟨S1x512, .f32⟩
  | 53 => ⟨S512, .f32⟩
  | 54 => ⟨S2x8192x512, .f32⟩
  | 55 => ⟨S1x1x512, .f32⟩
  | 56 => ⟨S2x8192x512, .f32⟩
  | 57 => ⟨S2x8192x512, .f32⟩
  | 58 => ⟨S2x8192x512, .f32⟩
  | 59 => ⟨S1x512, .f32⟩
  | 60 => ⟨S512, .f32⟩
  | 61 => ⟨S2x8192x512, .f32⟩
  | 62 => ⟨S1x1x512, .f32⟩
  | 63 => ⟨S2x8192x512, .f32⟩
  | 64 => ⟨S2x8192x512, .f32⟩
  | 65 => ⟨S2x8192x512, .f32⟩
  | 66 => ⟨S1x512, .f32⟩
  | 67 => ⟨S512, .f32⟩
  | 68 => ⟨S2x8192x512, .f32⟩
  | 69 => ⟨S1x1x512, .f32⟩
  | 70 => ⟨S2x8192x512, .f32⟩
  | 71 => ⟨S2x8192x512, .f32⟩
  | 72 => ⟨S2x8192x512, .f32⟩
  | 73 => ⟨S1x512, .f32⟩
  | 74 => ⟨S512, .f32⟩
  | 75 => ⟨S2x8192x512, .f32⟩
  | 76 => ⟨S1x1x512, .f32⟩
  | 77 => ⟨S2x8192x512, .f32⟩
  | 78 => ⟨S2x8192x512, .f32⟩
  | 79 => ⟨S2x8192x512, .f32⟩
  | 80 => ⟨S1x512, .f32⟩
  | 81 => ⟨S512, .f32⟩
  | 82 => ⟨S2x8192x512, .f32⟩
  | 83 => ⟨S1x1x512, .f32⟩
  | 84 => ⟨S2x8192x512, .f32⟩
  | 85 => ⟨S2x8192x512, .f32⟩
  | 86 => ⟨S2x8192x512, .f32⟩
  | 87 => ⟨S1x512, .f32⟩
  | 88 => ⟨S512, .f32⟩
  | 89 => ⟨S2x8192x512, .f32⟩
  | 90 => ⟨S1x1x512, .f32⟩
  | 91 => ⟨S2x8192x512, .f32⟩
  | 92 => ⟨S2x8192x512, .f32⟩
  | 93 => ⟨S2x8192x512, .f32⟩
  | 94 => ⟨S1x512, .f32⟩
  | 95 => ⟨S512, .f32⟩
  | 96 => ⟨S2x8192x512, .f32⟩
  | 97 => ⟨S1x1x512, .f32⟩
  | 98 => ⟨S2x8192x512, .f32⟩
  | 99 => ⟨S2x8192x512, .f32⟩
  | 100 => ⟨S2x8192x512, .f32⟩
  | 101 => ⟨S1x512, .f32⟩
  | 102 => ⟨S512, .f32⟩
  | 103 => ⟨S2x8192x512, .f32⟩
  | 104 => ⟨S1x1x512, .f32⟩
  | 105 => ⟨S2x8192x512, .f32⟩
  | 106 => ⟨S2x8192x512, .f32⟩
  | 107 => ⟨S2x8192x512, .f32⟩
  | 108 => ⟨S1x512, .f32⟩
  | 109 => ⟨S512, .f32⟩
  | 110 => ⟨S2x8192x512, .f32⟩
  | 111 => ⟨S1x1x512, .f32⟩
  | 112 => ⟨S2x8192x512, .f32⟩
  | 113 => ⟨S2x8192x512, .f32⟩
  | 114 => ⟨S2x8192x512, .f32⟩
  | 115 => ⟨S1x512, .f32⟩
  | 116 => ⟨S512, .f32⟩
  | 117 => ⟨S2x8192x512, .f32⟩
  | 118 => ⟨S1x1x512, .f32⟩
  | 119 => ⟨S2x8192x512, .f32⟩
  | 120 => ⟨S2x8192x512, .f32⟩
  | 121 => ⟨S2x8192x512, .f32⟩
  | 122 => ⟨S1x512, .f32⟩
  | 123 => ⟨S512, .f32⟩
  | 124 => ⟨S2x8192x512, .f32⟩
  | 125 => ⟨S1x1x512, .f32⟩
  | 126 => ⟨S2x8192x512, .f32⟩
  | 127 => ⟨S2x8192x512, .f32⟩
  | _ => ⟨S16384x8192, .bf16⟩

abbrev hbmTy0_1 (i : Nat) : BufTy := match i % 128 with
  | 0 => ⟨S2x8192x512, .f32⟩
  | 1 => ⟨S1x512, .f32⟩
  | 2 => ⟨S512, .f32⟩
  | 3 => ⟨S2x8192x512, .f32⟩
  | 4 => ⟨S1x1x512, .f32⟩
  | 5 => ⟨S2x8192x512, .f32⟩
  | 6 => ⟨S2x8192x512, .f32⟩
  | 7 => ⟨S2x8192x512, .f32⟩
  | 8 => ⟨S1x512, .f32⟩
  | 9 => ⟨S512, .f32⟩
  | 10 => ⟨S2x8192x512, .f32⟩
  | 11 => ⟨S1x1x512, .f32⟩
  | 12 => ⟨S2x8192x512, .f32⟩
  | 13 => ⟨S2x8192x512, .f32⟩
  | 14 => ⟨S2x8192x512, .f32⟩
  | 15 => ⟨S1x512, .f32⟩
  | 16 => ⟨S512, .f32⟩
  | 17 => ⟨S2x8192x512, .f32⟩
  | 18 => ⟨S1x1x512, .f32⟩
  | 19 => ⟨S2x8192x512, .f32⟩
  | 20 => ⟨S2x8192x512, .f32⟩
  | 21 => ⟨S2x8192x512, .f32⟩
  | 22 => ⟨S1x512, .f32⟩
  | 23 => ⟨S512, .f32⟩
  | 24 => ⟨S2x8192x512, .f32⟩
  | 25 => ⟨S1x1x512, .f32⟩
  | 26 => ⟨S2x8192x512, .f32⟩
  | 27 => ⟨S2x8192x512, .f32⟩
  | 28 => ⟨S2x8192x512, .f32⟩
  | 29 => ⟨S1x512, .f32⟩
  | 30 => ⟨S512, .f32⟩
  | 31 => ⟨S2x8192x512, .f32⟩
  | 32 => ⟨S1x1x512, .f32⟩
  | 33 => ⟨S2x8192x512, .f32⟩
  | 34 => ⟨S2x8192x512, .f32⟩
  | 35 => ⟨S2x8192x512, .f32⟩
  | 36 => ⟨S1x512, .f32⟩
  | 37 => ⟨S512, .f32⟩
  | 38 => ⟨S2x8192x512, .f32⟩
  | 39 => ⟨S1x1x512, .f32⟩
  | 40 => ⟨S2x8192x512, .f32⟩
  | 41 => ⟨S2x8192x512, .f32⟩
  | 42 => ⟨S2x8192x512, .f32⟩
  | 43 => ⟨S1x512, .f32⟩
  | 44 => ⟨S512, .f32⟩
  | 45 => ⟨S2x8192x512, .f32⟩
  | 46 => ⟨S1x1x512, .f32⟩
  | 47 => ⟨S2x8192x512, .f32⟩
  | 48 => ⟨S2x8192x512, .f32⟩
  | 49 => ⟨S2x8192x512, .f32⟩
  | 50 => ⟨S1x512, .f32⟩
  | 51 => ⟨S512, .f32⟩
  | 52 => ⟨S2x8192x512, .f32⟩
  | 53 => ⟨S1x1x512, .f32⟩
  | 54 => ⟨S2x8192x512, .f32⟩
  | 55 => ⟨S2x8192x512, .f32⟩
  | 56 => ⟨S2x8192x512, .f32⟩
  | 57 => ⟨S1x512, .f32⟩
  | 58 => ⟨S512, .f32⟩
  | 59 => ⟨S2x8192x512, .f32⟩
  | 60 => ⟨S1x1x512, .f32⟩
  | 61 => ⟨S2x8192x512, .f32⟩
  | 62 => ⟨S2x8192x512, .f32⟩
  | 63 => ⟨S2x8192x512, .f32⟩
  | 64 => ⟨S1x512, .f32⟩
  | 65 => ⟨S512, .f32⟩
  | 66 => ⟨S2x8192x512, .f32⟩
  | 67 => ⟨S1x1x512, .f32⟩
  | 68 => ⟨S2x8192x512, .f32⟩
  | 69 => ⟨S2x8192x512, .f32⟩
  | 70 => ⟨S2x8192x512, .f32⟩
  | 71 => ⟨S1x512, .f32⟩
  | 72 => ⟨S512, .f32⟩
  | 73 => ⟨S2x8192x512, .f32⟩
  | 74 => ⟨S1x1x512, .f32⟩
  | 75 => ⟨S2x8192x512, .f32⟩
  | 76 => ⟨S2x8192x512, .f32⟩
  | 77 => ⟨S2x8192x512, .f32⟩
  | 78 => ⟨S1x512, .f32⟩
  | 79 => ⟨S512, .f32⟩
  | 80 => ⟨S2x8192x512, .f32⟩
  | 81 => ⟨S1x1x512, .f32⟩
  | 82 => ⟨S2x8192x512, .f32⟩
  | 83 => ⟨S2x8192x512, .f32⟩
  | 84 => ⟨S2x8192x512, .f32⟩
  | 85 => ⟨S1x512, .f32⟩
  | 86 => ⟨S512, .f32⟩
  | 87 => ⟨S2x8192x512, .f32⟩
  | 88 => ⟨S1x1x512, .f32⟩
  | 89 => ⟨S2x8192x512, .f32⟩
  | 90 => ⟨S2x8192x512, .f32⟩
  | 91 => ⟨S2x8192x512, .f32⟩
  | 92 => ⟨S1x512, .f32⟩
  | 93 => ⟨S512, .f32⟩
  | 94 => ⟨S2x8192x512, .f32⟩
  | 95 => ⟨S1x1x512, .f32⟩
  | 96 => ⟨S2x8192x512, .f32⟩
  | 97 => ⟨S2x8192x512, .f32⟩
  | 98 => ⟨S2x8192x512, .f32⟩
  | 99 => ⟨S1x512, .f32⟩
  | 100 => ⟨S512, .f32⟩
  | 101 => ⟨S2x8192x512, .f32⟩
  | 102 => ⟨S1x1x512, .f32⟩
  | 103 => ⟨S2x8192x512, .f32⟩
  | 104 => ⟨S2x8192x512, .f32⟩
  | 105 => ⟨S2x8192x512, .f32⟩
  | 106 => ⟨S1x512, .f32⟩
  | 107 => ⟨S512, .f32⟩
  | 108 => ⟨S2x8192x512, .f32⟩
  | 109 => ⟨S1x1x512, .f32⟩
  | 110 => ⟨S2x8192x512, .f32⟩
  | 111 => ⟨S2x8192x512, .f32⟩
  | 112 => ⟨S2x8192x512, .f32⟩
  | 113 => ⟨S1x1x512, .f32⟩
  | 114 => ⟨S2x8192x512, .f32⟩
  | 115 => ⟨S2x8192x512, .f32⟩
  | 116 => ⟨S_, .f32⟩
  | 117 => ⟨S2x8192, .f32⟩
  | 118 => ⟨S2x8192x1, .f32⟩
  | 119 => ⟨S_, .f32⟩
  | 120 => ⟨S2x8192x1, .f32⟩
  | 121 => ⟨S2x8192x1, .f32⟩
  | 122 => ⟨S2x8192x512, .f32⟩
  | 123 => ⟨S2x8192x512, .f32⟩
  | 124 => ⟨S2x8192x512, .f32⟩
  | 125 => ⟨S_, .f32⟩
  | 126 => ⟨S2x8192, .f32⟩
  | 127 => ⟨S2x8192x1, .f32⟩
  | _ => ⟨S16384x8192, .bf16⟩

abbrev hbmTy0_2 (i : Nat) : BufTy := match i % 128 with
  | 0 => ⟨S_, .f32⟩
  | 1 => ⟨S2x8192x1, .f32⟩
  | 2 => ⟨S2x8192x1, .f32⟩
  | 3 => ⟨S_, .f32⟩
  | 4 => ⟨S2x8192x1, .f32⟩
  | 5 => ⟨S2x8192x1, .f32⟩
  | 6 => ⟨S2x8192x1, .f32⟩
  | 7 => ⟨S2x8192x512, .f32⟩
  | 8 => ⟨S2x8192x512, .f32⟩
  | 9 => ⟨S1x1x512, .f32⟩
  | 10 => ⟨S2x8192x512, .f32⟩
  | 11 => ⟨S2x8192x512, .f32⟩
  | 12 => ⟨S1x1x512, .f32⟩
  | 13 => ⟨S2x8192x512, .f32⟩
  | 14 => ⟨S2x8192x512, .f32⟩
  | 15 => ⟨S2x8192x512, .f32⟩
  | 16 => ⟨S2x8192x512, .f32⟩
  | 17 => ⟨S_, .f32⟩
  | 18 => ⟨S2x8192x512, .f32⟩
  | 19 => ⟨S2x8192x512, .f32⟩
  | 20 => ⟨S_, .f32⟩
  | 21 => ⟨S2x8192x512, .f32⟩
  | 22 => ⟨S2x8192x512, .f32⟩
  | 23 => ⟨S2x8192x512, .f32⟩
  | 24 => ⟨S2x8192x512, .f32⟩
  | 25 => ⟨S_, .i32⟩
  | 26 => ⟨S_, .f32⟩
  | 27 => ⟨S2x8194x512, .f32⟩
  | 28 => ⟨S1x512, .f32⟩
  | 29 => ⟨S512, .f32⟩
  | 30 => ⟨S2x8192x512, .f32⟩
  | 31 => ⟨S1x1x512, .f32⟩
  | 32 => ⟨S2x8192x512, .f32⟩
  | 33 => ⟨S2x8192x512, .f32⟩
  | 34 => ⟨S1x512, .f32⟩
  | 35 => ⟨S512, .f32⟩
  | 36 => ⟨S2x8192x512, .f32⟩
  | 37 => ⟨S1x1x512, .f32⟩
  | 38 => ⟨S2x8192x512, .f32⟩
  | 39 => ⟨S2x8192x512, .f32⟩
  | 40 => ⟨S2x8192x512, .f32⟩
  | 41 => ⟨S1x512, .f32⟩
  | 42 => ⟨S512, .f32⟩
  | 43 => ⟨S2x8192x512, .f32⟩
  | 44 => ⟨S1x1x512, .f32⟩
  | 45 => ⟨S2x8192x512, .f32⟩
  | 46 => ⟨S2x8192x512, .f32⟩
  | 47 => ⟨S2x8192x512, .f32⟩
  | 48 => ⟨S2x8192x512, .f32⟩
  | 49 => ⟨S16384x512, .f32⟩
  | 50 => ⟨S16384x512, .bf16⟩
  | 51 => ⟨S16384x512, .f32⟩
  | 52 => ⟨S16384x512, .bf16⟩
  | _ => ⟨S16384x8192, .bf16⟩

abbrev hbmTy (i : Nat) : BufTy := match i / 128 with
  | 0 => hbmTy0_0 i
  | 1 => hbmTy0_1 i
  | 2 => hbmTy0_2 i
  | _ => ⟨S16384x8192, .bf16⟩

abbrev bufTy : (tb : Table) → Fin (tcTables nBuf tb) → BufTy
  | .hbm, ⟨i, _⟩ => hbmTy i
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_cst_1 : Ref sig .tc := ⟨.hbm, 244, rfl⟩
abbrev main_v234 : Ref sig .tc := ⟨.hbm, 245, rfl⟩
abbrev main_v235 : Ref sig .tc := ⟨.hbm, 246, rfl⟩
abbrev main_cst_2 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_cst_3 : Ref sig .tc := ⟨.hbm, 253, rfl⟩
abbrev main_v241 : Ref sig .tc := ⟨.hbm, 254, rfl⟩
abbrev main_v242 : Ref sig .tc := ⟨.hbm, 255, rfl⟩
abbrev main_cst_4 : Ref sig .tc := ⟨.hbm, 256, rfl⟩
abbrev main_v243 : Ref sig .tc := ⟨.hbm, 257, rfl⟩
abbrev main_v244 : Ref sig .tc := ⟨.hbm, 258, rfl⟩
abbrev main_cst_5 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_call1_v0 : Ref sig .tc := ⟨.hbm, 271, rfl⟩
abbrev main_call1_v1 : Ref sig .tc := ⟨.hbm, 272, rfl⟩
abbrev main_call1_cst : Ref sig .tc := ⟨.hbm, 273, rfl⟩
abbrev main_call1_v2 : Ref sig .tc := ⟨.hbm, 274, rfl⟩
abbrev main_call1_v3 : Ref sig .tc := ⟨.hbm, 275, rfl⟩
abbrev main_call1_cst_0 : Ref sig .tc := ⟨.hbm, 276, rfl⟩
abbrev main_call1_v4 : Ref sig .tc := ⟨.hbm, 277, rfl⟩
abbrev main_call1_v5 : Ref sig .tc := ⟨.hbm, 278, rfl⟩
abbrev main_v256 : Ref sig .tc := ⟨.hbm, 279, rfl⟩
abbrev main_v257 : Ref sig .tc := ⟨.hbm, 280, rfl⟩
abbrev main_c_6 : Ref sig .tc := ⟨.hbm, 281, rfl⟩
abbrev main_call2_v0 : Ref sig .tc := ⟨.hbm, 282, rfl⟩
abbrev main_v258 : Ref sig .tc := ⟨.hbm, 283, rfl⟩
abbrev main_v259 : Ref sig .tc := ⟨.hbm, 284, rfl⟩
abbrev main_v260 : Ref sig .tc := ⟨.hbm, 285, rfl⟩
abbrev main_v261 : Ref sig .tc := ⟨.hbm, 286, rfl⟩
abbrev main_v262 : Ref sig .tc := ⟨.hbm, 287, rfl⟩
abbrev main_v263 : Ref sig .tc := ⟨.hbm, 288, rfl⟩
abbrev main_v264 : Ref sig .tc := ⟨.hbm, 289, rfl⟩
abbrev main_v265 : Ref sig .tc := ⟨.hbm, 290, rfl⟩
abbrev main_v266 : Ref sig .tc := ⟨.hbm, 291, rfl⟩
abbrev main_v267 : Ref sig .tc := ⟨.hbm, 292, rfl⟩
abbrev main_v268 : Ref sig .tc := ⟨.hbm, 293, rfl⟩
abbrev main_v269 : Ref sig .tc := ⟨.hbm, 294, rfl⟩
abbrev main_v270 : Ref sig .tc := ⟨.hbm, 295, rfl⟩
abbrev main_v271 : Ref sig .tc := ⟨.hbm, 296, rfl⟩
abbrev main_v272 : Ref sig .tc := ⟨.hbm, 297, rfl⟩
abbrev main_v273 : Ref sig .tc := ⟨.hbm, 298, rfl⟩
abbrev main_v274 : Ref sig .tc := ⟨.hbm, 299, rfl⟩
abbrev main_v275 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_v279 : Ref sig .tc := ⟨.hbm, 304, rfl⟩
abbrev main_v280 : Ref sig .tc := ⟨.hbm, 305, rfl⟩
abbrev main_v281 : Ref sig .tc := ⟨.hbm, 306, rfl⟩
abbrev main_v282 : Ref sig .tc := ⟨.hbm, 307, rfl⟩
abbrev main_v283 : Ref sig .tc := ⟨.hbm, 308, rfl⟩

abbrev nD : Nat := 1
abbrev τ : Topo := Topo.v7x

variable {F : FTy → Type} [FloatOps F]
-- ==== Kernel7.lean ====
abbrev S16384x1860 : Shape := ⟨2, ![16384, 1860]⟩
abbrev S16384x8192 : Shape := ⟨2, ![16384, 8192]⟩
abbrev S16384x16 : Shape := ⟨2, ![16384, 16]⟩
abbrev S16384x8 : Shape := ⟨2, ![16384, 8]⟩
abbrev S128 : Shape := ⟨1, ![128]⟩
abbrev S64 : Shape := ⟨1, ![64]⟩
abbrev S16384x1856 : Shape := ⟨2, ![16384, 1856]⟩
abbrev S_ : Shape := ⟨0, ![]⟩
abbrev S16384x1920 : Shape := ⟨2, ![16384, 1920]⟩
abbrev S16384x4 : Shape := ⟨2, ![16384, 4]⟩
abbrev S16384x128 : Shape := ⟨2, ![16384, 128]⟩
abbrev S16384x2048 : Shape := ⟨2, ![16384, 2048]⟩
abbrev S16384x96 : Shape := ⟨2, ![16384, 96]⟩
abbrev S1x16384x1x128 : Shape := ⟨4, ![1, 16384, 1, 128]⟩
abbrev S16384x48 : Shape := ⟨2, ![16384, 48]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S1x128 : Shape := ⟨2, ![1, 128]⟩
abbrev S2x512x8192 : Shape := ⟨3, ![2, 512, 8192]⟩
abbrev S2x8x8192 : Shape := ⟨3, ![2, 8, 8192]⟩
abbrev S2x8192x128 : Shape := ⟨3, ![2, 8192, 128]⟩
abbrev S2x8192x512 : Shape := ⟨3, ![2, 8192, 512]⟩
abbrev S2x16x512x512 : Shape := ⟨4, ![2, 16, 512, 512]⟩
abbrev S16384x512 : Shape := ⟨2, ![16384, 512]⟩
abbrev S2x4x32x128x256 : Shape := ⟨5, ![2, 4, 32, 128, 256]⟩
abbrev S512x2048 : Shape := ⟨2, ![512, 2048]⟩
abbrev S512x512 : Shape := ⟨2, ![512, 512]⟩
abbrev S512x128 : Shape := ⟨2, ![512, 128]⟩
abbrev S1x512x512 : Shape := ⟨3, ![1, 512, 512]⟩
abbrev S1x8x512 : Shape := ⟨3, ![1, 8, 512]⟩
abbrev S1x512x128 : Shape := ⟨3, ![1, 512, 128]⟩
abbrev S1x1x512x512 : Shape := ⟨4, ![1, 1, 512, 512]⟩
abbrev S1x4x2x128x256 : Shape := ⟨5, ![1, 4, 2, 128, 256]⟩
abbrev S512 : Shape := ⟨1, ![512]⟩
abbrev S512x1 : Shape := ⟨2, ![512, 1]⟩
abbrev S128x512 : Shape := ⟨2, ![128, 512]⟩
abbrev S1x128x512 : Shape := ⟨3, ![1, 128, 512]⟩
abbrev S1x1x128x512 : Shape := ⟨4, ![1, 1, 128, 512]⟩
abbrev S8x512 : Shape := ⟨2, ![8, 512]⟩
abbrev S128x256 : Shape := ⟨2, ![128, 256]⟩
abbrev S1x1x1x128x256 : Shape := ⟨5, ![1, 1, 1, 128, 256]⟩

abbrev nBuf : Space → Nat
  | .hbm => 57
  | .vmem => 37
  | .smem => 0
  | _ => 0

abbrev bufTy : (tb : Table) → Fin (tcTables nBuf tb) → BufTy
  | .hbm, ⟨0, _⟩ => ⟨S16384x1860, .f32⟩
  | .hbm, ⟨1, _⟩ => ⟨S16384x8192, .bf16⟩
  | .hbm, ⟨2, _⟩ => ⟨S16384x16, .f32⟩
  | .hbm, ⟨3, _⟩ => ⟨S16384x16, .f32⟩
  | .hbm, ⟨4, _⟩ => ⟨S16384x8, .f32⟩
  | .hbm, ⟨5, _⟩ => ⟨S16384x8, .f32⟩
  | .hbm, ⟨6, _⟩ => ⟨S128, .f32⟩
  | .hbm, ⟨7, _⟩ => ⟨S128, .f32⟩
  | .hbm, ⟨8, _⟩ => ⟨S64, .f32⟩
  | .hbm, ⟨9, _⟩ => ⟨S16384x1856, .f32⟩
  | .hbm, ⟨10, _⟩ => ⟨S_, .i32⟩
  | .hbm, ⟨11, _⟩ => ⟨S_, .f32⟩
  | .hbm, ⟨12, _⟩ => ⟨S16384x1920, .f32⟩
  | .hbm, ⟨13, _⟩ => ⟨S16384x4, .f32⟩
  | .hbm, ⟨14, _⟩ => ⟨S_, .i32⟩
  | .hbm, ⟨15, _⟩ => ⟨S_, .f32⟩
  | .hbm, ⟨16, _⟩ => ⟨S16384x128, .f32⟩
  | .hbm, ⟨17, _⟩ => ⟨S16384x2048, .f32⟩
  | .hbm, ⟨18, _⟩ => ⟨S_, .f32⟩
  | .hbm, ⟨19, _⟩ => ⟨S16384x96, .f32⟩
  | .hbm, ⟨20, _⟩ => ⟨S16384x128, .f32⟩
  | .hbm, ⟨21, _⟩ => ⟨S_, .f32⟩
  | .hbm, ⟨22, _⟩ => ⟨S16384x96, .f32⟩
  | .hbm, ⟨23, _⟩ => ⟨S16384x128, .f32⟩
  | .hbm, ⟨24, _⟩ => ⟨S1x16384x1x128, .f32⟩
  | .hbm, ⟨25, _⟩ => ⟨S1x16384x1x128, .f32⟩
  | .hbm, ⟨26, _⟩ => ⟨S16384x128, .f32⟩
  | .hbm, ⟨27, _⟩ => ⟨S1x16384x1x128, .f32⟩
  | .hbm, ⟨28, _⟩ => ⟨S1x16384x1x128, .f32⟩
  | .hbm, ⟨29, _⟩ => ⟨S16384x128, .f32⟩
  | .hbm, ⟨30, _⟩ => ⟨S_, .f32⟩
  | .hbm, ⟨31, _⟩ => ⟨S16384x48, .f32⟩
  | .hbm, ⟨32, _⟩ => ⟨S16384x64, .f32⟩
  | .hbm, ⟨33, _⟩ => ⟨S_, .f32⟩
  | .hbm, ⟨34, _⟩ => ⟨S16384x48, .f32⟩
  | .hbm, ⟨35, _⟩ => ⟨S16384x64, .f32⟩
  | .hbm, ⟨36, _⟩ => ⟨S1x16384x1x64, .f32⟩
  | .hbm, ⟨37, _⟩ => ⟨S1x16384x2x64, .f32⟩
  | .hbm, ⟨38, _⟩ => ⟨S16384x128, .f32⟩
  | .hbm, ⟨39, _⟩ => ⟨S1x16384x1x64, .f32⟩
  | .hbm, ⟨40, _⟩ => ⟨S1x16384x2x64, .f32⟩
  | .hbm, ⟨41, _⟩ => ⟨S16384x128, .f32⟩
  | .hbm, ⟨42, _⟩ => ⟨S_, .f32⟩
  | .hbm, ⟨43, _⟩ => ⟨S64, .f32⟩
  | .hbm, ⟨44, _⟩ => ⟨S128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S2x512x8192, .bf16⟩
  | .hbm, ⟨49, _⟩ => ⟨S2x512x8192, .bf16⟩
  | .hbm, ⟨50, _⟩ => ⟨S2x8x8192, .f32⟩
  | .hbm, ⟨51, _⟩ => ⟨S2x8192x128, .bf16⟩
  | .hbm, ⟨52, _⟩ => ⟨S2x8192x512, .bf16⟩
  | .hbm, ⟨53, _⟩ => ⟨S2x16x512x512, .bf16⟩
  | .hbm, ⟨54, _⟩ => ⟨S16384x512, .bf16⟩
  | .hbm, ⟨55, _⟩ => ⟨S2x4x32x128x256, .bf16⟩
  | .hbm, ⟨56, _⟩ => ⟨S2x8192x512, .bf16⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x8x512, .f32⟩
  | .local _ .vmem, ⟨24, _⟩ => ⟨S1x8x512, .f32⟩
  | .local _ .vmem, ⟨25, _⟩ => ⟨S1x512x128, .bf16⟩
  | .local _ .vmem, ⟨26, _⟩ => ⟨S1x512x128, .bf16⟩
  | .local _ .vmem, ⟨27, _⟩ => ⟨S1x512x512, .bf16⟩
  | .local _ .vmem, ⟨28, _⟩ => ⟨S1x512x512, .bf16⟩
  | .local _ .vmem, ⟨29, _⟩ => ⟨S1x1x512x512, .bf16⟩
  | .local _ .vmem, ⟨30, _⟩ => ⟨S1x1x512x512, .bf16⟩
  | .local _ .vmem, ⟨31, _⟩ => ⟨S512x512, .bf16⟩
  | .local _ .vmem, ⟨32, _⟩ => ⟨S512x512, .bf16⟩
  | .local _ .vmem, ⟨33, _⟩ => ⟨S1x4x2x128x256, .bf16⟩
  | .local _ .vmem, ⟨34, _⟩ => ⟨S1x4x2x128x256, .bf16⟩
  | .local _ .vmem, ⟨35, _⟩ => ⟨S1x512x512, .bf16⟩
  | .local _ .vmem, ⟨36, _⟩ => ⟨S1x512x512, .bf16⟩
  | _, _ => ⟨S16384x1860, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30_0 : Ref sig .tc := ⟨.hbm, 48, rfl⟩
abbrev main_v30_1 : Ref sig .tc := ⟨.hbm, 49, rfl⟩
abbrev main_v30_2 : Ref sig .tc := ⟨.hbm, 50, rfl⟩
abbrev main_v30_3 : Ref sig .tc := ⟨.hbm, 51, rfl⟩
abbrev main_v30_4 : Ref sig .tc := ⟨.hbm, 52, rfl⟩
abbrev main_v30_5 : Ref sig .tc := ⟨.hbm, 53, rfl⟩
abbrev main_v30_6 : Ref sig .tc := ⟨.hbm, 54, rfl⟩
abbrev main_v30_7 : Ref sig .tc := ⟨.hbm, 55, rfl⟩
abbrev main_v30_8 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c6_i32 : BitVec 32 := 6#32
  let c0_i32 : BitVec 32 := 0#32
  ![v1.toNat, c6_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c7_i32 : BitVec 32 := 7#32
  let c0_i32 : BitVec 32 := 0#32
  ![v1.toNat, c7_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x4x2x128x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference7Ideal.lean ====
abbrev S16384x1860 : Shape := ⟨2, ![16384, 1860]⟩
abbrev S16384x8192 : Shape := ⟨2, ![16384, 8192]⟩
abbrev S16384x16 : Shape := ⟨2, ![16384, 16]⟩
abbrev S16384x8 : Shape := ⟨2, ![16384, 8]⟩
abbrev S128 : Shape := ⟨1, ![128]⟩
abbrev S64 : Shape := ⟨1, ![64]⟩
abbrev S16384x512 : Shape := ⟨2, ![16384, 512]⟩
abbrev S16384x256 : Shape := ⟨2, ![16384, 256]⟩
abbrev S16384x64 : Shape := ⟨2, ![16384, 64]⟩
abbrev S16384x4 : Shape := ⟨2, ![16384, 4]⟩
abbrev S2x8192x1x16 : Shape := ⟨4, ![2, 8192, 1, 16]⟩
abbrev S2x8192x1x8 : Shape := ⟨4, ![2, 8192, 1, 8]⟩
abbrev S2x8192x4x128 : Shape := ⟨4, ![2, 8192, 4, 128]⟩
abbrev S_ : Shape := ⟨0, ![]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩
abbrev S2x8192x4x16 : Shape := ⟨4, ![2, 8192, 4, 16]⟩
abbrev S2x8192x4x96 : Shape := ⟨4, ![2, 8192, 4, 96]⟩
abbrev S2x8192x4x64 : Shape := ⟨4, ![2, 8192, 4, 64]⟩
abbrev S2x8192x4x8 : Shape := ⟨4, ![2, 8192, 4, 8]⟩
abbrev S2x8192x4x48 : Shape := ⟨4, ![2, 8192, 4, 48]⟩
abbrev S2x8192x1x64 : Shape := ⟨4, ![2, 8192, 1, 64]⟩
abbrev S2x8192x1 : Shape := ⟨3, ![2, 8192, 1]⟩
abbrev S2x8192x1x1 : Shape := ⟨4, ![2, 8192, 1, 1]⟩
abbrev S1x1x1x64 : Shape := ⟨4, ![1, 1, 1, 64]⟩
abbrev S2x8192x1x48 : Shape := ⟨4, ![2, 8192, 1, 48]⟩
abbrev S2x8192x512 : Shape := ⟨3, ![2, 8192, 512]⟩
abbrev S2x512x8192 : Shape := ⟨3, ![2, 512, 8192]⟩
abbrev S2x8192x64 : Shape := ⟨3, ![2, 8192, 64]⟩
abbrev S2x8192x128 : Shape := ⟨3, ![2, 8192, 128]⟩
abbrev S2x8192x1x128 : Shape := ⟨4, ![2, 8192, 1, 128]⟩
abbrev S2x8192x8 : Shape := ⟨3, ![2, 8192, 8]⟩
abbrev S2x8x8192 : Shape := ⟨3, ![2, 8, 8192]⟩
abbrev S2x16x512x512 : Shape := ⟨4, ![2, 16, 512, 512]⟩
abbrev S2x32x256x4x128 : Shape := ⟨5, ![2, 32, 256, 4, 128]⟩
abbrev S2x4x32x128x256 : Shape := ⟨5, ![2, 4, 32, 128, 256]⟩

abbrev nBuf : Space → Nat
  | .hbm => 184
  | .vmem => 0
  | .smem => 0
  | _ => 0

abbrev hbmTy0_0 (i : Nat) : BufTy := match i % 128 with
  | 0 => ⟨S16384x1860, .f32⟩
  | 1 => ⟨S16384x8192, .bf16⟩
  | 2 => ⟨S16384x16, .f32⟩
  | 3 => ⟨S16384x16, .f32⟩
  | 4 => ⟨S16384x8, .f32⟩
  | 5 => ⟨S16384x8, .f32⟩
  | 6 => ⟨S128, .f32⟩
  | 7 => ⟨S128, .f32⟩
  | 8 => ⟨S64, .f32⟩
  | 9 => ⟨S16384x512, .f32⟩
  | 10 => ⟨S16384x512, .f32⟩
  | 11 => ⟨S16384x512, .f32⟩
  | 12 => ⟨S16384x256, .f32⟩
  | 13 => ⟨S16384x64, .f32⟩
  | 14 => ⟨S16384x4, .f32⟩
  | 15 => ⟨S16384x512, .bf16⟩
  | 16 => ⟨S16384x512, .bf16⟩
  | 17 => ⟨S16384x512, .bf16⟩
  | 18 => ⟨S2x8192x1x16, .f32⟩
  | 19 => ⟨S2x8192x1x16, .f32⟩
  | 20 => ⟨S2x8192x1x8, .f32⟩
  | 21 => ⟨S2x8192x1x8, .f32⟩
  | 22 => ⟨S2x8192x4x128, .f32⟩
  | 23 => ⟨S2x8192x4x128, .f32⟩
  | 24 => ⟨S_, .f32⟩
  | 25 => ⟨S2x8192x4, .f32⟩
  | 26 => ⟨S2x8192x4x1, .f32⟩
  | 27 => ⟨S_, .f32⟩
  | 28 => ⟨S2x8192x4x1, .f32⟩
  | 29 => ⟨S2x8192x4x1, .f32⟩
  | 30 => ⟨S_, .f32⟩
  | 31 => ⟨S2x8192x4x1, .f32⟩
  | 32 => ⟨S2x8192x4x1, .f32⟩
  | 33 => ⟨S2x8192x4x1, .f32⟩
  | 34 => ⟨S2x8192x4x128, .f32⟩
  | 35 => ⟨S2x8192x4x128, .f32⟩
  | 36 => ⟨S1x1x1x128, .f32⟩
  | 37 => ⟨S2x8192x4x128, .f32⟩
  | 38 => ⟨S2x8192x4x128, .f32⟩
  | 39 => ⟨S2x8192x4x16, .f32⟩
  | 40 => ⟨S2x8192x4x16, .f32⟩
  | 41 => ⟨S2x8192x4x16, .f32⟩
  | 42 => ⟨S2x8192x4x16, .f32⟩
  | 43 => ⟨S2x8192x4x16, .f32⟩
  | 44 => ⟨S2x8192x4x16, .f32⟩
  | 45 => ⟨S2x8192x4x16, .f32⟩
  | 46 => ⟨S2x8192x4x16, .f32⟩
  | 47 => ⟨S2x8192x4x16, .f32⟩
  | 48 => ⟨S2x8192x4x16, .f32⟩
  | 49 => ⟨S2x8192x4x16, .f32⟩
  | 50 => ⟨S2x8192x4x16, .f32⟩
  | 51 => ⟨S2x8192x4x96, .f32⟩
  | 52 => ⟨S2x8192x4x128, .f32⟩
  | 53 => ⟨S_, .f32⟩
  | 54 => ⟨S2x8192x4x128, .f32⟩
  | 55 => ⟨S2x8192x4x128, .f32⟩
  | 56 => ⟨S2x8192x4x128, .f32⟩
  | 57 => ⟨S2x8192x4x128, .f32⟩
  | 58 => ⟨S_, .f32⟩
  | 59 => ⟨S2x8192x4, .f32⟩
  | 60 => ⟨S2x8192x4x1, .f32⟩
  | 61 => ⟨S_, .f32⟩
  | 62 => ⟨S2x8192x4x1, .f32⟩
  | 63 => ⟨S2x8192x4x1, .f32⟩
  | 64 => ⟨S_, .f32⟩
  | 65 => ⟨S2x8192x4x1, .f32⟩
  | 66 => ⟨S2x8192x4x1, .f32⟩
  | 67 => ⟨S2x8192x4x1, .f32⟩
  | 68 => ⟨S2x8192x4x128, .f32⟩
  | 69 => ⟨S2x8192x4x128, .f32⟩
  | 70 => ⟨S1x1x1x128, .f32⟩
  | 71 => ⟨S2x8192x4x128, .f32⟩
  | 72 => ⟨S2x8192x4x128, .f32⟩
  | 73 => ⟨S2x8192x4x16, .f32⟩
  | 74 => ⟨S2x8192x4x16, .f32⟩
  | 75 => ⟨S2x8192x4x16, .f32⟩
  | 76 => ⟨S2x8192x4x16, .f32⟩
  | 77 => ⟨S2x8192x4x16, .f32⟩
  | 78 => ⟨S2x8192x4x16, .f32⟩
  | 79 => ⟨S2x8192x4x16, .f32⟩
  | 80 => ⟨S2x8192x4x16, .f32⟩
  | 81 => ⟨S2x8192x4x16, .f32⟩
  | 82 => ⟨S2x8192x4x16, .f32⟩
  | 83 => ⟨S2x8192x4x16, .f32⟩
  | 84 => ⟨S2x8192x4x16, .f32⟩
  | 85 => ⟨S2x8192x4x96, .f32⟩
  | 86 => ⟨S2x8192x4x128, .f32⟩
  | 87 => ⟨S2x8192x4x64, .f32⟩
  | 88 => ⟨S2x8192x4x8, .f32⟩
  | 89 => ⟨S2x8192x4x8, .f32⟩
  | 90 => ⟨S2x8192x4x8, .f32⟩
  | 91 => ⟨S2x8192x4x8, .f32⟩
  | 92 => ⟨S2x8192x4x8, .f32⟩
  | 93 => ⟨S2x8192x4x8, .f32⟩
  | 94 => ⟨S2x8192x4x8, .f32⟩
  | 95 => ⟨S2x8192x4x8, .f32⟩
  | 96 => ⟨S2x8192x4x8, .f32⟩
  | 97 => ⟨S2x8192x4x8, .f32⟩
  | 98 => ⟨S2x8192x4x8, .f32⟩
  | 99 => ⟨S2x8192x4x8, .f32⟩
  | 100 => ⟨S2x8192x4x48, .f32⟩
  | 101 => ⟨S2x8192x4x64, .f32⟩
  | 102 => ⟨S2x8192x1x64, .f32⟩
  | 103 => ⟨S2x8192x1x64, .f32⟩
  | 104 => ⟨S_, .f32⟩
  | 105 => ⟨S2x8192x1, .f32⟩
  | 106 => ⟨S2x8192x1x1, .f32⟩
  | 107 => ⟨S_, .f32⟩
  | 108 => ⟨S2x8192x1x1, .f32⟩
  | 109 => ⟨S2x8192x1x1, .f32⟩
  | 110 => ⟨S_, .f32⟩
  | 111 => ⟨S2x8192x1x1, .f32⟩
  | 112 => ⟨S2x8192x1x1, .f32⟩
  | 113 => ⟨S2x8192x1x1, .f32⟩
  | 114 => ⟨S2x8192x1x64, .f32⟩
  | 115 => ⟨S2x8192x1x64, .f32⟩
  | 116 => ⟨S1x1x1x64, .f32⟩
  | 117 => ⟨S2x8192x1x64, .f32⟩
  | 118 => ⟨S2x8192x1x64, .f32⟩
  | 119 => ⟨S2x8192x1x8, .f32⟩
  | 120 => ⟨S2x8192x1x8, .f32⟩
  | 121 => ⟨S2x8192x1x8, .f32⟩
  | 122 => ⟨S2x8192x1x8, .f32⟩
  | 123 => ⟨S2x8192x1x8, .f32⟩
  | 124 => ⟨S2x8192x1x8, .f32⟩
  | 125 => ⟨S2x8192x1x8, .f32⟩
  | 126 => ⟨S2x8192x1x8, .f32⟩
  | 127 => ⟨S2x8192x1x48, .f32⟩
  | _ => ⟨S16384x1860, .f32⟩

abbrev hbmTy0_1 (i : Nat) : BufTy := match i % 128 with
  | 0 => ⟨S2x8192x1x64, .f32⟩
  | 1 => ⟨S2x8192x512, .f32⟩
  | 2 => ⟨S2x512x8192, .f32⟩
  | 3 => ⟨S2x512x8192, .bf16⟩
  | 4 => ⟨S2x8192x1x64, .f32⟩
  | 5 => ⟨S2x8192x64, .f32⟩
  | 6 => ⟨S_, .i32⟩
  | 7 => ⟨S_, .f32⟩
  | 8 => ⟨S2x8192x128, .f32⟩
  | 9 => ⟨S2x8192x1x64, .f32⟩
  | 10 => ⟨S2x8192x64, .f32⟩
  | 11 => ⟨S_, .i32⟩
  | 12 => ⟨S_, .f32⟩
  | 13 => ⟨S2x8192x128, .f32⟩
  | 14 => ⟨S2x8192x1x64, .f32⟩
  | 15 => ⟨S2x8192x64, .f32⟩
  | 16 => ⟨S_, .i32⟩
  | 17 => ⟨S_, .f32⟩
  | 18 => ⟨S2x8192x128, .f32⟩
  | 19 => ⟨S2x8192x1x64, .f32⟩
  | 20 => ⟨S2x8192x64, .f32⟩
  | 21 => ⟨S_, .i32⟩
  | 22 => ⟨S_, .f32⟩
  | 23 => ⟨S2x8192x128, .f32⟩
  | 24 => ⟨S2x8192x1x128, .f32⟩
  | 25 => ⟨S2x8192x1x128, .f32⟩
  | 26 => ⟨S2x8192x1x128, .f32⟩
  | 27 => ⟨S2x8192x1x128, .f32⟩
  | 28 => ⟨S2x8192x4x128, .f32⟩
  | 29 => ⟨S2x8192x512, .f32⟩
  | 30 => ⟨S2x512x8192, .f32⟩
  | 31 => ⟨S2x512x8192, .bf16⟩
  | 32 => ⟨S_, .i32⟩
  | 33 => ⟨S_, .f32⟩
  | 34 => ⟨S16384x8, .f32⟩
  | 35 => ⟨S_, .f32⟩
  | 36 => ⟨S16384x8, .f32⟩
  | 37 => ⟨S16384x8, .f32⟩
  | 38 => ⟨S2x8192x8, .f32⟩
  | 39 => ⟨S2x8x8192, .f32⟩
  | 40 => ⟨S2x8192x1x128, .f32⟩
  | 41 => ⟨S2x8192x128, .f32⟩
  | 42 => ⟨S2x8192x128, .bf16⟩
  | 43 => ⟨S2x8192x512, .f32⟩
  | 44 => ⟨S2x8192x512, .bf16⟩
  | 45 => ⟨S2x16x512x512, .f32⟩
  | 46 => ⟨S2x16x512x512, .f32⟩
  | 47 => ⟨S2x16x512x512, .bf16⟩
  | 48 => ⟨S16384x512, .f32⟩
  | 49 => ⟨S_, .f32⟩
  | 50 => ⟨S16384x512, .f32⟩
  | 51 => ⟨S16384x512, .f32⟩
  | 52 => ⟨S16384x512, .bf16⟩
  | 53 => ⟨S2x32x256x4x128, .bf16⟩
  | 54 => ⟨S2x4x32x128x256, .bf16⟩
  | 55 => ⟨S2x8192x512, .bf16⟩
  | _ => ⟨S16384x1860, .f32⟩

abbrev hbmTy (i : Nat) : BufTy := match i / 128 with
  | 0 => hbmTy0_0 i
  | 1 => hbmTy0_1 i
  | _ => ⟨S16384x1860, .f32⟩

abbrev bufTy : (tb : Table) → Fin (tcTables nBuf tb) → BufTy
  | .hbm, ⟨i, _⟩ => hbmTy i
  | _, _ => ⟨S16384x1860, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_2 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_cst_4 : Ref sig .tc := ⟨.hbm, 61, rfl⟩
abbrev main_v47 : Ref sig .tc := ⟨.hbm, 62, rfl⟩
abbrev main_v48 : Ref sig .tc := ⟨.hbm, 63, rfl⟩
abbrev main_cst_5 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_cst_6 : Ref sig .tc := ⟨.hbm, 104, rfl⟩
abbrev main_v88 : Ref sig .tc := ⟨.hbm, 105, rfl⟩
abbrev main_v89 : Ref sig .tc := ⟨.hbm, 106, rfl⟩
abbrev main_cst_7 : Ref sig .tc := ⟨.hbm, 107, rfl⟩
abbrev main_v90 : Ref sig .tc := ⟨.hbm, 108, rfl⟩
abbrev main_v91 : Ref sig .tc := ⟨.hbm, 109, rfl⟩
abbrev main_cst_8 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_c : Ref sig .tc := ⟨.hbm, 134, rfl⟩
abbrev main_call0_v0 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_c_9 : Ref sig .tc := ⟨.hbm, 139, rfl⟩
abbrev main_call1_v0 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_c_10 : Ref sig .tc := ⟨.hbm, 144, rfl⟩
abbrev main_call2_v0 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_c_11 : Ref sig .tc := ⟨.hbm, 149, rfl⟩
abbrev main_call3_v0 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_c_12 : Ref sig .tc := ⟨.hbm, 160, rfl⟩
abbrev main_call4_v0 : Ref sig .tc := ⟨.hbm, 161, rfl⟩
abbrev main_v133 : Ref sig .tc := ⟨.hbm, 162, rfl⟩
abbrev main_cst_13 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_cst_14 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩

abbrev nD : Nat := 1
abbrev τ : Topo := Topo.v7x

variable {F : FTy → Type} [FloatOps F]
-- ==== Kernel8.lean ====
abbrev S2x8192 : Shape := ⟨2, ![2, 8192]⟩
abbrev S16 : Shape := ⟨1, ![16]⟩
abbrev S_ : Shape := ⟨0, ![]⟩
abbrev S16384x1 : Shape := ⟨2, ![16384, 1]⟩
abbrev S16384x16 : Shape := ⟨2, ![16384, 16]⟩
abbrev S2048x128 : Shape := ⟨2, ![2048, 128]⟩
abbrev S1x16 : Shape := ⟨2, ![1, 16]⟩
abbrev S8x16 : Shape := ⟨2, ![8, 16]⟩
abbrev S128 : Shape := ⟨1, ![128]⟩
abbrev S1x128 : Shape := ⟨2, ![1, 128]⟩
abbrev S512x128 : Shape := ⟨2, ![512, 128]⟩

abbrev nBuf : Space → Nat
  | .hbm => 22
  | .vmem => 7
  | .smem => 0
  | _ => 0

abbrev bufTy : (tb : Table) → Fin (tcTables nBuf tb) → BufTy
  | .hbm, ⟨0, _⟩ => ⟨S2x8192, .i32⟩
  | .hbm, ⟨1, _⟩ => ⟨S16, .f32⟩
  | .hbm, ⟨2, _⟩ => ⟨S_, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S2x8192, .f32⟩
  | .hbm, ⟨13, _⟩ => ⟨S16384x1, .f32⟩
  | .hbm, ⟨14, _⟩ => ⟨S16384x16, .f32⟩
  | .hbm, ⟨15, _⟩ => ⟨S2048x128, .f32⟩
  | .hbm, ⟨16, _⟩ => ⟨S1x16, .f32⟩
  | .hbm, ⟨17, _⟩ => ⟨S8x16, .f32⟩
  | .hbm, ⟨18, _⟩ => ⟨S128, .f32⟩
  | .hbm, ⟨19, _⟩ => ⟨S1x128, .f32⟩
  | .hbm, ⟨20, _⟩ => ⟨S2048x128, .f32⟩
  | .hbm, ⟨21, _⟩ => ⟨S2048x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S2x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16_0 : Ref sig .tc := ⟨.hbm, 20, rfl⟩
abbrev main_v16_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S2x8192 : Shape := ⟨2, ![2, 8192]⟩
abbrev S16 : Shape := ⟨1, ![16]⟩
abbrev S_ : Shape := ⟨0, ![]⟩
abbrev S2x8192x1 : Shape := ⟨3, ![2, 8192, 1]⟩
abbrev S1x1x16 : Shape := ⟨3, ![1, 1, 16]⟩
abbrev S2x8192x16 : Shape := ⟨3, ![2, 8192, 16]⟩
abbrev S2048x128 : Shape := ⟨2, ![2048, 128]⟩

abbrev nBuf : Space → Nat
  | .hbm => 21
  | .vmem => 0
  | .smem => 0
  | _ => 0

abbrev bufTy : (tb : Table) → Fin (tcTables nBuf tb) → BufTy
  | .hbm, ⟨0, _⟩ => ⟨S2x8192, .i32⟩
  | .hbm, ⟨1, _⟩ => ⟨S16, .f32⟩
  | .hbm, ⟨2, _⟩ => ⟨S_, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S2x8192, .f32⟩
  | .hbm, ⟨13, _⟩ => ⟨S2x8192x1, .f32⟩
  | .hbm, ⟨14, _⟩ => ⟨S1x1x16, .f32⟩
  | .hbm, ⟨15, _⟩ => ⟨S2x8192x16, .f32⟩
  | .hbm, ⟨16, _⟩ => ⟨S2x8192x16, .f32⟩
  | .hbm, ⟨17, _⟩ => ⟨S2x8192x16, .f32⟩
  | .hbm, ⟨18, _⟩ => ⟨S2048x128, .f32⟩
  | .hbm, ⟨19, _⟩ => ⟨S2048x128, .f32⟩
  | .hbm, ⟨20, _⟩ => ⟨S2048x128, .f32⟩
  | _, _ => ⟨S2x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Kernel9.lean ====
abbrev S2x8192 : Shape := ⟨2, ![2, 8192]⟩
abbrev S8 : Shape := ⟨1, ![8]⟩
abbrev S_ : Shape := ⟨0, ![]⟩
abbrev S16384x1 : Shape := ⟨2, ![16384, 1]⟩
abbrev S16384x8 : Shape := ⟨2, ![16384, 8]⟩
abbrev S1024x128 : Shape := ⟨2, ![1024, 128]⟩
abbrev S1x8 : Shape := ⟨2, ![1, 8]⟩
abbrev S16x8 : Shape := ⟨2, ![16, 8]⟩
abbrev S128 : Shape := ⟨1, ![128]⟩
abbrev S1x128 : Shape := ⟨2, ![1, 128]⟩
abbrev S512x128 : Shape := ⟨2, ![512, 128]⟩

abbrev nBuf : Space → Nat
  | .hbm => 22
  | .vmem => 7
  | .smem => 0
  | _ => 0

abbrev bufTy : (tb : Table) → Fin (tcTables nBuf tb) → BufTy
  | .hbm, ⟨0, _⟩ => ⟨S2x8192, .i32⟩
  | .hbm, ⟨1, _⟩ => ⟨S8, .f32⟩
  | .hbm, ⟨2, _⟩ => ⟨S_, .f32⟩
  | .hbm, ⟨3, _⟩ => ⟨S8, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S2x8192, .f32⟩
  | .hbm, ⟨13, _⟩ => ⟨S16384x1, .f32⟩
  | .hbm, ⟨14, _⟩ => ⟨S16384x8, .f32⟩
  | .hbm, ⟨15, _⟩ => ⟨S1024x128, .f32⟩
  | .hbm, ⟨16, _⟩ => ⟨S1x8, .f32⟩
  | .hbm, ⟨17, _⟩ => ⟨S16x8, .f32⟩
  | .hbm, ⟨18, _⟩ => ⟨S128, .f32⟩
  | .hbm, ⟨19, _⟩ => ⟨S1x128, .f32⟩
  | .hbm, ⟨20, _⟩ => ⟨S1024x128, .f32⟩
  | .hbm, ⟨21, _⟩ => ⟨S1024x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S2x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16_0 : Ref sig .tc := ⟨.hbm, 20, rfl⟩
abbrev main_v16_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S2x8192 : Shape := ⟨2, ![2, 8192]⟩
abbrev S8 : Shape := ⟨1, ![8]⟩
abbrev S_ : Shape := ⟨0, ![]⟩
abbrev S2x8192x1 : Shape := ⟨3, ![2, 8192, 1]⟩
abbrev S1x1x8 : Shape := ⟨3, ![1, 1, 8]⟩
abbrev S2x8192x8 : Shape := ⟨3, ![2, 8192, 8]⟩
abbrev S1024x128 : Shape := ⟨2, ![1024, 128]⟩

abbrev nBuf : Space → Nat
  | .hbm => 21
  | .vmem => 0
  | .smem => 0
  | _ => 0

abbrev bufTy : (tb : Table) → Fin (tcTables nBuf tb) → BufTy
  | .hbm, ⟨0, _⟩ => ⟨S2x8192, .i32⟩
  | .hbm, ⟨1, _⟩ => ⟨S8, .f32⟩
  | .hbm, ⟨2, _⟩ => ⟨S_, .f32⟩
  | .hbm, ⟨3, _⟩ => ⟨S8, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S2x8192, .f32⟩
  | .hbm, ⟨13, _⟩ => ⟨S2x8192x1, .f32⟩
  | .hbm, ⟨14, _⟩ => ⟨S1x1x8, .f32⟩
  | .hbm, ⟨15, _⟩ => ⟨S2x8192x8, .f32⟩
  | .hbm, ⟨16, _⟩ => ⟨S2x8192x8, .f32⟩
  | .hbm, ⟨17, _⟩ => ⟨S2x8192x8, .f32⟩
  | .hbm, ⟨18, _⟩ => ⟨S1024x128, .f32⟩
  | .hbm, ⟨19, _⟩ => ⟨S1024x128, .f32⟩
  | .hbm, ⟨20, _⟩ => ⟨S1024x128, .f32⟩
  | _, _ => ⟨S2x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Proof.StickMath.lean ====
/- The mathematics of the stick-breaking attention over the extended reals: the kernel works in base two and folds
   chunks of 256 keys from the last chunk to the first, the reference works in base e over the whole sequence. -/
module

public import Idealize.ShloMosaic.Lib.Pointwise

@[expose] public section

noncomputable section

namespace Cert.Stick

open Idealize.ShloMosaic

/-- One over the natural logarithm of two. -/
def L : ℝ := (Real.log 2)⁻¹

theorem L_pos : 0 < L := inv_pos.mpr (Real.log_pos (by norm_num))

/-- The kernel's logarithm (base two) of the weight left over by a key of score `Z` (score in base two). -/
def lkK (Z : EReal) : EReal := Ideal.log (1 + Ideal.exp2 (0 - max Z (-Z))) * ((-L : ℝ) : EReal) - max Z 0

/-- The reference's softplus. -/
def sp (w : EReal) : EReal := max w 0 + Ideal.log1p (Ideal.exp (-(max (w - 0) (-(w - 0)))))

/-- The reference's logarithm of the weight left over by a key of score `z`. -/
def lkR (z : EReal) : EReal := -(sp (-(-z)))

/-- The reference's logarithm of the weight taken by a key of score `z`. -/
def lsR (z : EReal) : EReal := -(sp (-z))

theorem exp_coe (r : ℝ) : Ideal.exp (r : EReal) = ((Real.exp r : ℝ) : EReal) := rfl

theorem exp2_coe (r : ℝ) : Ideal.exp2 (r : EReal) = ((Real.rpow 2 r : ℝ) : EReal) := rfl

theorem exp2_bot : Ideal.exp2 ⊥ = 0 := rfl

theorem exp2_top : Ideal.exp2 ⊤ = ⊤ := rfl

theorem exp_bot : Ideal.exp ⊥ = 0 := rfl

theorem exp_top : Ideal.exp ⊤ = ⊤ := rfl

theorem log_coe_pos {r : ℝ} (h : 0 < r) : Ideal.log (r : EReal) = ((Real.log r : ℝ) : EReal) := by
  show (if r ≤ 0 then (⊥ : EReal) else ((Real.log r : ℝ) : EReal)) = _
  rw [if_neg (not_le.mpr h)]

theorem log_one : Ideal.log 1 = 0 := by
  have := log_coe_pos (r := 1) one_pos
  rw [Real.log_one] at this
  exact_mod_cast this

theorem rpow_two (r : ℝ) : Real.rpow 2 (L * r) = Real.exp r := by
  show (2 : ℝ) ^ (L * r) = _
  rw [Real.rpow_def_of_pos (by norm_num)]
  congr 1
  unfold L
  have : Real.log 2 ≠ 0 := (Real.log_pos (by norm_num)).ne'
  field_simp

/-- Base two of a number scaled by one over `log 2` is base e of the number. -/
theorem exp2_L (x : EReal) : Ideal.exp2 ((L : EReal) * x) = Ideal.exp x := by
  induction x using EReal.rec with
  | bot => rw [EReal.coe_mul_bot_of_pos L_pos, exp2_bot, exp_bot]
  | coe r => rw [← EReal.coe_mul, exp2_coe, rpow_two, exp_coe]
  | top => rw [EReal.coe_mul_top_of_pos L_pos, exp2_top, exp_top]

theorem coe_max (a b : ℝ) : max (a : EReal) (b : EReal) = ((max a b : ℝ) : EReal) :=
  (EReal.coe_strictMono.monotone.map_max).symm

theorem sp_coe (r : ℝ) : sp (r : EReal) = ((max r 0 + Real.log (1 + Real.exp (-|r|)) : ℝ) : EReal) := by
  unfold sp
  have h : max ((r : EReal) - 0) (-((r : EReal) - 0)) = ((|r| : ℝ) : EReal) := by
    rw [sub_zero, ← EReal.coe_neg, coe_max]
    rfl
  rw [h, ← EReal.coe_neg, exp_coe]
  have h1 : Ideal.log1p ((Real.exp (-|r|) : ℝ) : EReal) = ((Real.log (1 + Real.exp (-|r|)) : ℝ) : EReal) := by
    show Ideal.log (1 + ((Real.exp (-|r|) : ℝ) : EReal)) = _
    rw [← EReal.coe_one, ← EReal.coe_add, log_coe_pos (by positivity)]
  rw [h1, ← EReal.coe_zero, coe_max, ← EReal.coe_add]

theorem sp_top : sp ⊤ = ⊤ := by
  unfold sp
  have h1 : Ideal.log1p (Ideal.exp (-(max ((⊤ : EReal) - 0) (-(⊤ - 0))))) = 0 := by
    rw [sub_zero, EReal.neg_top, max_eq_left bot_le, EReal.neg_top, exp_bot]
    show Ideal.log (1 + 0) = 0
    rw [add_zero, log_one]
  rw [h1, add_zero, max_eq_left le_top]

theorem sp_bot : sp ⊥ = 0 := by
  unfold sp
  have h1 : Ideal.log1p (Ideal.exp (-(max ((⊥ : EReal) - 0) (-(⊥ - 0))))) = 0 := by
    rw [sub_zero, EReal.neg_bot, max_eq_right bot_le, EReal.neg_top, exp_bot]
    show Ideal.log (1 + 0) = 0
    rw [add_zero, log_one]
  rw [h1, add_zero, max_eq_right bot_le]

theorem lkR_coe (r : ℝ) : lkR (r : EReal) = ((-(max r 0 + Real.log (1 + Real.exp (-|r|))) : ℝ) : EReal) := by
  unfold lkR
  rw [neg_neg, sp_coe, EReal.coe_neg]

theorem lkR_top : lkR ⊤ = ⊥ := by rw [lkR, neg_neg, sp_top, EReal.neg_top]

theorem lkR_bot : lkR ⊥ = 0 := by rw [lkR, neg_neg, sp_bot, neg_zero]

theorem lsR_coe (r : ℝ) : lsR (r : EReal) = ((-(max (-r) 0 + Real.log (1 + Real.exp (-|r|))) : ℝ) : EReal) := by
  unfold lsR
  rw [← EReal.coe_neg, sp_coe, abs_neg, EReal.coe_neg]

theorem lsR_top : lsR ⊤ = 0 := by rw [lsR, EReal.neg_top, sp_bot, neg_zero]

theorem lsR_bot : lsR ⊥ = ⊥ := by rw [lsR, EReal.neg_bot, sp_top, EReal.neg_top]

/-- On real scores the weight taken, in logarithm, is the score plus the weight left over. -/
theorem lsR_eq (r : ℝ) : -(max (-r) 0 + Real.log (1 + Real.exp (-|r|))) = r + -(max r 0 + Real.log (1 + Real.exp (-|r|))) := by
  rcases le_total r 0 with h | h
  · rw [max_eq_left (by linarith), max_eq_right h]; ring
  · rw [max_eq_right (by linarith), max_eq_left h]; ring

theorem lkR_nonpos (z : EReal) : lkR z ≤ 0 := by
  induction z using EReal.rec with
  | bot => rw [lkR_bot]
  | top => rw [lkR_top]; exact bot_le
  | coe r =>
    rw [lkR_coe]
    have h1 : 0 ≤ Real.log (1 + Real.exp (-|r|)) := Real.log_nonneg (by linarith [Real.exp_pos (-|r|)])
    have h2 : 0 ≤ max r 0 := le_max_right _ _
    exact_mod_cast (by linarith : -(max r 0 + Real.log (1 + Real.exp (-|r|))) ≤ 0)

/-- The kernel's base-two weight left over is the reference's, scaled by one over `log 2`. -/
theorem lkK_L (z : EReal) : lkK ((L : EReal) * z) = (L : EReal) * lkR z := by
  induction z using EReal.rec with
  | bot =>
    rw [lkR_bot, mul_zero, EReal.coe_mul_bot_of_pos L_pos]
    unfold lkK
    rw [EReal.neg_bot, max_eq_right bot_le, max_eq_right bot_le]
    have : (0 : EReal) - ⊤ = ⊥ := rfl
    rw [this, exp2_bot, add_zero, log_one, zero_mul, sub_zero]
  | top =>
    rw [lkR_top, EReal.coe_mul_bot_of_pos L_pos, EReal.coe_mul_top_of_pos L_pos]
    unfold lkK
    rw [EReal.neg_top, max_eq_left bot_le, max_eq_left le_top]
    have : (0 : EReal) - ⊤ = ⊥ := rfl
    rw [this, exp2_bot, add_zero, log_one, zero_mul]
    rfl
  | coe r =>
    rw [lkR_coe]
    unfold lkK
    have hL := L_pos
    have h1 : max ((L : EReal) * (r : EReal)) (-((L : EReal) * (r : EReal))) = ((L * |r| : ℝ) : EReal) := by
      rw [← EReal.coe_mul, ← EReal.coe_neg, coe_max]
      congr 1
      show |L * r| = _
      rw [abs_mul, abs_of_pos hL]
    have h2 : max ((L : EReal) * (r : EReal)) 0 = ((L * max r 0 : ℝ) : EReal) := by
      rw [← EReal.coe_mul, ← EReal.coe_zero, coe_max]
      congr 1
      rcases le_total r 0 with h | h
      · rw [max_eq_right h, max_eq_right (mul_nonpos_of_nonneg_of_nonpos hL.le h), mul_zero]
      · rw [max_eq_left h, max_eq_left (mul_nonneg hL.le h)]
    rw [h1, h2, zero_sub, ← EReal.coe_neg, ← mul_neg, exp2_coe, rpow_two, ← EReal.coe_one, ← EReal.coe_add,
      log_coe_pos (by positivity), ← EReal.coe_mul, ← EReal.coe_sub, ← EReal.coe_mul]
    congr 1
    ring

/-- A positive real factor distributes over a sum. -/
theorem L_add (x y : EReal) : (L : EReal) * (x + y) = (L : EReal) * x + (L : EReal) * y :=
  EReal.left_distrib_of_nonneg_of_ne_top (by exact_mod_cast L_pos.le) (EReal.coe_ne_top _) x y

/-- A nonnegative factor other than `⊤` distributes over a finite sum. -/
theorem mul_sum {ι : Type*} (s : Finset ι) (f : ι → EReal) {a : EReal} (h0 : 0 ≤ a) (h1 : a ≠ ⊤) :
    a * ∑ i ∈ s, f i = ∑ i ∈ s, a * f i := by
  classical
  induction s using Finset.induction_on with
  | empty => simp
  | insert i s hi ih =>
    rw [Finset.sum_insert hi, Finset.sum_insert hi, EReal.left_distrib_of_nonneg_of_ne_top h0 h1, ih]

theorem exp2_nonneg (x : EReal) : 0 ≤ Ideal.exp2 x := by
  induction x using EReal.rec with
  | bot => exact le_rfl
  | top => exact le_top
  | coe r => rw [exp2_coe]; exact_mod_cast Real.rpow_nonneg (by norm_num) r

theorem exp2_ne_top {x : EReal} (h : x ≠ ⊤) : Ideal.exp2 x ≠ ⊤ := by
  induction x using EReal.rec with
  | bot => exact EReal.zero_ne_top
  | top => exact absurd rfl h
  | coe r => exact EReal.coe_ne_top _

/-- The exponential of a sum is the product of the exponentials, the carried summand not being `⊤`. -/
theorem exp2_mul {c : EReal} (hc : c ≠ ⊤) (x : EReal) : Ideal.exp2 c * Ideal.exp2 x = Ideal.exp2 (x + c) := by
  induction c using EReal.rec with
  | bot => rw [exp2_bot, zero_mul, EReal.add_bot, exp2_bot]
  | top => exact absurd rfl hc
  | coe r =>
    have hr : (0 : ℝ) < Real.rpow 2 r := Real.rpow_pos_of_pos (by norm_num) r
    induction x using EReal.rec with
    | bot => rw [exp2_bot, mul_zero, EReal.bot_add, exp2_bot]
    | top => rw [exp2_top, exp2_coe, EReal.coe_mul_top_of_pos hr, EReal.top_add_coe, exp2_top]
    | coe y =>
      rw [exp2_coe, exp2_coe, ← EReal.coe_add, exp2_coe, ← EReal.coe_mul]
      congr 1
      rw [mul_comm]
      exact (Real.rpow_add (by norm_num) y r).symm

/-- The weight of a key: base two with the key's own left-over weight in the sum, against base e with it taken out
    of the sum again. -/
theorem weight_eq (z C : EReal) (hC : C ≤ 0) :
    Ideal.exp2 ((L : EReal) * z + (L : EReal) * (lkR z + C)) = Ideal.exp (lsR z + ((lkR z + C) - lkR z)) := by
  rw [← L_add, exp2_L]
  congr 1
  induction z using EReal.rec with
  | bot => rw [lsR_bot, EReal.bot_add, EReal.bot_add]
  | top =>
    rw [lkR_top, EReal.bot_add, EReal.add_bot, lsR_top]
    rfl
  | coe r =>
    induction C using EReal.rec with
    | bot =>
      rw [EReal.add_bot, EReal.add_bot, lkR_coe, EReal.bot_sub, EReal.add_bot]
    | top => exact absurd hC (by simp)
    | coe c =>
      rw [lkR_coe, lsR_coe, lsR_eq]
      norm_cast
      ring

/-! ### One chunk, and the fold over the chunks -/

/-- The lower triangle of ones. -/
def U (i j : ℕ) : EReal := if j ≤ i then 1 else 0

/-- The left-over weight of key `s` for query `p`, zero at and after the query. -/
def lkm (p : ℕ) (Z : ℕ → EReal) (s : ℕ) : EReal := if s < p then lkK (Z s) else 0

/-- What chunk `c` adds to the accumulator before the carry's factor. -/
def pv (p : ℕ) (Z V : ℕ → EReal) (c : ℕ) : EReal :=
  ∑ j : Fin 256, (if 256 * c + j.val < p then
    Ideal.exp2 (Z (256 * c + j.val) + ∑ i : Fin 256, lkm p Z (256 * c + i.val) * U i.val j.val) else 0)
      * V (256 * c + j.val)

/-- What chunk `c` adds to the carry. -/
def tot (p : ℕ) (Z : ℕ → EReal) (c : ℕ) : EReal := ∑ i : Fin 256, lkm p Z (256 * c + i.val) * U i.val 0

/-- The carry once the chunks from `c` up to `N` have been folded. -/
def car (p : ℕ) (Z : ℕ → EReal) (N c : ℕ) : EReal := ∑ s ∈ Finset.Ico (256 * c) (256 * N), lkm p Z s

/-- The accumulator once the chunks from `c` up to `N` have been folded. -/
def acc (p : ℕ) (Z V : ℕ → EReal) (N c : ℕ) : EReal :=
  ∑ s ∈ Finset.Ico (256 * c) (256 * N),
    (if s < p then Ideal.exp2 (Z s + ∑ j ∈ Finset.Ico s (256 * N), lkm p Z j) else 0) * V s

theorem sum_chunk (c j : ℕ) (f : ℕ → EReal) (hj : j < 256) :
    ∑ i : Fin 256, f (256 * c + i.val) * U i.val j = ∑ s ∈ Finset.Ico (256 * c + j) (256 * (c + 1)), f s := by
  rw [Fin.sum_univ_eq_sum_range (fun i => f (256 * c + i) * U i j) 256]
  have h1 : Finset.Ico (256 * c + j) (256 * (c + 1)) = (Finset.Ico j 256).map (addLeftEmbedding (256 * c)) := by
    rw [Finset.map_add_left_Ico]; congr 1
  rw [h1, Finset.sum_map]
  have h2 : Finset.Ico j 256 = (Finset.range 256).filter (fun i => j ≤ i) := by
    ext i; simp only [Finset.mem_Ico, Finset.mem_filter, Finset.mem_range]; omega
  rw [h2, Finset.sum_filter]
  refine Finset.sum_congr rfl fun i _ => ?_
  unfold U
  split_ifs
  · rw [mul_one]; rfl
  · rw [mul_zero]

theorem lkm_nonpos (p : ℕ) (z : ℕ → EReal) (s : ℕ) : lkm p (fun s => (L : EReal) * z s) s ≤ 0 := by
  unfold lkm
  split_ifs
  · rw [lkK_L]
    exact mul_nonpos_of_nonneg_of_nonpos (by exact_mod_cast L_pos.le) (lkR_nonpos _)
  · exact le_rfl

theorem car_nonpos (p : ℕ) (z : ℕ → EReal) (N c : ℕ) : car p (fun s => (L : EReal) * z s) N c ≤ 0 :=
  Finset.sum_nonpos fun s _ => lkm_nonpos p z s

theorem car_self (p : ℕ) (Z : ℕ → EReal) (N : ℕ) : car p Z N N = 0 := by simp [car]

theorem acc_self (p : ℕ) (Z V : ℕ → EReal) (N : ℕ) : acc p Z V N N = 0 := by simp [acc]

/-- Folding one more chunk into the carry. -/
theorem car_step (p : ℕ) (Z : ℕ → EReal) (N c : ℕ) (h : c + 1 ≤ N) :
    car p Z N (c + 1) + tot p Z c = car p Z N c := by
  unfold car tot
  rw [sum_chunk c 0 (lkm p Z) (by norm_num), add_comm, add_zero]
  exact Finset.sum_Ico_consecutive _ (by omega) (by omega)

/-- Folding one more chunk into the accumulator. -/
theorem acc_step (p : ℕ) (Z V : ℕ → EReal) (N c : ℕ) (h : c + 1 ≤ N) (hc : car p Z N (c + 1) ≠ ⊤) :
    acc p Z V N (c + 1) + Ideal.exp2 (car p Z N (c + 1)) * pv p Z V c = acc p Z V N c := by
  unfold acc pv
  rw [mul_sum _ _ (exp2_nonneg _) (exp2_ne_top hc), add_comm,
    ← Finset.sum_Ico_consecutive _ (by omega : 256 * c ≤ 256 * (c + 1)) (by omega : 256 * (c + 1) ≤ 256 * N)]
  congr 1
  rw [Fin.sum_univ_eq_sum_range (fun j => Ideal.exp2 (car p Z N (c + 1)) * ((if 256 * c + j < p then
    Ideal.exp2 (Z (256 * c + j) + ∑ i : Fin 256, lkm p Z (256 * c + i.val) * U i.val j) else 0)
      * V (256 * c + j))) 256]
  have h1 : Finset.Ico (256 * c) (256 * (c + 1)) = (Finset.range 256).map (addLeftEmbedding (256 * c)) := by
    rw [Finset.range_eq_Ico, Finset.map_add_left_Ico]; congr 1
  rw [h1, Finset.sum_map]
  refine Finset.sum_congr rfl fun j hj => ?_
  have hj' : j < 256 := Finset.mem_range.mp hj
  simp only [addLeftEmbedding_apply]
  rw [← mul_assoc, sum_chunk c j (lkm p Z) hj']
  split_ifs
  · rw [exp2_mul hc, add_assoc]
    congr 3
    exact Finset.sum_Ico_consecutive _ (by omega) (by omega)
  · rw [mul_zero]

/-- A chunk at or after the query adds nothing. -/
theorem pv_masked (p : ℕ) (Z V : ℕ → EReal) (c : ℕ) (h : p ≤ 256 * c) : pv p Z V c = 0 := by
  unfold pv
  refine Finset.sum_eq_zero fun j _ => ?_
  rw [if_neg (by omega), zero_mul]

theorem car_masked (p : ℕ) (Z : ℕ → EReal) (N c : ℕ) (h : p ≤ 256 * c) : car p Z N c = 0 := by
  unfold car
  refine Finset.sum_eq_zero fun s hs => ?_
  rw [lkm, if_neg]
  have := (Finset.mem_Ico.mp hs).1
  omega

theorem acc_masked (p : ℕ) (Z V : ℕ → EReal) (N c : ℕ) (h : p ≤ 256 * c) : acc p Z V N c = 0 := by
  unfold acc
  refine Finset.sum_eq_zero fun s hs => ?_
  have := (Finset.mem_Ico.mp hs).1
  rw [if_neg (by omega), zero_mul]

/-- The reference's left-over weight of key `s` for query `p`. -/
def lr (p : ℕ) (z : ℕ → EReal) (s : ℕ) : EReal := if s < p then lkR (z s) else 0

theorem lkm_L (p : ℕ) (z : ℕ → EReal) (s : ℕ) : lkm p (fun s => (L : EReal) * z s) s = (L : EReal) * lr p z s := by
  unfold lkm lr
  split_ifs
  · exact lkK_L _
  · rw [mul_zero]

theorem lr_nonpos (p : ℕ) (z : ℕ → EReal) (s : ℕ) : lr p z s ≤ 0 := by
  unfold lr
  split_ifs
  · exact lkR_nonpos _
  · exact le_rfl

/-- The whole fold of the kernel is the reference's sum over the sequence. -/
theorem acc_eq_ref (p : ℕ) (z V : ℕ → EReal) (N T : ℕ) (hN : p ≤ 256 * N) (hT : 256 * N ≤ T) :
    acc p (fun s => (L : EReal) * z s) V N 0
      = ∑ s ∈ Finset.range T, V s * (if s < p then
          Ideal.exp (lsR (z s) + ((∑ j ∈ Finset.Ico s T, lr p z j) - lr p z s)) else 0) := by
  unfold acc
  rw [mul_zero, ← Finset.range_eq_Ico]
  rw [← Finset.sum_subset (Finset.range_mono hT) (f := fun s => V s * (if s < p then
          Ideal.exp (lsR (z s) + ((∑ j ∈ Finset.Ico s T, lr p z j) - lr p z s)) else 0))]
  · refine Finset.sum_congr rfl fun s hs => ?_
    rw [mul_comm]
    congr 1
    split_ifs with hsp
    · have hs' := Finset.mem_range.mp hs
      have e1 : ∑ j ∈ Finset.Ico s (256 * N), lkm p (fun s => (L : EReal) * z s) j
          = (L : EReal) * ∑ j ∈ Finset.Ico s T, lr p z j := by
        rw [mul_sum _ _ (by exact_mod_cast L_pos.le) (EReal.coe_ne_top _),
          ← Finset.sum_Ico_consecutive _ (by omega : s ≤ 256 * N) hT]
        rw [Finset.sum_eq_zero (s := Finset.Ico (256 * N) T), add_zero]
        · exact Finset.sum_congr rfl fun j _ => lkm_L p z j
        · intro j hj
          have := (Finset.mem_Ico.mp hj).1
          rw [lr, if_neg (by omega), mul_zero]
      rw [e1, Finset.sum_eq_sum_Ico_succ_bot (by omega : s < T)]
      have e2 : lr p z s = lkR (z s) := if_pos hsp
      rw [e2]
      exact weight_eq _ _ (Finset.sum_nonpos fun j _ => lr_nonpos p z j)
    · rfl
  · intro s _ hs
    have : ¬ s < 256 * N := fun h => hs (Finset.mem_range.mpr h)
    rw [if_neg (by omega), mul_zero]

end Cert.Stick

end
-- ==== Proof.StickPay.lean ====
/- The values the kernel's body computes, read at an index. -/
module

public import proofs.«01_k».proof.Proof.StickMath
public import proofs.«01_k».proof.Proof.Gen.KernelIdeal.Skeleton

@[expose] public section

noncomputable section

namespace Cert.Stick

open Cert.KernelIdeal Cert.KernelIdeal.Gen Idealize.ShloMosaic

set_option maxRecDepth 16384

/-- The score of row `r` against key `j` of a chunk. -/
def zE (q : S1024x128.Idx → EReal) (kt : S1x1x1x128x256.Idx → EReal) (r : Fin 1024) (j : Fin 256) : EReal :=
  ∑ d : Fin 128, q (ix2 r d) * kt (ix5 (0 : Fin 1) (0 : Fin 1) (0 : Fin 1) d j)

/-- The chunk's left-over weight of key `j` for row `r`, the query standing at `p` and the chunk being number `c`. -/
def lkE (p c : ℕ) (q : S1024x128.Idx → EReal) (kt : S1x1x1x128x256.Idx → EReal) (r : Fin 1024) (j : Fin 256) : EReal :=
  if 256 * c + j.val < p then lkK (zE q kt r j) else 0

/-- What the chunk adds to the accumulator before the carry's factor. -/
def pvE (p c : ℕ) (q : S1024x128.Idx → EReal) (kt : S1x1x1x128x256.Idx → EReal) (u : S256x256.Idx → EReal)
    (v : S1x256x128.Idx → EReal) (r : Fin 1024) (e : Fin 128) : EReal :=
  ∑ j : Fin 256, (if 256 * c + j.val < p then
    Ideal.exp2 (zE q kt r j + ∑ i : Fin 256, lkE p c q kt r i * u (ix2 i j)) else 0) * v (ix3 (0 : Fin 1) j e)

/-- What the chunk adds to the carry. -/
def totE (p c : ℕ) (q : S1024x128.Idx → EReal) (kt : S1x1x1x128x256.Idx → EReal) (u : S256x256.Idx → EReal)
    (r : Fin 1024) : EReal :=
  ∑ i : Fin 256, lkE p c q kt r i * u (ix2 i (0 : Fin 256))

theorem sel_if (p : Prop) [Decidable p] (a b : EReal) :
    Scalar.select (if p then 1#1 else 0#1) a b = if p then a else b := by
  by_cases h : p
  · rw [if_pos h, if_pos h]; rfl
  · rw [if_neg h, if_neg h]; rfl

theorem pull_mul (p : Prop) [Decidable p] (a b : EReal) : (if p then a * b else 0) = (if p then a else 0) * b := by
  by_cases h : p
  · rw [if_pos h, if_pos h]
  · rw [if_neg h, if_neg h, zero_mul]

/-- The position's comparison in words is the comparison of the numbers. -/
theorem mask_word (i c o j r : ℕ) (hi : i < 8) (hc : c < 4) (ho : o < 1024) (hj : j < 256) (hr : r < 1024) :
    IntOp.cmpi CmpIPredicate.slt
      (IntOp.addi (Scalar.muli (Scalar.addi (Scalar.addi (Scalar.muli (BitVec.ofNat 32 i) 4#32) 0#32) (BitVec.ofNat 32 c)) 256#32)
        (BitVec.ofNat 32 j))
      (IntOp.addi (Scalar.addi (Scalar.muli (BitVec.ofNat 32 i) 1024#32) (BitVec.ofNat 32 o)) (BitVec.ofNat 32 r)) =
    if 256 * (4 * i + c) + j < 1024 * i + o + r then 1#1 else 0#1 := by
  have h1 : (IntOp.addi (Scalar.muli (Scalar.addi (Scalar.addi (Scalar.muli (BitVec.ofNat 32 i) 4#32) 0#32) (BitVec.ofNat 32 c)) 256#32)
        (BitVec.ofNat 32 j)) = BitVec.ofNat 32 (256 * (4 * i + c) + j) := by
    show ((BitVec.ofNat 32 i * 4#32 + 0#32 + BitVec.ofNat 32 c) * 256#32 + BitVec.ofNat 32 j) = _
    apply BitVec.eq_of_toNat_eq
    simp only [BitVec.toNat_add, BitVec.toNat_mul, BitVec.toNat_ofNat]
    omega
  have h2 : (IntOp.addi (Scalar.addi (Scalar.muli (BitVec.ofNat 32 i) 1024#32) (BitVec.ofNat 32 o)) (BitVec.ofNat 32 r))
      = BitVec.ofNat 32 (1024 * i + o + r) := by
    show (BitVec.ofNat 32 i * 1024#32 + BitVec.ofNat 32 o + BitVec.ofNat 32 r) = _
    apply BitVec.eq_of_toNat_eq
    simp only [BitVec.toNat_add, BitVec.toNat_mul, BitVec.toNat_ofNat]
    omega
  rw [h1, h2]
  show BitVec.ofBool (BitVec.slt _ _) = _
  have h3 : BitVec.slt (BitVec.ofNat 32 (256 * (4 * i + c) + j)) (BitVec.ofNat 32 (1024 * i + o + r))
      = decide (256 * (4 * i + c) + j < 1024 * i + o + r) := by
    rw [BitVec.slt_eq_decide]
    congr 1
    rw [BitVec.toInt_eq_toNat_of_lt (by simp only [BitVec.toNat_ofNat]; omega),
      BitVec.toInt_eq_toNat_of_lt (by simp only [BitVec.toNat_ofNat]; omega)]
    simp only [BitVec.toNat_ofNat]
    apply propext
    omega
  rw [h3]
  by_cases h : 256 * (4 * i + c) + j < 1024 * i + o + r
  · rw [if_pos h, decide_eq_true h]; rfl
  · rw [if_neg h, decide_eq_false h]; rfl

section Full

variable (p c : ℕ) (hp : 256 * c + 256 ≤ p) (q : S1024x128.Idx → EReal) (kt : S1x1x1x128x256.Idx → EReal)
  (u : S256x256.Idx → EReal) (v : S1x256x128.Idx → EReal) (r : Fin 1024) (e : Fin 128)

include hp

theorem lkE_full (j : Fin 256) : lkE p c q kt r j = lkK (zE q kt r j) := if_pos (by omega)

theorem pvE_full : pvE p c q kt u v r e
    = ∑ j : Fin 256, Ideal.exp2 (zE q kt r j + ∑ i : Fin 256, lkK (zE q kt r i) * u (ix2 i j)) * v (ix3 (0 : Fin 1) j e) := by
  unfold pvE
  refine Finset.sum_congr rfl fun j _ => ?_
  rw [if_pos (by omega)]
  simp only [lkE_full p c hp]

theorem totE_full : totE p c q kt u r = ∑ i : Fin 256, lkK (zE q kt r i) * u (ix2 i (0 : Fin 256)) := by
  unfold totE
  simp only [lkE_full p c hp]

theorem pay4_at : k0_pay4 (F := Ideal) q kt u v (ix2 r e) = pvE p c q kt u v r e := by
  rw [pvE_full p c hp]
  pointwise [k0_pay4, k0_pay3, k0_pay2]
  rfl

theorem pay5_at : k0_pay5 (F := Ideal) q kt u (ix2 r (0 : Fin 1)) = totE p c q kt u r := by
  rw [totE_full p c hp]
  pointwise [k0_pay5, k0_pay3, k0_pay2]
  rfl

theorem pay8_at : k0_pay8 (F := Ideal) q kt u v (ix2 r e) = pvE p c q kt u v r e := by
  rw [pvE_full p c hp]
  pointwise [k0_pay8, k0_pay7, k0_pay6]
  rfl

theorem pay9_at : k0_pay9 (F := Ideal) q kt u (ix2 r (0 : Fin 1)) = totE p c q kt u r := by
  rw [totE_full p c hp]
  pointwise [k0_pay9, k0_pay7, k0_pay6]
  rfl

theorem pay13_at : k0_pay13 (F := Ideal) (k0_pay10 q kt) (k0_pay11 q kt) u v (ix2 r e) = pvE p c q kt u v r e := by
  rw [pvE_full p c hp]
  pointwise [k0_pay13, k0_pay12, k0_pay11, k0_pay10]
  rfl

theorem pay14_at : k0_pay14 (F := Ideal) (k0_pay10 q kt) (k0_pay11 q kt) u (ix2 r (0 : Fin 1)) = totE p c q kt u r := by
  rw [totE_full p c hp]
  pointwise [k0_pay14, k0_pay12, k0_pay11, k0_pay10]
  rfl

theorem pay18_at : k0_pay18 (F := Ideal) (k0_pay15 q kt) (k0_pay16 q kt) u v (ix2 r e) = pvE p c q kt u v r e := by
  rw [pvE_full p c hp]
  pointwise [k0_pay18, k0_pay17, k0_pay16, k0_pay15]
  rfl

theorem pay19_at : k0_pay19 (F := Ideal) (k0_pay16 q kt) u (ix2 r (0 : Fin 1)) = totE p c q kt u r := by
  rw [totE_full p c hp]
  pointwise [k0_pay19, k0_pay17, k0_pay16, k0_pay15]
  rfl

end Full

/-! ### The folds into the accumulator and the carry -/

section Fold

variable (pvv a cc : S1024x128.Idx → EReal) (tt : S1024x1.Idx → EReal) (r : Fin 1024) (e : Fin 128)

theorem pay20_at : k0_pay20 (F := Ideal) pvv cc a (ix2 r e) = a (ix2 r e) + Ideal.exp2 (cc (ix2 r e)) * pvv (ix2 r e) := by
  pointwise [k0_pay20]
  rfl

theorem pay22_at : k0_pay22 (F := Ideal) pvv cc a (ix2 r e) = a (ix2 r e) + Ideal.exp2 (cc (ix2 r e)) * pvv (ix2 r e) := by
  pointwise [k0_pay22]
  rfl

theorem pay25_at : k0_pay25 (F := Ideal) pvv cc a (ix2 r e) = a (ix2 r e) + Ideal.exp2 (cc (ix2 r e)) * pvv (ix2 r e) := by
  pointwise [k0_pay25]
  rfl

theorem pay27_at : k0_pay27 (F := Ideal) pvv cc a (ix2 r e) = a (ix2 r e) + Ideal.exp2 (cc (ix2 r e)) * pvv (ix2 r e) := by
  pointwise [k0_pay27]
  rfl

theorem pay92_at : k0_pay92 (F := Ideal) pvv cc a (ix2 r e) = a (ix2 r e) + Ideal.exp2 (cc (ix2 r e)) * pvv (ix2 r e) := by
  pointwise [k0_pay92]
  rfl

theorem pay21_at : k0_pay21 (F := Ideal) tt cc (ix2 r e) = cc (ix2 r e) + tt (ix2 r (0 : Fin 1)) := by
  pointwise [k0_pay21]

theorem pay24_at : k0_pay24 (F := Ideal) cc (k0_pay23 tt) (ix2 r e) = cc (ix2 r e) + tt (ix2 r (0 : Fin 1)) := by
  pointwise [k0_pay24, k0_pay23]

theorem pay26_at : k0_pay26 (F := Ideal) tt cc (ix2 r e) = cc (ix2 r e) + tt (ix2 r (0 : Fin 1)) := by
  pointwise [k0_pay26]

theorem pay28_at : k0_pay28 (F := Ideal) tt cc (ix2 r e) = cc (ix2 r e) + tt (ix2 r (0 : Fin 1)) := by
  pointwise [k0_pay28]

theorem pay93_at : k0_pay93 (F := Ideal) tt cc (ix2 r e) = cc (ix2 r e) + tt (ix2 r (0 : Fin 1)) := by
  pointwise [k0_pay93]

end Fold

section FoldRows

theorem pay85_at (pvv a cc : S256x128.Idx → EReal) (r : Fin 256) (e : Fin 128) :
    k0_pay85 (F := Ideal) pvv cc a (ix2 r e) = a (ix2 r e) + Ideal.exp2 (cc (ix2 r e)) * pvv (ix2 r e) := by
  pointwise [k0_pay85]
  rfl

theorem pay86_at (cc : S256x128.Idx → EReal) (tt : S256x1.Idx → EReal) (r : Fin 256) (e : Fin 128) :
    k0_pay86 (F := Ideal) tt cc (ix2 r e) = cc (ix2 r e) + tt (ix2 r (0 : Fin 1)) := by
  pointwise [k0_pay86]

theorem pay87_at (pvv a cc : S512x128.Idx → EReal) (r : Fin 512) (e : Fin 128) :
    k0_pay87 (F := Ideal) pvv cc a (ix2 r e) = a (ix2 r e) + Ideal.exp2 (cc (ix2 r e)) * pvv (ix2 r e) := by
  pointwise [k0_pay87]
  rfl

theorem pay89_at (cc : S512x128.Idx → EReal) (tt : S512x1.Idx → EReal) (r : Fin 512) (e : Fin 128) :
    k0_pay89 (F := Ideal) (k0_pay88 tt cc) (ix2 r e) = cc (ix2 r e) + tt (ix2 r (0 : Fin 1)) := by
  pointwise [k0_pay89, k0_pay88]

theorem pay90_at (pvv a cc : S768x128.Idx → EReal) (r : Fin 768) (e : Fin 128) :
    k0_pay90 (F := Ideal) pvv cc a (ix2 r e) = a (ix2 r e) + Ideal.exp2 (cc (ix2 r e)) * pvv (ix2 r e) := by
  pointwise [k0_pay90]
  rfl

theorem pay91_at (cc : S768x128.Idx → EReal) (tt : S768x1.Idx → EReal) (r : Fin 768) (e : Fin 128) :
    k0_pay91 (F := Ideal) tt cc (ix2 r e) = cc (ix2 r e) + tt (ix2 r (0 : Fin 1)) := by
  pointwise [k0_pay91]

theorem pay57_at (r : Fin 1024) (e : Fin 128) : k0_pay57 (F := Ideal) (ix2 r e) = 0 := by
  pointwise [k0_pay57]

theorem pay58_at (r : Fin 1024) (e : Fin 128) : k0_pay58 (F := Ideal) (ix2 r e) = 0 := by
  pointwise [k0_pay58]

end FoldRows

/-! ### The chunks on the diagonal -/

section Diag

variable (i : ℕ) (hi : i < 8) (q0 : S1024x128.Idx → EReal) (q : S1024x128.Idx → EReal)
  (kt : S1x1x1x128x256.Idx → EReal) (u : S256x256.Idx → EReal) (v : S1x256x128.Idx → EReal) (e : Fin 128)

include hi

theorem pay61_at (r j : Fin 256) :
    k0_pay61 (BitVec.ofNat 32 i) (Scalar.addi (Scalar.addi (Scalar.muli (BitVec.ofNat 32 i) 4#32) 0#32) 3#32) 1024#32 (ix2 r j)
      = if 256 * (4 * i + 3) + j.val < 1024 * i + 768 + r.val then 1#1 else 0#1 := by
  pointwise [k0_pay61]
  exact mask_word i 3 768 j r hi (by norm_num) (by norm_num) j.2 (by omega)

theorem pay67_at (r : Fin 512) (j : Fin 256) :
    k0_pay67 (BitVec.ofNat 32 i) (Scalar.addi (Scalar.addi (Scalar.muli (BitVec.ofNat 32 i) 4#32) 0#32) 2#32) (ix2 r j)
      = if 256 * (4 * i + 2) + j.val < 1024 * i + 512 + r.val then 1#1 else 0#1 := by
  pointwise [k0_pay67]
  exact mask_word i 2 512 j r hi (by norm_num) (by norm_num) j.2 (by omega)

theorem pay73_at (r : Fin 768) (j : Fin 256) :
    k0_pay73 (BitVec.ofNat 32 i) (Scalar.addi (Scalar.addi (Scalar.muli (BitVec.ofNat 32 i) 4#32) 0#32) 1#32) (ix2 r j)
      = if 256 * (4 * i + 1) + j.val < 1024 * i + 256 + r.val then 1#1 else 0#1 := by
  pointwise [k0_pay73]
  exact mask_word i 1 256 j r hi (by norm_num) (by norm_num) j.2 (by omega)

theorem pay80_at (r : Fin 1024) (j : Fin 256) :
    k0_pay80 (BitVec.ofNat 32 i) (ix2 r j)
      = if 256 * (4 * i + 0) + j.val < 1024 * i + 0 + r.val then 1#1 else 0#1 := by
  pointwise [k0_pay80]
  exact mask_word i 0 0 j r hi (by norm_num) (by norm_num) j.2 (by omega)

theorem pay63_at (r : Fin 256) :
    k0_pay63 (F := Ideal) (BitVec.ofNat 32 i) (Scalar.addi (Scalar.addi (Scalar.muli (BitVec.ofNat 32 i) 4#32) 0#32) 3#32)
        (k0_pay59 q0 kt) (k0_pay60 q0 kt) 1024#32 u v (ix2 r e)
      = pvE (1024 * i + 768 + r.val) (4 * i + 3) (k0_pay56 (F := Ideal) q0) kt u v ⟨768 + r.val, by omega⟩ e := by
  unfold pvE lkE
  simp only [← pull_mul]
  generalize hq : k0_pay56 (F := Ideal) q0 = q
  pointwise [k0_pay63, k0_pay62, k0_pay60, k0_pay59]
  simp only [pay61_at i hi, sel_if, hq]
  rfl

theorem pay64_at (r : Fin 256) :
    k0_pay64 (F := Ideal) (BitVec.ofNat 32 i) (Scalar.addi (Scalar.addi (Scalar.muli (BitVec.ofNat 32 i) 4#32) 0#32) 3#32)
        (k0_pay60 q0 kt) 1024#32 u (ix2 r (0 : Fin 1))
      = totE (1024 * i + 768 + r.val) (4 * i + 3) (k0_pay56 (F := Ideal) q0) kt u ⟨768 + r.val, by omega⟩ := by
  unfold totE lkE
  simp only [← pull_mul]
  generalize hq : k0_pay56 (F := Ideal) q0 = q
  pointwise [k0_pay64, k0_pay62, k0_pay60, k0_pay59]
  simp only [pay61_at i hi, sel_if, hq]
  rfl

theorem pay69_at (r : Fin 512) :
    k0_pay69 (F := Ideal) (BitVec.ofNat 32 i) (Scalar.addi (Scalar.addi (Scalar.muli (BitVec.ofNat 32 i) 4#32) 0#32) 2#32)
        (k0_pay65 q kt) (k0_pay66 q kt) u v (ix2 r e)
      = pvE (1024 * i + 512 + r.val) (4 * i + 2) q kt u v ⟨512 + r.val, by omega⟩ e := by
  unfold pvE lkE
  simp only [← pull_mul]
  pointwise [k0_pay69, k0_pay68, k0_pay66, k0_pay65]
  simp only [pay67_at i hi, sel_if]
  rfl

theorem pay70_at (r : Fin 512) :
    k0_pay70 (F := Ideal) (BitVec.ofNat 32 i) (Scalar.addi (Scalar.addi (Scalar.muli (BitVec.ofNat 32 i) 4#32) 0#32) 2#32)
        (k0_pay65 q kt) (k0_pay66 q kt) u (ix2 r (0 : Fin 1))
      = totE (1024 * i + 512 + r.val) (4 * i + 2) q kt u ⟨512 + r.val, by omega⟩ := by
  unfold totE lkE
  simp only [← pull_mul]
  pointwise [k0_pay70, k0_pay68, k0_pay66, k0_pay65]
  simp only [pay67_at i hi, sel_if]
  rfl

theorem pay77_at (r : Fin 768) :
    k0_pay77 (F := Ideal) (k0_pay75 (BitVec.ofNat 32 i) (Scalar.addi (Scalar.addi (Scalar.muli (BitVec.ofNat 32 i) 4#32) 0#32) 1#32)
        (k0_pay71 q) kt u) (k0_pay76 v) (ix2 r e)
      = pvE (1024 * i + 256 + r.val) (4 * i + 1) q kt u v ⟨256 + r.val, by omega⟩ e := by
  unfold pvE lkE
  simp only [← pull_mul]
  pointwise [k0_pay77, k0_pay76, k0_pay75, k0_pay74, k0_pay72, k0_pay71]
  simp only [pay73_at i hi, sel_if]
  rfl

theorem pay78_at (r : Fin 768) :
    k0_pay78 (F := Ideal) (k0_pay74 (BitVec.ofNat 32 i) (Scalar.addi (Scalar.addi (Scalar.muli (BitVec.ofNat 32 i) 4#32) 0#32) 1#32)
        (k0_pay71 q) kt u) (ix2 r (0 : Fin 1))
      = totE (1024 * i + 256 + r.val) (4 * i + 1) q kt u ⟨256 + r.val, by omega⟩ := by
  unfold totE lkE
  simp only [← pull_mul]
  pointwise [k0_pay78, k0_pay74, k0_pay72, k0_pay71]
  simp only [pay73_at i hi, sel_if]
  rfl

theorem pay83_at (r : Fin 1024) :
    k0_pay83 (F := Ideal) (k0_pay80 (BitVec.ofNat 32 i)) (k0_pay82 (BitVec.ofNat 32 i) q kt u)
        (FloatOps.ofBits FTy.f32 0#32) v (ix2 r e)
      = pvE (1024 * i + 0 + r.val) (4 * i + 0) q kt u v r e := by
  unfold pvE lkE
  simp only [← pull_mul]
  pointwise [k0_pay83, k0_pay82, k0_pay81, k0_pay79]
  simp only [pay80_at i hi, sel_if]
  rfl

theorem pay84_at (r : Fin 1024) :
    k0_pay84 (F := Ideal) (k0_pay81 (BitVec.ofNat 32 i) q kt u) (ix2 r (0 : Fin 1))
      = totE (1024 * i + 0 + r.val) (4 * i + 0) q kt u r := by
  unfold totE lkE
  simp only [← pull_mul]
  pointwise [k0_pay84, k0_pay81, k0_pay79]
  simp only [pay80_at i hi, sel_if]
  rfl

end Diag

end Cert.Stick

end
-- ==== Proof.StickTrip.lean ====
/- One trip of the kernel's loop: four chunks folded into the accumulator and the carry. -/
module

public import proofs.«01_k».proof.Proof.StickPay
public import proofs.«01_k».proof.Proof.Gen.KernelIdeal.Loops
public import Idealize.ShloMosaic.Lib.VecWindow

@[expose] public section

noncomputable section

namespace Cert.Stick

open Cert.KernelIdeal Cert.KernelIdeal.Gen Idealize.ShloMosaic Idealize.ShloMosaic.TcCoe

set_option maxRecDepth 16384

/-- The score of row `r` against key `s` of the whole sequence, the keys held in chunks of 256. -/
def ZZ (q : S1024x128.Idx → EReal) (x1 : S1x1x32x128x256.Idx → EReal) (r : Fin 1024) (s : ℕ) : EReal :=
  if h : s < 8192 then ∑ d : Fin 128, q (ix2 r d) *
    x1 (ix5 (0 : Fin 1) (0 : Fin 1) (⟨s / 256, by omega⟩ : Fin 32) d (⟨s % 256, by omega⟩ : Fin 256)) else 0

/-- Column `e` of the value of key `s` of the whole sequence. -/
def VV (x2 : S1x8192x128.Idx → EReal) (e : Fin 128) (s : ℕ) : EReal :=
  if h : s < 8192 then x2 (ix3 (0 : Fin 1) (⟨s, h⟩ : Fin 8192) e) else 0

section Tiles

variable {q : S1024x128.Idx → EReal} {x1 : S1x1x32x128x256.Idx → EReal} {x2 : S1x8192x128.Idx → EReal}
  {x3 : S256x256.Idx → EReal}
  {kt : S1x1x1x128x256.Idx → EReal} {u : S256x256.Idx → EReal} {v : S1x256x128.Idx → EReal} {c : ℕ}

/-- `kt` is chunk `c` of the keys. -/
def IsK (x1 : S1x1x32x128x256.Idx → EReal) (c : ℕ) (kt : S1x1x1x128x256.Idx → EReal) : Prop :=
  ∃ h : c < 32, ∀ (d : Fin 128) (j : Fin 256),
    kt (ix5 (0 : Fin 1) (0 : Fin 1) (0 : Fin 1) d j) = x1 (ix5 (0 : Fin 1) (0 : Fin 1) (⟨c, h⟩ : Fin 32) d j)

/-- `v` is chunk `c` of the values. -/
def IsV (x2 : S1x8192x128.Idx → EReal) (c : ℕ) (v : S1x256x128.Idx → EReal) : Prop :=
  ∃ h : c < 32, ∀ (j : Fin 256) (e : Fin 128),
    v (ix3 (0 : Fin 1) j e) = x2 (ix3 (0 : Fin 1) (⟨256 * c + j.val, by omega⟩ : Fin 8192) e)

/-- `u` is the lower triangle of ones. -/
def IsU (u : S256x256.Idx → EReal) : Prop := ∀ i j : Fin 256, u (ix2 i j) = U i.val j.val

theorem zE_eq (hk : IsK x1 c kt) (r : Fin 1024) (j : Fin 256) : zE q kt r j = ZZ q x1 r (256 * c + j.val) := by
  obtain ⟨h, hk⟩ := hk
  have hj := j.2
  unfold zE ZZ
  rw [dif_pos (by omega)]
  refine Finset.sum_congr rfl fun d _ => ?_
  rw [hk]
  congr 3
  · exact Fin.ext (by show c = (256 * c + j.val) / 256; omega)
  · exact Fin.ext (by show j.val = (256 * c + j.val) % 256; omega)

theorem lkE_eq (hk : IsK x1 c kt) (p : ℕ) (r : Fin 1024) (j : Fin 256) :
    lkE p c q kt r j = lkm p (ZZ q x1 r) (256 * c + j.val) := by
  unfold lkE lkm
  rw [zE_eq hk]

theorem totE_eq (hk : IsK x1 c kt) (hu : IsU u) (p : ℕ) (r : Fin 1024) :
    totE p c q kt u r = tot p (ZZ q x1 r) c := by
  unfold totE tot
  refine Finset.sum_congr rfl fun i _ => ?_
  rw [lkE_eq hk, hu]
  rfl

theorem pvE_eq (hk : IsK x1 c kt) (hu : IsU u) (hv : IsV x2 c v) (p : ℕ) (r : Fin 1024) (e : Fin 128) :
    pvE p c q kt u v r e = pv p (ZZ q x1 r) (VV x2 e) c := by
  obtain ⟨h, hv⟩ := hv
  unfold pvE pv
  refine Finset.sum_congr rfl fun j _ => ?_
  have hj := j.2
  rw [hv, zE_eq hk]
  have h1 : VV x2 e (256 * c + j.val) = x2 (ix3 (0 : Fin 1) (⟨256 * c + j.val, by omega⟩ : Fin 8192) e) :=
    dif_pos (by omega)
  rw [h1]
  have h2 : ∑ i : Fin 256, lkE p c q kt r i * u (ix2 i j) = ∑ i : Fin 256, lkm p (ZZ q x1 r) (256 * c + i.val) * U i.val j.val :=
    Finset.sum_congr rfl fun i _ => by rw [lkE_eq hk, hu]
  rw [h2]

end Tiles

/-- The accumulator and the carry of a block of 1024 queries standing at `1024 * i`, the chunks from `n` on folded. -/
structure Inv (i : ℕ) (q : S1024x128.Idx → EReal) (x1 : S1x1x32x128x256.Idx → EReal) (x2 : S1x8192x128.Idx → EReal)
    (n : ℕ) (a cc : S1024x128.Idx → EReal) : Prop where
  ac : ∀ r e, a (ix2 r e) = acc (1024 * i + r.val) (ZZ q x1 r) (VV x2 e) (4 * (i + 1)) n
  ca : ∀ r e, cc (ix2 r e) = car (1024 * i + r.val) (ZZ q x1 r) (4 * (i + 1)) n

/-- The carry is never `⊤`. -/
def NoTop (i : ℕ) (q : S1024x128.Idx → EReal) (x1 : S1x1x32x128x256.Idx → EReal) : Prop :=
  ∀ (r : Fin 1024) (n : ℕ), car (1024 * i + r.val) (ZZ q x1 r) (4 * (i + 1)) n ≠ ⊤

section Step

variable {i : ℕ} {q : S1024x128.Idx → EReal} {x1 : S1x1x32x128x256.Idx → EReal} {x2 : S1x8192x128.Idx → EReal} {n : ℕ}
  {a cc a' cc' : S1024x128.Idx → EReal}

/-- One chunk below the diagonal. -/
theorem Inv.step (hI : Inv i q x1 x2 (n + 1) a cc) (hq : NoTop i q x1) (hn : n + 1 ≤ 4 * (i + 1))
    (pvv : S1024x128.Idx → EReal) (tt : S1024x1.Idx → EReal)
    (hp : ∀ r e, pvv (ix2 r e) = pv (1024 * i + r.val) (ZZ q x1 r) (VV x2 e) n)
    (ht : ∀ r, tt (ix2 r (0 : Fin 1)) = tot (1024 * i + r.val) (ZZ q x1 r) n)
    (ha : ∀ r e, a' (ix2 r e) = a (ix2 r e) + Ideal.exp2 (cc (ix2 r e)) * pvv (ix2 r e))
    (hc : ∀ r e, cc' (ix2 r e) = cc (ix2 r e) + tt (ix2 r (0 : Fin 1))) : Inv i q x1 x2 n a' cc' where
  ac r e := by
    rw [ha, hI.ac, hI.ca, hp]
    exact acc_step _ _ _ _ _ hn (hq r _)
  ca r e := by
    rw [hc, hI.ca, ht]
    exact car_step _ _ _ _ hn

end Step

/-! ### The loads of a trip -/

section Loads

variable (i : grid0.Coords)

theorem trips_eq : (k0_t1_loop i).trips = (i 2).val := by
  have hi : (i 2).val < 8 := (i 2).2
  have h : ∀ n : Fin 8, (⟨0#32, Scalar.addi 0#32 (Scalar.muli (Scalar.divsi (Scalar.subi (Scalar.muli (BitVec.ofNat 32 n.val) 1#32) 0#32) 1#32) 1#32), 1#32⟩ : Scf.Loop 32).trips = n.val := by decide
  exact h ⟨(i 2).val, hi⟩

theorem off3_eq (k : Fin (k0_t1_loop i).trips) (d : ℕ) (hd : d < 4) :
    k0_off3 i k (BitVec.ofNat 32 d) = ![0, 0, 4 * (i 2).val - 1 - 4 * k.val - d, 0, 0] := by
  have hi : (i 2).val < 8 := (i 2).2
  have hk : k.val < (i 2).val := trips_eq i ▸ k.2
  show ![0, 0, (BitVec.ofNat 32 (i 2).val * 4#32 - 1#32 - (Scf.iv 0#32 1#32 k.val) * 4#32 - BitVec.ofNat 32 d).toNat, 0, 0] = _
  congr 3
  show (BitVec.ofNat 32 (i 2).val * 4#32 - 1#32 - (0#32 + BitVec.ofNat 32 k.val * 1#32) * 4#32 - BitVec.ofNat 32 d).toNat = _
  simp only [BitVec.toNat_sub, BitVec.toNat_add, BitVec.toNat_mul, BitVec.toNat_ofNat]
  omega

theorem off4_eq (k : Fin (k0_t1_loop i).trips) (d : ℕ) (hd : d < 4) :
    k0_off4 i k (BitVec.ofNat 32 d) = ![0, 256 * (4 * (i 2).val - 1 - 4 * k.val - d), 0] := by
  have hi : (i 2).val < 8 := (i 2).2
  have hk : k.val < (i 2).val := trips_eq i ▸ k.2
  show ![0, ((BitVec.ofNat 32 (i 2).val * 4#32 - 1#32 - (Scf.iv 0#32 1#32 k.val) * 4#32 - BitVec.ofNat 32 d) * 256#32).toNat, 0] = _
  congr 2
  show ((BitVec.ofNat 32 (i 2).val * 4#32 - 1#32 - (0#32 + BitVec.ofNat 32 k.val * 1#32) * 4#32 - BitVec.ofNat 32 d) * 256#32).toNat = _
  simp only [BitVec.toNat_sub, BitVec.toNat_add, BitVec.toNat_mul, BitVec.toNat_ofNat]
  omega

theorem off1_eq (d : ℕ) (hd : d < 4) : k0_off1 i (BitVec.ofNat 32 d) = ![0, 0, 4 * (i 2).val + d, 0, 0] := by
  have hi : (i 2).val < 8 := (i 2).2
  show ![0, 0, (BitVec.ofNat 32 (i 2).val * 4#32 + 0#32 + BitVec.ofNat 32 d).toNat, 0, 0] = _
  congr 3
  simp only [BitVec.toNat_add, BitVec.toNat_mul, BitVec.toNat_ofNat]
  omega

theorem off2_eq (d : ℕ) (hd : d < 4) : k0_off2 i (BitVec.ofNat 32 d) = ![0, 256 * (4 * (i 2).val + d), 0] := by
  have hi : (i 2).val < 8 := (i 2).2
  show ![0, ((BitVec.ofNat 32 (i 2).val * 4#32 + 0#32 + BitVec.ofNat 32 d) * 256#32).toNat, 0] = _
  congr 2
  simp only [BitVec.toNat_add, BitVec.toNat_mul, BitVec.toNat_ofNat]
  omega

/-- A load of one chunk of the keys reads that chunk. -/
theorem isK_readAt (arg4 : Memref sig .tc .vmem S1x1x32x128x256 .bf16) (X : BufTy.Contents (Elt Ideal) arg4.view.ty)
    (off : Fin 5 → ℕ) (inb : ∀ a, off a + S1x1x1x128x256.size a ≤ S1x1x32x128x256.size a) (c : ℕ) (h : off = ![0, 0, c, 0, 0]) :
    IsK (arg4.view.read (Elt Ideal) X) c
      (View.readAt (Elt Ideal) arg4.view (Rect.unit (s := S1x1x32x128x256) off S1x1x1x128x256.size inb).toLoadRect X) := by
  subst h
  have hc : c < 32 := by have := inb 2; simpa using this
  refine ⟨hc, fun d j => ?_⟩
  rw [View.readAt_apply]
  congr 1
  funext a
  fin_cases a <;> apply Fin.ext
  · rfl
  · rfl
  · show c + 1 * 0 = c; omega
  · show 0 + 1 * d.val = d.val; omega
  · show 0 + 1 * j.val = j.val; omega

/-- A load of one chunk of the values reads that chunk. -/
theorem isV_readAt (arg5 : Memref sig .tc .vmem S1x8192x128 .bf16) (X : BufTy.Contents (Elt Ideal) arg5.view.ty)
    (off : Fin 3 → ℕ) (inb : ∀ a, off a + S1x256x128.size a ≤ S1x8192x128.size a) (c : ℕ) (h : off = ![0, 256 * c, 0]) :
    IsV (arg5.view.read (Elt Ideal) X) c
      (View.readAt (Elt Ideal) arg5.view (Rect.unit (s := S1x8192x128) off S1x256x128.size inb).toLoadRect X) := by
  subst h
  have hc : c < 32 := by
    have := inb 1
    have : 256 * c + 256 ≤ 8192 := this
    omega
  refine ⟨hc, fun j e => ?_⟩
  rw [View.readAt_apply]
  congr 1
  funext a
  fin_cases a <;> apply Fin.ext
  · rfl
  · show 256 * c + 1 * j.val = 256 * c + j.val; omega
  · show 0 + 1 * e.val = e.val; omega

end Loads

/-! ### One trip -/

section Trip

variable (𝒱 : Variants) (cd : Dev nD) (bd : Option 𝒱.V) (i : grid0.Coords)
  (arg3 : Memref sig .tc .vmem S1024x128 .f32) (harg3 : arg3.IsWhole)
  (arg4 : Memref sig .tc .vmem S1x1x32x128x256 .bf16) (harg4 : arg4.IsWhole)
  (arg5 : Memref sig .tc .vmem S1x8192x128 .bf16) (harg5 : arg5.IsWhole)
  (arg6 : Memref sig .tc .vmem S256x256 .bf16) (harg6 : arg6.IsWhole)
  (arg7 : Memref sig .tc .vmem S1024x128 .bf16) (harg7 : arg7.IsWhole)
  (arg8 : Memref sig .tc .vmem S1024x128 .f32) (harg8 : arg8.IsWhole)
  (arg9 : Memref sig .tc .vmem S1024x128 .f32) (harg9 : arg9.IsWhole)
  (arg2 : BitVec 32) (v4 : FVec Ideal S1024x128 .bf16) (c0 : BitVec 32)
  (X4 : BufTy.Contents (Elt Ideal) arg4.view.ty) (X5 : BufTy.Contents (Elt Ideal) arg5.view.ty)
  (X6 : BufTy.Contents (Elt Ideal) arg6.view.ty) (k : Fin (k0_t1_loop i).trips)
  (f8 : BufTy.Contents (Elt Ideal) arg8.view.ty) (f9 : BufTy.Contents (Elt Ideal) arg9.view.ty)

/-- A trip takes the invariant four chunks further down. -/
theorem trip_inv (hu : IsU (arg6.view.read (Elt Ideal) X6)) (hq : NoTop (i 2).val v4 (arg4.view.read (Elt Ideal) X4))
    (hI : Inv (i 2).val v4 (arg4.view.read (Elt Ideal) X4) (arg5.view.read (Elt Ideal) X5) (4 * ((i 2).val - k.val))
      (arg8.view.read (Elt Ideal) f8) (arg9.view.read (Elt Ideal) f9)) (L8 L9) :
    Inv (i 2).val v4 (arg4.view.read (Elt Ideal) X4) (arg5.view.read (Elt Ideal) X5) (4 * ((i 2).val - (k.val + 1)))
      (arg8.view.read (Elt Ideal) (arg8.view.writes (Elt Ideal) f8 ((tripL_k0_t1 (F := Ideal) 𝒱 cd bd i arg3 harg3 arg4 harg4 arg5 harg5 arg6 harg6 arg7 harg7 arg8 harg8 arg9 harg9 arg2 v4 c0 X4 X5 X6 k f8 f9).1 ++ L8)))
      (arg9.view.read (Elt Ideal) (arg9.view.writes (Elt Ideal) f9 ((tripL_k0_t1 (F := Ideal) 𝒱 cd bd i arg3 harg3 arg4 harg4 arg5 harg5 arg6 harg6 arg7 harg7 arg8 harg8 arg9 harg9 arg2 v4 c0 X4 X5 X6 k f8 f9).2 ++ L9))) := by
  have hk : k.val < (i 2).val := trips_eq i ▸ k.2
  unfold tripL_k0_t1 trip_k0_t1
  dsimp only
  rw [List.cons_append, List.cons_append, View.read_writes_full, View.read_writes_full]
  have hi : (i 2).val < 8 := (i 2).2
  have hk' : 4 * ((i 2).val - k.val) = (4 * (i 2).val - 1 - 4 * k.val - 0) + 1 := by omega
  have hk0 : 4 * (i 2).val - 1 - 4 * k.val - 0 = (4 * (i 2).val - 1 - 4 * k.val - 1) + 1 := by omega
  have hk1 : 4 * (i 2).val - 1 - 4 * k.val - 1 = (4 * (i 2).val - 1 - 4 * k.val - 2) + 1 := by omega
  have hk2 : 4 * (i 2).val - 1 - 4 * k.val - 2 = (4 * (i 2).val - 1 - 4 * k.val - 3) + 1 := by omega
  have hk3 : 4 * ((i 2).val - (k.val + 1)) = 4 * (i 2).val - 1 - 4 * k.val - 3 := by omega
  have hU : IsU (View.readAt (Elt Ideal) arg6.view (Rect.unit ![0, 0] S256x256.size inb_S256x256_S256x256_0_0).toLoadRect X6) := by
    rw [View.readAt_full]; exact hu
  rw [hk'] at hI
  rw [hk3]
  -- the first chunk
  have e8 : trip_k0_t1.sl.v404 i arg4 arg5 arg6 arg8 arg9 v4 X4 X5 X6 k f8 f9
      = k0_pay20 (trip_k0_t1.sl.r i arg4 arg5 arg6 v4 X4 X5 X6 k) (arg9.view.read (Elt Ideal) f9) (arg8.view.read (Elt Ideal) f8) := by
    unfold trip_k0_t1.sl.v404 trip_k0_t1.sl.v401 trip_k0_t1.sl.v400 trip_k0_t1.sl.v399
    rw [View.readAt_full, View.readAt_full]
    rfl
  have e9 : trip_k0_t1.sl.v410 i arg4 arg6 arg9 v4 X4 X6 k f9
      = k0_pay21 (trip_k0_t1.sl.r_1 i arg4 arg6 v4 X4 X6 k) (arg9.view.read (Elt Ideal) f9) := by
    unfold trip_k0_t1.sl.v410 trip_k0_t1.sl.v407 trip_k0_t1.sl.v406 trip_k0_t1.sl.v405
    rw [View.readAt_full]
    rfl
  have s1 : Inv (i 2).val v4 (arg4.view.read (Elt Ideal) X4) (arg5.view.read (Elt Ideal) X5) (4 * (i 2).val - 1 - 4 * k.val - 0)
      (trip_k0_t1.sl.v412 i arg4 arg5 arg6 arg8 arg9 v4 X4 X5 X6 k f8 f9) (trip_k0_t1.sl.v411 i arg4 arg6 arg9 v4 X4 X6 k f9) := by
    unfold trip_k0_t1.sl.v412 trip_k0_t1.sl.HW_arg8_1 trip_k0_t1.sl.v411 trip_k0_t1.sl.HW_arg9_1
    rw [View.readCov_full, View.readCov_full, e8, e9]
    have hK := isK_readAt arg4 X4 _ (k0_off3_inb i k 0) _ (off3_eq i k 0 (by norm_num))
    have hV := isV_readAt arg5 X5 _ (k0_off4_inb i k 0) _ (off4_eq i k 0 (by norm_num))
    exact Inv.step hI hq (by omega) _ _
      (fun r e => (pay4_at (1024 * (i 2).val + r.val) (4 * (i 2).val - 1 - 4 * k.val - 0) (by omega) v4 _ _ _ r e).trans (pvE_eq hK hU hV _ r e))
      (fun r => (pay5_at (1024 * (i 2).val + r.val) (4 * (i 2).val - 1 - 4 * k.val - 0) (by omega) v4 _ _ r).trans (totE_eq hK hU _ r))
      (fun r e => pay20_at _ _ _ r e) (fun r e => pay21_at _ _ r e)
  have s2 : Inv (i 2).val v4 (arg4.view.read (Elt Ideal) X4) (arg5.view.read (Elt Ideal) X5) (4 * (i 2).val - 1 - 4 * k.val - 1)
      (trip_k0_t1.sl.v426 i arg4 arg5 arg6 arg8 arg9 v4 X4 X5 X6 k f8 f9) (trip_k0_t1.sl.v425 i arg4 arg6 arg9 v4 X4 X6 k f9) := by
    rw [hk0] at s1
    unfold trip_k0_t1.sl.v426 trip_k0_t1.sl.HW_arg8_2 trip_k0_t1.sl.v425 trip_k0_t1.sl.HW_arg9_2
    rw [View.readCov_full, View.readCov_full]
    have hK := isK_readAt arg4 X4 _ (k0_off3_inb i k 1) _ (off3_eq i k 1 (by norm_num))
    have hV := isV_readAt arg5 X5 _ (k0_off4_inb i k 1) _ (off4_eq i k 1 (by norm_num))
    exact Inv.step s1 hq (by omega) _ _
      (fun r e => (pay8_at (1024 * (i 2).val + r.val) (4 * (i 2).val - 1 - 4 * k.val - 1) (by omega) v4 _ _ _ r e).trans (pvE_eq hK hU hV _ r e))
      (fun r => (pay9_at (1024 * (i 2).val + r.val) (4 * (i 2).val - 1 - 4 * k.val - 1) (by omega) v4 _ _ r).trans (totE_eq hK hU _ r))
      (fun r e => pay22_at _ _ _ r e) (fun r e => pay24_at _ _ r e)
  have s3 : Inv (i 2).val v4 (arg4.view.read (Elt Ideal) X4) (arg5.view.read (Elt Ideal) X5) (4 * (i 2).val - 1 - 4 * k.val - 2)
      (trip_k0_t1.sl.v440 i arg4 arg5 arg6 arg8 arg9 v4 X4 X5 X6 k f8 f9) (trip_k0_t1.sl.v439 i arg4 arg6 arg9 v4 X4 X6 k f9) := by
    rw [hk1] at s2
    unfold trip_k0_t1.sl.v440 trip_k0_t1.sl.HW_arg8_3 trip_k0_t1.sl.v439 trip_k0_t1.sl.HW_arg9_3
    rw [View.readCov_full, View.readCov_full]
    have hK := isK_readAt arg4 X4 _ (k0_off3_inb i k 2) _ (off3_eq i k 2 (by norm_num))
    have hV := isV_readAt arg5 X5 _ (k0_off4_inb i k 2) _ (off4_eq i k 2 (by norm_num))
    exact Inv.step s2 hq (by omega) _ _
      (fun r e => (pay13_at (1024 * (i 2).val + r.val) (4 * (i 2).val - 1 - 4 * k.val - 2) (by omega) v4 _ _ _ r e).trans (pvE_eq hK hU hV _ r e))
      (fun r => (pay14_at (1024 * (i 2).val + r.val) (4 * (i 2).val - 1 - 4 * k.val - 2) (by omega) v4 _ _ r).trans (totE_eq hK hU _ r))
      (fun r e => pay25_at _ _ _ r e) (fun r e => pay26_at _ _ r e)
  rw [hk2] at s3
  have hK := isK_readAt arg4 X4 _ (k0_off3_inb i k 3) _ (off3_eq i k 3 (by norm_num))
  have hV := isV_readAt arg5 X5 _ (k0_off4_inb i k 3) _ (off4_eq i k 3 (by norm_num))
  exact Inv.step s3 hq (by omega) _ _
    (fun r e => (pay18_at (1024 * (i 2).val + r.val) (4 * (i 2).val - 1 - 4 * k.val - 3) (by omega) v4 _ _ _ r e).trans (pvE_eq hK hU hV _ r e))
    (fun r => (pay19_at (1024 * (i 2).val + r.val) (4 * (i 2).val - 1 - 4 * k.val - 3) (by omega) v4 _ _ r).trans (totE_eq hK hU _ r))
    (fun r e => pay27_at _ _ _ r e) (fun r e => pay28_at _ _ r e)

end Trip

end Cert.Stick
-- ==== Proof.StickRun.lean ====
/- One grid step of the kernel: the four diagonal chunks, then the loop over the chunks below. -/
module

public import proofs.«01_k».proof.Proof.StickTrip
public import proofs.«01_k».proof.Proof.Gen.KernelIdeal.Frame
public import Idealize.ShloMosaic.Lib.WritesUnit

@[expose] public section

noncomputable section

namespace Cert.Stick

open Cert.KernelIdeal Cert.KernelIdeal.Gen Idealize.ShloMosaic Idealize.ShloMosaic.TcCoe

set_option maxRecDepth 16384

/-! ### The loop -/

section Loop

variable (𝒱 : Variants) (cd : Dev nD) (bd : Option 𝒱.V) (i : grid0.Coords)
  (arg3 : Memref sig .tc .vmem S1024x128 .f32) (harg3 : arg3.IsWhole)
  (arg4 : Memref sig .tc .vmem S1x1x32x128x256 .bf16) (harg4 : arg4.IsWhole)
  (arg5 : Memref sig .tc .vmem S1x8192x128 .bf16) (harg5 : arg5.IsWhole)
  (arg6 : Memref sig .tc .vmem S256x256 .bf16) (harg6 : arg6.IsWhole)
  (arg7 : Memref sig .tc .vmem S1024x128 .bf16) (harg7 : arg7.IsWhole)
  (arg8 : Memref sig .tc .vmem S1024x128 .f32) (harg8 : arg8.IsWhole)
  (arg9 : Memref sig .tc .vmem S1024x128 .f32) (harg9 : arg9.IsWhole)
  (arg2 : BitVec 32) (v4 : FVec Ideal S1024x128 .bf16) (c0 : BitVec 32)
  (X4 : BufTy.Contents (Elt Ideal) arg4.view.ty) (X5 : BufTy.Contents (Elt Ideal) arg5.view.ty)
  (X6 : BufTy.Contents (Elt Ideal) arg6.view.ty)
  (f8 : BufTy.Contents (Elt Ideal) arg8.view.ty) (f9 : BufTy.Contents (Elt Ideal) arg9.view.ty)

/-- The trips' lists prepended to the lists before the loop: trip by trip the invariant moves four chunks down. -/
theorem loop_inv (hu : IsU (arg6.view.read (Elt Ideal) X6)) (hq : NoTop (i 2).val v4 (arg4.view.read (Elt Ideal) X4))
    (L8 L9)
    (hI : Inv (i 2).val v4 (arg4.view.read (Elt Ideal) X4) (arg5.view.read (Elt Ideal) X5) (4 * (i 2).val)
      (arg8.view.read (Elt Ideal) (arg8.view.writes (Elt Ideal) f8 L8)) (arg9.view.read (Elt Ideal) (arg9.view.writes (Elt Ideal) f9 L9)))
    (k : ℕ) (hk : k ≤ (i 2).val) :
    Inv (i 2).val v4 (arg4.view.read (Elt Ideal) X4) (arg5.view.read (Elt Ideal) X5) (4 * ((i 2).val - k))
      (arg8.view.read (Elt Ideal) (arg8.view.writes (Elt Ideal) f8 ((pb_k0_t1 (F := Ideal) 𝒱 cd bd i arg3 harg3 arg4 harg4 arg5 harg5 arg6 harg6 arg7 harg7 arg8 harg8 arg9 harg9 arg2 v4 c0 X4 X5 X6 (arg8.view.writes (Elt Ideal) f8 L8) (arg9.view.writes (Elt Ideal) f9 L9) k).1 ++ L8)))
      (arg9.view.read (Elt Ideal) (arg9.view.writes (Elt Ideal) f9 ((pb_k0_t1 (F := Ideal) 𝒱 cd bd i arg3 harg3 arg4 harg4 arg5 harg5 arg6 harg6 arg7 harg7 arg8 harg8 arg9 harg9 arg2 v4 c0 X4 X5 X6 (arg8.view.writes (Elt Ideal) f8 L8) (arg9.view.writes (Elt Ideal) f9 L9) k).2 ++ L9))) := by
  induction k with
  | zero => exact hI
  | succ k ih =>
    have ih := ih (by omega)
    rw [View.writes_append, View.writes_append] at ih ⊢
    have hkt : k < (k0_t1_loop i).trips := by rw [trips_eq]; omega
    have := pb_k0_t1_succ (F := Ideal) 𝒱 cd bd i arg3 harg3 arg4 harg4 arg5 harg5 arg6 harg6 arg7 harg7 arg8 harg8 arg9 harg9 arg2 v4 c0 X4 X5 X6 (arg8.view.writes (Elt Ideal) f8 L8) (arg9.view.writes (Elt Ideal) f9 L9) ⟨k, hkt⟩
    rw [this]
    dsimp only
    rw [View.writes_append, View.writes_append]
    have := trip_inv 𝒱 cd bd i arg3 harg3 arg4 harg4 arg5 harg5 arg6 harg6 arg7 harg7 arg8 harg8 arg9 harg9 arg2 v4 c0 X4 X5 X6 ⟨k, hkt⟩ _ _ hu hq ih [] []
    rw [List.append_nil, List.append_nil] at this
    exact this

end Loop

/-! ### The diagonal -/

section Diag

variable {i : ℕ} {q : S1024x128.Idx → EReal} {x1 : S1x1x32x128x256.Idx → EReal} {x2 : S1x8192x128.Idx → EReal} {n : ℕ}
  {a cc a' cc' : S1024x128.Idx → EReal}

/-- One chunk of the diagonal, touching the rows from `o` on; the rows above see nothing of the chunk. -/
theorem Inv.stepRows (hI : Inv i q x1 x2 (n + 1) a cc) (hq : NoTop i q x1) (hn : n + 1 ≤ 4 * (i + 1)) (o : ℕ)
    (ho : 1024 * i + o ≤ 256 * n)
    (ha : ∀ r e, o ≤ r.val → a' (ix2 r e) = a (ix2 r e) + Ideal.exp2 (cc (ix2 r e)) * pv (1024 * i + r.val) (ZZ q x1 r) (VV x2 e) n)
    (hc : ∀ r e, o ≤ r.val → cc' (ix2 r e) = cc (ix2 r e) + tot (1024 * i + r.val) (ZZ q x1 r) n)
    (ha0 : ∀ r e, r.val < o → a' (ix2 r e) = a (ix2 r e))
    (hc0 : ∀ r e, r.val < o → cc' (ix2 r e) = cc (ix2 r e)) : Inv i q x1 x2 n a' cc' where
  ac r e := by
    by_cases h : o ≤ r.val
    · rw [ha r e h, hI.ac, hI.ca]
      exact acc_step _ _ _ _ _ hn (hq r _)
    · rw [ha0 r e (by omega), hI.ac, acc_masked _ _ _ _ _ (by omega), acc_masked _ _ _ _ _ (by omega)]
  ca r e := by
    by_cases h : o ≤ r.val
    · rw [hc r e h, hI.ca]
      exact car_step _ _ _ _ hn
    · rw [hc0 r e (by omega), hI.ca, car_masked _ _ _ _ (by omega), car_masked _ _ _ _ (by omega)]

/-- A load of whole rows of what the writes so far left. -/
theorem readCov_rows (m : Memref sig .tc .vmem S1024x128 .f32) (L) (o W : ℕ)
    (inb : ∀ a, (![o, 0] : Fin 2 → ℕ) a + (![W, 128] : Fin 2 → ℕ) a ≤ S1024x128.size a) (x : Fin W) (e : Fin 128) (h : o + x.val < 1024) :
    m.view.readCov (Val := Elt Ideal) L (Rect.unit (s := S1024x128) ![o, 0] ![W, 128] inb).toLoadRect (ix2 x e)
      = m.view.read (Elt Ideal) (m.view.writes (Elt Ideal) m.view.junk L) (ix2 (⟨o + x.val, h⟩ : Fin 1024) e) := by
  unfold View.readCov
  rw [View.readAt_apply]
  congr 1
  funext b
  fin_cases b <;> apply Fin.ext
  · show o + 1 * x.val = o + x.val; omega
  · show 0 + 1 * e.val = e.val; omega

/-- A row the newest piece of whole rows holds. -/
theorem read_rows_mem (m : Memref sig .tc .vmem S1024x128 .f32) (f L) (o W : ℕ)
    (inb : ∀ a, (![o, 0] : Fin 2 → ℕ) a + (![W, 128] : Fin 2 → ℕ) a ≤ S1024x128.size a)
    (w : (Rect.unit (s := S1024x128) ![o, 0] ![W, 128] inb).shape.Idx → EReal) (r : Fin 1024) (x : Fin W) (e : Fin 128)
    (h : r.val = o + x.val) :
    m.view.read (Elt Ideal) (m.view.writes (Elt Ideal) f (⟨Rect.unit (s := S1024x128) ![o, 0] ![W, 128] inb, w⟩ :: L)) (ix2 r e)
      = w (ix2 x e) :=
  View.read_writes_cons_rows_of_mem m.view f inb w L (ix2 r e) (ix2 x e) rfl h rfl

/-- A row above the newest piece. -/
theorem read_rows_not_mem (m : Memref sig .tc .vmem S1024x128 .f32) (f L) (o W : ℕ)
    (inb : ∀ a, (![o, 0] : Fin 2 → ℕ) a + (![W, 128] : Fin 2 → ℕ) a ≤ S1024x128.size a)
    (w : (Rect.unit (s := S1024x128) ![o, 0] ![W, 128] inb).shape.Idx → EReal) (r : Fin 1024) (e : Fin 128)
    (h : r.val < o) :
    m.view.read (Elt Ideal) (m.view.writes (Elt Ideal) f (⟨Rect.unit (s := S1024x128) ![o, 0] ![W, 128] inb, w⟩ :: L)) (ix2 r e)
      = m.view.read (Elt Ideal) (m.view.writes (Elt Ideal) f L) (ix2 r e) :=
  View.read_writes_cons_rows_of_not_mem m.view f inb w L (ix2 r e) rfl rfl (Or.inl h)

/-- One diagonal chunk on the memrefs: the rows from `o` on are loaded, folded and stored back. -/
theorem Inv.stepDiag (m8 m9 : Memref sig .tc .vmem S1024x128 .f32) (L8 L9) (o W : ℕ) (hW : o + W = 1024)
    (inb : ∀ a, (![o, 0] : Fin 2 → ℕ) a + (![W, 128] : Fin 2 → ℕ) a ≤ S1024x128.size a)
    (w8 w9 : (Rect.unit (s := S1024x128) ![o, 0] ![W, 128] inb).shape.Idx → EReal)
    (pvv : (⟨2, ![W, 128]⟩ : Shape).Idx → EReal) (tt : (⟨2, ![W, 1]⟩ : Shape).Idx → EReal)
    (hI : Inv i q x1 x2 (n + 1) (m8.view.read (Elt Ideal) (m8.view.writes (Elt Ideal) m8.view.junk L8))
      (m9.view.read (Elt Ideal) (m9.view.writes (Elt Ideal) m9.view.junk L9)))
    (hq : NoTop i q x1) (hn : n + 1 ≤ 4 * (i + 1)) (ho : 1024 * i + o ≤ 256 * n)
    (hp : ∀ (x : Fin W) (e : Fin 128), pvv (ix2 x e) = pv (1024 * i + o + x.val) (ZZ q x1 ⟨o + x.val, by omega⟩) (VV x2 e) n)
    (ht : ∀ x : Fin W, tt (ix2 x (0 : Fin 1)) = tot (1024 * i + o + x.val) (ZZ q x1 ⟨o + x.val, by omega⟩) n)
    (ha : ∀ (x : Fin W) (e : Fin 128), w8 (ix2 x e) = m8.view.readCov (Val := Elt Ideal) L8 (Rect.unit (s := S1024x128) ![o, 0] ![W, 128] inb).toLoadRect (ix2 x e)
      + Ideal.exp2 (m9.view.readCov (Val := Elt Ideal) L9 (Rect.unit (s := S1024x128) ![o, 0] ![W, 128] inb).toLoadRect (ix2 x e)) * pvv (ix2 x e))
    (hc : ∀ (x : Fin W) (e : Fin 128), w9 (ix2 x e) = m9.view.readCov (Val := Elt Ideal) L9 (Rect.unit (s := S1024x128) ![o, 0] ![W, 128] inb).toLoadRect (ix2 x e)
      + tt (ix2 x (0 : Fin 1))) :
    Inv i q x1 x2 n
      (m8.view.read (Elt Ideal) (m8.view.writes (Elt Ideal) m8.view.junk (⟨Rect.unit (s := S1024x128) ![o, 0] ![W, 128] inb, w8⟩ :: L8)))
      (m9.view.read (Elt Ideal) (m9.view.writes (Elt Ideal) m9.view.junk (⟨Rect.unit (s := S1024x128) ![o, 0] ![W, 128] inb, w9⟩ :: L9))) := by
  have key : ∀ r : Fin 1024, o ≤ r.val → ∃ x : Fin W, r = ⟨o + x.val, by omega⟩ :=
    fun r h => ⟨⟨r.val - o, by omega⟩, Fin.ext (by show r.val = o + (r.val - o); omega)⟩
  refine hI.stepRows hq hn o ho (fun r e h => ?_) (fun r e h => ?_) (fun r e h => ?_) (fun r e h => ?_)
  · obtain ⟨x, rfl⟩ := key r h
    rw [read_rows_mem m8 _ _ o W inb w8 _ x e rfl, ha, readCov_rows _ _ _ _ _ _ _ (by omega), readCov_rows _ _ _ _ _ _ _ (by omega), hp]
    rw [Nat.add_assoc]
  · obtain ⟨x, rfl⟩ := key r h
    rw [read_rows_mem m9 _ _ o W inb w9 _ x e rfl, hc, readCov_rows _ _ _ _ _ _ _ (by omega), ht]
    rw [Nat.add_assoc]
  · exact read_rows_not_mem m8 _ _ o W inb w8 r e h
  · exact read_rows_not_mem m9 _ _ o W inb w9 r e h

end Diag

/-! ### One grid step -/

section Run

variable (cd : Dev nD) (i : grid0.Coords)
  (arg3 : Memref sig .tc .vmem S1024x128 .f32) (harg3 : arg3.IsWhole)
  (arg4 : Memref sig .tc .vmem S1x1x32x128x256 .bf16) (harg4 : arg4.IsWhole)
  (arg5 : Memref sig .tc .vmem S1x8192x128 .bf16) (harg5 : arg5.IsWhole)
  (arg6 : Memref sig .tc .vmem S256x256 .bf16) (harg6 : arg6.IsWhole)
  (arg7 : Memref sig .tc .vmem S1024x128 .bf16) (harg7 : arg7.IsWhole)
  (arg8 : Memref sig .tc .vmem S1024x128 .f32) (harg8 : arg8.IsWhole)
  (arg9 : Memref sig .tc .vmem S1024x128 .f32) (harg9 : arg9.IsWhole)
  (x0 : S1024x128.Idx → EReal) (x1 : S1x1x32x128x256.Idx → EReal) (x2 : S1x8192x128.Idx → EReal) (x3 : S256x256.Idx → EReal)

/-- The pieces written before the loop. -/
abbrev P8 := kernelRun0_A.sl.HS0_5 (F := Ideal) cd i arg3 harg3 arg4 harg4 arg5 harg5 arg6 harg6 arg8 arg9 x0 x1 x2 x3
abbrev P9 := kernelRun0_A.sl.HS1_5 (F := Ideal) cd i arg3 harg3 arg4 harg4 arg6 harg6 arg9 x0 x1 x3

/-- The diagonal leaves the invariant at the first chunk of the block. -/
theorem diag_inv (hu : IsU x3) (hq : NoTop (i 2).val (k0_pay56 (F := Ideal) x0) x1) :
    Inv (i 2).val (k0_pay56 (F := Ideal) x0) x1 x2 (4 * (i 2).val)
      (arg8.view.read (Elt Ideal) (arg8.view.writes (Elt Ideal) arg8.view.junk (P8 cd i arg3 harg3 arg4 harg4 arg5 harg5 arg6 harg6 arg8 arg9 x0 x1 x2 x3)))
      (arg9.view.read (Elt Ideal) (arg9.view.writes (Elt Ideal) arg9.view.junk (P9 cd i arg3 harg3 arg4 harg4 arg6 harg6 arg9 x0 x1 x3))) := by
  have hi : (i 2).val < 8 := (i 2).2
  have eU : View.readAt (Elt Ideal) arg6.view (Rect.unit ![0, 0] S256x256.size inb_S256x256_S256x256_0_0).toLoadRect (harg6.unread x3) = x3 := by
    rw [View.readAt_full, Memref.IsWhole.read_unread]
  have eQ : View.readAt (Elt Ideal) arg3.view (Rect.unit ![0, 0] S1024x128.size inb_S1024x128_S1024x128_0_0).toLoadRect (harg3.unread x0) = x0 := by
    rw [View.readAt_full, Memref.IsWhole.read_unread]
  have hK (d : Fin 4) := isK_readAt arg4 (harg4.unread x1) _ (k0_off1_inb i d) _ (off1_eq i d.val d.2)
  have hV (d : Fin 4) := isV_readAt arg5 (harg5.unread x2) _ (k0_off2_inb i d) _ (off2_eq i d.val d.2)
  simp only [Memref.IsWhole.read_unread] at hK hV
  -- the zeros
  have s0 : Inv (i 2).val (k0_pay56 (F := Ideal) x0) x1 x2 (4 * (i 2).val + 3 + 1)
      (arg8.view.read (Elt Ideal) (arg8.view.writes (Elt Ideal) arg8.view.junk (kernelRun0_A.sl.HS0_1 (F := Ideal))))
      (arg9.view.read (Elt Ideal) (arg9.view.writes (Elt Ideal) arg9.view.junk (kernelRun0_A.sl.HS1_1 (F := Ideal)))) := by
    unfold kernelRun0_A.sl.HS0_1 kernelRun0_A.sl.HS1_1
    rw [View.read_writes_full, View.read_writes_full]
    refine ⟨fun r e => (pay57_at r e).trans ?_, fun r e => (pay58_at r e).trans ?_⟩
    · exact (acc_self _ _ _ _).symm
    · exact (car_self _ _ _).symm
  have s1 : Inv (i 2).val (k0_pay56 (F := Ideal) x0) x1 x2 (4 * (i 2).val + 3)
      (arg8.view.read (Elt Ideal) (arg8.view.writes (Elt Ideal) arg8.view.junk (kernelRun0_A.sl.HS0_2 (F := Ideal) cd i arg3 harg3 arg4 harg4 arg5 harg5 arg6 harg6 arg8 arg9 x0 x1 x2 x3)))
      (arg9.view.read (Elt Ideal) (arg9.view.writes (Elt Ideal) arg9.view.junk (kernelRun0_A.sl.HS1_2 (F := Ideal) cd i arg3 harg3 arg4 harg4 arg6 harg6 arg9 x0 x1 x3))) := by
    refine Inv.stepDiag arg8 arg9 _ _ 768 256 rfl _ _ _ (kernelRun0_A.sl.r_3 (F := Ideal) cd i arg3 harg3 arg4 harg4 arg5 harg5 arg6 harg6 x0 x1 x2 x3) (kernelRun0_A.sl.r_4 (F := Ideal) cd i arg3 harg3 arg4 harg4 arg6 harg6 x0 x1 x3)
      s0 hq (by omega) (by omega) (fun x e => ?_) (fun x => ?_) (fun x e => pay85_at _ _ _ x e) (fun x e => pay86_at _ _ x e)
    · unfold kernelRun0_A.sl.r_3 kernelRun0_A.sl.r_1 kernelRun0_A.sl.r_2 kernelRun0_A.sl.v15 kernelRun0_A.sl.v14 kernelRun0_A.sl.v13
      rw [eU, eQ]
      exact (pay63_at (i 2).val hi _ _ _ _ _ x).trans (pvE_eq (hK 3) hu (hV 3) _ _ e)
    · unfold kernelRun0_A.sl.r_4 kernelRun0_A.sl.r_2 kernelRun0_A.sl.v15 kernelRun0_A.sl.v14 kernelRun0_A.sl.v13
      rw [eU, eQ]
      exact (pay64_at (i 2).val hi _ _ _ x).trans (totE_eq (hK 3) hu _ _)
  have s2 : Inv (i 2).val (k0_pay56 (F := Ideal) x0) x1 x2 (4 * (i 2).val + 2)
      (arg8.view.read (Elt Ideal) (arg8.view.writes (Elt Ideal) arg8.view.junk (kernelRun0_A.sl.HS0_3 (F := Ideal) cd i arg3 harg3 arg4 harg4 arg5 harg5 arg6 harg6 arg8 arg9 x0 x1 x2 x3)))
      (arg9.view.read (Elt Ideal) (arg9.view.writes (Elt Ideal) arg9.view.junk (kernelRun0_A.sl.HS1_3 (F := Ideal) cd i arg3 harg3 arg4 harg4 arg6 harg6 arg9 x0 x1 x3))) := by
    refine Inv.stepDiag arg8 arg9 _ _ 512 512 rfl _ _ _ (kernelRun0_A.sl.r_7 (F := Ideal) cd i arg3 harg3 arg4 harg4 arg5 harg5 arg6 harg6 x0 x1 x2 x3) (kernelRun0_A.sl.r_8 (F := Ideal) cd i arg3 harg3 arg4 harg4 arg6 harg6 x0 x1 x3)
      s1 hq (by omega) (by omega) (fun x e => ?_) (fun x => ?_) (fun x e => pay87_at _ _ _ x e) (fun x e => pay89_at _ _ x e)
    · unfold kernelRun0_A.sl.r_7 kernelRun0_A.sl.r_5 kernelRun0_A.sl.r_6 kernelRun0_A.sl.r kernelRun0_A.sl.v63 kernelRun0_A.sl.v14 kernelRun0_A.sl.v13
      rw [eU, eQ]
      exact (pay69_at (i 2).val hi _ _ _ _ _ x).trans (pvE_eq (hK 2) hu (hV 2) _ _ e)
    · unfold kernelRun0_A.sl.r_8 kernelRun0_A.sl.r_5 kernelRun0_A.sl.r_6 kernelRun0_A.sl.r kernelRun0_A.sl.v63 kernelRun0_A.sl.v14 kernelRun0_A.sl.v13
      rw [eU, eQ]
      exact (pay70_at (i 2).val hi _ _ _ x).trans (totE_eq (hK 2) hu _ _)
  have s3 : Inv (i 2).val (k0_pay56 (F := Ideal) x0) x1 x2 (4 * (i 2).val + 1)
      (arg8.view.read (Elt Ideal) (arg8.view.writes (Elt Ideal) arg8.view.junk (kernelRun0_A.sl.HS0_4 (F := Ideal) cd i arg3 harg3 arg4 harg4 arg5 harg5 arg6 harg6 arg8 arg9 x0 x1 x2 x3)))
      (arg9.view.read (Elt Ideal) (arg9.view.writes (Elt Ideal) arg9.view.junk (kernelRun0_A.sl.HS1_4 (F := Ideal) cd i arg3 harg3 arg4 harg4 arg6 harg6 arg9 x0 x1 x3))) := by
    refine Inv.stepDiag arg8 arg9 _ _ 256 768 rfl _ _ _ (kernelRun0_A.sl.r_13 (F := Ideal) cd i arg3 harg3 arg4 harg4 arg5 harg5 arg6 harg6 x0 x1 x2 x3) (kernelRun0_A.sl.r_14 (F := Ideal) cd i arg3 harg3 arg4 harg4 arg6 harg6 x0 x1 x3)
      s2 hq (by omega) (by omega) (fun x e => ?_) (fun x => ?_) (fun x e => pay90_at _ _ _ x e) (fun x e => pay91_at _ _ x e)
    · unfold kernelRun0_A.sl.r_13 kernelRun0_A.sl.r_11 kernelRun0_A.sl.r_12 kernelRun0_A.sl.r_9 kernelRun0_A.sl.r kernelRun0_A.sl.v111 kernelRun0_A.sl.v14 kernelRun0_A.sl.v13
      rw [eU, eQ]
      exact (pay77_at (i 2).val hi _ _ _ _ _ x).trans (pvE_eq (hK 1) hu (hV 1) _ _ e)
    · unfold kernelRun0_A.sl.r_14 kernelRun0_A.sl.r_10 kernelRun0_A.sl.r_9 kernelRun0_A.sl.r kernelRun0_A.sl.v111 kernelRun0_A.sl.v14 kernelRun0_A.sl.v13
      rw [eU, eQ]
      exact (pay78_at (i 2).val hi _ _ _ x).trans (totE_eq (hK 1) hu _ _)
  have s4 : Inv (i 2).val (k0_pay56 (F := Ideal) x0) x1 x2 (4 * (i 2).val + 0)
      (arg8.view.read (Elt Ideal) (arg8.view.writes (Elt Ideal) arg8.view.junk (kernelRun0_A.sl.HS0_5 (F := Ideal) cd i arg3 harg3 arg4 harg4 arg5 harg5 arg6 harg6 arg8 arg9 x0 x1 x2 x3)))
      (arg9.view.read (Elt Ideal) (arg9.view.writes (Elt Ideal) arg9.view.junk (kernelRun0_A.sl.HS1_5 (F := Ideal) cd i arg3 harg3 arg4 harg4 arg6 harg6 arg9 x0 x1 x3))) := by
    refine Inv.stepDiag arg8 arg9 _ _ 0 1024 rfl _ _ _ (kernelRun0_A.sl.r_18 (F := Ideal) cd i arg3 harg3 arg4 harg4 arg5 harg5 arg6 harg6 x0 x1 x2 x3) (kernelRun0_A.sl.r_19 (F := Ideal) cd i arg3 harg3 arg4 harg4 arg6 harg6 x0 x1 x3)
      s3 hq (by omega) (by omega) (fun x e => ?_) (fun x => ?_) (fun x e => pay92_at _ _ _ x e) (fun x e => pay93_at _ _ x e)
    · unfold kernelRun0_A.sl.r_18 kernelRun0_A.sl.r_15 kernelRun0_A.sl.r_17 kernelRun0_A.sl.r kernelRun0_A.sl.cst_89
      rw [eU, eQ, show (⟨0 + x.val, by omega⟩ : Fin 1024) = x from Fin.ext (Nat.zero_add _)]
      exact (pay83_at (i 2).val hi _ _ _ _ _ x).trans (pvE_eq (hK 0) hu (hV 0) _ _ e)
    · unfold kernelRun0_A.sl.r_19 kernelRun0_A.sl.r_16 kernelRun0_A.sl.r
      rw [eU, eQ, show (⟨0 + x.val, by omega⟩ : Fin 1024) = x from Fin.ext (Nat.zero_add _)]
      exact (pay84_at (i 2).val hi _ _ _ x).trans (totE_eq (hK 0) hu _ _)
  exact s4

theorem trips2_eq : (k0_t2_loop i).trips = 0 := by
  have h : ∀ n : Fin 8, (⟨Scalar.addi 0#32 (Scalar.muli (Scalar.divsi (Scalar.subi (Scalar.muli (BitVec.ofNat 32 n.val) 1#32) 0#32) 1#32) 1#32),
    Scalar.addi 0#32 (Scalar.subi (Scalar.muli (BitVec.ofNat 32 n.val) 1#32) 0#32), 1#32⟩ : Scf.Loop 32).trips = 0 := by decide
  exact h ⟨(i 2).val, (i 2).2⟩

/-- The step's output block: every chunk up to the diagonal folded. -/
theorem out_at (hu : IsU x3) (hq : NoTop (i 2).val (k0_pay56 (F := Ideal) x0) x1) (r : Fin 1024) (e : Fin 128) :
    out0_A_4 (F := Ideal) cd i arg3 harg3 arg4 harg4 arg5 harg5 arg6 harg6 arg7 harg7 arg8 harg8 arg9 harg9 x0 x1 x2 x3 (ix2 r e)
      = acc (1024 * (i 2).val + r.val) (ZZ (k0_pay56 (F := Ideal) x0) x1 r) (VV x2 e) (4 * ((i 2).val + 1)) 0 := by
  have hi : (i 2).val < 8 := (i 2).2
  have hD := diag_inv cd i arg3 harg3 arg4 harg4 arg5 harg5 arg6 harg6 arg8 arg9 x0 x1 x2 x3 hu hq
  have er : kernelRun0_A.sl.r (F := Ideal) cd arg3 harg3 x0 = k0_pay56 (F := Ideal) x0 := by
    unfold kernelRun0_A.sl.r
    rw [View.readAt_full, Memref.IsWhole.read_unread]
  have hL := loop_inv Variants.none cd none i arg3 harg3 arg4 harg4 arg5 harg5 arg6 harg6 arg7 harg7 arg8 harg8 arg9 harg9
    (BitVec.ofNat 32 (i 2).val) (k0_pay56 (F := Ideal) x0) 0#32 (harg4.unread x1) (harg5.unread x2) (harg6.unread x3)
    arg8.view.junk arg9.view.junk (by rw [Memref.IsWhole.read_unread]; exact hu) (by rw [Memref.IsWhole.read_unread]; exact hq) _ _
    (by rw [Memref.IsWhole.read_unread, Memref.IsWhole.read_unread]; exact hD) (i 2).val le_rfl
  have h0 : 4 * ((i 2).val - (i 2).val) = 0 := by omega
  have hA := hL.ac r e
  rw [Memref.IsWhole.read_unread, Memref.IsWhole.read_unread, h0] at hA
  unfold out0_A_4 kernelRun0_A
  dsimp only
  rw [View.read_writes_full]
  unfold kernelRun0_A.sl.v266
  have t2 : Scf.trips (k0_t2_loop i).lb (k0_t2_loop i).ub (k0_t2_loop i).st = 0 := trips2_eq i
  have t1 : Scf.trips (k0_t1_loop i).lb (k0_t1_loop i).ub (k0_t1_loop i).st = (i 2).val := trips_eq i
  rw [t2, t1, er, pb_k0_t2.eq_1]
  dsimp only
  rw [List.nil_append]
  unfold View.readCov
  rw [View.readAt_full]
  pointwise [k0_pay1]
  exact hA

end Run

end Cert.Stick
-- ==== Proof.StickBlocks.lean ====
/- The kernel's result array as one function of the launched argument. -/
module

public import proofs.«01_k».proof.Proof.StickRun
public import proofs.«01_k».proof.Proof.Gen.KernelIdeal.Value
public import Idealize.ShloMosaic.Lib.Pipeline.ValueKit.Point

@[expose] public section

noncomputable section

namespace Cert.Stick

open Cert.KernelIdeal Cert.KernelIdeal.Gen Idealize.ShloMosaic Idealize.ShloMosaic.TcCoe

set_option maxRecDepth 16384

/-- The score of query `t` against key `s` in batch `b`, head `h`. -/
def sc (x : S2x8192x1536.Idx → EReal) (b : Fin 2) (t : Fin 8192) (h : Fin 4) (s : ℕ) : EReal :=
  if hs : s < 8192 then (∑ d : Fin 128, x (ix3 b t (⟨128 * h.val + d.val, by omega⟩ : Fin 1536)) *
    x (ix3 b (⟨s, hs⟩ : Fin 8192) (⟨512 + 128 * h.val + d.val, by omega⟩ : Fin 1536))) * (((Real.sqrt 128)⁻¹ : ℝ) : EReal) else 0

/-- Column `e` of the value of key `s` in batch `b`, head `h`. -/
def vl (x : S2x8192x1536.Idx → EReal) (b : Fin 2) (h : Fin 4) (e : Fin 128) (s : ℕ) : EReal :=
  if hs : s < 8192 then x (ix3 b (⟨s, hs⟩ : Fin 8192) (⟨1024 + 128 * h.val + e.val, by omega⟩ : Fin 1536)) else 0

/-- Stick-breaking attention at one query and one column of one head. -/
def att (x : S2x8192x1536.Idx → EReal) (b : Fin 2) (t : Fin 8192) (h : Fin 4) (e : Fin 128) : EReal :=
  ∑ s ∈ Finset.range 8192, vl x b h e s * (if s < t.val then
    Ideal.exp (lsR (sc x b t h s) + ((∑ j ∈ Finset.Ico s 8192, lr t.val (sc x b t h) j) - lr t.val (sc x b t h) s)) else 0)

/-- The result array: rows are batch by position, columns are head by column. -/
def G (x : S2x8192x1536.Idx → EReal) : S16384x512.Idx → EReal := fun j =>
  att x ⟨(j 0).val / 8192, by have := (j 0).2; change _ < 16384 at this; omega⟩ ⟨(j 0).val % 8192, by omega⟩
    ⟨(j 1).val / 128, by have := (j 1).2; change _ < 512 at this; omega⟩ ⟨(j 1).val % 128, by omega⟩

variable (m : (ℓ : Loc nD τ sig) → Buf (Elt Ideal) ℓ) (c : Dev nD)

/-- Where each window's block stands at a grid point. -/
theorem idx : ∀ t : Fin cfg0.N,
    win0_0.index t = ![(grid0.coords t 0).val * 8 + (grid0.coords t 2).val, (grid0.coords t 1).val]
    ∧ win0_1.index t = ![(grid0.coords t 0).val, (grid0.coords t 1).val, 0, 0, 0]
    ∧ win0_2.index t = ![(grid0.coords t 0).val, 0, (grid0.coords t 1).val]
    ∧ win0_3.index t = ![0, 0]
    ∧ win0_4.index t = ![(grid0.coords t 0).val * 8 + (grid0.coords t 2).val, (grid0.coords t 1).val] := by
  decide +kernel

theorem blk0_at (t : Fin cfg0.N) (r : Fin 1024) (d : Fin 128) :
    (iblk (F := Ideal) m c 0 t : S1024x128.Idx → EReal) (ix2 r d) = (m ((c : Thread nD τ).loc main_arg0) : S2x8192x1536.Idx → EReal)
      (ix3 (⟨(grid0.coords t 0).val, (grid0.coords t 0).2⟩ : Fin 2)
        (⟨1024 * (grid0.coords t 2).val + r.val, by have : (grid0.coords t 2).val < 8 := (grid0.coords t 2).2; omega⟩ : Fin 8192)
        (⟨128 * (grid0.coords t 1).val + d.val, by have : (grid0.coords t 1).val < 4 := (grid0.coords t 1).2; omega⟩ : Fin 1536)) := by
  have h0 : (grid0.coords t 0).val < 2 := (grid0.coords t 0).2
  have h1 : (grid0.coords t 1).val < 4 := (grid0.coords t 1).2
  have h2 : (grid0.coords t 2).val < 8 := (grid0.coords t 2).2
  blk_simp [iblk, (idx t).1]
  entry_read
  pointwise
  blk_ext [iblk, V, (idx t).1]

theorem blk1_at (t : Fin cfg0.N) (k : Fin 32) (d : Fin 128) (j : Fin 256) :
    (iblk (F := Ideal) m c 1 t : S1x1x32x128x256.Idx → EReal) (ix5 (0 : Fin 1) (0 : Fin 1) k d j) = (m ((c : Thread nD τ).loc main_arg0) : S2x8192x1536.Idx → EReal)
      (ix3 (⟨(grid0.coords t 0).val, (grid0.coords t 0).2⟩ : Fin 2)
        (⟨256 * k.val + j.val, by omega⟩ : Fin 8192)
        (⟨512 + 128 * (grid0.coords t 1).val + d.val, by have : (grid0.coords t 1).val < 4 := (grid0.coords t 1).2; omega⟩ : Fin 1536)) := by
  have h0 : (grid0.coords t 0).val < 2 := (grid0.coords t 0).2
  have h1 : (grid0.coords t 1).val < 4 := (grid0.coords t 1).2
  blk_simp [iblk, (idx t).2.1]
  entry_read
  pointwise
  blk_ext [iblk, V, (idx t).2.1]

theorem blk2_at (t : Fin cfg0.N) (s : Fin 8192) (e : Fin 128) :
    (iblk (F := Ideal) m c 2 t : S1x8192x128.Idx → EReal) (ix3 (0 : Fin 1) s e) = (m ((c : Thread nD τ).loc main_arg0) : S2x8192x1536.Idx → EReal)
      (ix3 (⟨(grid0.coords t 0).val, (grid0.coords t 0).2⟩ : Fin 2) s
        (⟨1024 + 128 * (grid0.coords t 1).val + e.val, by have : (grid0.coords t 1).val < 4 := (grid0.coords t 1).2; omega⟩ : Fin 1536)) := by
  have h0 : (grid0.coords t 0).val < 2 := (grid0.coords t 0).2
  have h1 : (grid0.coords t 1).val < 4 := (grid0.coords t 1).2
  blk_simp [iblk, (idx t).2.2.1]
  entry_read
  pointwise
  blk_ext [iblk, V, (idx t).2.2.1]

theorem blk3_at (t : Fin cfg0.N) : IsU (iblk (F := Ideal) m c 3 t : S256x256.Idx → EReal) := by
  intro i j
  blk_simp [iblk, (idx t).2.2.2.1]
  entry_read
  pointwise
  blk_simp [(idx t).2.2.2.1]
  have hi := i.2
  have hj := j.2
  unfold U
  show (((BitVec.ofBool (BitVec.sle (BitVec.ofNat 32 j.val) (BitVec.ofNat 32 i.val))).toNat : ℝ) : EReal) = _
  have h3 : BitVec.sle (BitVec.ofNat 32 j.val) (BitVec.ofNat 32 i.val) = decide (j.val ≤ i.val) := by
    rw [BitVec.sle_eq_decide]
    congr 1
    rw [BitVec.toInt_eq_toNat_of_lt (by simp only [BitVec.toNat_ofNat]; omega),
      BitVec.toInt_eq_toNat_of_lt (by simp only [BitVec.toNat_ofNat]; omega)]
    simp only [BitVec.toNat_ofNat]
    rw [Nat.mod_eq_of_lt (by omega), Nat.mod_eq_of_lt (by omega), Nat.cast_le]
  rw [h3]
  by_cases h : j.val ≤ i.val <;> simp [h]

/-- The coordinates of a grid point: batch, head, block of queries. -/
abbrev gb (t : Fin cfg0.N) : Fin 2 := ⟨(grid0.coords t 0).val, (grid0.coords t 0).2⟩
abbrev gh (t : Fin cfg0.N) : Fin 4 := ⟨(grid0.coords t 1).val, (grid0.coords t 1).2⟩
abbrev gi (t : Fin cfg0.N) : Fin 8 := ⟨(grid0.coords t 2).val, (grid0.coords t 2).2⟩

/-- The launched argument of a device. -/
abbrev X0 : S2x8192x1536.Idx → EReal := m ((c : Thread nD τ).loc main_arg0)

/-- The scaling constant is the reference's scale times the base change. -/
theorem scale_eq : (Named.named Cert.KernelIdeal.κ "scale" 0x3E0293EE#32 : Ideal .f32) = (L : EReal) * (((Real.sqrt 128)⁻¹ : ℝ) : EReal) := by
  rw [← EReal.coe_mul, mul_comm L]
  rfl

theorem pay56_at (x0 : S1024x128.Idx → EReal) (r : Fin 1024) (d : Fin 128) :
    k0_pay56 (F := Ideal) x0 (ix2 r d) = x0 (ix2 r d) * ((L : EReal) * (((Real.sqrt 128)⁻¹ : ℝ) : EReal)) := by
  pointwise [k0_pay56]
  rw [← scale_eq]

/-- The kernel's score is the base change times the reference's. -/
theorem ZZ_eq (t : Fin cfg0.N) (r : Fin 1024) :
    ZZ (k0_pay56 (F := Ideal) (iblk (F := Ideal) m c 0 t)) (iblk (F := Ideal) m c 1 t) r
      = fun s => (L : EReal) * sc (X0 m c) (gb t) ⟨1024 * (gi t).val + r.val, by have := (gi t).2; omega⟩ (gh t) s := by
  funext s
  unfold ZZ sc
  by_cases hs : s < 8192
  · rw [dif_pos hs, dif_pos hs, mul_comm (∑ _, _) (((Real.sqrt 128)⁻¹ : ℝ) : EReal), ← mul_assoc]
    have hL := L_pos
    have h8 : (0 : ℝ) < (Real.sqrt 128)⁻¹ := inv_pos.mpr (Real.sqrt_pos.mpr (by norm_num))
    rw [mul_sum _ _ (by rw [← EReal.coe_mul]; exact EReal.coe_nonneg.mpr (mul_pos hL h8).le)
      (by rw [← EReal.coe_mul]; exact EReal.coe_ne_top _)]
    refine Finset.sum_congr rfl fun d _ => ?_
    rw [pay56_at, blk0_at, blk1_at, mul_comm _ ((L : EReal) * _), mul_assoc]
    congr 4
    exact Fin.ext (by show 256 * (s / 256) + s % 256 = s; omega)
  · rw [dif_neg hs, dif_neg hs, mul_zero]

theorem VV_eq (t : Fin cfg0.N) (e : Fin 128) :
    VV (iblk (F := Ideal) m c 2 t) e = vl (X0 m c) (gb t) (gh t) e := by
  funext s
  unfold VV vl
  by_cases hs : s < 8192
  · rw [dif_pos hs, dif_pos hs, blk2_at]
  · rw [dif_neg hs, dif_neg hs]

/-- What a grid point writes back. -/
theorem outs_at (t : Fin cfg0.N) (r : Fin 1024) (e : Fin 128) :
    outsAt0 (F := Ideal) m c t (ix2 r e)
      = att (X0 m c) (gb t) ⟨1024 * (gi t).val + r.val, by have := (gi t).2; omega⟩ (gh t) e := by
  unfold outsAt0
  refine (out_at c (grid0.coords t) _ _ _ _ _ _ _ _ _ _ _ _ _ _ _ _ _ _ (blk3_at m c t) (fun r n => ?_) r e).trans ?_
  · rw [ZZ_eq]
    exact ne_top_of_le_ne_top EReal.zero_ne_top (car_nonpos _ _ _ _)
  · rw [ZZ_eq, VV_eq]
    have hi := (gi t).2
    exact acc_eq_ref _ _ _ _ 8192 (by omega) (by change (grid0.coords t 2).val < 8 at hi; omega)

/-- The result array after the run. -/
theorem arr_eq : (dats (F := Ideal) m 0 c).arrAt 4 cfg0.N = G (X0 m c) := by
  refine (dats (F := Ideal) m 0 c).arrAt_eq_of_covers 4 _ (by decide +kernel) fun t hf y => ?_
  obtain ⟨r, e, rfl⟩ : ∃ (r : Fin 1024) (e : Fin 128), y = ix2 r e := ⟨y 0, y 1, eq_ix2 y⟩
  blk_simp
  rw [after0_4, outs_at]
  unfold G
  blk_simp [(idx t).2.2.2.2]
  have h0 : (grid0.coords t 0).val < 2 := (grid0.coords t 0).2
  have h1 : (grid0.coords t 1).val < 4 := (grid0.coords t 1).2
  have h2 : (grid0.coords t 2).val < 8 := (grid0.coords t 2).2
  have hr := r.2
  have he := e.2
  congr 1 <;> apply Fin.ext <;> dsimp only <;> omega

end Cert.Stick
-- ==== Proof.StickRef.lean ====
/- The reference's result read at an index. -/
module

public import proofs.«01_k».proof.Proof.StickBlocks
public import proofs.«01_k».proof.Proof.Gen.ReferenceIdeal.Run
public import Idealize.ShloMosaic.Lib.Pointwise

@[expose] public section

noncomputable section

namespace Cert.Stick

open Cert.ReferenceIdeal Cert.ReferenceIdeal.Facts₀ Idealize.ShloMosaic Idealize.ShloMosaic.TcCoe

set_option maxRecDepth 16384

/-! ### A window that runs from a position to the end -/

theorem foldl_add {α : Type*} (g : α → EReal) (l : List α) (a : EReal) :
    l.foldl (fun r n => r + g n) a = a + (l.map g).sum := by
  induction l generalizing a with
  | nil => simp
  | cons x l ih => rw [List.foldl_cons, ih, List.map_cons, List.sum_cons, add_assoc]

/-- A window of all 8192 places of the last axis, the places past the end empty, is the sum from the position on. -/
theorem window_at (x : S2x4x8192x8192.Idx → EReal) (f : ℕ → EReal) (b : Fin 2) (h : Fin 4) (t s : Fin 8192)
    (hx : ∀ j : Fin 8192, x (ix4 b h t j) = f j.val) (hw) :
    Host.reduceWindow (s := S2x4x8192x8192) (t := S2x4x8192x8192) (u := S_) (· + ·) ![1, 1, 1, 8192] ![1, 1, 1, 1] ![0, 0, 0, 0] ![0, 0, 0, 8191] x (fun _ => (0 : EReal)) hw h_S_ (ix4 b h t s)
      = ∑ j ∈ Finset.Ico s.val 8192, f j := by
  unfold Host.reduceWindow
  dsimp only
  rw [foldl_add, zero_add, ← List.ofFn_eq_map, List.sum_ofFn]
  let W : Shape := ⟨4, ![1, 1, 1, 8192]⟩
  let g : W.Idx → EReal := fun w => if s.val + (w 3).val < 8192 then f (s.val + (w 3).val) else 0
  have hg : ∀ (w : W.Idx) (inst : Decidable (∀ a : Fin 4, (![0, 0, 0, 0] : Fin 4 → ℕ) a ≤ (ix4 b h t s a).val * (![1, 1, 1, 1] : Fin 4 → ℕ) a + (w a).val ∧
      (ix4 b h t s a).val * (![1, 1, 1, 1] : Fin 4 → ℕ) a + (w a).val - (![0, 0, 0, 0] : Fin 4 → ℕ) a < S2x4x8192x8192.size a)), (if hin : ∀ a : Fin 4, (![0, 0, 0, 0] : Fin 4 → ℕ) a ≤ (ix4 b h t s a).val * (![1, 1, 1, 1] : Fin 4 → ℕ) a + (w a).val ∧
      (ix4 b h t s a).val * (![1, 1, 1, 1] : Fin 4 → ℕ) a + (w a).val - (![0, 0, 0, 0] : Fin 4 → ℕ) a < S2x4x8192x8192.size a
      then x (fun a => ⟨(ix4 b h t s a).val * (![1, 1, 1, 1] : Fin 4 → ℕ) a + (w a).val - (![0, 0, 0, 0] : Fin 4 → ℕ) a, (hin a).2⟩) else 0) = g w := by
    intro w inst
    have w0 : (w 0).val < 1 := (w 0).2
    have w1 : (w 1).val < 1 := (w 1).2
    have w2 : (w 2).val < 1 := (w 2).2
    by_cases hs : s.val + (w 3).val < 8192
    · have hin : ∀ a : Fin 4, (![0, 0, 0, 0] : Fin 4 → ℕ) a ≤ (ix4 b h t s a).val * (![1, 1, 1, 1] : Fin 4 → ℕ) a + (w a).val ∧
          (ix4 b h t s a).val * (![1, 1, 1, 1] : Fin 4 → ℕ) a + (w a).val - (![0, 0, 0, 0] : Fin 4 → ℕ) a < S2x4x8192x8192.size a := by
        intro a
        have hb := b.2
        have hh := h.2
        have ht := t.2
        fin_cases a
        · exact ⟨Nat.zero_le _, by show b.val * 1 + (w 0).val - 0 < 2; omega⟩
        · exact ⟨Nat.zero_le _, by show h.val * 1 + (w 1).val - 0 < 4; omega⟩
        · exact ⟨Nat.zero_le _, by show t.val * 1 + (w 2).val - 0 < 8192; omega⟩
        · exact ⟨Nat.zero_le _, by show s.val * 1 + (w 3).val - 0 < 8192; omega⟩
      rw [dif_pos hin]
      show _ = if s.val + (w 3).val < 8192 then f (s.val + (w 3).val) else 0
      rw [if_pos hs, ← hx ⟨s.val + (w 3).val, hs⟩]
      congr 1
      funext a
      fin_cases a <;> apply Fin.ext
      · show b.val * 1 + (w 0).val - 0 = b.val; omega
      · show h.val * 1 + (w 1).val - 0 = h.val; omega
      · show t.val * 1 + (w 2).val - 0 = t.val; omega
      · show s.val * 1 + (w 3).val - 0 = s.val + (w 3).val; omega
    · rw [dif_neg (fun hin => hs (by
        have := (hin 3).2
        change s.val * 1 + (w 3).val - 0 < 8192 at this
        omega))]
      exact (if_neg hs).symm
  refine (Finset.sum_congr rfl fun n _ => hg (W.rowMajor.symm n) _).trans ?_
  rw [Equiv.sum_comp W.rowMajor.symm g]
  let E : Fin 8192 ≃ W.Idx :=
    { toFun := fun n => ix4 (0 : Fin 1) (0 : Fin 1) (0 : Fin 1) n
      invFun := fun w => w 3
      left_inv := fun _ => rfl
      right_inv := fun w => by
        have w0 : (w 0).val < 1 := (w 0).2
        have w1 : (w 1).val < 1 := (w 1).2
        have w2 : (w 2).val < 1 := (w 2).2
        funext a
        fin_cases a <;> apply Fin.ext
        · show 0 = (w 0).val; omega
        · show 0 = (w 1).val; omega
        · show 0 = (w 2).val; omega
        · rfl }
  rw [← Equiv.sum_comp E g]
  show ∑ n : Fin 8192, (if s.val + n.val < 8192 then f (s.val + n.val) else 0) = _
  rw [Fin.sum_univ_eq_sum_range (fun n => if s.val + n < 8192 then f (s.val + n) else 0) 8192, Finset.sum_Ico_eq_sum_range]
  have hs := s.2
  rw [← Finset.sum_subset (Finset.range_mono (show 8192 - s.val ≤ 8192 by omega))
    (fun n _ hn => if_neg (by rw [Finset.mem_range] at hn; omega))]
  exact Finset.sum_congr rfl fun n hn => if_pos (by rw [Finset.mem_range] at hn; omega)

/-! ### The reference's arrays -/

/-- The scores. -/
def scV (x : S2x8192x1536.Idx → EReal) : FVec Ideal S2x4x8192x8192 .f32 :=
  Host.divf (Host.dotGeneral (F := Ideal) (φ₁ := .f32) (φ₂ := .f32) dot_S2x8192x4x128_S2x8192x4x128_S2x4x8192x8192_3_3_1_1_02_02 none (shapeCast _ (extractStridedSlice S2x8192x512 ![0, 0, 0] x slices_S2x8192x1536_S2x8192x512_0_0_0) shapeCasts_S2x8192x512_S2x8192x4x128) (shapeCast _ (extractStridedSlice S2x8192x512 ![0, 0, 512] x slices_S2x8192x1536_S2x8192x512_0_0_512) shapeCasts_S2x8192x512_S2x8192x4x128)) (broadcastInDim S2x4x8192x8192 ![] bcast_S_S2x4x8192x8192 (Host.sqrt (constant S_ .f32 0x43000000#32)))

/-- The zeros. -/
def zeV : FVec Ideal S2x4x8192x8192 .f32 := broadcastInDim S2x4x8192x8192 ![] bcast_S_S2x4x8192x8192 (constant S_ .f32 0x00000000#32)

/-- The causal mask, the key strictly before the query. -/
def mkV : IVec S2x4x8192x8192 1 :=
  broadcastInDim S2x4x8192x8192 ![0, 1, 2, 3] bcast_S1x1x8192x8192_S2x4x8192x8192_0_1_2_3 (broadcastInDim S1x1x8192x8192 ![2, 3] bcast_S8192x8192_S1x1x8192x8192_2_3 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))

/-- Softplus. -/
def spV (w : FVec Ideal S2x4x8192x8192 .f32) : FVec Ideal S2x4x8192x8192 .f32 :=
  select (cmpf .une (subf w zeV) (subf w zeV)) (addf w zeV) (addf (maximumf w zeV) (Host.log1p (Host.exp (Host.negf (Host.absf (subf w zeV))))))

/-- The masked logarithm of the weight left over. -/
def lkV (x : S2x8192x1536.Idx → EReal) : FVec Ideal S2x4x8192x8192 .f32 :=
  select mkV (Host.negf (spV (Host.negf (Host.negf (scV x))))) zeV

/-- Its sum from each key on. -/
def cuV (x : S2x8192x1536.Idx → EReal) : FVec Ideal S2x4x8192x8192 .f32 :=
  Host.reduceWindowAdd ![1, 1, 1, 8192] ![1, 1, 1, 1] ![0, 0, 0, 0] ![0, 0, 0, 8191] (lkV x) (broadcastInDim S_ ![] bcast_S_S_ (constant S_ .f32 0x00000000#32)) reduceWindows_S2x4x8192x8192_S2x4x8192x8192_w1s1p0_0_w1s1p0_0_w1s1p0_0_w8192s1p0_8191 h_S_

/-- The weights. -/
def atV (x : S2x8192x1536.Idx → EReal) : FVec Ideal S2x4x8192x8192 .f32 :=
  select mkV (Host.exp (addf (Host.negf (spV (Host.negf (scV x)))) (subf (cuV x) (lkV x)))) zeV

/-- The result. -/
def outV (x : S2x8192x1536.Idx → EReal) : FVec Ideal S16384x512 .bf16 :=
  truncf .bf16 (shapeCast _ (transpose S2x8192x4x128 [0, 3, 1, 2] (Host.dotGeneral (F := Ideal) (φ₁ := .f32) (φ₂ := .f32) dot_S2x8192x4x128_S2x4x8192x8192_S2x4x128x8192_1_3_3_2_02_01 none (shapeCast _ (extractStridedSlice S2x8192x512 ![0, 0, 1024] x slices_S2x8192x1536_S2x8192x512_0_0_1024) shapeCasts_S2x8192x512_S2x8192x4x128) (atV x)) transposes_S2x4x128x8192_S2x8192x4x128_0_3_1_2) shapeCasts_S2x8192x4x128_S16384x512) bitsLt_bf16_f32

theorem res_eq (m : (ℓ : Loc nD τ sig) → Buf (Elt Ideal) ℓ) (c : Dev nD) :
    Cert.ReferenceIdeal.Value.res_main_v29 (F := Ideal) m c = outV (m ((c.tc : Thread nD τ).loc main_arg0)) := rfl

/-- The host's running sum at the ideal numbers is the plain window fold. -/
theorem winAdd_eq {s t u : Shape} (window strides lo hi : Fin s.rank → Nat) (x : FVec Ideal s .f32)
    (init : u.Idx → Ideal .f32) (h : s.ReduceWindows window strides lo hi t) (hu : 0 < u.numel) :
    Host.reduceWindowAdd window strides lo hi x init h hu
      = Ideal.hostReduceWindowAdd window strides lo hi h x (init (Shape.Idx.first hu)) := rfl

section At

variable (x : S2x8192x1536.Idx → EReal) (b : Fin 2) (h : Fin 4) (t s : Fin 8192) (e : Fin 128)

theorem mkV_at : mkV (ix4 b h t s) = if s.val < t.val then 1#1 else 0#1 := by
  pointwise [mkV]
  have hs := s.2
  have ht := t.2
  show BitVec.ofBool (BitVec.slt _ _) = _
  have h3 : BitVec.slt (BitVec.ofNat 32 s.val) (BitVec.ofNat 32 t.val) = decide (s.val < t.val) := by
    rw [BitVec.slt_eq_decide]
    congr 1
    rw [BitVec.toInt_eq_toNat_of_lt (by simp only [BitVec.toNat_ofNat]; omega),
      BitVec.toInt_eq_toNat_of_lt (by simp only [BitVec.toNat_ofNat]; omega)]
    simp only [BitVec.toNat_ofNat]
    rw [Nat.mod_eq_of_lt (by omega), Nat.mod_eq_of_lt (by omega), Nat.cast_lt]
  rw [h3]
  by_cases h : s.val < t.val
  · rw [if_pos h, decide_eq_true h]; rfl
  · rw [if_neg h, decide_eq_false h]; rfl

theorem zeV_at (j) : zeV j = 0 := by
  pointwise [zeV]

theorem spV_at (w : FVec Ideal S2x4x8192x8192 .f32) (j) : spV w j = sp (w j) := by
  unfold spV
  pointwise [zeV]
  rw [if_neg (by simp)]
  unfold sp
  rw [sub_zero]
  rfl

theorem ofBits_128 : Ideal.ofBits .f32 0x43000000#32 = ((128 : ℝ) : EReal) := by
  simp [Ideal.ofBits, Ideal.ieee, -EReal.coe_mul]; norm_num

theorem scV_at : scV x (ix4 b h t s) = sc x b t h s.val := by
  pointwise [scV]
  rw [ofBits_128, Ideal.sqrt_coe, if_neg (by norm_num), Ideal.div_coe (Real.sqrt_ne_zero'.mpr (by norm_num)), one_div]
  unfold sc
  rw [dif_pos s.2]
  congr 1
  refine Finset.sum_congr rfl fun d _ => ?_
  congr 4 <;> omega

theorem lkV_at : lkV x (ix4 b h t s) = lr t.val (sc x b t h) s.val := by
  pointwise [lkV]
  rw [mkV_at, spV_at, zeV_at, sel_if]
  unfold lr
  rw [← scV_at]
  rfl

theorem cuV_at : cuV x (ix4 b h t s) = ∑ j ∈ Finset.Ico s.val 8192, lr t.val (sc x b t h) j := by
  rw [← window_at (lkV x) (lr t.val (sc x b t h)) b h t s (fun j => lkV_at x b h t j)
    reduceWindows_S2x4x8192x8192_S2x4x8192x8192_w1s1p0_0_w1s1p0_0_w1s1p0_0_w8192s1p0_8191]
  have h0 : (broadcastInDim S_ ![] bcast_S_S_ (constant (F := Ideal) S_ .f32 0x00000000#32)) (Shape.Idx.first h_S_) = (0 : EReal) := by
    pointwise
  unfold cuV
  rw [winAdd_eq, h0]
  unfold Ideal.hostReduceWindowAdd
  rfl

theorem atV_at : atV x (ix4 b h t s) = if s.val < t.val then
    Ideal.exp (lsR (sc x b t h s.val) + ((∑ j ∈ Finset.Ico s.val 8192, lr t.val (sc x b t h) j) - lr t.val (sc x b t h) s.val)) else 0 := by
  pointwise [atV]
  rw [mkV_at, spV_at, zeV_at, sel_if, cuV_at, lkV_at, ← scV_at]
  rfl

/-- The reference's result is the same function of the argument. -/
theorem outV_eq : outV x = G x := by
  funext j
  pointwise [outV]
  unfold G att
  rw [Finset.sum_range]
  refine Finset.sum_congr rfl fun s _ => ?_
  rw [atV_at]
  unfold vl
  rw [dif_pos s.2]
  congr 3
  apply Fin.ext
  dsimp only
  omega

end At

end Cert.Stick
-- ==== Proof.StickClaims.lean ====
/- The claims about the stick-breaking attention. -/
module

public import proofs.«01_k».proof.Defs
public import proofs.«01_k».proof.Proof.StickRef
public import proofs.«01_k».proof.Proof.Gen.Kernel.Frame
public import proofs.«01_k».proof.Proof.Gen.KernelIdeal.Frame

@[expose] public section

noncomputable section

namespace Cert.Stick

open Idealize.ShloMosaic Idealize.SL.Sem

/-- Both named constants have the values they are named for. -/
theorem preserves : Cert.preserves_Kernel_KernelIdeal :=
  ⟨IdealRules.named_const.statement Cert.KernelIdeal.κ "scale" .f32 0x3E0293EE#32 _ rfl,
    IdealRules.named_const.statement Cert.KernelIdeal.κ "neg_log2e" .f32 0xBFB8AA3B#32 _ rfl⟩

/-- The plain reference runs, leaves its argument alone and ends with every counter at zero. -/
theorem frame_ri : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel and the plain stick-breaking attention end at the same function of the argument. -/
theorem algebraic : Cert.algebraic_KernelIdeal_ReferenceIdeal (hKernelIdeal := Cert.KernelIdeal.Gen.facts)
    (hReferenceIdeal := Cert.ReferenceIdeal.Gen.facts) := by
  intro m ρ m' ρ' _ hag
  refine ⟨fun c => Cert.Stick.G (Cert.Stick.X0 m c), ?_, ?_⟩
  · exact (θ_run Cert.KernelIdeal.defs _ _).mono
      (fun r h c => ⟨(h c).1.trans (Cert.Stick.arr_eq m c), (h c).2⟩) (Cert.KernelIdeal.Value.run_blocks m ρ)
  · refine (θ_run Cert.ReferenceIdeal.defs _ _).mono (fun r h c => ⟨(h c).1.trans ?_, (h c).2⟩) (Cert.ReferenceIdeal.Value.run m' ρ')
    rw [Cert.Stick.res_eq, Cert.Stick.outV_eq, hag c]

end Cert.Stick

end
-- ==== Proof.FfnPay.lean ====
/- The values the channel mixer's kernel computes, read at an index. -/
module

public import proofs.«01_k».proof.Proof.Gen.Kernel2Ideal.Value
public import Idealize.ShloMosaic.Lib.Pointwise
public import Idealize.ShloMosaic.Lib.WritesUnit
public import Idealize.ShloMosaic.Lib.VecWindow
public import Idealize.ShloMosaic.Lib.Pipeline.ValueKit

@[expose] public section

noncomputable section

namespace Cert.Ffn

open Cert.Kernel2Ideal Cert.Kernel2Ideal.Gen Idealize.ShloMosaic

set_option maxRecDepth 16384

/-- A row scaled by the reciprocal root of its mean square, and by the gains. -/
def nrm (g X : Fin 1024 → EReal) (d : Fin 1024) : EReal :=
  X d * Ideal.rsqrt (Ideal.div (∑ k : Fin 1024, X k * X k) (Ideal.ofBits .f32 0x44800000#32) + Ideal.ofBits .f32 0x358637BD#32) * g d

theorem pay1_at (x : S8x1024.Idx → EReal) (g : S1x1024.Idx → EReal) (r : Fin 8) (d : Fin 1024) :
    k0_pay1 (F := Ideal) x g (ix2 r d) = nrm (fun k => g (ix2 (0 : Fin 1) k)) (fun k => x (ix2 r k)) d := by
  pointwise [k0_pay1]
  rfl

theorem pay2_at (x : S512x1024.Idx → EReal) (g : S1x1024.Idx → EReal) (r : Fin 512) (d : Fin 1024) :
    k0_pay2 (F := Ideal) x g (ix2 r d) = nrm (fun k => g (ix2 (0 : Fin 1) k)) (fun k => x (ix2 r k)) d := by
  pointwise [k0_pay2]
  rfl

theorem pay3_at (x : S512x1024.Idx → EReal) : k0_pay3 (F := Ideal) x = x := by
  funext j
  pointwise [k0_pay3]

theorem pay4_at (h : S520x1024.Idx → EReal) (w : S1024x1408.Idx → EReal) (r : Fin 520) (f : Fin 1408) :
    k0_pay4 (F := Ideal) h w (ix2 r f) = ∑ k : Fin 1024, h (ix2 r k) * w (ix2 k f) := by
  pointwise [k0_pay4]

/-- One where the tile continues a sequence, zero where it begins one. -/
def keep (i : ℕ) : EReal := if i % 16 = 0 then 0 else 1

/-- The tile's first row begins a sequence exactly at every sixteenth tile. -/
theorem keep_word : ∀ n : Fin 32,
    (Scalar.cmpi CmpIPredicate.eq
        (Scalar.select
          (Scalar.andi
            (Scalar.xori
              (Scalar.cmpi CmpIPredicate.slt
                (Scalar.remsi (Scalar.muli (BitVec.ofNat 32 n.val) 512#32)
                  (Scalar.select (Scalar.cmpi CmpIPredicate.eq 8192#32 0#32) 1#32 8192#32))
                0#32)
              (Scalar.cmpi CmpIPredicate.slt (Scalar.select (Scalar.cmpi CmpIPredicate.eq 8192#32 0#32) 1#32 8192#32)
                0#32))
            (Scalar.cmpi CmpIPredicate.ne
              (Scalar.remsi (Scalar.muli (BitVec.ofNat 32 n.val) 512#32)
                (Scalar.select (Scalar.cmpi CmpIPredicate.eq 8192#32 0#32) 1#32 8192#32))
              0#32))
          (Scalar.addi
            (Scalar.remsi (Scalar.muli (BitVec.ofNat 32 n.val) 512#32)
              (Scalar.select (Scalar.cmpi CmpIPredicate.eq 8192#32 0#32) 1#32 8192#32))
            (Scalar.select (Scalar.cmpi CmpIPredicate.eq 8192#32 0#32) 1#32 8192#32))
          (Scalar.remsi (Scalar.muli (BitVec.ofNat 32 n.val) 512#32)
            (Scalar.select (Scalar.cmpi CmpIPredicate.eq 8192#32 0#32) 1#32 8192#32)))
        0#32) = if n.val % 16 = 0 then 1#1 else 0#1 := by
  decide +kernel

theorem pay5_at (i : grid0.Coords) (x : S8x1408.Idx → EReal) (j) :
    k0_pay5 (F := Ideal) i x j = x j * keep (i 0).val := by
  pointwise [k0_pay5]
  rw [keep_word ⟨(i 0).val, (i 0).2⟩]
  unfold keep
  by_cases h : (i 0).val % 16 = 0
  · rw [if_pos h, if_pos h, mul_zero]; rfl
  · rw [if_neg h, if_neg h, mul_one]; rfl

/-- The gated product of the three shifted gate rows and the second projection. -/
def act (a b c u : EReal) : EReal := (a + b + c) * Ideal.logistic (a + b + c) * u

theorem pay7_at (c0 c1 c2 : S1x1408.Idx → EReal) (p0 p1 p2 : S512x1408.Idx → EReal) (h : S512x1024.Idx → EReal)
    (wu : S1024x1408.Idx → EReal) (a : S512x1024.Idx → EReal) (wd : S1408x1024.Idx → EReal) (r : Fin 512) (d : Fin 1024) :
    k0_pay7 (F := Ideal) (k0_pay6 (F := Ideal)) c0 p0 c1 p1 c2 p2 h wu a wd (ix2 r d)
      = a (ix2 r d) + ∑ f : Fin 1408, act (c0 (ix2 (0 : Fin 1) f) * p0 (ix2 r f)) (c1 (ix2 (0 : Fin 1) f) * p1 (ix2 r f))
          (c2 (ix2 (0 : Fin 1) f) * p2 (ix2 r f)) (∑ k : Fin 1024, h (ix2 r k) * wu (ix2 k f)) * wd (ix2 f d) := by
  pointwise [k0_pay7, k0_pay6]
  rfl

/-- A row of the first projection, dropped where it stands before its sequence. -/
def gp (n : ℕ) (h : S520x1024.Idx → EReal) (w : S1024x1408.Idx → EReal) (ρ : Fin 520) (f : Fin 1408) : EReal :=
  (∑ k : Fin 1024, h (ix2 ρ k) * w (ix2 k f)) * (if ρ.val < 8 then keep n else 1)

/-- What one grid point adds to its block: the gated, projected features of one half of the columns. -/
def half (n : ℕ) (h : S520x1024.Idx → EReal) (wg wu : S1024x1408.Idx → EReal) (cw : S8x1408.Idx → EReal)
    (wd : S1408x1024.Idx → EReal) (r : Fin 512) (d : Fin 1024) : EReal :=
  ∑ f : Fin 1408, act (cw (ix2 (0 : Fin 8) f) * gp n h wg ⟨6 + r.val, by omega⟩ f)
    (cw (ix2 (1 : Fin 8) f) * gp n h wg ⟨7 + r.val, by omega⟩ f)
    (cw (ix2 (2 : Fin 8) f) * gp n h wg ⟨8 + r.val, by omega⟩ f)
    (∑ k : Fin 1024, h (ix2 (⟨8 + r.val, by omega⟩ : Fin 520) k) * wu (ix2 k f)) * wd (ix2 f d)

/-- The normalized rows a tile keeps: the eight before it, then its own. -/
def hrow (x0 : S512x1024.Idx → EReal) (x1 : S8x1024.Idx → EReal) (g : S1x1024.Idx → EReal) (ρ : Fin 520) (d : Fin 1024) : EReal :=
  if h : ρ.val < 8 then nrm (fun k => g (ix2 (0 : Fin 1) k)) (fun k => x1 (ix2 (⟨ρ.val, h⟩ : Fin 8) k)) d
  else nrm (fun k => g (ix2 (0 : Fin 1) k)) (fun k => x0 (ix2 (⟨ρ.val - 8, by omega⟩ : Fin 512) k)) d

/-- A load of whole rows of a list of pieces. -/
theorem cov_rows {R C W : ℕ} {e : EltTy} (m : Memref sig .tc .vmem ⟨2, ![R, C]⟩ e) (L) (o : ℕ)
    (inb : ∀ a, (![o, 0] : Fin 2 → ℕ) a + (![W, C] : Fin 2 → ℕ) a ≤ (⟨2, ![R, C]⟩ : Shape).size a) (x : Fin W) (k : Fin C) (h : o + x.val < R) :
    m.view.readCov (Val := Elt Ideal) L (Rect.unit (s := ⟨2, ![R, C]⟩) ![o, 0] ![W, C] inb).toLoadRect (ix2 x k)
      = View.canon L (ix2 (⟨o + x.val, h⟩ : Fin R) k) := by
  rw [View.readCov_eq_canon']
  show View.canon L _ = _
  congr 1
  funext b
  fin_cases b <;> apply Fin.ext
  · show o + 1 * x.val = o + x.val; omega
  · show 0 + 1 * k.val = k.val; omega

/-- A row the newest piece of whole rows holds. -/
theorem canon_mem {R C W : ℕ} {e : EltTy} (L) (o : ℕ)
    (inb : ∀ a, (![o, 0] : Fin 2 → ℕ) a + (![W, C] : Fin 2 → ℕ) a ≤ (⟨2, ![R, C]⟩ : Shape).size a)
    (w : (Rect.unit (s := ⟨2, ![R, C]⟩) ![o, 0] ![W, C] inb).shape.Idx → Elt Ideal e) (r : Fin R) (x : Fin W) (k : Fin C)
    (h : r.val = o + x.val) :
    View.canon (Val := Elt Ideal) (⟨Rect.unit (s := ⟨2, ![R, C]⟩) ![o, 0] ![W, C] inb, w⟩ :: L) (ix2 r k) = w (ix2 x k) := by
  rw [← View.canon_cons_emb (Rect.unit (s := ⟨2, ![R, C]⟩) ![o, 0] ![W, C] inb) w L (ix2 x k)]
  congr 1
  funext b
  fin_cases b <;> apply Fin.ext
  · show r.val = o + 1 * x.val; omega
  · show k.val = 0 + 1 * k.val; omega

/-- A row outside the newest piece. -/
theorem canon_not_mem {R C W : ℕ} {e : EltTy} (L) (o : ℕ)
    (inb : ∀ a, (![o, 0] : Fin 2 → ℕ) a + (![W, C] : Fin 2 → ℕ) a ≤ (⟨2, ![R, C]⟩ : Shape).size a)
    (w : (Rect.unit (s := ⟨2, ![R, C]⟩) ![o, 0] ![W, C] inb).shape.Idx → Elt Ideal e) (r : Fin R) (k : Fin C)
    (h : r.val < o ∨ o + W ≤ r.val) :
    View.canon (Val := Elt Ideal) (⟨Rect.unit (s := ⟨2, ![R, C]⟩) ![o, 0] ![W, C] inb, w⟩ :: L) (ix2 r k) = View.canon L (ix2 r k) := by
  refine View.canon_cons_of_not_mem _ L fun hm => ?_
  obtain ⟨x, hx⟩ : ∃ x, (Rect.unit (s := ⟨2, ![R, C]⟩) ![o, 0] ![W, C] inb).toLoadRect.idx x = ix2 r k :=
    LoadRect.exists_idx_of_mem _ hm
  have h0 : r.val = o + 1 * (x 0).val := congrArg (fun z => (z 0).val) hx.symm
  have h1 := (x 0).2
  change _ < W at h1
  omega

/-- The projected rows after the rows before the sequence were dropped. -/
theorem drop_at (i : grid0.Coords) (m : Memref sig .tc .vmem S520x1408 .f32) (h : S520x1024.Idx → EReal) (w : S1024x1408.Idx → EReal)
    (o : ℕ) (inb : ∀ a, (![o, 0] : Fin 2 → ℕ) a + (![512, 1408] : Fin 2 → ℕ) a ≤ S520x1408.size a) (r : Fin 512) (f : Fin 1408)
    (ho : o + r.val < 520) :
    m.view.readCov (Val := Elt Ideal)
        [⟨Rect.unit (s := S520x1408) ![0, 0] ![8, 1408] inb_S520x1408_S8x1408_0_0,
            k0_pay5 (F := Ideal) i (m.view.readCov (Val := Elt Ideal)
              [⟨Rect.unit (s := S520x1408) ![0, 0] ![520, 1408] inb_S520x1408_S520x1408_0_0, k0_pay4 (F := Ideal) h w⟩]
              (Rect.unit (s := S520x1408) ![0, 0] ![8, 1408] inb_S520x1408_S8x1408_0_0).toLoadRect)⟩,
          ⟨Rect.unit (s := S520x1408) ![0, 0] ![520, 1408] inb_S520x1408_S520x1408_0_0, k0_pay4 (F := Ideal) h w⟩]
        (Rect.unit (s := S520x1408) ![o, 0] ![512, 1408] inb).toLoadRect (ix2 r f)
      = gp (i 0).val h w ⟨o + r.val, ho⟩ f := by
  have e1 : ∀ (ρ : Fin 520), View.canon (Val := Elt Ideal) (s := S520x1408) (e := .f32)
      [⟨Rect.unit (s := S520x1408) ![0, 0] ![520, 1408] inb_S520x1408_S520x1408_0_0, k0_pay4 (F := Ideal) h w⟩] (ix2 ρ f)
      = ∑ k : Fin 1024, h (ix2 ρ k) * w (ix2 k f) := fun ρ =>
    by
    rw [canon_mem (R := 520) (C := 1408) (W := 520) (e := .f32) [] 0 _ _ ρ ρ f (by simp), pay4_at]
  rw [cov_rows m _ o inb r f ho]
  unfold gp
  by_cases h8 : o + r.val < 8
  · rw [canon_mem (W := 8) _ 0 _ _ _ (⟨o + r.val, h8⟩ : Fin 8) f (by simp), pay5_at,
      cov_rows (W := 8) m _ 0 _ _ f (by simp; omega), e1, if_pos h8]
    simp only [Nat.zero_add]
  · rw [canon_not_mem (W := 8) _ 0 _ _ _ f (by right; simp; omega), e1, if_neg h8, mul_one]

/-- A row of the convolution weights. -/
theorem ld_row (x5 : S8x1408.Idx → EReal) (o : ℕ) (inb : ∀ a, (![o, 0] : Fin 2 → ℕ) a + (![1, 1408] : Fin 2 → ℕ) a ≤ S8x1408.size a)
    (f : Fin 1408) (h : o < 8) :
    View.ld (Val := Elt Ideal) (e' := .f32) x5 (Rect.unit (s := S8x1408) ![o, 0] ![1, 1408] inb) (ix2 (0 : Fin 1) f) = x5 (ix2 (⟨o, h⟩ : Fin 8) f) := by
  rw [View.ld_apply]
  congr 1
  funext b
  fin_cases b <;> apply Fin.ext
  · rfl
  · show 0 + 1 * f.val = f.val; omega

/-- The tile's own rows of the kept rows. -/
theorem ld_own (h : S520x1024.Idx → EReal) (inb : ∀ a, (![8, 0] : Fin 2 → ℕ) a + (![512, 1024] : Fin 2 → ℕ) a ≤ S520x1024.size a)
    (r : Fin 512) (k : Fin 1024) :
    View.ld (Val := Elt Ideal) (e' := .bf16) h (Rect.unit (s := S520x1024) ![8, 0] ![512, 1024] inb) (ix2 r k) = h (ix2 (⟨8 + r.val, by omega⟩ : Fin 520) k) := by
  rw [View.ld_apply]
  congr 1
  funext b
  fin_cases b <;> apply Fin.ext
  · show 8 + 1 * r.val = 8 + r.val; omega
  · show 0 + 1 * k.val = k.val; omega

/-- The normalized rows as the pieces the first point of a tile stores. -/
theorem hrow_at (x0 : S512x1024.Idx → EReal) (x1 : S8x1024.Idx → EReal) (x2 : S1x1024.Idx → EReal) :
    View.canon (Val := Elt Ideal) (s := S520x1024) (e := .bf16)
      [⟨Rect.unit (s := S520x1024) ![8, 0] ![512, 1024] inb_S520x1024_S512x1024_8_0, k0_pay2 (F := Ideal) x0 x2⟩,
        ⟨Rect.unit (s := S520x1024) ![0, 0] ![8, 1024] inb_S520x1024_S8x1024_0_0, k0_pay1 (F := Ideal) x1 x2⟩]
      = fun j : S520x1024.Idx => hrow x0 x1 x2 (j 0) (j 1) := by
  funext j
  obtain ⟨r, d, rfl⟩ : ∃ (r : Fin 520) (d : Fin 1024), j = ix2 r d := ⟨j 0, j 1, by funext b; fin_cases b <;> rfl⟩
  show _ = hrow x0 x1 x2 r d
  unfold hrow
  by_cases h : r.val < 8
  · rw [dif_pos h, canon_not_mem (W := 512) _ 8 _ _ _ d (Or.inl h),
      canon_mem (W := 8) _ 0 _ _ _ (⟨r.val, h⟩ : Fin 8) d (by simp), pay1_at]
  · rw [dif_neg h, canon_mem (W := 512) _ 8 _ _ _ (⟨r.val - 8, by omega⟩ : Fin 512) d (by show r.val = 8 + (r.val - 8); omega), pay2_at]

section Run

variable (cd : Dev nD) (i : grid0.Coords) (arg2 : Memref sig .tc .vmem S512x1024 .f32) (harg2 : arg2.IsWhole) (arg3 : Memref sig .tc .vmem S8x1024 .f32) (harg3 : arg3.IsWhole) (arg4 : Memref sig .tc .vmem S1x1024 .f32) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S8x1408 .f32) (harg7 : arg7.IsWhole) (arg8 : Memref sig .tc .vmem S1408x1024 .bf16) (harg8 : arg8.IsWhole) (arg9 : Memref sig .tc .vmem S512x1024 .f32) (harg9 : arg9.IsWhole) (arg10 : Memref sig .tc .vmem S520x1024 .bf16) (harg10 : arg10.IsWhole) (arg11 : Memref sig .tc .vmem S520x1408 .f32) (harg11 : arg11.IsWhole) (arg12 : Memref sig .tc .vmem S512x1024 .f32) (harg12 : arg12.IsWhole)
  (x0 : S512x1024.Idx → EReal) (x1 : S8x1024.Idx → EReal) (x2 : S1x1024.Idx → EReal) (x3 x4 : S1024x1408.Idx → EReal) (x5 : S8x1408.Idx → EReal) (x6 : S1408x1024.Idx → EReal)
  (xs0 : S520x1024.Idx → EReal) (xs2 : S512x1024.Idx → EReal)

theorem outB_at (hc0 : ¬cond0_0 i) (hc1 : cond0_1 i) (r : Fin 512) (d : Fin 1024) :
    out0_B_7 (F := Ideal) cd i arg2 harg2 arg3 harg3 arg4 harg4 arg5 harg5 arg6 harg6 arg7 harg7 arg8 harg8 arg9 harg9 arg10 harg10 arg11 harg11 arg12 harg12 hc0 hc1 x0 x1 x2 x3 x4 x5 x6 xs0 xs2 (ix2 r d)
      = xs2 (ix2 r d) + half (i 0).val xs0 x3 x4 x5 x6 r d := by
  frame_out
  rw [pay7_at]
  unfold half
  congr 1
  refine Finset.sum_congr rfl fun f _ => ?_
  rw [drop_at i arg11 xs0 x3 6 _ r f (by omega), drop_at i arg11 xs0 x3 7 _ r f (by omega), drop_at i arg11 xs0 x3 8 _ r f (by omega),
    ld_row x5 0 _ f (by omega), ld_row x5 1 _ f (by omega), ld_row x5 2 _ f (by omega)]
  exact congrArg (· * _) (congrArg (act _ _ _) (Finset.sum_congr rfl fun k _ => congrArg (· * _) (ld_own xs0 _ r k)))

theorem outA0_at (hc0 : cond0_0 i) (hc1 : ¬cond0_1 i) :
    sout0_A_0 (F := Ideal) cd i arg2 harg2 arg3 harg3 arg4 harg4 arg5 harg5 arg6 harg6 arg7 harg7 arg8 harg8 arg9 harg9 arg10 harg10 arg11 harg11 arg12 harg12 hc0 hc1 x0 x1 x2 x3 x4 x5 x6 = fun j : S520x1024.Idx => hrow x0 x1 x2 (j 0) (j 1) := by
  rw [← hrow_at]
  frame_out

theorem outA2_at (hc0 : cond0_0 i) (hc1 : ¬cond0_1 i) (r : Fin 512) (d : Fin 1024) :
    sout0_A_2 (F := Ideal) cd i arg2 harg2 arg3 harg3 arg4 harg4 arg5 harg5 arg6 harg6 arg7 harg7 arg8 harg8 arg9 harg9 arg10 harg10 arg11 harg11 arg12 harg12 hc0 hc1 x0 x1 x2 x3 x4 x5 x6 (ix2 r d)
      = x0 (ix2 r d) + half (i 0).val (fun j : S520x1024.Idx => hrow x0 x1 x2 (j 0) (j 1)) x3 x4 x5 x6 r d := by
  have e10 : arg10.view.readCov (Val := Elt Ideal)
      [⟨Rect.unit (s := S520x1024) ![8, 0] ![512, 1024] inb_S520x1024_S512x1024_8_0, k0_pay2 (F := Ideal) x0 x2⟩,
        ⟨Rect.unit (s := S520x1024) ![0, 0] ![8, 1024] inb_S520x1024_S8x1024_0_0, k0_pay1 (F := Ideal) x1 x2⟩]
      (Rect.unit (s := S520x1024) ![0, 0] ![520, 1024] inb_S520x1024_S520x1024_0_0).toLoadRect = fun j : S520x1024.Idx => hrow x0 x1 x2 (j 0) (j 1) := by
    rw [← hrow_at]
    funext j
    obtain ⟨r, d, rfl⟩ : ∃ (r : Fin 520) (d : Fin 1024), j = ix2 r d := ⟨j 0, j 1, by funext b; fin_cases b <;> rfl⟩
    rw [cov_rows (W := 520) arg10 _ 0 _ r d (by omega)]
    simp only [Nat.zero_add]
  frame_out
  rw [e10, pay7_at, pay3_at]
  unfold half
  congr 1
  refine Finset.sum_congr rfl fun f _ => ?_
  rw [drop_at i arg11 _ x3 6 _ r f (by omega), drop_at i arg11 _ x3 7 _ r f (by omega), drop_at i arg11 _ x3 8 _ r f (by omega),
    ld_row x5 0 _ f (by omega), ld_row x5 1 _ f (by omega), ld_row x5 2 _ f (by omega)]
  have e8 : ∀ k : Fin 1024, arg10.view.readCov (Val := Elt Ideal)
      [⟨Rect.unit (s := S520x1024) ![8, 0] ![512, 1024] inb_S520x1024_S512x1024_8_0, k0_pay2 (F := Ideal) x0 x2⟩,
        ⟨Rect.unit (s := S520x1024) ![0, 0] ![8, 1024] inb_S520x1024_S8x1024_0_0, k0_pay1 (F := Ideal) x1 x2⟩]
      (Rect.unit (s := S520x1024) ![8, 0] ![512, 1024] inb_S520x1024_S512x1024_8_0).toLoadRect (ix2 r k)
      = hrow x0 x1 x2 (⟨8 + r.val, by omega⟩ : Fin 520) k := fun k => by
    rw [cov_rows (W := 512) arg10 _ 8 _ r k (by omega), hrow_at]
    rfl
  simp only [e8]
  rfl

end Run

end Cert.Ffn

end
-- ==== Proof.FfnBlocks.lean ====
/- The channel mixer's result array as one function of the launched arguments. -/
module

public import proofs.«01_k».proof.Proof.FfnPay
public import Idealize.ShloMosaic.Lib.Pipeline.ValueKit.Point

@[expose] public section

noncomputable section

namespace Cert.Ffn

open Cert.Kernel2Ideal Cert.Kernel2Ideal.Gen Idealize.ShloMosaic Idealize.ShloMosaic.TcCoe

set_option maxRecDepth 16384

variable (m : (ℓ : Loc nD τ sig) → Buf (Elt Ideal) ℓ) (c : Dev nD)

/-- Where each window's block stands at a grid point. -/
theorem idx : ∀ t : Fin cfg0.N,
    win0_0.index t = ![(grid0.coords t 0).val, 0]
    ∧ win0_1.index t = ![(grid0.coords t 0).val * 64 - 1, 0]
    ∧ win0_2.index t = ![0, 0]
    ∧ win0_3.index t = ![0, (grid0.coords t 1).val]
    ∧ win0_4.index t = ![0, (grid0.coords t 1).val]
    ∧ win0_5.index t = ![0, (grid0.coords t 1).val]
    ∧ win0_6.index t = ![(grid0.coords t 1).val, 0]
    ∧ win0_7.index t = ![(grid0.coords t 0).val, 0] := by
  decide +kernel

/-- The coordinates of a grid point: tile of rows, half of the columns. -/
abbrev gi (t : Fin cfg0.N) : Fin 32 := ⟨(grid0.coords t 0).val, (grid0.coords t 0).2⟩
abbrev gj (t : Fin cfg0.N) : Fin 2 := ⟨(grid0.coords t 1).val, (grid0.coords t 1).2⟩

theorem coords_at : ∀ t : Fin cfg0.N, (grid0.coords t 0).val = t.val / 2 ∧ (grid0.coords t 1).val = t.val % 2 := by
  decide +kernel

/-- Row `n` of the batch by position rows. -/
def row (X : S2x8192x1024.Idx → EReal) (n : ℕ) (k : Fin 1024) : EReal :=
  if h : n < 16384 then X (ix3 (⟨n / 8192, by omega⟩ : Fin 2) (⟨n % 8192, by omega⟩ : Fin 8192) k) else 0

open Idealize.ShloMosaic.StableHlo in
/-- The rows the launch reads: the argument with batch and position in one axis. -/
theorem ent0 : V (F := Ideal) m c main_v0 = shapeCast S16384x1024 (m ((c : Thread nD τ).loc main_arg0)) shapeCasts_S2x8192x1024_S16384x1024 := by
  show StableHlo.after [hostOps0, hostOps0_1, hostOps0_2].flatten (fun b => m (c, b)) (Proc.tc.devRef main_v0) = _
  simp only [hostOps0, hostOps0_1, hostOps0_2, List.flatten_cons, List.flatten_nil, List.cons_append, List.nil_append, List.append_nil, TRef.binary, TRef.nullary, TRef.unary, TRef.toBuf, TRef.ofBuf, cast_eq]
  after_results_simp <;> rfl

open Idealize.ShloMosaic.StableHlo in
/-- The convolution weights the launch reads: three rows and five of zeros. -/
theorem ent1 : V (F := Ideal) m c main_v1 = pad S8x2816 ![0, 0] ![5, 0] ![0, 0] (m ((c : Thread nD τ).loc main_arg4)) (sitofp (F := Ideal) .f32 (constantI S_ 32 0#32)) pads_S3x2816_S8x2816_050_000 h_S_ := by
  show StableHlo.after [hostOps0, hostOps0_1, hostOps0_2].flatten (fun b => m (c, b)) (Proc.tc.devRef main_v1) = _
  simp only [hostOps0, hostOps0_1, hostOps0_2, List.flatten_cons, List.flatten_nil, List.cons_append, List.nil_append, List.append_nil, TRef.binary, TRef.nullary, TRef.unary, TRef.toBuf, TRef.ofBuf, cast_eq]
  after_results_simp <;> rfl

open Idealize.ShloMosaic.StableHlo in
/-- The gains the launch reads. -/
theorem ent2 : V (F := Ideal) m c main_v2 = shapeCast S1x1024 (m ((c : Thread nD τ).loc main_arg1)) shapeCasts_S1024_S1x1024 := by
  show StableHlo.after [hostOps0, hostOps0_1, hostOps0_2].flatten (fun b => m (c, b)) (Proc.tc.devRef main_v2) = _
  simp only [hostOps0, hostOps0_1, hostOps0_2, List.flatten_cons, List.flatten_nil, List.cons_append, List.nil_append, List.append_nil, TRef.binary, TRef.nullary, TRef.unary, TRef.toBuf, TRef.ofBuf, cast_eq]
  after_results_simp <;> rfl

/-- Batch and position in one axis, at a row. -/
theorem cast_row (X : S2x8192x1024.Idx → EReal) (n : Fin 16384) (k : Fin 1024) (h) :
    shapeCast (α := EReal) S16384x1024 X h (ix2 n k) = row X n.val k := by
  unfold row
  rw [dif_pos n.2]
  pointwise

theorem emb0 (t : Fin cfg0.N) (r : Fin 512) (k : Fin 1024) :
    (win0_0.blk t).view.emb (ix2 r k) = ix2 (⟨512 * (gi t).val + r.val, by have := (gi t).2; omega⟩ : Fin 16384) k := by
  refine funext (Fin.forall_fin_two.mpr ⟨Fin.ext ?_, Fin.ext ?_⟩) <;> blk_simp [(idx t).1] <;> (try dsimp only) <;> omega

theorem emb1 (t : Fin cfg0.N) (r : Fin 8) (k : Fin 1024) :
    (win0_1.blk t).view.emb (ix2 r k) = ix2 (⟨8 * ((gi t).val * 64 - 1) + r.val, by have := (gi t).2; omega⟩ : Fin 16384) k := by
  refine funext (Fin.forall_fin_two.mpr ⟨Fin.ext ?_, Fin.ext ?_⟩) <;> blk_simp [(idx t).2.1] <;> (try dsimp only) <;> omega

theorem emb5 (t : Fin cfg0.N) (i : Fin 8) (f : Fin 1408) :
    (win0_5.blk t).view.emb (ix2 i f) = ix2 i (⟨1408 * (gj t).val + f.val, by have := (gj t).2; omega⟩ : Fin 2816) := by
  refine funext (Fin.forall_fin_two.mpr ⟨Fin.ext ?_, Fin.ext ?_⟩) <;> blk_simp [(idx t).2.2.2.2.2.1] <;> (try dsimp only) <;> omega

theorem blk0_at (t : Fin cfg0.N) (r : Fin 512) (k : Fin 1024) :
    (iblk (F := Ideal) m c 0 t : S512x1024.Idx → EReal) (ix2 r k)
      = row (m ((c : Thread nD τ).loc main_arg0)) (512 * (gi t).val + r.val) k := by
  blk_simp [iblk, (idx t).1]
  rw [show V (F := Ideal) m c (Pipeline.arrRef spec0 0) = _ from ent0 m c]
  rw [emb0, cast_row]

theorem blk1_at (t : Fin cfg0.N) (r : Fin 8) (k : Fin 1024) :
    (iblk (F := Ideal) m c 1 t : S8x1024.Idx → EReal) (ix2 r k)
      = row (m ((c : Thread nD τ).loc main_arg0)) (8 * ((gi t).val * 64 - 1) + r.val) k := by
  blk_simp [iblk, (idx t).2.1]
  rw [show V (F := Ideal) m c (Pipeline.arrRef spec0 1) = _ from ent0 m c]
  rw [emb1, cast_row]

theorem blk2_at (t : Fin cfg0.N) (k : Fin 1024) :
    (iblk (F := Ideal) m c 2 t : S1x1024.Idx → EReal) (ix2 (0 : Fin 1) k)
      = (m ((c : Thread nD τ).loc main_arg1) : S1024.Idx → EReal) (ix1 k) := by
  blk_simp [iblk, (idx t).2.2.1]
  rw [show V (F := Ideal) m c (Pipeline.arrRef spec0 2) = _ from ent2 m c]
  pointwise
  blk_ext [iblk, V, (idx t).2.2.1]

theorem blk3_at (t : Fin cfg0.N) (k : Fin 1024) (f : Fin 1408) :
    (iblk (F := Ideal) m c 3 t : S1024x1408.Idx → EReal) (ix2 k f)
      = (m ((c : Thread nD τ).loc main_arg2) : S1024x2816.Idx → EReal)
        (ix2 k (⟨1408 * (gj t).val + f.val, by have := (gj t).2; omega⟩ : Fin 2816)) := by
  have h1 : (grid0.coords t 1).val < 2 := (grid0.coords t 1).2
  blk_simp [iblk, (idx t).2.2.2.1]
  entry_read
  pointwise
  blk_ext [iblk, V, (idx t).2.2.2.1]

theorem blk4_at (t : Fin cfg0.N) (k : Fin 1024) (f : Fin 1408) :
    (iblk (F := Ideal) m c 4 t : S1024x1408.Idx → EReal) (ix2 k f)
      = (m ((c : Thread nD τ).loc main_arg3) : S1024x2816.Idx → EReal)
        (ix2 k (⟨1408 * (gj t).val + f.val, by have := (gj t).2; omega⟩ : Fin 2816)) := by
  have h1 : (grid0.coords t 1).val < 2 := (grid0.coords t 1).2
  blk_simp [iblk, (idx t).2.2.2.2.1]
  entry_read
  pointwise
  blk_ext [iblk, V, (idx t).2.2.2.2.1]

theorem blk5_at (t : Fin cfg0.N) (i : Fin 8) (hi : i.val < 3) (f : Fin 1408) :
    (iblk (F := Ideal) m c 5 t : S8x1408.Idx → EReal) (ix2 i f)
      = (m ((c : Thread nD τ).loc main_arg4) : S3x2816.Idx → EReal)
        (ix2 (⟨i.val, hi⟩ : Fin 3) (⟨1408 * (gj t).val + f.val, by have := (gj t).2; omega⟩ : Fin 2816)) := by
  have h1 : (grid0.coords t 1).val < 2 := (grid0.coords t 1).2
  blk_simp [iblk, (idx t).2.2.2.2.2.1]
  rw [show V (F := Ideal) m c (Pipeline.arrRef spec0 5) = _ from ent1 m c, emb5]
  pointwise
  rw [dif_pos]
  intro a
  fin_cases a
  · exact ⟨Nat.zero_le _, by show (i.val - 0) % 1 = 0; omega, by show (i.val - 0) / 1 < 3; omega⟩
  · exact ⟨Nat.zero_le _, by show (1408 * (gj t).val + f.val - 0) % 1 = 0; omega,
      by show (1408 * (gj t).val + f.val - 0) / 1 < 2816; have := f.2; dsimp only; omega⟩

theorem blk6_at (t : Fin cfg0.N) (f : Fin 1408) (d : Fin 1024) :
    (iblk (F := Ideal) m c 6 t : S1408x1024.Idx → EReal) (ix2 f d)
      = (m ((c : Thread nD τ).loc main_arg5) : S2816x1024.Idx → EReal)
        (ix2 (⟨1408 * (gj t).val + f.val, by have := (gj t).2; omega⟩ : Fin 2816) d) := by
  have h1 : (grid0.coords t 1).val < 2 := (grid0.coords t 1).2
  blk_simp [iblk, (idx t).2.2.2.2.2.2.1]
  entry_read
  pointwise
  blk_ext [iblk, V, (idx t).2.2.2.2.2.2.1]

/-! ### The result as a function of the arguments -/

section Spec

variable (X : S2x8192x1024.Idx → EReal) (g : S1024.Idx → EReal) (Wg Wu : S1024x2816.Idx → EReal) (cw : S3x2816.Idx → EReal)
  (Wd : S2816x1024.Idx → EReal)

/-- The normalized row `n`. -/
def nr (n : ℕ) (k : Fin 1024) : EReal := nrm (fun k => g (ix1 k)) (row X n) k

/-- The gate's projection, `e` rows before row `n`, zero before the sequence. -/
def gate (n e : ℕ) (f : Fin 2816) : EReal :=
  if e ≤ n % 8192 then ∑ k : Fin 1024, nr X g (n - e) k * Wg (ix2 k f) else 0

/-- One hidden feature of row `n`: the convolved gate through the sigmoid-weighted unit, times the up projection. -/
def feat (n : ℕ) (f : Fin 2816) : EReal :=
  act (cw (ix2 (0 : Fin 3) f) * gate X g Wg n 2 f) (cw (ix2 (1 : Fin 3) f) * gate X g Wg n 1 f)
    (cw (ix2 (2 : Fin 3) f) * gate X g Wg n 0 f) (∑ k : Fin 1024, nr X g n k * Wu (ix2 k f))

/-- The channel mixer's output: rows are batch by position. -/
def G : S16384x1024.Idx → EReal := fun j =>
  row X (j 0).val (j 1) + ∑ f : Fin 2816, feat X g Wg Wu cw (j 0).val f * Wd (ix2 f (j 1))

end Spec

abbrev A0 : S2x8192x1024.Idx → EReal := m ((c : Thread nD τ).loc main_arg0)
abbrev A1 : S1024.Idx → EReal := m ((c : Thread nD τ).loc main_arg1)
abbrev A2 : S1024x2816.Idx → EReal := m ((c : Thread nD τ).loc main_arg2)
abbrev A3 : S1024x2816.Idx → EReal := m ((c : Thread nD τ).loc main_arg3)
abbrev A4 : S3x2816.Idx → EReal := m ((c : Thread nD τ).loc main_arg4)
abbrev A5 : S2816x1024.Idx → EReal := m ((c : Thread nD τ).loc main_arg5)

/-- The kept rows of a tile: row `ρ` stands eight rows before the tile's row `ρ`. -/
theorem hrow_row (t : Fin cfg0.N) (ρ : Fin 520) (k : Fin 1024) (h : 8 ≤ ρ.val ∨ (gi t).val ≠ 0) :
    hrow (iblk (F := Ideal) m c 0 t) (iblk (F := Ideal) m c 1 t) (iblk (F := Ideal) m c 2 t) ρ k
      = nr (A0 m c) (A1 m c) (512 * (gi t).val + ρ.val - 8) k := by
  unfold hrow nr
  by_cases h8 : ρ.val < 8
  · rw [dif_pos h8]
    simp only [blk1_at, blk2_at]
    rw [show 8 * ((gi t).val * 64 - 1) + ρ.val = 512 * (gi t).val + ρ.val - 8 by omega]
  · rw [dif_neg h8]
    simp only [blk0_at, blk2_at]
    rw [show 512 * (gi t).val + (ρ.val - 8) = 512 * (gi t).val + ρ.val - 8 by omega]

/-- The gate's projection at a kept row. The point `t` reads the weights, the rows were kept at the point `s`. -/
theorem gp_gate (s t : Fin cfg0.N) (hst : gi s = gi t) (e : ℕ) (he : e ≤ 2) (r : Fin 512) (f : Fin 1408) (hρ : 8 - e + r.val < 520) :
    gp (gi t).val (fun j : S520x1024.Idx => hrow (iblk (F := Ideal) m c 0 s) (iblk (F := Ideal) m c 1 s) (iblk (F := Ideal) m c 2 s) (j 0) (j 1))
        (iblk (F := Ideal) m c 3 t) ⟨8 - e + r.val, hρ⟩ f
      = gate (A0 m c) (A1 m c) (A2 m c) (512 * (gi t).val + r.val) e ⟨1408 * (gj t).val + f.val, by have := (gj t).2; omega⟩ := by
  have hi := (gi t).2
  have hr := r.2
  have hrow : ∀ k : Fin 1024, (8 ≤ 8 - e + r.val ∨ (gi t).val ≠ 0) →
      hrow (iblk (F := Ideal) m c 0 s) (iblk (F := Ideal) m c 1 s) (iblk (F := Ideal) m c 2 s) ⟨8 - e + r.val, hρ⟩ k
        = nr (A0 m c) (A1 m c) (512 * (gi t).val + r.val - e) k := fun k h => by
    rw [hrow_row m c s _ k (by rw [hst]; exact h), hst]
    congr 1
    show 512 * (gi t).val + (8 - e + r.val) - 8 = _
    omega
  unfold gp gate keep
  by_cases h8 : 8 - e + r.val < 8
  · rw [if_pos h8]
    by_cases h16 : (gi t).val % 16 = 0
    · rw [if_pos h16, mul_zero, if_neg (by omega)]
    · rw [if_neg h16, mul_one, if_pos (by omega)]
      refine Finset.sum_congr rfl fun k _ => ?_
      rw [blk3_at]
      exact congrArg (· * _) (hrow k (Or.inr fun h => h16 (by rw [h])))
  · rw [if_neg h8, mul_one, if_pos (by omega)]
    refine Finset.sum_congr rfl fun k _ => ?_
    rw [blk3_at]
    exact congrArg (· * _) (hrow k (Or.inl (by omega)))

/-- What one point adds, as a sum over its half of the features. -/
theorem half_at (s t : Fin cfg0.N) (hst : gi s = gi t) (r : Fin 512) (d : Fin 1024) :
    half (gi t).val (fun j : S520x1024.Idx => hrow (iblk (F := Ideal) m c 0 s) (iblk (F := Ideal) m c 1 s) (iblk (F := Ideal) m c 2 s) (j 0) (j 1))
        (iblk (F := Ideal) m c 3 t) (iblk (F := Ideal) m c 4 t) (iblk (F := Ideal) m c 5 t) (iblk (F := Ideal) m c 6 t) r d
      = ∑ f : Fin 1408, feat (A0 m c) (A1 m c) (A2 m c) (A3 m c) (A4 m c) (512 * (gi t).val + r.val)
          ⟨1408 * (gj t).val + f.val, by have := (gj t).2; omega⟩
          * A5 m c (ix2 (⟨1408 * (gj t).val + f.val, by have := (gj t).2; omega⟩ : Fin 2816) d) := by
  unfold half feat
  refine Finset.sum_congr rfl fun f _ => ?_
  rw [blk6_at, blk5_at _ _ _ _ (by decide), blk5_at _ _ _ _ (by decide), blk5_at _ _ _ _ (by decide)]
  refine congrArg (· * _) ?_
  have e0 := gp_gate m c s t hst 0 (by omega) r f (by omega)
  have e1 := gp_gate m c s t hst 1 (by omega) r f (by omega)
  have e2 := gp_gate m c s t hst 2 (by omega) r f (by omega)
  have eu : ∀ k : Fin 1024, hrow (iblk (F := Ideal) m c 0 s) (iblk (F := Ideal) m c 1 s) (iblk (F := Ideal) m c 2 s) (⟨8 + r.val, by omega⟩ : Fin 520) k
      = nr (A0 m c) (A1 m c) (512 * (gi t).val + r.val) k := fun k => by
    rw [hrow_row m c s _ k (Or.inl (by show 8 ≤ 8 + r.val; omega)), hst]
    congr 1
    show 512 * (gi t).val + (8 + r.val) - 8 = _
    omega
  refine congr (congr (congr (congrArg act ?_) ?_) ?_) ?_
  · exact congrArg₂ (fun a b : EReal => a * b) rfl e2
  · exact congrArg₂ (fun a b : EReal => a * b) rfl e1
  · exact congrArg₂ (fun a b : EReal => a * b) rfl e0
  · refine Finset.sum_congr rfl fun k _ => ?_
    rw [blk4_at]
    exact congrArg (· * _) (eu k)

/-- The output block of an odd point. -/
theorem outs_at (t : Fin cfg0.N) (ht : t.val % 2 = 1) (r : Fin 512) (d : Fin 1024) :
    (outsAt0 (F := Ideal) m c t.val t.isLt).1 (ix2 r d)
      = G (A0 m c) (A1 m c) (A2 m c) (A3 m c) (A4 m c) (A5 m c)
          (ix2 (⟨512 * (gi t).val + r.val, by have := (gi t).2; omega⟩ : Fin 16384) d) := by
  have hN := lt_of_lt_of_eq t.isLt (show cfg0.N = 64 from N_0)
  let s : Fin cfg0.N := ⟨t.val - 1, by have := t.isLt; omega⟩
  have hs : s.val % 2 = 0 := by show (t.val - 1) % 2 = 0; omega
  have hst : gi s = gi t := Fin.ext (by
    show (grid0.coords s 0).val = (grid0.coords t 0).val
    rw [(coords_at s).1, (coords_at t).1]
    show (t.val - 1) / 2 = t.val / 2
    omega)
  have js : (gj s).val = 0 := (coords_at s).2.trans hs
  have jt : (gj t).val = 1 := (coords_at t).2.trans ht
  rw [outsAt0_B m c t (by omega) ht]
  dsimp only
  rw [outB_at]
  rw [show outsAt0 (F := Ideal) m c (t.val - 1) _ = _ from outsAt0_A m c s hs (by omega)]
  dsimp only
  rw [outA2_at, outA0_at]
  refine (congrArg₂ (fun a b : EReal => a + b) (congrArg₂ (fun a b : EReal => a + b) (blk0_at m c s r d) (half_at m c s s rfl r d)) (half_at m c s t hst r d)).trans ?_
  have hv : (gi s).val = (gi t).val := congrArg Fin.val hst
  show row (A0 m c) (512 * (gi s).val + r.val) d
      + (∑ f : Fin 1408, feat (A0 m c) (A1 m c) (A2 m c) (A3 m c) (A4 m c) (512 * (gi s).val + r.val)
          ⟨1408 * (gj s).val + f.val, _⟩ * A5 m c (ix2 (⟨1408 * (gj s).val + f.val, _⟩ : Fin 2816) d))
      + (∑ f : Fin 1408, feat (A0 m c) (A1 m c) (A2 m c) (A3 m c) (A4 m c) (512 * (gi t).val + r.val)
          ⟨1408 * (gj t).val + f.val, _⟩ * A5 m c (ix2 (⟨1408 * (gj t).val + f.val, _⟩ : Fin 2816) d))
    = row (A0 m c) (512 * (gi t).val + r.val) d + ∑ f : Fin 2816, feat (A0 m c) (A1 m c) (A2 m c) (A3 m c) (A4 m c)
        (512 * (gi t).val + r.val) f * A5 m c (ix2 f d)
  rw [add_assoc, hv]
  refine congrArg₂ (fun a b : EReal => a + b) rfl ?_
  refine Eq.trans ?_ (Fin.sum_univ_add (a := 1408) (b := 1408) fun f : Fin (1408 + 1408) =>
    feat (A0 m c) (A1 m c) (A2 m c) (A3 m c) (A4 m c) (512 * (gi t).val + r.val) f * A5 m c (ix2 (f : Fin 2816) d)).symm
  refine congrArg₂ (fun a b : EReal => a + b) (Finset.sum_congr rfl fun f _ => ?_) (Finset.sum_congr rfl fun f _ => ?_)
  · have e : (⟨1408 * (gj s).val + f.val, by rw [js]; omega⟩ : Fin 2816) = Fin.castAdd 1408 f := Fin.ext (by
      show 1408 * (gj s).val + f.val = f.val
      rw [js]; omega)
    rw [e]
  · have e : (⟨1408 * (gj t).val + f.val, by rw [jt]; omega⟩ : Fin 2816) = Fin.natAdd 1408 f := Fin.ext (by
      show 1408 * (gj t).val + f.val = 1408 + f.val
      rw [jt])
    rw [e]

/-- The result array after the run. -/
theorem arr_eq : (dats (F := Ideal) m 0 c).arrAt 7 cfg0.N = G (A0 m c) (A1 m c) (A2 m c) (A3 m c) (A4 m c) (A5 m c) := by
  refine (dats (F := Ideal) m 0 c).arrAt_eq_of_covers 7 _ (by decide +kernel) fun t hf y => ?_
  obtain ⟨r, d, rfl⟩ : ∃ (r : Fin 512) (d : Fin 1024), y = ix2 r d := ⟨y 0, y 1, eq_ix2 y⟩
  have ht := (flush0_7 t).mp hf
  blk_simp
  rw [after0_7, outs_at m c t ht]
  congr 1
  refine funext (Fin.forall_fin_two.mpr ⟨Fin.ext ?_, Fin.ext ?_⟩) <;> blk_simp [(idx t).2.2.2.2.2.2.2] <;> (try dsimp only) <;> omega

end Cert.Ffn

end
-- ==== Proof.FfnRef.lean ====
/- The channel mixer's reference read at an index. -/
module

public import proofs.«01_k».proof.Proof.FfnBlocks
public import proofs.«01_k».proof.Proof.Gen.Reference2Ideal.Run
public import Idealize.ShloMosaic.Lib.Pointwise

@[expose] public section

noncomputable section

namespace Cert.Ffn

open Cert.Reference2Ideal Cert.Reference2Ideal.Facts₀ Idealize.ShloMosaic Idealize.ShloMosaic.TcCoe

set_option maxRecDepth 16384

/-! ### The reference's arrays -/

/-- The normalized rows. -/
def hV (x : FVec Ideal S2x8192x1024 .f32) (g : FVec Ideal S1024 .f32) : FVec Ideal S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))

/-- The gate's projection. -/
def gV (h : FVec Ideal S2x8192x1024 .f32) (w : FVec Ideal S1024x2816 .f32) : FVec Ideal S2x8192x2816 .f32 :=
  Host.dotGeneral dot_S2x8192x1024_S1024x2816_S2x8192x2816_2_0_01_1_n_n none h w

/-- Two rows of zeros before every sequence. -/
def pV (y : FVec Ideal S2x8192x2816 .f32) : FVec Ideal S2x8194x2816 .f32 :=
  pad S2x8194x2816 ![0, 2, 0] ![0, 0, 0] ![0, 0, 0] y (sitofp .f32 (constantI S_ 32 0#32)) pads_S2x8192x2816_S2x8194x2816_000_200_000 h_S_

/-- The causal convolution of a padded array. -/
def cV (p : FVec Ideal S2x8194x2816 .f32) (w : FVec Ideal S3x2816 .f32) : FVec Ideal S2x8192x2816 .f32 :=
  addf (addf (mulf (broadcastInDim S2x8192x2816 ![0, 1, 2] bcast_S1x1x2816_S2x8192x2816_0_1_2 (broadcastInDim S1x1x2816 ![2] bcast_S2816_S1x1x2816_2 (shapeCast _ (extractStridedSlice S1x2816 ![0, 0] w slices_S3x2816_S1x2816_0_0) shapeCasts_S1x2816_S2816))) (extractStridedSlice S2x8192x2816 ![0, 0, 0] p slices_S2x8194x2816_S2x8192x2816_0_0_0))
    (mulf (broadcastInDim S2x8192x2816 ![0, 1, 2] bcast_S1x1x2816_S2x8192x2816_0_1_2 (broadcastInDim S1x1x2816 ![2] bcast_S2816_S1x1x2816_2 (shapeCast _ (extractStridedSlice S1x2816 ![1, 0] w slices_S3x2816_S1x2816_1_0) shapeCasts_S1x2816_S2816))) (extractStridedSlice S2x8192x2816 ![0, 1, 0] p slices_S2x8194x2816_S2x8192x2816_0_1_0)))
    (mulf (broadcastInDim S2x8192x2816 ![0, 1, 2] bcast_S1x1x2816_S2x8192x2816_0_1_2 (broadcastInDim S1x1x2816 ![2] bcast_S2816_S1x1x2816_2 (shapeCast _ (extractStridedSlice S1x2816 ![2, 0] w slices_S3x2816_S1x2816_2_0) shapeCasts_S1x2816_S2816))) (extractStridedSlice S2x8192x2816 ![0, 2, 0] p slices_S2x8194x2816_S2x8192x2816_0_2_0))

/-- The sigmoid-weighted unit. -/
def sV (y : FVec Ideal S2x8192x2816 .f32) : FVec Ideal S2x8192x2816 .f32 :=
  mulf y (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf y))))

/-- The result with batch and position in one axis. -/
def outV (x : FVec Ideal S2x8192x1024 .f32) (g : FVec Ideal S1024 .f32) (wg wu : FVec Ideal S1024x2816 .f32) (cw : FVec Ideal S3x2816 .f32)
    (wd : FVec Ideal S2816x1024 .f32) : FVec Ideal S16384x1024 .f32 :=
  shapeCast _ (addf x (Host.dotGeneral dot_S2x8192x2816_S2816x1024_S2x8192x1024_2_0_01_1_n_n none
    (mulf (sV (cV (pV (gV (hV x g) wg)) cw)) (gV (hV x g) wu)) wd)) shapeCasts_S2x8192x1024_S16384x1024

theorem res_eq (m : (ℓ : Loc nD τ sig) → Buf (Elt Ideal) ℓ) (c : Dev nD) :
    Cert.Reference2Ideal.Value.res_main_v40 (F := Ideal) m c = outV (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg5)) := rfl

section At

variable (x : S2x8192x1024.Idx → EReal) (g : S1024.Idx → EReal) (wg wu : S1024x2816.Idx → EReal) (cw : S3x2816.Idx → EReal)
  (wd : S2816x1024.Idx → EReal) (b : Fin 2) (t : Fin 8192)

theorem row_at (k : Fin 1024) : row x (8192 * b.val + t.val) k = x (ix3 b t k) := by
  unfold row
  rw [dif_pos (by omega)]
  congr 2 <;> apply Fin.ext <;> dsimp only <;> omega

theorem hV_at (k : Fin 1024) : hV x g (ix3 b t k) = nr x g (8192 * b.val + t.val) k := by
  pointwise [hV]
  unfold nr nrm
  simp only [row_at]

theorem gV_at (h : S2x8192x1024.Idx → EReal) (w : S1024x2816.Idx → EReal) (f : Fin 2816) :
    gV h w (ix3 b t f) = ∑ k : Fin 1024, h (ix3 b t k) * w (ix2 k f) := by
  pointwise [gV]

theorem pV_at (y : S2x8192x2816.Idx → EReal) (s : Fin 8194) (f : Fin 2816) :
    pV y (ix3 b s f) = if h : 2 ≤ s.val then y (ix3 b (⟨s.val - 2, by omega⟩ : Fin 8192) f) else 0 := by
  have hs := s.2
  have hb := b.2
  have hf := f.2
  pointwise [pV]
  by_cases h : 2 ≤ s.val
  · rw [dif_pos h, dif_pos ⟨h, by omega⟩]
  · rw [dif_neg h, dif_neg (fun hh => h hh.1)]
    show (((0#32 : BitVec 32).toInt : ℝ) : EReal) = 0
    simp

theorem cV_at (p : S2x8194x2816.Idx → EReal) (f : Fin 2816) :
    cV p cw (ix3 b t f) = cw (ix2 (0 : Fin 3) f) * p (ix3 b (⟨t.val, by omega⟩ : Fin 8194) f)
      + cw (ix2 (1 : Fin 3) f) * p (ix3 b (⟨t.val + 1, by omega⟩ : Fin 8194) f)
      + cw (ix2 (2 : Fin 3) f) * p (ix3 b (⟨t.val + 2, by omega⟩ : Fin 8194) f) := by
  pointwise [cV]
  simp only [Nat.add_comm]

theorem sV_at (y : S2x8192x2816.Idx → EReal) (j) : sV y j = y j * Ideal.logistic (y j) := by
  pointwise [sV]
  rfl

/-- The padded projection, `e` rows before a row. -/
theorem gate_at (e s : ℕ) (hs : s < 8194) (hse : s + e = t.val + 2) (he : e ≤ 2) (f : Fin 2816) :
    pV (gV (hV x g) wg) (ix3 b (⟨s, hs⟩ : Fin 8194) f) = gate x g wg (8192 * b.val + t.val) e f := by
  have ht := t.2
  rw [pV_at]
  unfold gate
  by_cases h : 2 ≤ s
  · rw [dif_pos h, if_pos (by omega), gV_at]
    refine Finset.sum_congr rfl fun k _ => ?_
    rw [hV_at]
    congr 2
    show 8192 * b.val + (s - 2) = _
    omega
  · rw [dif_neg h, if_neg (by omega)]

theorem outV_eq : outV x g wg wu cw wd = G x g wg wu cw wd := by
  funext j
  obtain ⟨n, d, rfl⟩ : ∃ (n : Fin 16384) (d : Fin 1024), j = ix2 n d := ⟨j 0, j 1, eq_ix2 j⟩
  unfold outV
  rw [cast_row]
  obtain ⟨b, t, hn⟩ : ∃ (b : Fin 2) (t : Fin 8192), n.val = 8192 * b.val + t.val :=
    ⟨⟨n.val / 8192, by omega⟩, ⟨n.val % 8192, by omega⟩, by dsimp only; omega⟩
  show _ = row x n.val d + ∑ f : Fin 2816, feat x g wg wu cw n.val f * wd (ix2 f d)
  rw [hn, row_at, row_at]
  pointwise
  refine congrArg₂ (fun a b : EReal => a + b) rfl (Finset.sum_congr rfl fun f _ => congrArg₂ (fun a b : EReal => a * b) ?_ rfl)
  rw [sV_at, cV_at, gate_at x g wg b t 2 t.val _ rfl (by omega), gate_at x g wg b t 1 (t.val + 1) _ (by omega) (by omega),
    gate_at x g wg b t 0 (t.val + 2) _ (by omega) (by omega), gV_at]
  simp only [hV_at]
  rfl

end At

end Cert.Ffn

end
-- ==== Proof.FfnClaims.lean ====
/- The claims about the channel mixer. -/
module

public import proofs.«01_k».proof.Defs
public import proofs.«01_k».proof.Proof.FfnRef
public import proofs.«01_k».proof.Proof.Gen.Kernel2Ideal.Frame

@[expose] public section

noncomputable section

namespace Cert.Ffn

open Idealize.ShloMosaic Idealize.SL.Sem

/-- The plain reference runs, leaves its arguments alone and ends with every counter at zero. -/
theorem frame_ri : Cert.quiescent_Reference2Ideal (hReference2Ideal := Cert.Reference2Ideal.Gen.facts) := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The kernel and the plain channel mixer end at the same function of the arguments. -/
theorem algebraic : Cert.algebraic_Kernel2Ideal_Reference2Ideal (hKernel2Ideal := Cert.Kernel2Ideal.Gen.facts)
    (hReference2Ideal := Cert.Reference2Ideal.Gen.facts) := by
  intro m ρ m' ρ' _ hag
  refine ⟨fun c => G (A0 m c) (A1 m c) (A2 m c) (A3 m c) (A4 m c) (A5 m c), ?_, ?_⟩
  · exact (θ_run Cert.Kernel2Ideal.defs _ _).mono
      (fun r h c => ⟨(h c).1.trans (arr_eq m c), (h c).2⟩) (Cert.Kernel2Ideal.Value.run_blocks m ρ)
  · refine (θ_run Cert.Reference2Ideal.defs _ _).mono (fun r h c => ⟨(h c).1.trans ?_, (h c).2⟩) (Cert.Reference2Ideal.Value.run m' ρ')
    obtain ⟨h0, h1, h2, h3, h4, h5⟩ := hag c
    rw [res_eq, outV_eq, h0, h1, h2, h3, h4, h5]

end Cert.Ffn

end
-- ==== Proof.InprojFrameIdeal.lean ====
/- The combined projection (idealized): what one run of its body leaves, the pipeline's proof data, the run of the whole call. -/
module

public import proofs.«01_k».proof.Proof.Gen.Kernel3Ideal.Frame
public import proofs.«01_k».proof.Proof.Gen.Kernel3Ideal.Skeleton
public import Idealize.ShloMosaic.Lib.Pipeline.TableIdle
public import Idealize.ShloMosaic.Lib.Pipeline.ValueKit
public import Idealize.ShloMosaic.Lib.VecWindow

@[expose] public section

set_option maxRecDepth 16384

noncomputable section

namespace Cert.Kernel3Ideal.Inproj

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where a grid point stands -/

/-- The body's first branch is taken at a row tile's first column tile. -/
abbrev first (i : grid0.Coords) : Prop :=
  (Scalar.cmpi .ne (Scalar.extui (Scalar.cmpi .eq (BitVec.ofNat 32 (i 1).val) 0#32)) 0#32) = 1#1

/-- At the points of the first column tile the first two branches are taken and the third is not. -/
theorem conds_first : ∀ t : Fin cfg0.N, t.val % 5 = 0 →
    first (grid0.coords t) ∧ k0_cond2 (grid0.coords t) = 1#1 ∧ ¬k0_cond3 (grid0.coords t) = 1#1 := by decide +kernel

/-- At the other points only the third branch is taken. -/
theorem conds_later : ∀ t : Fin cfg0.N, ¬t.val % 5 = 0 →
    ¬first (grid0.coords t) ∧ ¬k0_cond2 (grid0.coords t) = 1#1 ∧ k0_cond3 (grid0.coords t) = 1#1 := by decide +kernel

/-! ## One run of the body -/

set_option maxHeartbeats 1000000 in
/-- At the first column tile the body keeps the normalized rows and stores their product with the weights' tile in the first
result's block. -/
theorem run_first (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .bf16) (harg6 : arg6.IsWhole) (arg7 : Memref sig .tc .vmem S1024x1024 .bf16) (harg7 : arg7.IsWhole)
    (hc0 : first i) (hc1 : k0_cond2 i = 1#1) (hc2 : ¬k0_cond3 i = 1#1)
    (x0 : Vec F S1024x1024 .f32) (x1 : Vec F S1x1024 .f32) (x2 : Vec F S1024x2048 .bf16) (xi4 : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay2 (k0_pay1 x0 x1) x2) ∗ owns (c : Thread nD τ) arg6 fullShare xi4 ∗ owns (c : Thread nD τ) arg7 fullShare (k0_pay1 x0 x1)) -∗ K ⟨⟩))
      ⊢ wp frame (wpE (defs₀ (F := F)) Variants.none c none) E (cc0_inproj i arg2 harg2 arg3 harg3 arg4 harg4 arg5 harg5 arg6 harg6 arg7 harg7) K := by
  simp only [cc0_inproj_eq_skeleton]; unfold cc0_inproj_skel
  unfold owns
  iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
  obtain rfl := harg2.eq_unread hf0; obtain rfl := harg3.eq_unread hf1; obtain rfl := harg4.eq_unread hf2; obtain rfl := harg6.eq_unread hf4
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    frame_out
    exact View.read_writes_full _ _ _ _ _
  isplitl [H4]
  · iexists _; isplitr; · ipureintro; exact harg6.read_unread _
    iexact H4
  iexists _; isplitr
  swap; · iexact HS0
  ipureintro
  frame_out
  exact View.read_writes_full _ _ _ _ _

set_option maxHeartbeats 1000000 in
/-- At a later column tile the body stores the kept rows' product with the weights' tile, cast, in the second result's block and
leaves the first result's as it was. -/
theorem run_later (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1024x2048 .f32) (harg5 : arg5.IsWhole) (arg6 : Memref sig .tc .vmem S1024x2048 .bf16) (harg6 : arg6.IsWhole) (arg7 : Memref sig .tc .vmem S1024x1024 .bf16) (harg7 : arg7.IsWhole)
    (hc0 : ¬first i) (hc1 : ¬k0_cond2 i = 1#1) (hc2 : k0_cond3 i = 1#1)
    (x0 : Vec F S1024x1024 .f32) (x1 : Vec F S1x1024 .f32) (x2 : Vec F S1024x2048 .bf16) (xi3 : Vec F S1024x2048 .f32) (xs : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k0_pay3 xs x2) ∗ owns (c : Thread nD τ) arg7 fullShare xs) -∗ K ⟨⟩))
      ⊢ wp frame (wpE (defs₀ (F := F)) Variants.none c none) E (cc0_inproj i arg2 harg2 arg3 harg3 arg4 harg4 arg5 harg5 arg6 harg6 arg7 harg7) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2; obtain rfl := harg5.eq_unread hf3
  obtain rfl := harg7.eq_unread hfs
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    frame_out
    exact View.read_writes_full _ _ _ _ _
  iexists _; isplitr; · ipureintro; exact harg7.read_unread _
  iexact HS

/-! ## The pipeline's proof data -/

variable (m : (ℓ : Loc nD τ sig) → Buf (Elt F) ℓ) (ρ : Dev nD → PrngReg)

/-- The first point of a point's row tile. -/
def start (n : ℕ) (h : n < cfg0.N) : Fin cfg0.N := ⟨5 * (n / 5), by omega⟩

/-- A row tile's first point starts it. -/
theorem start_of_first (t : Fin cfg0.N) (h : t.val % 5 = 0) : start t.val t.isLt = t := Fin.ext (by dsimp only [start]; omega)

/-- Points of one row tile start at the same point. -/
theorem start_pred (t : Fin cfg0.N) (h : ¬t.val % 5 = 0) : start (t.val - 1) (by omega) = start t.val t.isLt :=
  Fin.ext (by dsimp only [start]; omega)

/-- The normalized rows kept through a row tile's points. -/
def kept (c : Dev nD) (s : Fin cfg0.N) : Vec F S1024x1024 .bf16 := k0_pay1 (iblk m c 0 s) (iblk m c 1 s)

/-- What the first result's block holds through a row tile's points. -/
def outA (c : Dev nD) (s : Fin cfg0.N) : Vec F S1024x2048 .f32 := k0_pay2 (kept m c s) (iblk m c 2 s)

/-- What the second result's block holds after a later column tile's point. -/
def outB (c : Dev nD) (s t : Fin cfg0.N) : Vec F S1024x2048 .bf16 := k0_pay3 (kept m c s) (iblk m c 2 t)

/-- The scratch is a whole buffer. -/
abbrev scr : Memref sig .tc .vmem S1024x1024 .bf16 := Memref.whole cc0_scratch0

/-- Before the first point the scratch holds anything; before a later point, the rows the point before kept. -/
def inv (c : Dev nD) : (n : ℕ) → n ≤ cfg0.N → sProp 𝕄
  | 0, _ => Pipeline.ΦA spec0 c
  | n + 1, hn => iprop(owns (c : Thread nD τ) scr fullShare (kept m c (start n hn)) ∗ (∃ r, prngReg c r))

/-- The launch's scoped rest, spelled out. -/
theorem rest_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; rfl

/-- Before the first point. -/
theorem inv_zero (c : Dev nD) (n : ℕ) (h : n ≤ cfg0.N) (hz : n = 0) : inv m c n h = Pipeline.ΦA spec0 c := by
  subst hz; rfl

/-- Before a later point. -/
theorem inv_pos (c : Dev nD) (n : ℕ) (h : n ≤ cfg0.N) (hz : n ≠ 0) :
    inv m c n h = iprop(owns (c : Thread nD τ) scr fullShare (kept m c (start (n - 1) (by omega))) ∗ (∃ r, prngReg c r)) := by
  cases n with
  | zero => exact absurd rfl hz
  | succ n => rfl

/-- The proof data: every window's buffer after each point, and what is kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outA m c (start t.val t.isLt)
    | ⟨4, _⟩ => outB m c (start t.val t.isLt) t
  Φ t := inv m c t.val (Nat.le_of_lt_succ t.isLt)
  q _ := fullShare
  owed _ := 0

/-- The arrays are those the region finds. -/
theorem A_eq (c : Dev nD) (w : Fin cfg0.W) : (dats m 0 c).A w = V m c (Pipeline.arrRef spec0 w) := by
  dsimp only [dats]

/-- The first result's block after a point. -/
theorem after_a (c : Dev nD) (t : Fin cfg0.N) : (dats m 0 c).after 3 t = outA m c (start t.val t.isLt) := by dsimp only [dats]

/-- The second result's block after a point. -/
theorem after_b (c : Dev nD) (t : Fin cfg0.N) : (dats m 0 c).after 4 t = outB m c (start t.val t.isLt) t := by dsimp only [dats]

/-- An input's buffer holds its block at every point. -/
theorem before_0 (c : Dev nD) (t : Fin cfg0.N) (d) : (dats m 0 c).before 0 t d = iblk m c 0 t :=
  before0_0_of m (dats m 0 c) (A_eq m c 0) (fun t => by dsimp only [dats]) t d

/-- An input's buffer holds its block at every point. -/
theorem before_1 (c : Dev nD) (t : Fin cfg0.N) (d) : (dats m 0 c).before 1 t d = iblk m c 1 t :=
  before0_1_of m (dats m 0 c) (A_eq m c 1) (fun t => by dsimp only [dats]) t d

/-- An input's buffer holds its block at every point. -/
theorem before_2 (c : Dev nD) (t : Fin cfg0.N) (d) : (dats m 0 c).before 2 t d = iblk m c 2 t :=
  before0_2_of m (dats m 0 c) (A_eq m c 2) (fun t => by dsimp only [dats]) t d

/-- Which results' blocks a row tile's first point leaves alone. -/
theorem idle_first : ∀ t : Fin cfg0.N, t.val % 5 = 0 →
    cfg0.idle 3 (grid0.coords t) = false ∧ cfg0.idle 4 (grid0.coords t) = true ∧ (cfg0.win 4).flush t = false := by decide +kernel

/-- Which results' blocks a later point leaves alone. -/
theorem idle_later : ∀ t : Fin cfg0.N, ¬t.val % 5 = 0 →
    cfg0.idle 3 (grid0.coords t) = true ∧ cfg0.idle 4 (grid0.coords t) = false := by decide +kernel

/-- Before which positions the first result's buffer holds nothing of the current row tile. -/
def fresh (n : ℕ) : Bool := n % 5 == 0

/-- `fresh` follows the pipeline's own step. -/
theorem fresh_step : ∀ t : Fin cfg0.N,
    fresh (t.val + 1) = ((cfg0.win 3).flush t || (cfg0.idle 3 (cfg0.grid.coords t) && fresh t.val)) := by decide +kernel

/-- `fresh` is the pipeline's. -/
theorem fresh_eq (t : Fin cfg0.N) : cfg0.fresh 3 t.val = fresh t.val :=
  Pipeline.Cfg.fresh_tab cfg0 3 fresh rfl fresh_step t.val (Nat.le_of_lt t.isLt)

/-- At a later point the first result's buffer holds what the row tile's first point stored. -/
theorem before_a (c : Dev nD) (t : Fin cfg0.N) (h : ¬t.val % 5 = 0) (d) :
    (dats m 0 c).before 3 t d = outA m c (start t.val t.isLt) := by
  rw [Dat.before_out_traj _ 3 rfl (fun _ _ => rfl) (fun s hs hi hf => by
      rw [after_a, after_a, ← start_pred s (fun h0 => by rw [(idle_first s h0).1] at hi; exact Bool.false_ne_true hi)]) t.val t rfl d,
    if_neg (by rw [fresh_eq]; simp only [fresh, beq_iff_eq]; exact h), after_a]
  exact congrArg _ (start_pred t h)

/-! ## The body at every point -/

/-- What the body finds. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

/-- What the body leaves. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- An input's buffer is left at its block. -/
theorem leaves_0 (c : Dev nD) (t : Fin cfg0.N) :
    (dats m 0 c).leavesExact 0 t = owns (c : Thread nD τ) (win0_0.stage (cfg0.slots t 0)) fullShare (iblk m c 0 t) := by
  unfold Dat.leavesExact; rw [show cfg0.idle 0 (grid0.coords t) = false from rfl]; dsimp only [dats]

/-- An input's buffer is left at its block. -/
theorem leaves_1 (c : Dev nD) (t : Fin cfg0.N) :
    (dats m 0 c).leavesExact 1 t = owns (c : Thread nD τ) (win0_1.stage (cfg0.slots t 1)) fullShare (iblk m c 1 t) := by
  unfold Dat.leavesExact; rw [show cfg0.idle 1 (grid0.coords t) = false from rfl]; dsimp only [dats]

/-- An input's buffer is left at its block. -/
theorem leaves_2 (c : Dev nD) (t : Fin cfg0.N) :
    (dats m 0 c).leavesExact 2 t = owns (c : Thread nD τ) (win0_2.stage (cfg0.slots t 2)) fullShare (iblk m c 2 t) := by
  unfold Dat.leavesExact; rw [show cfg0.idle 2 (grid0.coords t) = false from rfl]; dsimp only [dats]

/-- A result's buffer stored into is left at what the data say. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- At a later point the first result's buffer, left alone, is what the data say, written back there or not. -/
theorem leaves_a (c : Dev nD) (t : Fin cfg0.N) (h : ¬t.val % 5 = 0) :
    owns (c : Thread nD τ) (win0_3.stage (cfg0.slots t 3)) fullShare (outA m c (start t.val t.isLt)) ⊢ (dats m 0 c).leavesExact 3 t := by
  cases hf : (cfg0.win 3).flush t
  · rw [Dat.leavesExact_idle (dats m 0 c) 3 t (idle_later t h).1 hf]
    simp only [before_a m c t h]
    iintro H; iexists (outA m c (start t.val t.isLt)); iexact H
  · unfold Dat.leavesExact
    rw [(idle_later t h).1, hf, after_a]

set_option maxHeartbeats 3200000 in
/-- The body at a point, from what it finds to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, leaves_0, leaves_1, leaves_2]
  rw [show (dats m 0 c).owesAt () t.succ = (dats m 0 c).owesAt () t.castSucc from rfl]
  rw [show (dats m 0 c).Φ t.succ = inv m c (t.val + 1) t.isLt from rfl,
    show (dats m 0 c).Φ t.castSucc = inv m c t.val (Nat.le_of_lt t.isLt) from rfl]
  rw [show inv m c (t.val + 1) t.isLt = iprop(owns (c : Thread nD τ) scr fullShare (kept m c (start t.val t.isLt)) ∗ (∃ r, prngReg c r)) from rfl]
  by_cases h : t.val % 5 = 0
  · obtain ⟨hc0, hc1, hc2⟩ := conds_first t h
    rw [leaves_live m c 3 t (idle_first t h).1, Dat.leavesExact_idle (dats m 0 c) 4 t (idle_first t h).2.1 (idle_first t h).2.2,
      after_a, start_of_first t h]
    have hin : (inv m c t.val (Nat.le_of_lt t.isLt) : sProp 𝕄) ⊢ iprop((∃ d, owns (c : Thread nD τ) scr fullShare d) ∗ (∃ r, prngReg c r)) := by
      by_cases hz : t.val = 0
      · rw [inv_zero m c _ _ hz, rest_eq]
      · rw [inv_pos m c _ _ hz]
        iintro ⟨H, Hg⟩
        isplitl [H]; · iexists _; iexact H
        iexact Hg
    refine BIBase.Entails.trans (sep_mono hin .rfl) ?_
    iintro ⟨⟨HS, Hg⟩, Ho, ⟨%d0, H0⟩, ⟨%d1, H1⟩, ⟨%d2, H2⟩, ⟨%d3, H3⟩, ⟨%d4, H4⟩⟩
    iapply (run_first c (grid0.coords t) _ _ _ _ _ _ _ _ _ _ _ _ hc0 hc1 hc2 (iblk m c 0 t) (iblk m c 1 t) (iblk m c 2 t) _ Set.univ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexists _; iexact H4
  · obtain ⟨hc0, hc1, hc2⟩ := conds_later t h
    rw [leaves_live m c 4 t (idle_later t h).2, after_b, inv_pos m c _ _ (fun hz => h (by rw [hz])), start_pred t h]
    simp only [before_a m c t h]
    iintro ⟨⟨HS, Hg⟩, Ho, ⟨%d0, H0⟩, ⟨%d1, H1⟩, ⟨%d2, H2⟩, ⟨%d3, H3⟩, ⟨%d4, H4⟩⟩
    iapply (run_later c (grid0.coords t) _ _ _ _ _ _ _ _ _ _ _ _ hc0 hc1 hc2 (iblk m c 0 t) (iblk m c 1 t) (iblk m c 2 t) _ _ Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iapply (leaves_a m c t h); iexact H3
    iexact H4

/-- The body obligation at every point. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (sound_body m c t) rfl .rfl fun _ => .rfl

/-- What the launch hands over is what is kept before the first point. -/
theorem hin (c : Dev nD) : Pipeline.ΦA spec0 c ⊢ (dats m 0 c).Φ 0 := by
  rw [show (dats m 0 c).Φ 0 = inv m c 0 (Nat.zero_le _) from rfl, inv_zero m c 0 _ rfl]

/-- After the last point the launch gets it back. -/
theorem hout (c : Dev nD) : (dats m 0 c).Φ (Fin.last cfg0.N) ⊢ Pipeline.ΦA spec0 c := by
  have hN : cfg0.N = 80 := N_0
  rw [show (dats m 0 c).Φ (Fin.last cfg0.N) = inv m c cfg0.N (Nat.le_refl _) from rfl, inv_pos m c _ _ (by omega), rest_eq]
  iintro ⟨H, Hg⟩
  isplitl [H]; · iexists _; iexact H
  iexact Hg

/-! ## The run -/

set_option backward.isDefEq.respectTransparency.types false in
/-- The whole call's run: every array as the data say, every counter zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel3Ideal.Inproj

end
-- ==== Proof.InprojBlocks.lean ====
/- The combined projection: the kernel's two result arrays as functions of the launched arguments. -/
module

public import proofs.«01_k».proof.Proof.InprojFrameIdeal
public import proofs.«01_k».proof.Proof.FfnBlocks
public import Idealize.ShloMosaic.Lib.Pointwise
public import Idealize.ShloMosaic.Lib.Pipeline.ValueKit
public import Idealize.ShloMosaic.Lib.Pipeline.ValueKit.Point

@[expose] public section

noncomputable section

namespace Cert.Inproj

open Cert.Kernel3Ideal Cert.Kernel3Ideal.Gen Cert.Kernel3Ideal.Inproj Cert.Ffn Idealize.ShloMosaic Idealize.ShloMosaic.TcCoe

set_option maxRecDepth 16384

/-! ### The stored terms at an index -/

/-- The kept rows: every row normalized and scaled by the gains. -/
theorem keep_at (x : S1024x1024.Idx → EReal) (g : S1x1024.Idx → EReal) (r d : Fin 1024) :
    k0_pay1 (F := Ideal) x g (ix2 r d) = nrm (fun k => g (ix2 (0 : Fin 1) k)) (fun k => x (ix2 r k)) d := by
  pointwise [k0_pay1]
  rfl

/-- The first result's stored term: the matrix product of the kept rows with the weights' block. -/
theorem prod_at (h : S1024x1024.Idx → EReal) (w : S1024x2048.Idx → EReal) (r : Fin 1024) (f : Fin 2048) :
    k0_pay2 (F := Ideal) h w (ix2 r f) = ∑ k : Fin 1024, h (ix2 r k) * w (ix2 k f) := by
  pointwise [k0_pay2]

/-- The second result's stored term: the same product. -/
theorem prod_at' (h : S1024x1024.Idx → EReal) (w : S1024x2048.Idx → EReal) (r : Fin 1024) (f : Fin 2048) :
    k0_pay3 (F := Ideal) h w (ix2 r f) = ∑ k : Fin 1024, h (ix2 r k) * w (ix2 k f) := by
  pointwise [k0_pay3, k0_pay2]

variable (m : (ℓ : Loc nD τ sig) → Buf (Elt Ideal) ℓ) (c : Dev nD)

/-! ### Where the blocks stand -/

/-- Where each window's block stands at a grid point. -/
theorem idx : ∀ t : Fin cfg0.N,
    win0_0.index t = ![(grid0.coords t 0).val, 0]
    ∧ win0_1.index t = ![0, 0]
    ∧ win0_2.index t = ![0, (grid0.coords t 1).val]
    ∧ win0_3.index t = ![(grid0.coords t 0).val, 0]
    ∧ win0_4.index t = ![(grid0.coords t 0).val, (grid0.coords t 1).val - 1] := by
  decide +kernel

/-- The first column tile of a row tile: the same rows, the first columns. -/
theorem start_coords : ∀ t : Fin cfg0.N, (grid0.coords (start t.val t.isLt) 0).val = (grid0.coords t 0).val
    ∧ (grid0.coords (start t.val t.isLt) 1).val = 0 := by
  decide +kernel

/-- The second result's block is written back at a column tile past the first. -/
theorem flush_pos : ∀ t : Fin cfg0.N, (cfg0.win 4).flush t = true → 1 ≤ (grid0.coords t 1).val := by
  decide +kernel

theorem c0_lt (t : Fin cfg0.N) : (grid0.coords t 0).val < 16 := (grid0.coords t 0).2
theorem c1_lt (t : Fin cfg0.N) : (grid0.coords t 1).val < 5 := (grid0.coords t 1).2

/-- The row of the arrays at a tile's row. -/
abbrev rw0 (t : Fin cfg0.N) (r : Fin 1024) : Fin 16384 :=
  ⟨1024 * (grid0.coords t 0).val + r.val, by have := c0_lt t; omega⟩

/-- The column of the weights at a tile's column. -/
abbrev cl0 (t : Fin cfg0.N) (f : Fin 2048) : Fin 10240 :=
  ⟨2048 * (grid0.coords t 1).val + f.val, by have := c1_lt t; omega⟩

theorem emb0 (t : Fin cfg0.N) (r k : Fin 1024) : (win0_0.blk t).view.emb (ix2 r k) = ix2 (rw0 t r) k := by
  refine funext (Fin.forall_fin_two.mpr ⟨Fin.ext ?_, Fin.ext ?_⟩) <;> blk_simp [(idx t).1] <;> (try dsimp only) <;> omega

theorem emb2 (t : Fin cfg0.N) (k : Fin 1024) (f : Fin 2048) : (win0_2.blk t).view.emb (ix2 k f) = ix2 k (cl0 t f) := by
  refine funext (Fin.forall_fin_two.mpr ⟨Fin.ext ?_, Fin.ext ?_⟩) <;> blk_simp [(idx t).2.2.1] <;> (try dsimp only) <;> omega

theorem emb3 (t : Fin cfg0.N) (r : Fin 1024) (f : Fin 2048) : (win0_3.blk t).view.emb (ix2 r f) = ix2 (rw0 t r) f := by
  refine funext (Fin.forall_fin_two.mpr ⟨Fin.ext ?_, Fin.ext ?_⟩) <;> blk_simp [(idx t).2.2.2.1] <;> (try dsimp only) <;> omega

theorem emb4 (t : Fin cfg0.N) (r : Fin 1024) (f : Fin 2048) :
    (win0_4.blk t).view.emb (ix2 r f)
      = ix2 (rw0 t r) (⟨2048 * ((grid0.coords t 1).val - 1) + f.val, by have := c1_lt t; omega⟩ : Fin 8192) := by
  refine funext (Fin.forall_fin_two.mpr ⟨Fin.ext ?_, Fin.ext ?_⟩) <;> blk_simp [(idx t).2.2.2.2] <;> (try dsimp only) <;> omega

/-! ### The input blocks at an index -/

open Idealize.ShloMosaic.StableHlo in
/-- The rows the launch reads: the argument with batch and position in one axis. -/
theorem ent0 : V (F := Ideal) m c main_v0 = shapeCast S16384x1024 (m ((c : Thread nD τ).loc main_arg0)) shapeCasts_S2x8192x1024_S16384x1024 := by
  show StableHlo.after hostOps0 (fun b => m (c, b)) (Proc.tc.devRef main_v0) = _
  after_results <;> rfl

theorem blk0_at (t : Fin cfg0.N) (r k : Fin 1024) :
    (iblk (F := Ideal) m c 0 t : S1024x1024.Idx → EReal) (ix2 r k) = row (m ((c : Thread nD τ).loc main_arg0)) (rw0 t r).val k := by
  blk_simp [iblk, (idx t).1]
  rw [show V (F := Ideal) m c (Pipeline.arrRef spec0 0) = _ from ent0 m c]
  rw [emb0, cast_row]

theorem blk1_at (t : Fin cfg0.N) (k : Fin 1024) :
    (iblk (F := Ideal) m c 1 t : S1x1024.Idx → EReal) (ix2 (0 : Fin 1) k)
      = (m ((c : Thread nD τ).loc main_arg1) : S1024.Idx → EReal) (ix1 k) := by
  blk_simp [iblk, (idx t).2.1]
  entry_read
  pointwise
  blk_ext [iblk, V, (idx t).2.1]

theorem blk2_at (t : Fin cfg0.N) (k : Fin 1024) (f : Fin 2048) :
    (iblk (F := Ideal) m c 2 t : S1024x2048.Idx → EReal) (ix2 k f)
      = (m ((c : Thread nD τ).loc main_arg2) : S1024x10240.Idx → EReal) (ix2 k (cl0 t f)) := by
  have h1 := c1_lt t
  blk_simp [iblk, (idx t).2.2.1]
  rw [emb2]
  entry_read
  rfl

/-! ### The results as functions of the arguments -/

/-- The combined projection of row `n` at packed column `f`: the normalized row against the weights' column. -/
def pj (X : S2x8192x1024.Idx → EReal) (g : S1024.Idx → EReal) (w : S1024x10240.Idx → EReal) (n : ℕ) (f : Fin 10240) : EReal :=
  ∑ k : Fin 1024, nr X g n k * w (ix2 k f)

/-- The first result: the first 2048 columns. -/
def GA (X : S2x8192x1024.Idx → EReal) (g : S1024.Idx → EReal) (w : S1024x10240.Idx → EReal) : S16384x2048.Idx → EReal :=
  fun j => pj X g w (j 0).val (⟨(j 1).val, Nat.lt_of_lt_of_le (j 1).2 (by decide)⟩ : Fin 10240)

/-- The second result: the other 8192. -/
def GB (X : S2x8192x1024.Idx → EReal) (g : S1024.Idx → EReal) (w : S1024x10240.Idx → EReal) : S16384x8192.Idx → EReal :=
  fun j => pj X g w (j 0).val (⟨2048 + (j 1).val, Nat.add_lt_add_left (j 1).2 2048⟩ : Fin 10240)

/-- The rows a row tile keeps, at an index. -/
theorem kept_at (t : Fin cfg0.N) (r k : Fin 1024) :
    (kept (F := Ideal) m c (start t.val t.isLt) : S1024x1024.Idx → EReal) (ix2 r k)
      = nr (m ((c : Thread nD τ).loc main_arg0)) (m ((c : Thread nD τ).loc main_arg1)) (rw0 t r).val k := by
  refine (keep_at _ _ r k).trans ?_
  have e : (rw0 (start t.val t.isLt) r).val = (rw0 t r).val := by
    dsimp only
    rw [(start_coords t).1]
  unfold nr
  refine congrArg₂ (fun a b => nrm a b k) (funext fun d => blk1_at m c _ d) (funext fun d => (blk0_at m c _ r d).trans ?_)
  rw [e]

/-- The first result array after the run. -/
theorem arrA_eq : (dats (F := Ideal) m 0 c).arrAt 3 cfg0.N
    = GA (m ((c : Thread nD τ).loc main_arg0)) (m ((c : Thread nD τ).loc main_arg1)) (m ((c : Thread nD τ).loc main_arg2)) := by
  refine (dats (F := Ideal) m 0 c).arrAt_eq_of_covers 3 _ (by decide +kernel) fun t hf y => ?_
  obtain ⟨r, f, rfl⟩ : ∃ (r : Fin 1024) (f : Fin 2048), y = ix2 r f := ⟨y 0, y 1, eq_ix2 y⟩
  have key : (outA (F := Ideal) m c (start t.val t.isLt) : S1024x2048.Idx → EReal) (ix2 r f)
      = GA (m ((c : Thread nD τ).loc main_arg0)) (m ((c : Thread nD τ).loc main_arg1)) (m ((c : Thread nD τ).loc main_arg2)) (ix2 (rw0 t r) f) := by
    unfold GA pj
    refine (prod_at _ _ r f).trans (Finset.sum_congr rfl fun k _ => congrArg₂ (fun a b : EReal => a * b) (kept_at m c t r k) ?_)
    refine (blk2_at m c _ k f).trans (congrArg _ (congrArg (ix2 k) (Fin.ext ?_)))
    show 2048 * (grid0.coords (start t.val t.isLt) 1).val + f.val = f.val
    rw [(start_coords t).2]
    omega
  blk_simp
  rw [after_a, emb3]
  exact key

/-- The second result array after the run. -/
theorem arrB_eq : (dats (F := Ideal) m 0 c).arrAt 4 cfg0.N
    = GB (m ((c : Thread nD τ).loc main_arg0)) (m ((c : Thread nD τ).loc main_arg1)) (m ((c : Thread nD τ).loc main_arg2)) := by
  refine (dats (F := Ideal) m 0 c).arrAt_eq_of_covers 4 _ (by decide +kernel) fun t hf y => ?_
  obtain ⟨r, f, rfl⟩ : ∃ (r : Fin 1024) (f : Fin 2048), y = ix2 r f := ⟨y 0, y 1, eq_ix2 y⟩
  have h1 := c1_lt t
  have hp := flush_pos t hf
  have key : (outB (F := Ideal) m c (start t.val t.isLt) t : S1024x2048.Idx → EReal) (ix2 r f)
      = GB (m ((c : Thread nD τ).loc main_arg0)) (m ((c : Thread nD τ).loc main_arg1)) (m ((c : Thread nD τ).loc main_arg2))
        (ix2 (rw0 t r) (⟨2048 * ((grid0.coords t 1).val - 1) + f.val, by omega⟩ : Fin 8192)) := by
    unfold GB pj
    refine (prod_at' _ _ r f).trans (Finset.sum_congr rfl fun k _ => congrArg₂ (fun a b : EReal => a * b) (kept_at m c t r k) ?_)
    refine (blk2_at m c _ k f).trans (congrArg _ (congrArg (ix2 k) (Fin.ext ?_)))
    show 2048 * (grid0.coords t 1).val + f.val = 2048 + (2048 * ((grid0.coords t 1).val - 1) + f.val)
    omega
  blk_simp
  rw [after_b, emb4]
  exact key

end Cert.Inproj

end
-- ==== Proof.InprojRef.lean ====
/- The combined projection's reference read at an index. -/
module

public import proofs.«01_k».proof.Proof.InprojBlocks
public import proofs.«01_k».proof.Proof.FfnRef
public import proofs.«01_k».proof.Proof.Gen.Reference3Ideal.Run
public import Idealize.ShloMosaic.Lib.Pointwise

@[expose] public section

noncomputable section

namespace Cert.Inproj

open Cert.Reference3Ideal Cert.Reference3Ideal.Facts₀ Cert.Ffn Idealize.ShloMosaic Idealize.ShloMosaic.TcCoe

set_option maxRecDepth 16384

/-- The projection of every row, batch and position in one axis. -/
def pV (x : FVec Ideal S2x8192x1024 .f32) (g : FVec Ideal S1024 .f32) (w : FVec Ideal S1024x10240 .bf16) : FVec Ideal S16384x10240 .f32 :=
  shapeCast _ (Host.dotGeneral dot_S2x8192x1024_S1024x10240_S2x8192x10240_2_0_01_1_n_n none (hV x g) (extf .f32 w bitsLt_bf16_f32)) shapeCasts_S2x8192x10240_S16384x10240

/-- The first result. -/
def aV (x : FVec Ideal S2x8192x1024 .f32) (g : FVec Ideal S1024 .f32) (w : FVec Ideal S1024x10240 .bf16) : FVec Ideal S16384x2048 .f32 :=
  extractStridedSlice S16384x2048 ![0, 0] (pV x g w) slices_S16384x10240_S16384x2048_0_0

/-- The second result. -/
def bV (x : FVec Ideal S2x8192x1024 .f32) (g : FVec Ideal S1024 .f32) (w : FVec Ideal S1024x10240 .bf16) : FVec Ideal S16384x8192 .bf16 :=
  truncf .bf16 (extractStridedSlice S16384x8192 ![0, 2048] (pV x g w) slices_S16384x10240_S16384x8192_0_2048) bitsLt_bf16_f32

section At

variable (x : S2x8192x1024.Idx → EReal) (g : S1024.Idx → EReal) (w : S1024x10240.Idx → EReal)

theorem pV_at (n : Fin 16384) (f : Fin 10240) : pV x g w (ix2 n f) = pj x g w n.val f := by
  pointwise [pV]
  unfold pj
  refine Finset.sum_congr rfl fun k _ => congrArg₂ (fun a b : EReal => a * b) ((hV_at x g _ _ k).trans (congrArg (fun n => nr x g n k) ?_)) rfl
  dsimp only
  omega

theorem aV_eq : aV x g w = GA x g w := by
  funext j
  obtain ⟨r, f, rfl⟩ : ∃ (r : Fin 16384) (f : Fin 2048), j = ix2 r f := ⟨j 0, j 1, eq_ix2 j⟩
  pointwise [aV]
  rw [pV_at]
  rfl

theorem bV_eq : bV x g w = GB x g w := by
  funext j
  obtain ⟨r, f, rfl⟩ : ∃ (r : Fin 16384) (f : Fin 8192), j = ix2 r f := ⟨j 0, j 1, eq_ix2 j⟩
  pointwise [bV]
  rw [pV_at]
  exact congrArg (pj x g w r.val) (Fin.ext rfl)

end At

end Cert.Inproj

end
-- ==== Proof.InprojClaims.lean ====
/- The claims about the combined projection. -/
module

public import proofs.«01_k».proof.Defs
public import proofs.«01_k».proof.Proof.InprojRef
public import proofs.«01_k».proof.Proof.InprojFrame

@[expose] public section

noncomputable section

namespace Cert.Inproj

open Idealize.ShloMosaic Idealize.SL.Sem

/-- The plain reference runs, leaves its arguments alone and ends with every counter at zero. -/
theorem frame_ri : Cert.quiescent_Reference3Ideal (hReference3Ideal := Cert.Reference3Ideal.Gen.facts) := fun m ρ _ =>
  (θ_run Cert.Reference3Ideal.defs _ _).mono (fun r h => ⟨fun c => (h c).2.2,
      Idealize.ShloMosaic.sem_eq_zero_of_no_sems (by decide) r.2⟩)
    (Cert.Reference3Ideal.Value.run (F := Ideal) m ρ)

/-- The kernel and the plain projection end at the same two functions of the arguments. -/
theorem algebraic : Cert.algebraic_Kernel3Ideal_Reference3Ideal (hKernel3Ideal := Cert.Kernel3Ideal.Gen.facts)
    (hReference3Ideal := Cert.Reference3Ideal.Gen.facts) := by
  intro m ρ m' ρ' _ hag
  refine ⟨fun c => GA (m (c.tc.loc Cert.Kernel3Ideal.main_arg0)) (m (c.tc.loc Cert.Kernel3Ideal.main_arg1)) (m (c.tc.loc Cert.Kernel3Ideal.main_arg2)),
    fun c => GB (m (c.tc.loc Cert.Kernel3Ideal.main_arg0)) (m (c.tc.loc Cert.Kernel3Ideal.main_arg1)) (m (c.tc.loc Cert.Kernel3Ideal.main_arg2)), ?_, ?_⟩
  · exact (θ_run Cert.Kernel3Ideal.defs _ _).mono
      (fun r h c => ⟨((h.1.1 c).1 3).trans (arrA_eq m c), ((h.1.1 c).1 4).trans (arrB_eq m c), h.2.1 c⟩)
      (θ_run_and (Cert.Kernel3Ideal.Inproj.run_main m ρ) (Cert.Kernel3Ideal.Inproj.frame m ρ))
  · refine (θ_run Cert.Reference3Ideal.defs _ _).mono (fun r h c => ⟨(h c).1.trans ?_, (h c).2.1.trans ?_, (h c).2.2⟩) (Cert.Reference3Ideal.Value.run m' ρ')
    · obtain ⟨h0, h1, h2⟩ := hag c
      refine (aV_eq _ _ _).trans ?_
      rw [h0, h1, h2]
    · obtain ⟨h0, h1, h2⟩ := hag c
      refine (bV_eq _ _ _).trans ?_
      rw [h0, h1, h2]

end Cert.Inproj

end
-- ==== Proof.MergeBlocks.lean ====
/- The branches' merge: the kernel's result array as one function of the launched arguments. -/
module

public import proofs.«01_k».proof.Proof.Gen.Kernel4Ideal.Value
public import Idealize.ShloMosaic.Lib.Pointwise
public import Idealize.ShloMosaic.Lib.Pipeline.ValueKit
public import Idealize.ShloMosaic.Lib.Pipeline.ValueKit.Point

@[expose] public section

noncomputable section

namespace Cert.Merge

open Cert.Kernel4Ideal Cert.Kernel4Ideal.Gen Idealize.ShloMosaic Idealize.ShloMosaic.TcCoe

set_option maxRecDepth 16384

/-- One branch's gated projection. -/
def term (a : EReal) (o : Fin 512 → EReal) (w : Fin 512 → EReal) : EReal := Ideal.logistic a * ∑ k : Fin 512, o k * w k

/-- What a grid point stores. -/
theorem out_at (x0 : S512x1024.Idx → EReal) (x1 x2 x3 x4 : S512x512.Idx → EReal) (x5 x6 x7 x8 : S512x1024.Idx → EReal) (x9 : S4x1024.Idx → EReal)
    (x10 x11 x12 x13 : S512x1024.Idx → EReal) (x14 : S1024x1024.Idx → EReal) (r : Fin 512) (d : Fin 1024) :
    out0_15 (F := Ideal) x0 x1 x2 x3 x4 x5 x6 x7 x8 x9 x10 x11 x12 x13 x14 (ix2 r d)
      = x0 (ix2 r d) + ∑ e : Fin 1024, (term (x5 (ix2 r e) + x9 (ix2 (0 : Fin 4) e)) (fun k => x1 (ix2 r k)) (fun k => x10 (ix2 k e))
          + term (x6 (ix2 r e) + x9 (ix2 (1 : Fin 4) e)) (fun k => x2 (ix2 r k)) (fun k => x11 (ix2 k e))
          + term (x7 (ix2 r e) + x9 (ix2 (2 : Fin 4) e)) (fun k => x3 (ix2 r k)) (fun k => x12 (ix2 k e))
          + term (x8 (ix2 r e) + x9 (ix2 (3 : Fin 4) e)) (fun k => x4 (ix2 r k)) (fun k => x13 (ix2 k e))) * x14 (ix2 e d) := by
  frame_out
  pointwise [k0_pay1, k0_pay2, k0_pay3, k0_pay4]
  rfl

variable (m : (ℓ : Loc nD τ sig) → Buf (Elt Ideal) ℓ) (c : Dev nD)

/-- Where each window's block stands at a grid point. -/
theorem idx : ∀ t : Fin cfg0.N,
    win0_0.index t = ![(grid0.coords t 0).val, 0]
    ∧ win0_1.index t = ![(grid0.coords t 0).val, 0]
    ∧ win0_2.index t = ![(grid0.coords t 0).val, 0]
    ∧ win0_3.index t = ![(grid0.coords t 0).val, 0]
    ∧ win0_4.index t = ![(grid0.coords t 0).val, 0]
    ∧ win0_5.index t = ![(grid0.coords t 0).val, 4]
    ∧ win0_6.index t = ![(grid0.coords t 0).val, 5]
    ∧ win0_7.index t = ![(grid0.coords t 0).val, 6]
    ∧ win0_8.index t = ![(grid0.coords t 0).val, 7]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![(grid0.coords t 0).val, 0] := by
  decide +kernel

/-- The row of the arrays at a tile's row. -/
abbrev rw0 (t : Fin cfg0.N) (r : Fin 512) : Fin 16384 :=
  ⟨512 * (grid0.coords t 0).val + r.val, by have : (grid0.coords t 0).val < 32 := (grid0.coords t 0).2; omega⟩

theorem blk0_at (t : Fin cfg0.N) (r : Fin 512) (k : Fin 1024) :
    (iblk (F := Ideal) m c 0 t : S512x1024.Idx → EReal) (ix2 r k)
      = (m ((c : Thread nD τ).loc main_arg0) : S16384x1024.Idx → EReal) (ix2 (rw0 t r) k) := by
  have h0 : (grid0.coords t 0).val < 32 := (grid0.coords t 0).2
  blk_simp [iblk, (idx t).1]
  entry_read
  pointwise
  blk_ext [iblk, V, (idx t).1]

theorem blk1_at (t : Fin cfg0.N) (r : Fin 512) (k : Fin 512) :
    (iblk (F := Ideal) m c 1 t : S512x512.Idx → EReal) (ix2 r k)
      = (m ((c : Thread nD τ).loc main_arg1) : S16384x512.Idx → EReal) (ix2 (rw0 t r) k) := by
  have h0 : (grid0.coords t 0).val < 32 := (grid0.coords t 0).2
  blk_simp [iblk, (idx t).2.1]
  entry_read
  pointwise
  blk_ext [iblk, V, (idx t).2.1]

theorem blk2_at (t : Fin cfg0.N) (r : Fin 512) (k : Fin 512) :
    (iblk (F := Ideal) m c 2 t : S512x512.Idx → EReal) (ix2 r k)
      = (m ((c : Thread nD τ).loc main_arg2) : S16384x512.Idx → EReal) (ix2 (rw0 t r) k) := by
  have h0 : (grid0.coords t 0).val < 32 := (grid0.coords t 0).2
  blk_simp [iblk, (idx t).2.2.1]
  entry_read
  pointwise
  blk_ext [iblk, V, (idx t).2.2.1]

theorem blk3_at (t : Fin cfg0.N) (r : Fin 512) (k : Fin 512) :
    (iblk (F := Ideal) m c 3 t : S512x512.Idx → EReal) (ix2 r k)
      = (m ((c : Thread nD τ).loc main_arg3) : S16384x512.Idx → EReal) (ix2 (rw0 t r) k) := by
  have h0 : (grid0.coords t 0).val < 32 := (grid0.coords t 0).2
  blk_simp [iblk, (idx t).2.2.2.1]
  entry_read
  pointwise
  blk_ext [iblk, V, (idx t).2.2.2.1]

theorem blk4_at (t : Fin cfg0.N) (r : Fin 512) (k : Fin 512) :
    (iblk (F := Ideal) m c 4 t : S512x512.Idx → EReal) (ix2 r k)
      = (m ((c : Thread nD τ).loc main_arg4) : S16384x512.Idx → EReal) (ix2 (rw0 t r) k) := by
  have h0 : (grid0.coords t 0).val < 32 := (grid0.coords t 0).2
  blk_simp [iblk, (idx t).2.2.2.2.1]
  entry_read
  pointwise
  blk_ext [iblk, V, (idx t).2.2.2.2.1]

theorem blk5_at (t : Fin cfg0.N) (r : Fin 512) (k : Fin 1024) :
    (iblk (F := Ideal) m c 5 t : S512x1024.Idx → EReal) (ix2 r k)
      = (m ((c : Thread nD τ).loc main_arg5) : S16384x8192.Idx → EReal) (ix2 (rw0 t r) (⟨4096 + k.val, by omega⟩ : Fin 8192)) := by
  have h0 : (grid0.coords t 0).val < 32 := (grid0.coords t 0).2
  blk_simp [iblk, (idx t).2.2.2.2.2.1]
  entry_read
  pointwise
  blk_ext [iblk, V, (idx t).2.2.2.2.2.1]

theorem blk6_at (t : Fin cfg0.N) (r : Fin 512) (k : Fin 1024) :
    (iblk (F := Ideal) m c 6 t : S512x1024.Idx → EReal) (ix2 r k)
      = (m ((c : Thread nD τ).loc main_arg5) : S16384x8192.Idx → EReal) (ix2 (rw0 t r) (⟨5120 + k.val, by omega⟩ : Fin 8192)) := by
  have h0 : (grid0.coords t 0).val < 32 := (grid0.coords t 0).2
  blk_simp [iblk, (idx t).2.2.2.2.2.2.1]
  entry_read
  pointwise
  blk_ext [iblk, V, (idx t).2.2.2.2.2.2.1]

theorem blk7_at (t : Fin cfg0.N) (r : Fin 512) (k : Fin 1024) :
    (iblk (F := Ideal) m c 7 t : S512x1024.Idx → EReal) (ix2 r k)
      = (m ((c : Thread nD τ).loc main_arg5) : S16384x8192.Idx → EReal) (ix2 (rw0 t r) (⟨6144 + k.val, by omega⟩ : Fin 8192)) := by
  have h0 : (grid0.coords t 0).val < 32 := (grid0.coords t 0).2
  blk_simp [iblk, (idx t).2.2.2.2.2.2.2.1]
  entry_read
  pointwise
  blk_ext [iblk, V, (idx t).2.2.2.2.2.2.2.1]

theorem blk8_at (t : Fin cfg0.N) (r : Fin 512) (k : Fin 1024) :
    (iblk (F := Ideal) m c 8 t : S512x1024.Idx → EReal) (ix2 r k)
      = (m ((c : Thread nD τ).loc main_arg5) : S16384x8192.Idx → EReal) (ix2 (rw0 t r) (⟨7168 + k.val, by omega⟩ : Fin 8192)) := by
  have h0 : (grid0.coords t 0).val < 32 := (grid0.coords t 0).2
  blk_simp [iblk, (idx t).2.2.2.2.2.2.2.2.1]
  entry_read
  pointwise
  blk_ext [iblk, V, (idx t).2.2.2.2.2.2.2.2.1]

theorem blk9_at (t : Fin cfg0.N) (r : Fin 4) (k : Fin 1024) :
    (iblk (F := Ideal) m c 9 t : S4x1024.Idx → EReal) (ix2 r k)
      = (m ((c : Thread nD τ).loc main_arg6) : S4096.Idx → EReal) (ix1 (⟨1024 * r.val + k.val, by omega⟩ : Fin 4096)) := by
  have h0 : (grid0.coords t 0).val < 32 := (grid0.coords t 0).2
  blk_simp [iblk, (idx t).2.2.2.2.2.2.2.2.2.1]
  entry_read
  pointwise
  blk_ext [iblk, V, (idx t).2.2.2.2.2.2.2.2.2.1]

theorem blk10_at (t : Fin cfg0.N) (r : Fin 512) (k : Fin 1024) :
    (iblk (F := Ideal) m c 10 t : S512x1024.Idx → EReal) (ix2 r k)
      = (m ((c : Thread nD τ).loc main_arg7) : S512x1024.Idx → EReal) (ix2 r k) := by
  have h0 : (grid0.coords t 0).val < 32 := (grid0.coords t 0).2
  blk_simp [iblk, (idx t).2.2.2.2.2.2.2.2.2.2.1]
  entry_read
  pointwise
  blk_ext [iblk, V, (idx t).2.2.2.2.2.2.2.2.2.2.1]

theorem blk11_at (t : Fin cfg0.N) (r : Fin 512) (k : Fin 1024) :
    (iblk (F := Ideal) m c 11 t : S512x1024.Idx → EReal) (ix2 r k)
      = (m ((c : Thread nD τ).loc main_arg8) : S512x1024.Idx → EReal) (ix2 r k) := by
  have h0 : (grid0.coords t 0).val < 32 := (grid0.coords t 0).2
  blk_simp [iblk, (idx t).2.2.2.2.2.2.2.2.2.2.2.1]
  entry_read
  pointwise
  blk_ext [iblk, V, (idx t).2.2.2.2.2.2.2.2.2.2.2.1]

theorem blk12_at (t : Fin cfg0.N) (r : Fin 512) (k : Fin 1024) :
    (iblk (F := Ideal) m c 12 t : S512x1024.Idx → EReal) (ix2 r k)
      = (m ((c : Thread nD τ).loc main_arg9) : S512x1024.Idx → EReal) (ix2 r k) := by
  have h0 : (grid0.coords t 0).val < 32 := (grid0.coords t 0).2
  blk_simp [iblk, (idx t).2.2.2.2.2.2.2.2.2.2.2.2.1]
  entry_read
  pointwise
  blk_ext [iblk, V, (idx t).2.2.2.2.2.2.2.2.2.2.2.2.1]

theorem blk13_at (t : Fin cfg0.N) (r : Fin 512) (k : Fin 1024) :
    (iblk (F := Ideal) m c 13 t : S512x1024.Idx → EReal) (ix2 r k)
      = (m ((c : Thread nD τ).loc main_arg10) : S512x1024.Idx → EReal) (ix2 r k) := by
  have h0 : (grid0.coords t 0).val < 32 := (grid0.coords t 0).2
  blk_simp [iblk, (idx t).2.2.2.2.2.2.2.2.2.2.2.2.2.1]
  entry_read
  pointwise
  blk_ext [iblk, V, (idx t).2.2.2.2.2.2.2.2.2.2.2.2.2.1]

theorem blk14_at (t : Fin cfg0.N) (r : Fin 1024) (k : Fin 1024) :
    (iblk (F := Ideal) m c 14 t : S1024x1024.Idx → EReal) (ix2 r k)
      = (m ((c : Thread nD τ).loc main_arg11) : S1024x1024.Idx → EReal) (ix2 r k) := by
  have h0 : (grid0.coords t 0).val < 32 := (grid0.coords t 0).2
  blk_simp [iblk, (idx t).2.2.2.2.2.2.2.2.2.2.2.2.2.2.1]
  entry_read
  pointwise
  blk_ext [iblk, V, (idx t).2.2.2.2.2.2.2.2.2.2.2.2.2.2.1]

/-! ### The result as a function of the arguments -/

/-- One branch at a row and a column: the gate's column `1024 * n + e`. -/
def br (o : S16384x512.Idx → EReal) (p : S16384x8192.Idx → EReal) (bg : S4096.Idx → EReal) (w : S512x1024.Idx → EReal) (n : Fin 4)
    (r : Fin 16384) (e : Fin 1024) : EReal :=
  term (p (ix2 r (⟨4096 + (1024 * n.val + e.val), by omega⟩ : Fin 8192)) + bg (ix1 (⟨1024 * n.val + e.val, by omega⟩ : Fin 4096)))
    (fun k => o (ix2 r k)) (fun k => w (ix2 k e))

/-- The merge's output. -/
def G (x : S16384x1024.Idx → EReal) (oa ob oc od : S16384x512.Idx → EReal) (p : S16384x8192.Idx → EReal) (bg : S4096.Idx → EReal)
    (wa wb wc wd : S512x1024.Idx → EReal) (wm : S1024x1024.Idx → EReal) : S16384x1024.Idx → EReal := fun j =>
  x (ix2 (j 0) (j 1)) + ∑ e : Fin 1024, (br oa p bg wa 0 (j 0) e + br ob p bg wb 1 (j 0) e + br oc p bg wc 2 (j 0) e + br od p bg wd 3 (j 0) e)
    * wm (ix2 e (j 1))

/-- The output at the launched arguments. -/
abbrev GA : S16384x1024.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- The result array after the run. -/
theorem arr_eq : (dats (F := Ideal) m 0 c).arrAt 15 cfg0.N = GA m c := by
  refine (dats (F := Ideal) m 0 c).arrAt_eq_of_covers 15 _ (by decide +kernel) fun t hf y => ?_
  obtain ⟨r, d, rfl⟩ : ∃ (r : Fin 512) (d : Fin 1024), y = ix2 r d := ⟨y 0, y 1, eq_ix2 y⟩
  have e15 : (win0_15.blk t).view.emb (ix2 r d) = ix2 (rw0 t r) d := by
    refine funext (Fin.forall_fin_two.mpr ⟨Fin.ext ?_, Fin.ext ?_⟩) <;> blk_simp [(idx t).2.2.2.2.2.2.2.2.2.2.2.2.2.2.2] <;> (try dsimp only) <;> omega
  have key : out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r d)
      = GA m c (ix2 (rw0 t r) d) := by
    refine (out_at _ _ _ _ _ _ _ _ _ _ _ _ _ _ _ r d).trans ?_
    refine congrArg₂ (fun a b : EReal => a + b) (blk0_at m c t r d) (Finset.sum_congr rfl fun e _ =>
      congrArg₂ (fun a b : EReal => a * b) ?_ (blk14_at m c t e d))
    refine congrArg₂ (fun a b : EReal => a + b) (congrArg₂ (fun a b : EReal => a + b) (congrArg₂ (fun a b : EReal => a + b) ?_ ?_) ?_) ?_
    · exact congr (congr (congrArg term (congrArg₂ (fun a b : EReal => a + b) ((blk5_at m c t r e).trans (congrArg _ (congrArg (ix2 _) (Fin.ext (by dsimp only; omega))))) (blk9_at m c t 0 e)))
        (funext fun k => blk1_at m c t r k)) (funext fun k => blk10_at m c t k e)
    · exact congr (congr (congrArg term (congrArg₂ (fun a b : EReal => a + b) ((blk6_at m c t r e).trans (congrArg _ (congrArg (ix2 _) (Fin.ext (by dsimp only; omega))))) (blk9_at m c t 1 e)))
        (funext fun k => blk2_at m c t r k)) (funext fun k => blk11_at m c t k e)
    · exact congr (congr (congrArg term (congrArg₂ (fun a b : EReal => a + b) ((blk7_at m c t r e).trans (congrArg _ (congrArg (ix2 _) (Fin.ext (by dsimp only; omega))))) (blk9_at m c t 2 e)))
        (funext fun k => blk3_at m c t r k)) (funext fun k => blk12_at m c t k e)
    · exact congr (congr (congrArg term (congrArg₂ (fun a b : EReal => a + b) ((blk8_at m c t r e).trans (congrArg _ (congrArg (ix2 _) (Fin.ext (by dsimp only; omega))))) (blk9_at m c t 3 e)))
        (funext fun k => blk4_at m c t r k)) (funext fun k => blk13_at m c t k e)
  blk_simp
  rw [after0_15, e15]
  exact key

end Cert.Merge

end
-- ==== Proof.MergeRef.lean ====
/- The merge's reference read at an index. -/
module

public import proofs.«01_k».proof.Proof.MergeBlocks
public import proofs.«01_k».proof.Proof.Gen.Reference4Ideal.Run
public import Idealize.ShloMosaic.Lib.Pointwise

@[expose] public section

noncomputable section

namespace Cert.Merge

open Cert.Reference4Ideal Cert.Reference4Ideal.Facts₀ Idealize.ShloMosaic Idealize.ShloMosaic.TcCoe

set_option maxRecDepth 16384

/-! ### The reference's arrays -/

/-- All gates, the branch an axis of its own. -/
def gV (p : FVec Ideal S16384x8192 .bf16) (bg : FVec Ideal S4096 .f32) : FVec Ideal S16384x4x1024 .f32 :=
  shapeCast _ (Host.divf (broadcastInDim S16384x4096 ![] bcast_S_S16384x4096 (constant S_ .f32 0x3F800000#32)) (addf (broadcastInDim S16384x4096 ![] bcast_S_S16384x4096 (constant S_ .f32 0x3F800000#32)) (Host.exp (Host.negf (addf (extf .f32 (extractStridedSlice S16384x4096 ![0, 4096] p slices_S16384x8192_S16384x4096_0_4096) bitsLt_bf16_f32) (broadcastInDim S16384x4096 ![0, 1] bcast_S1x4096_S16384x4096_0_1 (broadcastInDim S1x4096 ![1] bcast_S4096_S1x4096_1 bg))))))) shapeCasts_S16384x4096_S16384x4x1024

/-- One branch's output projection. -/
def yV (o : FVec Ideal S16384x512 .bf16) (w : FVec Ideal S512x1024 .f32) : FVec Ideal S16384x1024 .f32 :=
  Host.dotGeneral dot_S16384x512_S512x1024_S16384x1024_1_0_0_1_n_n none (extf .f32 o bitsLt_bf16_f32) w

/-- The result. -/
def outV (x : FVec Ideal S16384x1024 .f32) (oa ob oc od : FVec Ideal S16384x512 .bf16) (p : FVec Ideal S16384x8192 .bf16)
    (bg : FVec Ideal S4096 .f32) (wa wb wc wd : FVec Ideal S512x1024 .f32) (wm : FVec Ideal S1024x1024 .f32) : FVec Ideal S16384x1024 .f32 :=
  addf x (Host.dotGeneral dot_S16384x1024_S1024x1024_S16384x1024_1_0_0_1_n_n none
    (addf (addf (addf
      (mulf (shapeCast _ (extractStridedSlice S16384x1x1024 ![0, 0, 0] (gV p bg) slices_S16384x4x1024_S16384x1x1024_0_0_0) shapeCasts_S16384x1x1024_S16384x1024) (yV oa wa))
      (mulf (shapeCast _ (extractStridedSlice S16384x1x1024 ![0, 1, 0] (gV p bg) slices_S16384x4x1024_S16384x1x1024_0_1_0) shapeCasts_S16384x1x1024_S16384x1024) (yV ob wb)))
      (mulf (shapeCast _ (extractStridedSlice S16384x1x1024 ![0, 2, 0] (gV p bg) slices_S16384x4x1024_S16384x1x1024_0_2_0) shapeCasts_S16384x1x1024_S16384x1024) (yV oc wc)))
      (mulf (shapeCast _ (extractStridedSlice S16384x1x1024 ![0, 3, 0] (gV p bg) slices_S16384x4x1024_S16384x1x1024_0_3_0) shapeCasts_S16384x1x1024_S16384x1024) (yV od wd))) wm)

section At

variable (x : S16384x1024.Idx → EReal) (oa ob oc od : S16384x512.Idx → EReal) (p : S16384x8192.Idx → EReal) (bg : S4096.Idx → EReal)
  (wa wb wc wd : S512x1024.Idx → EReal) (wm : S1024x1024.Idx → EReal)

theorem gV_at (r : Fin 16384) (n : Fin 4) (e : Fin 1024) :
    gV p bg (ix3 r n e) = Ideal.logistic (p (ix2 r (⟨4096 + (1024 * n.val + e.val), by omega⟩ : Fin 8192))
      + bg (ix1 (⟨1024 * n.val + e.val, by omega⟩ : Fin 4096))) := by
  pointwise [gV]
  simp only [Nat.mul_comm 1024]
  rfl

theorem yV_at (o : S16384x512.Idx → EReal) (w : S512x1024.Idx → EReal) (r : Fin 16384) (e : Fin 1024) :
    yV o w (ix2 r e) = ∑ k : Fin 512, o (ix2 r k) * w (ix2 k e) := by
  pointwise [yV]

theorem outV_eq : outV x oa ob oc od p bg wa wb wc wd wm = G x oa ob oc od p bg wa wb wc wd wm := by
  funext j
  obtain ⟨r, d, rfl⟩ : ∃ (r : Fin 16384) (d : Fin 1024), j = ix2 r d := ⟨j 0, j 1, eq_ix2 j⟩
  pointwise [outV]
  simp only [gV_at, yV_at]
  rfl

end At

end Cert.Merge

end
-- ==== Proof.MergeClaims.lean ====
/- The claims about the merge. -/
module

public import proofs.«01_k».proof.Defs
public import proofs.«01_k».proof.Proof.MergeRef
public import proofs.«01_k».proof.Proof.Gen.Kernel4Ideal.Frame

@[expose] public section

noncomputable section

namespace Cert.Merge

open Idealize.ShloMosaic Idealize.SL.Sem

/-- The plain reference runs, leaves its arguments alone and ends with every counter at zero. -/
theorem frame_ri : Cert.quiescent_Reference4Ideal (hReference4Ideal := Cert.Reference4Ideal.Gen.facts) := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The kernel and the plain merge end at the same function of the arguments. -/
theorem algebraic : Cert.algebraic_Kernel4Ideal_Reference4Ideal (hKernel4Ideal := Cert.Kernel4Ideal.Gen.facts)
    (hReference4Ideal := Cert.Reference4Ideal.Gen.facts) := by
  intro m ρ m' ρ' _ hag
  refine ⟨GA m, ?_, ?_⟩
  · exact (θ_run Cert.Kernel4Ideal.defs _ _).mono
      (fun r h c => ⟨(h c).1.trans (arr_eq m c), (h c).2⟩) (Cert.Kernel4Ideal.Value.run_blocks m ρ)
  · refine (θ_run Cert.Reference4Ideal.defs _ _).mono (fun r h c => ⟨(h c).1.trans ?_, (h c).2⟩) (Cert.Reference4Ideal.Value.run m' ρ')
    obtain ⟨h0, h1, h2, h3, h4, h5, h6, h7, h8, h9, h10, h11⟩ := hag c
    refine (outV_eq _ _ _ _ _ _ _ _ _ _ _ _).trans ?_
    rw [h0, h1, h2, h3, h4, h5, h6, h7, h8, h9, h10, h11]

end Cert.Merge

end
-- ==== Proof.ConvPay.lean ====
/- The values the convolution mixers' kernel computes, read at an index. -/
module

public import proofs.«01_k».proof.Proof.FfnPay
public import proofs.«01_k».proof.Proof.Gen.Kernel6Ideal.Value
public import Idealize.ShloMosaic.Lib.Pointwise
public import Idealize.ShloMosaic.Lib.Pipeline.ReadBack
public import Idealize.ShloMosaic.Lib.Pipeline.ValueKit
public import Idealize.ShloMosaic.Lib.Pipeline.ValueKit.Point

@[expose] public section

noncomputable section

namespace Cert.Conv

open Cert.Kernel6Ideal Cert.Kernel6Ideal.Gen Idealize.ShloMosaic Idealize.ShloMosaic.TcCoe

set_option maxRecDepth 16384

/-- The causal convolution of a buffer whose row `2 + k + R` is tap `k` of output row `R`, in the grouping by row offset modulo eight. -/
def U (B W : ℕ → ℕ → EReal) (b : ℕ → EReal) (R C : ℕ) : EReal :=
  b C +
      (W 6 C * B (8 + R) C + W 14 C * B (16 + R) C + W 22 C * B (24 + R) C + W 30 C * B (32 + R) C) +
      (W 7 C * B (9 + R) C + W 15 C * B (17 + R) C + W 23 C * B (25 + R) C) +
      (W 0 C * B (2 + R) C + W 8 C * B (10 + R) C + W 16 C * B (18 + R) C + W 24 C * B (26 + R) C) +
      (W 1 C * B (3 + R) C + W 9 C * B (11 + R) C + W 17 C * B (19 + R) C + W 25 C * B (27 + R) C) +
      (W 2 C * B (4 + R) C + W 10 C * B (12 + R) C + W 18 C * B (20 + R) C + W 26 C * B (28 + R) C) +
      (W 3 C * B (5 + R) C + W 11 C * B (13 + R) C + W 19 C * B (21 + R) C + W 27 C * B (29 + R) C) +
      (W 4 C * B (6 + R) C + W 12 C * B (14 + R) C + W 20 C * B (22 + R) C + W 28 C * B (30 + R) C) +
      (W 5 C * B (7 + R) C + W 13 C * B (15 + R) C + W 21 C * B (23 + R) C + W 29 C * B (31 + R) C)

/-- A table of rows, read by two numbers. -/
def Tb {n w : ℕ} (x : (⟨2, ![n, w]⟩ : Shape).Idx → EReal) (R C : ℕ) : EReal :=
  if hC : C < w then if h : R < n then x (ix2 (⟨R, h⟩ : Fin n) (⟨C, hC⟩ : Fin w)) else 0 else 0

/-- An entry of a table, by two numbers. -/
theorem Tb_of {n w : ℕ} (x : (⟨2, ![n, w]⟩ : Shape).Idx → EReal) (r : Fin n) (c : Fin w) : x (ix2 r c) = Tb x r.val c.val := by
  unfold Tb
  rw [dif_pos c.2, dif_pos r.2]

/-- The rows of two tables, one after the other. -/
def Two {h : ℕ} (lo : (⟨2, ![h, 512]⟩ : Shape).Idx → EReal) (hi : S512x512.Idx → EReal) (R C : ℕ) : EReal :=
  if R < h then Tb lo R C else Tb (n := 512) (w := 512) hi (R - h) C

/-- An index the newest piece does not hold is read from the earlier ones. -/
theorem canon_low {R : ℕ} {e : EltTy} (L) (o w : ℕ)
    (inb : ∀ a, (![o, 0] : Fin 2 → ℕ) a + (![w, 512] : Fin 2 → ℕ) a ≤ (⟨2, ![R, 512]⟩ : Shape).size a)
    (v : (Rect.unit (s := ⟨2, ![R, 512]⟩) ![o, 0] ![w, 512] inb).shape.Idx → Elt Ideal e) (r : Fin R) (k : Fin 512) (h : r.val < o) :
    View.canon (Val := Elt Ideal) (⟨Rect.unit (s := ⟨2, ![R, 512]⟩) ![o, 0] ![w, 512] inb, v⟩ :: L) (ix2 r k) = View.canon L (ix2 r k) := by
  refine View.canon_cons_of_not_mem _ L fun hm => ?_
  obtain ⟨x, hx⟩ : ∃ x, (Rect.unit (s := ⟨2, ![R, 512]⟩) ![o, 0] ![w, 512] inb).toLoadRect.idx x = ix2 r k :=
    LoadRect.exists_idx_of_mem _ hm
  have h0 : r.val = o + 1 * (x 0).val := congrArg (fun z => (z 0).val) hx.symm
  omega

/-- An index the newest piece holds is read from it. -/
theorem canon_in {R : ℕ} {e : EltTy} (L) (o w : ℕ)
    (inb : ∀ a, (![o, 0] : Fin 2 → ℕ) a + (![w, 512] : Fin 2 → ℕ) a ≤ (⟨2, ![R, 512]⟩ : Shape).size a)
    (v : (Rect.unit (s := ⟨2, ![R, 512]⟩) ![o, 0] ![w, 512] inb).shape.Idx → Elt Ideal e) (r : Fin R) (x : Fin w) (k : Fin 512)
    (h : r.val = o + x.val) :
    View.canon (Val := Elt Ideal) (⟨Rect.unit (s := ⟨2, ![R, 512]⟩) ![o, 0] ![w, 512] inb, v⟩ :: L) (ix2 r k) = v (ix2 x k) := by
  rw [← View.canon_cons_emb (Rect.unit (s := ⟨2, ![R, 512]⟩) ![o, 0] ![w, 512] inb) v L (ix2 x k)]
  congr 1
  funext b
  fin_cases b <;> apply Fin.ext
  · show r.val = o + 1 * x.val; omega
  · show k.val = 0 + 1 * k.val; omega

/-- A load from a buffer that holds two tables one after the other, read by two numbers. -/
theorem ld_Two {h N : ℕ} (hN : N = h + 512) (m : Memref sig .tc .vmem ⟨2, ![N, 512]⟩ .f32) (lo : (⟨2, ![h, 512]⟩ : Shape).Idx → EReal)
    (hi : S512x512.Idx → EReal) (o l w c : ℕ)
    (i1 : ∀ a, (![h, 0] : Fin 2 → ℕ) a + (![512, 512] : Fin 2 → ℕ) a ≤ (⟨2, ![N, 512]⟩ : Shape).size a)
    (i0 : ∀ a, (![0, 0] : Fin 2 → ℕ) a + (![h, 512] : Fin 2 → ℕ) a ≤ (⟨2, ![N, 512]⟩ : Shape).size a)
    (inb : ∀ a, (![o, l] : Fin 2 → ℕ) a + (![w, c] : Fin 2 → ℕ) a ≤ (⟨2, ![N, 512]⟩ : Shape).size a) (x : Fin w) (d : Fin c) :
    m.view.readCov (Val := Elt Ideal)
      [⟨Rect.unit (s := ⟨2, ![N, 512]⟩) ![h, 0] ![512, 512] i1, hi⟩, ⟨Rect.unit (s := ⟨2, ![N, 512]⟩) ![0, 0] ![h, 512] i0, lo⟩]
      (Rect.unit (s := ⟨2, ![N, 512]⟩) ![o, l] ![w, c] inb).toLoadRect (ix2 x d) = Two lo hi (o + x.val) (l + d.val) := by
  have h0 : o + w ≤ N := inb 0
  have h1 : l + c ≤ 512 := inb 1
  rw [View.readCov_eq_canon']
  have e : (Rect.unit (s := ⟨2, ![N, 512]⟩) ![o, l] ![w, c] inb).toLoadRect.idx (ix2 x d)
      = ix2 (⟨o + x.val, by omega⟩ : Fin N) (⟨l + d.val, by omega⟩ : Fin 512) := by
    funext b
    fin_cases b <;> apply Fin.ext
    · show o + 1 * x.val = o + x.val; omega
    · show l + 1 * d.val = l + d.val; omega
  show View.canon _ _ = _
  rw [e]
  unfold Two
  by_cases h2 : o + x.val < h
  · rw [if_pos h2, canon_low (R := N) (e := .f32) _ h 512 _ _ _ _ h2,
      canon_in (R := N) (e := .f32) [] 0 h _ _ _ (⟨o + x.val, h2⟩ : Fin h) _ (by simp)]
    exact Tb_of lo _ _
  · rw [if_neg h2, canon_in (R := N) (e := .f32) _ h 512 _ _ _ (⟨o + x.val - h, by omega⟩ : Fin 512) _ (by simp; omega)]
    exact Tb_of (n := 512) (w := 512) hi _ _

/-- The mean of a row. -/
def mean (u : Fin 512 → EReal) : EReal := Ideal.div (∑ x : Fin 512, u x) (Ideal.ofBits .f32 0x44000000#32)

/-- A row's layer norm. -/
def nrm (u : Fin 512 → EReal) (g b : EReal) (d : Fin 512) : EReal :=
  (u d - mean u) * Ideal.rsqrt (mean (fun x => (u x - mean u) * (u x - mean u)) + Ideal.ofBits .f32 0x358637BD#32) * g + b

/-- A number times its logistic. -/
def act (y : EReal) : EReal := y * Ideal.logistic y

theorem norm_at (u : S512x512.Idx → EReal) (g b : S1x512.Idx → EReal) (r d : Fin 512) :
    k0_pay435 (F := Ideal) (k0_pay433 (F := Ideal) u g) (k0_pay434 (F := Ideal) b) (ix2 r d)
      = act (nrm (fun x => u (ix2 r x)) (g (ix2 (0 : Fin 1) d)) (b (ix2 (0 : Fin 1) d)) d) := by
  pointwise [k0_pay433, k0_pay434, k0_pay435]
  rfl

/-- One where the tile continues a sequence, zero where it begins one. -/
theorem keep_at (i : grid0.Coords) : k0_pay2 (F := Ideal) i = Cert.Ffn.keep (i 0).val := by
  unfold k0_pay2
  dsimp only
  rw [Cert.Ffn.keep_word ⟨(i 0).val, (i 0).2⟩]
  unfold Cert.Ffn.keep
  by_cases h : (i 0).val % 16 = 0
  · rw [if_pos h, if_pos h]
    show Ideal.ofBits .f32 0x00000000#32 = 0
    exact Ideal.ofBits_zero_f32
  · rw [if_neg h, if_neg h]
    show Ideal.ofBits .f32 0x3F800000#32 = 1
    exact Ideal.ofBits_one_f32

theorem halo_at (i : grid0.Coords) (a b : S32x512.Idx → EReal) (r : Fin 32) (d : Fin 512) :
    k0_pay3 (F := Ideal) i a b (ix2 r d) = a (ix2 r d) * Ideal.logistic (b (ix2 r d)) * Cert.Ffn.keep (i 0).val := by
  rw [← keep_at]
  pointwise [k0_pay3]

theorem own_at (a b : S512x512.Idx → EReal) (r d : Fin 512) :
    k0_pay4 (F := Ideal) a b (ix2 r d) = a (ix2 r d) * Ideal.logistic (b (ix2 r d)) := by
  pointwise [k0_pay4]

theorem halo2_at (i : grid0.Coords) (a b : S16x512.Idx → EReal) (r : Fin 16) (d : Fin 512) :
    k0_pay436 (F := Ideal) (k0_pay2 (F := Ideal) i) a b (ix2 r d) = a (ix2 r d) * b (ix2 r d) * Cert.Ffn.keep (i 0).val := by
  rw [← keep_at]
  pointwise [k0_pay436]

theorem own2_at (a b : S512x512.Idx → EReal) (r d : Fin 512) :
    k0_pay437 (F := Ideal) a b (ix2 r d) = a (ix2 r d) * b (ix2 r d) := by
  pointwise [k0_pay437]

/-- A sum over thirty-one places, written out. -/
theorem sum31 (f : ℕ → EReal) : ∑ k : Fin 31, f k.val
    = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 := by
  rw [Fin.sum_univ_eq_sum_range f 31]
  simp only [Finset.sum_range_succ, Finset.sum_range_zero, zero_add]

/-- The grouping by offset is the plain sum. -/
theorem U_eq (B W : ℕ → ℕ → EReal) (b : ℕ → EReal) (R C : ℕ) :
    U B W b R C = b C + ∑ k : Fin 31, W k.val C * B (k.val + 2 + R) C := by
  rw [sum31 (fun k => W k C * B (k + 2 + R) C)]
  unfold U
  simp only [Nat.reduceAdd]
  ac_rfl

section Run

variable (cd : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S32x512 .bf16) (harg3 : arg3.IsWhole) (arg4 : Memref sig .tc .vmem S32x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S16x512 .bf16) (harg8 : arg8.IsWhole) (arg9 : Memref sig .tc .vmem S16x512 .bf16) (harg9 : arg9.IsWhole) (arg10 : Memref sig .tc .vmem S32x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S8x512 .f32) (harg14 : arg14.IsWhole) (arg15 : Memref sig .tc .vmem S512x512 .bf16) (harg15 : arg15.IsWhole) (arg16 : Memref sig .tc .vmem S512x512 .bf16) (harg16 : arg16.IsWhole) (arg17 : Memref sig .tc .vmem S544x512 .f32) (harg17 : arg17.IsWhole) (arg18 : Memref sig .tc .vmem S512x512 .f32) (harg18 : arg18.IsWhole) (arg19 : Memref sig .tc .vmem S528x512 .f32) (harg19 : arg19.IsWhole)
  (x0 : S512x512.Idx → EReal) (x1 : S512x512.Idx → EReal) (x2 : S32x512.Idx → EReal) (x3 : S32x512.Idx → EReal) (x4 : S512x512.Idx → EReal) (x5 : S512x512.Idx → EReal) (x6 : S512x512.Idx → EReal) (x7 : S16x512.Idx → EReal) (x8 : S16x512.Idx → EReal) (x9 : S32x512.Idx → EReal) (x10 : S1x512.Idx → EReal) (x11 : S1x512.Idx → EReal) (x12 : S1x512.Idx → EReal) (x13 : S8x512.Idx → EReal)

/-- A whole load of a buffer filled by blocks of one function. -/
theorem cov18 (U : ℕ → ℕ → EReal) (L : List (View.Piece (Elt Ideal) S512x512 .f32)) (h : View.PiecesOf (fun j : S512x512.Idx => U (j 0).val (j 1).val) L)
    (hc : ∀ y, ∃ p ∈ L, y ∈ p.1.set) :
    arg18.view.readCov (Val := Elt Ideal) L (Rect.unit (s := S512x512) ![0, 0] ![512, 512] inb_S512x512_S512x512_0_0).toLoadRect
      = fun j : S512x512.Idx => U (j 0).val (j 1).val := by
  rw [View.readCov_eq_canon']
  funext j
  have e : (Rect.unit (s := S512x512) ![0, 0] ![512, 512] inb_S512x512_S512x512_0_0).toLoadRect.idx j = j := by
    funext b
    fin_cases b <;> apply Fin.ext
    · show 0 + 1 * (j 0).val = (j 0).val; omega
    · show 0 + 1 * (j 1).val = (j 1).val; omega
  rw [e]
  exact View.canon_apply_of_pieces (fun j : S512x512.Idx => U (j 0).val (j 1).val) L h.mem j (hc j)

set_option maxHeartbeats 0 in
/-- One entry of the first result: the convolved row, normalized, through the sigmoid-weighted unit. -/
theorem out14_at (r d : Fin 512) : out0_A_14 (F := Ideal) cd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 (ix2 r d)
    = act (nrm (fun x => (U (Two (k0_pay3 (F := Ideal) i x2 x3) (k0_pay4 (F := Ideal) x0 x1)) (Tb (n := 32) (w := 512) x9) (fun C => Tb (n := 1) (w := 512) x10 0 C)) r.val x.val) (x11 (ix2 (0 : Fin 1) d)) (x12 (ix2 (0 : Fin 1) d)) d) := by
  frame_out
  rw [cov18 arg18 (U (Two (k0_pay3 (F := Ideal) i x2 x3) (k0_pay4 (F := Ideal) x0 x1)) (Tb (n := 32) (w := 512) x9) (fun C => Tb (n := 1) (w := 512) x10 0 C)) _ ?pc ?cv]
  case pc =>
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
    all_goals
      intro x
      obtain ⟨r, d, rfl⟩ : ∃ (r : Fin 64) (d : Fin 128), x = ix2 r d := ⟨x 0, x 1, by funext b; fin_cases b <;> rfl⟩
      pointwise [k0_pay5, k0_pay6, k0_pay7, k0_pay8, k0_pay9, k0_pay10, k0_pay11, k0_pay12, k0_pay13, k0_pay14, k0_pay15, k0_pay16,
        k0_pay17, k0_pay18, k0_pay19, k0_pay20, k0_pay21, k0_pay22, k0_pay23, k0_pay24, k0_pay25, k0_pay26, k0_pay27, k0_pay28,
        k0_pay29, k0_pay30, k0_pay31, k0_pay32, k0_pay33, k0_pay34, k0_pay35, k0_pay36, k0_pay37, k0_pay38, k0_pay39, k0_pay40,
        k0_pay41, k0_pay42, k0_pay43, k0_pay44, k0_pay45, k0_pay46, k0_pay47, k0_pay48, k0_pay49, k0_pay50, k0_pay51, k0_pay52,
        k0_pay53, k0_pay54, k0_pay55, k0_pay56, k0_pay57, k0_pay58, k0_pay59, k0_pay60, k0_pay61, k0_pay62, k0_pay63, k0_pay64,
        k0_pay65, k0_pay66, k0_pay67, k0_pay68, k0_pay69, k0_pay70, k0_pay71, k0_pay72, k0_pay73, k0_pay74, k0_pay75, k0_pay76,
        k0_pay77, k0_pay78, k0_pay79, k0_pay80, k0_pay81, k0_pay82, k0_pay83, k0_pay84, k0_pay85, k0_pay86, k0_pay87, k0_pay88,
        k0_pay89, k0_pay90, k0_pay91, k0_pay92, k0_pay93, k0_pay94, k0_pay95, k0_pay96, k0_pay97, k0_pay98, k0_pay99, k0_pay100,
        k0_pay101, k0_pay102, k0_pay103, k0_pay104, k0_pay105, k0_pay106, k0_pay107, k0_pay108, k0_pay109, k0_pay110, k0_pay111,
        k0_pay112, k0_pay113, k0_pay114, k0_pay115, k0_pay116, k0_pay117, k0_pay118, k0_pay119, k0_pay120, k0_pay121, k0_pay122,
        k0_pay123, k0_pay124, k0_pay125, k0_pay126, k0_pay127, k0_pay128, k0_pay129, k0_pay130, k0_pay131, k0_pay132, k0_pay133,
        k0_pay134, k0_pay135, k0_pay136, k0_pay137, k0_pay138, k0_pay139, k0_pay140, k0_pay141, k0_pay142, k0_pay143, k0_pay144,
        k0_pay145, k0_pay146, k0_pay147, k0_pay148, k0_pay149, k0_pay150, k0_pay151, k0_pay152, k0_pay153, k0_pay154, k0_pay155,
        k0_pay156, k0_pay157, k0_pay158, k0_pay159, k0_pay160, k0_pay161, k0_pay162, k0_pay163, k0_pay164, k0_pay165, k0_pay166,
        k0_pay167, k0_pay168, k0_pay169, k0_pay170, k0_pay171, k0_pay172, k0_pay173, k0_pay174, k0_pay175, k0_pay176, k0_pay177,
        k0_pay178, k0_pay179, k0_pay180, k0_pay181, k0_pay182, k0_pay183, k0_pay184, k0_pay185, k0_pay186, k0_pay187, k0_pay188,
        k0_pay189, k0_pay190, k0_pay191, k0_pay192, k0_pay193, k0_pay194, k0_pay195, k0_pay196, k0_pay197, k0_pay198, k0_pay199,
        k0_pay200, k0_pay201, k0_pay202, k0_pay203, k0_pay204, k0_pay205, k0_pay206, k0_pay207, k0_pay208, k0_pay209, k0_pay210,
        k0_pay211, k0_pay212, k0_pay213, k0_pay214, k0_pay215, k0_pay216, k0_pay217, k0_pay218, k0_pay219, k0_pay220, k0_pay221,
        k0_pay222, k0_pay223, k0_pay224, k0_pay225, k0_pay226, k0_pay227, k0_pay228, k0_pay229, k0_pay230, k0_pay231, k0_pay232,
        k0_pay233, k0_pay234, k0_pay235, k0_pay236, k0_pay237, k0_pay238, k0_pay239, k0_pay240, k0_pay241, k0_pay242, k0_pay243,
        k0_pay244, k0_pay245, k0_pay246, k0_pay247, k0_pay248, k0_pay249, k0_pay250, k0_pay251, k0_pay252, k0_pay253, k0_pay254,
        k0_pay255, k0_pay256, k0_pay257, k0_pay258, k0_pay259, k0_pay260, k0_pay261, k0_pay262, k0_pay263, k0_pay264, k0_pay265,
        k0_pay266, k0_pay267, k0_pay268, k0_pay269, k0_pay270, k0_pay271, k0_pay272, k0_pay273, k0_pay274, k0_pay275, k0_pay276,
        k0_pay277, k0_pay278, k0_pay279, k0_pay280, k0_pay281, k0_pay282, k0_pay283, k0_pay284, k0_pay285, k0_pay286, k0_pay287,
        k0_pay288, k0_pay289, k0_pay290, k0_pay291, k0_pay292, k0_pay293, k0_pay294, k0_pay295, k0_pay296, k0_pay297, k0_pay298,
        k0_pay299, k0_pay300, k0_pay301, k0_pay302, k0_pay303, k0_pay304, k0_pay305, k0_pay306, k0_pay307, k0_pay308, k0_pay309,
        k0_pay310, k0_pay311, k0_pay312, k0_pay313, k0_pay314, k0_pay315, k0_pay316, k0_pay317, k0_pay318, k0_pay319, k0_pay320,
        k0_pay321, k0_pay322, k0_pay323, k0_pay324, k0_pay325, k0_pay326, k0_pay327, k0_pay328, k0_pay329, k0_pay330, k0_pay331,
        k0_pay332, k0_pay333, k0_pay334, k0_pay335, k0_pay336, k0_pay337, k0_pay338, k0_pay339, k0_pay340, k0_pay341, k0_pay342,
        k0_pay343, k0_pay344, k0_pay345, k0_pay346, k0_pay347, k0_pay348, k0_pay349, k0_pay350, k0_pay351, k0_pay352, k0_pay353,
        k0_pay354, k0_pay355, k0_pay356, k0_pay357, k0_pay358, k0_pay359, k0_pay360, k0_pay361, k0_pay362, k0_pay363, k0_pay364,
        k0_pay365, k0_pay366, k0_pay367, k0_pay368, k0_pay369, k0_pay370, k0_pay371, k0_pay372, k0_pay373, k0_pay374, k0_pay375,
        k0_pay376, k0_pay377, k0_pay378, k0_pay379, k0_pay380, k0_pay381, k0_pay382, k0_pay383, k0_pay384, k0_pay385, k0_pay386,
        k0_pay387, k0_pay388, k0_pay389, k0_pay390, k0_pay391, k0_pay392, k0_pay393, k0_pay394, k0_pay395, k0_pay396, k0_pay397,
        k0_pay398, k0_pay399, k0_pay400, k0_pay401, k0_pay402, k0_pay403, k0_pay404, k0_pay405, k0_pay406, k0_pay407, k0_pay408,
        k0_pay409, k0_pay410, k0_pay411, k0_pay412, k0_pay413, k0_pay414, k0_pay415, k0_pay416, k0_pay417, k0_pay418, k0_pay419,
        k0_pay420, k0_pay421, k0_pay422, k0_pay423, k0_pay424, k0_pay425, k0_pay426, k0_pay427, k0_pay428, k0_pay429, k0_pay430,
        k0_pay431, k0_pay432]
      simp only [ld_Two (h := 32) (N := 544) rfl, Tb_of (n := 32) (w := 512) x9, Tb_of (n := 1) (w := 512) x10]
    · show _ = U _ _ _ (448 + 1 * r.val) (384 + 1 * d.val)
      unfold U
      simp only [Nat.one_mul, Nat.zero_add, ← Nat.add_assoc, Nat.reduceAdd]
      rfl
    · show _ = U _ _ _ (448 + 1 * r.val) (256 + 1 * d.val)
      unfold U
      simp only [Nat.one_mul, Nat.zero_add, ← Nat.add_assoc, Nat.reduceAdd]
      rfl
    · show _ = U _ _ _ (448 + 1 * r.val) (128 + 1 * d.val)
      unfold U
      simp only [Nat.one_mul, Nat.zero_add, ← Nat.add_assoc, Nat.reduceAdd]
      rfl
    · show _ = U _ _ _ (448 + 1 * r.val) (0 + 1 * d.val)
      unfold U
      simp only [Nat.one_mul, Nat.zero_add, ← Nat.add_assoc, Nat.reduceAdd]
      rfl
    · show _ = U _ _ _ (384 + 1 * r.val) (384 + 1 * d.val)
      unfold U
      simp only [Nat.one_mul, Nat.zero_add, ← Nat.add_assoc, Nat.reduceAdd]
      rfl
    · show _ = U _ _ _ (384 + 1 * r.val) (256 + 1 * d.val)
      unfold U
      simp only [Nat.one_mul, Nat.zero_add, ← Nat.add_assoc, Nat.reduceAdd]
      rfl
    · show _ = U _ _ _ (384 + 1 * r.val) (128 + 1 * d.val)
      unfold U
      simp only [Nat.one_mul, Nat.zero_add, ← Nat.add_assoc, Nat.reduceAdd]
      rfl
    · show _ = U _ _ _ (384 + 1 * r.val) (0 + 1 * d.val)
      unfold U
      simp only [Nat.one_mul, Nat.zero_add, ← Nat.add_assoc, Nat.reduceAdd]
      rfl
    · show _ = U _ _ _ (320 + 1 * r.val) (384 + 1 * d.val)
      unfold U
      simp only [Nat.one_mul, Nat.zero_add, ← Nat.add_assoc, Nat.reduceAdd]
      rfl
    · show _ = U _ _ _ (320 + 1 * r.val) (256 + 1 * d.val)
      unfold U
      simp only [Nat.one_mul, Nat.zero_add, ← Nat.add_assoc, Nat.reduceAdd]
      rfl
    · show _ = U _ _ _ (320 + 1 * r.val) (128 + 1 * d.val)
      unfold U
      simp only [Nat.one_mul, Nat.zero_add, ← Nat.add_assoc, Nat.reduceAdd]
      rfl
    · show _ = U _ _ _ (320 + 1 * r.val) (0 + 1 * d.val)
      unfold U
      simp only [Nat.one_mul, Nat.zero_add, ← Nat.add_assoc, Nat.reduceAdd]
      rfl
    · show _ = U _ _ _ (256 + 1 * r.val) (384 + 1 * d.val)
      unfold U
      simp only [Nat.one_mul, Nat.zero_add, ← Nat.add_assoc, Nat.reduceAdd]
      rfl
    · show _ = U _ _ _ (256 + 1 * r.val) (256 + 1 * d.val)
      unfold U
      simp only [Nat.one_mul, Nat.zero_add, ← Nat.add_assoc, Nat.reduceAdd]
      rfl
    · show _ = U _ _ _ (256 + 1 * r.val) (128 + 1 * d.val)
      unfold U
      simp only [Nat.one_mul, Nat.zero_add, ← Nat.add_assoc, Nat.reduceAdd]
      rfl
    · show _ = U _ _ _ (256 + 1 * r.val) (0 + 1 * d.val)
      unfold U
      simp only [Nat.one_mul, Nat.zero_add, ← Nat.add_assoc, Nat.reduceAdd]
      rfl
    · show _ = U _ _ _ (192 + 1 * r.val) (384 + 1 * d.val)
      unfold U
      simp only [Nat.one_mul, Nat.zero_add, ← Nat.add_assoc, Nat.reduceAdd]
      rfl
    · show _ = U _ _ _ (192 + 1 * r.val) (256 + 1 * d.val)
      unfold U
      simp only [Nat.one_mul, Nat.zero_add, ← Nat.add_assoc, Nat.reduceAdd]
      rfl
    · show _ = U _ _ _ (192 + 1 * r.val) (128 + 1 * d.val)
      unfold U
      simp only [Nat.one_mul, Nat.zero_add, ← Nat.add_assoc, Nat.reduceAdd]
      rfl
    · show _ = U _ _ _ (192 + 1 * r.val) (0 + 1 * d.val)
      unfold U
      simp only [Nat.one_mul, Nat.zero_add, ← Nat.add_assoc, Nat.reduceAdd]
      rfl
    · show _ = U _ _ _ (128 + 1 * r.val) (384 + 1 * d.val)
      unfold U
      simp only [Nat.one_mul, Nat.zero_add, ← Nat.add_assoc, Nat.reduceAdd]
      rfl
    · show _ = U _ _ _ (128 + 1 * r.val) (256 + 1 * d.val)
      unfold U
      simp only [Nat.one_mul, Nat.zero_add, ← Nat.add_assoc, Nat.reduceAdd]
      rfl
    · show _ = U _ _ _ (128 + 1 * r.val) (128 + 1 * d.val)
      unfold U
      simp only [Nat.one_mul, Nat.zero_add, ← Nat.add_assoc, Nat.reduceAdd]
      rfl
    · show _ = U _ _ _ (128 + 1 * r.val) (0 + 1 * d.val)
      unfold U
      simp only [Nat.one_mul, Nat.zero_add, ← Nat.add_assoc, Nat.reduceAdd]
      rfl
    · show _ = U _ _ _ (64 + 1 * r.val) (384 + 1 * d.val)
      unfold U
      simp only [Nat.one_mul, Nat.zero_add, ← Nat.add_assoc, Nat.reduceAdd]
      rfl
    · show _ = U _ _ _ (64 + 1 * r.val) (256 + 1 * d.val)
      unfold U
      simp only [Nat.one_mul, Nat.zero_add, ← Nat.add_assoc, Nat.reduceAdd]
      rfl
    · show _ = U _ _ _ (64 + 1 * r.val) (128 + 1 * d.val)
      unfold U
      simp only [Nat.one_mul, Nat.zero_add, ← Nat.add_assoc, Nat.reduceAdd]
      rfl
    · show _ = U _ _ _ (64 + 1 * r.val) (0 + 1 * d.val)
      unfold U
      simp only [Nat.one_mul, Nat.zero_add, ← Nat.add_assoc, Nat.reduceAdd]
      rfl
    · show _ = U _ _ _ (0 + 1 * r.val) (384 + 1 * d.val)
      unfold U
      simp only [Nat.one_mul, Nat.zero_add, ← Nat.add_assoc, Nat.reduceAdd]
      rfl
    · show _ = U _ _ _ (0 + 1 * r.val) (256 + 1 * d.val)
      unfold U
      simp only [Nat.one_mul, Nat.zero_add, ← Nat.add_assoc, Nat.reduceAdd]
      rfl
    · show _ = U _ _ _ (0 + 1 * r.val) (128 + 1 * d.val)
      unfold U
      simp only [Nat.one_mul, Nat.zero_add, ← Nat.add_assoc, Nat.reduceAdd]
      rfl
    · show _ = U _ _ _ (0 + 1 * r.val) (0 + 1 * d.val)
      unfold U
      simp only [Nat.one_mul, Nat.zero_add, ← Nat.add_assoc, Nat.reduceAdd]
      rfl
  case cv =>
    intro y
    exact View.cover_of_tiledL (s := S512x512) _ ![64, 128] (by sl_kernel_rfl) y
  rw [norm_at]
  rfl

/-- One entry of the second result: the gate times the three taps. -/
theorem out15_at (r d : Fin 512) : out0_A_15 (F := Ideal) cd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 (ix2 r d)
    = x4 (ix2 r d) * (x13 (ix2 (0 : Fin 8) d) * Two (k0_pay436 (F := Ideal) (k0_pay2 (F := Ideal) i) x7 x8) (k0_pay437 (F := Ideal) x5 x6) (14 + r.val) d.val
      + x13 (ix2 (1 : Fin 8) d) * Two (k0_pay436 (F := Ideal) (k0_pay2 (F := Ideal) i) x7 x8) (k0_pay437 (F := Ideal) x5 x6) (15 + r.val) d.val
      + x13 (ix2 (2 : Fin 8) d) * Two (k0_pay436 (F := Ideal) (k0_pay2 (F := Ideal) i) x7 x8) (k0_pay437 (F := Ideal) x5 x6) (16 + r.val) d.val) := by
  frame_out
  pointwise [k0_pay1, k0_pay438, k0_pay439, k0_pay440]
  simp only [ld_Two (h := 16) (N := 528) rfl, Nat.zero_add]

end Run

end Cert.Conv

end
-- ==== Proof.ConvBlocks.lean ====
/- The convolution mixers' result arrays as functions of the launched arguments. -/
module

public import proofs.«01_k».proof.Proof.ConvPay
public import Idealize.ShloMosaic.Lib.Pipeline.ValueKit.Point

@[expose] public section

noncomputable section

namespace Cert.Conv

open Cert.Kernel6Ideal Cert.Kernel6Ideal.Gen Idealize.ShloMosaic Idealize.ShloMosaic.TcCoe

set_option maxRecDepth 16384

variable (m : (ℓ : Loc nD τ sig) → Buf (Elt Ideal) ℓ) (c : Dev nD)

/-- Where each window's block stands at a grid point. -/
theorem idx : ∀ t : Fin cfg0.N,
    win0_0.index t = ![(grid0.coords t 0).val, 0]
    ∧ win0_1.index t = ![(grid0.coords t 0).val, 1]
    ∧ win0_2.index t = ![(grid0.coords t 0).val * 16 - 1, 0]
    ∧ win0_3.index t = ![(grid0.coords t 0).val * 16 - 1, 1]
    ∧ win0_4.index t = ![(grid0.coords t 0).val, 2]
    ∧ win0_5.index t = ![(grid0.coords t 0).val, 3]
    ∧ win0_6.index t = ![(grid0.coords t 0).val, 4]
    ∧ win0_7.index t = ![(grid0.coords t 0).val * 32 - 1, 3]
    ∧ win0_8.index t = ![(grid0.coords t 0).val * 32 - 1, 4]
    ∧ win0_9.index t = ![0, 0]
    ∧ win0_10.index t = ![0, 0]
    ∧ win0_11.index t = ![0, 0]
    ∧ win0_12.index t = ![0, 0]
    ∧ win0_13.index t = ![0, 0]
    ∧ win0_14.index t = ![(grid0.coords t 0).val, 0]
    ∧ win0_15.index t = ![(grid0.coords t 0).val, 0] := by
  decide +kernel

/-- The coordinate of a grid point: the tile of rows. -/
abbrev gi (t : Fin cfg0.N) : Fin 32 := ⟨(grid0.coords t 0).val, (grid0.coords t 0).2⟩

abbrev A0 : S16384x8192.Idx → EReal := m ((c : Thread nD τ).loc main_arg0)
abbrev A1 : S31x512.Idx → EReal := m ((c : Thread nD τ).loc main_arg1)
abbrev A2 : S512.Idx → EReal := m ((c : Thread nD τ).loc main_arg2)
abbrev A3 : S512.Idx → EReal := m ((c : Thread nD τ).loc main_arg3)
abbrev A4 : S512.Idx → EReal := m ((c : Thread nD τ).loc main_arg4)
abbrev A5 : S3x512.Idx → EReal := m ((c : Thread nD τ).loc main_arg5)

open Idealize.ShloMosaic.StableHlo in
/-- The first convolution's weights the launch reads: thirty-one rows and one of zeros. -/
theorem entW : V (F := Ideal) m c main_v0 = pad S32x512 ![0, 0] ![1, 0] ![0, 0] (m ((c : Thread nD τ).loc main_arg1)) (sitofp (F := Ideal) .f32 (constantI S_ 32 0#32)) pads_S31x512_S32x512_010_000 h_S_ := by
  show StableHlo.after [hostOps0, hostOps0_1, hostOps0_2, hostOps0_3, hostOps0_4].flatten (fun b => m (c, b)) (Proc.tc.devRef main_v0) = _
  simp only [hostOps0, hostOps0_1, hostOps0_2, hostOps0_3, hostOps0_4, List.flatten_cons, List.flatten_nil, List.cons_append, List.nil_append, List.append_nil, TRef.binary, TRef.nullary, TRef.unary, TRef.toBuf, TRef.ofBuf, cast_eq]
  after_results_simp <;> rfl

open Idealize.ShloMosaic.StableHlo in
/-- The second convolution's weights the launch reads: three rows and five of zeros. -/
theorem entC : V (F := Ideal) m c main_v1 = pad S8x512 ![0, 0] ![5, 0] ![0, 0] (m ((c : Thread nD τ).loc main_arg5)) (sitofp (F := Ideal) .f32 (constantI S_ 32 0#32)) pads_S3x512_S8x512_050_000 h_S_ := by
  show StableHlo.after [hostOps0, hostOps0_1, hostOps0_2, hostOps0_3, hostOps0_4].flatten (fun b => m (c, b)) (Proc.tc.devRef main_v1) = _
  simp only [hostOps0, hostOps0_1, hostOps0_2, hostOps0_3, hostOps0_4, List.flatten_cons, List.flatten_nil, List.cons_append, List.nil_append, List.append_nil, TRef.binary, TRef.nullary, TRef.unary, TRef.toBuf, TRef.ofBuf, cast_eq]
  after_results_simp <;> rfl

open Idealize.ShloMosaic.StableHlo in
/-- The bias the launch reads. -/
theorem entB : V (F := Ideal) m c main_v2 = shapeCast S1x512 (m ((c : Thread nD τ).loc main_arg2)) shapeCasts_S512_S1x512 := by
  show StableHlo.after [hostOps0, hostOps0_1, hostOps0_2, hostOps0_3, hostOps0_4].flatten (fun b => m (c, b)) (Proc.tc.devRef main_v2) = _
  simp only [hostOps0, hostOps0_1, hostOps0_2, hostOps0_3, hostOps0_4, List.flatten_cons, List.flatten_nil, List.cons_append, List.nil_append, List.append_nil, TRef.binary, TRef.nullary, TRef.unary, TRef.toBuf, TRef.ofBuf, cast_eq]
  after_results_simp <;> rfl

open Idealize.ShloMosaic.StableHlo in
/-- The norm's gains the launch reads. -/
theorem entG : V (F := Ideal) m c main_v3 = shapeCast S1x512 (m ((c : Thread nD τ).loc main_arg3)) shapeCasts_S512_S1x512 := by
  show StableHlo.after [hostOps0, hostOps0_1, hostOps0_2, hostOps0_3, hostOps0_4].flatten (fun b => m (c, b)) (Proc.tc.devRef main_v3) = _
  simp only [hostOps0, hostOps0_1, hostOps0_2, hostOps0_3, hostOps0_4, List.flatten_cons, List.flatten_nil, List.cons_append, List.nil_append, List.append_nil, TRef.binary, TRef.nullary, TRef.unary, TRef.toBuf, TRef.ofBuf, cast_eq]
  after_results_simp <;> rfl

open Idealize.ShloMosaic.StableHlo in
/-- The norm's offsets the launch reads. -/
theorem entL : V (F := Ideal) m c main_v4 = shapeCast S1x512 (m ((c : Thread nD τ).loc main_arg4)) shapeCasts_S512_S1x512 := by
  show StableHlo.after [hostOps0, hostOps0_1, hostOps0_2, hostOps0_3, hostOps0_4].flatten (fun b => m (c, b)) (Proc.tc.devRef main_v4) = _
  simp only [hostOps0, hostOps0_1, hostOps0_2, hostOps0_3, hostOps0_4, List.flatten_cons, List.flatten_nil, List.cons_append, List.nil_append, List.append_nil, TRef.binary, TRef.nullary, TRef.unary, TRef.toBuf, TRef.ofBuf, cast_eq]
  after_results_simp <;> rfl

theorem emb0 (t : Fin cfg0.N) (r : Fin 512) (d : Fin 512) :
    (win0_0.blk t).view.emb (ix2 r d) = ix2 (⟨512 * (gi t).val + r.val, by have := (gi t).2; omega⟩ : Fin 16384) (⟨0 + d.val, by omega⟩ : Fin 8192) := by
  refine funext (Fin.forall_fin_two.mpr ⟨Fin.ext ?_, Fin.ext ?_⟩) <;> blk_simp [(idx t).1] <;> (try dsimp only) <;> omega

theorem blk0_at (t : Fin cfg0.N) (r : Fin 512) (d : Fin 512) :
    (iblk (F := Ideal) m c 0 t : S512x512.Idx → EReal) (ix2 r d) = Tb (n := 16384) (w := 8192) (A0 m c) (512 * (gi t).val + r.val) (0 + d.val) := by
  blk_simp [iblk, (idx t).1]
  rw [show V (F := Ideal) m c (Pipeline.arrRef spec0 0) = _ from V_main_arg0 m c, emb0]
  refine (Tb_of (n := 16384) (w := 8192) (A0 m c) _ _).trans ?_
  show Tb _ _ (0 + d.val) = _
  rw [Nat.zero_add]

theorem emb1 (t : Fin cfg0.N) (r : Fin 512) (d : Fin 512) :
    (win0_1.blk t).view.emb (ix2 r d) = ix2 (⟨512 * (gi t).val + r.val, by have := (gi t).2; omega⟩ : Fin 16384) (⟨512 + d.val, by omega⟩ : Fin 8192) := by
  refine funext (Fin.forall_fin_two.mpr ⟨Fin.ext ?_, Fin.ext ?_⟩) <;> blk_simp [(idx t).2.1] <;> (try dsimp only) <;> omega

theorem blk1_at (t : Fin cfg0.N) (r : Fin 512) (d : Fin 512) :
    (iblk (F := Ideal) m c 1 t : S512x512.Idx → EReal) (ix2 r d) = Tb (n := 16384) (w := 8192) (A0 m c) (512 * (gi t).val + r.val) (512 + d.val) := by
  blk_simp [iblk, (idx t).2.1]
  rw [show V (F := Ideal) m c (Pipeline.arrRef spec0 1) = _ from V_main_arg0 m c, emb1]
  exact Tb_of (n := 16384) (w := 8192) (A0 m c) _ _

theorem emb2 (t : Fin cfg0.N) (r : Fin 32) (d : Fin 512) :
    (win0_2.blk t).view.emb (ix2 r d) = ix2 (⟨32 * ((gi t).val * 16 - 1) + r.val, by have := (gi t).2; omega⟩ : Fin 16384) (⟨0 + d.val, by omega⟩ : Fin 8192) := by
  refine funext (Fin.forall_fin_two.mpr ⟨Fin.ext ?_, Fin.ext ?_⟩) <;> blk_simp [(idx t).2.2.1] <;> (try dsimp only) <;> omega

theorem blk2_at (t : Fin cfg0.N) (r : Fin 32) (d : Fin 512) :
    (iblk (F := Ideal) m c 2 t : S32x512.Idx → EReal) (ix2 r d) = Tb (n := 16384) (w := 8192) (A0 m c) (32 * ((gi t).val * 16 - 1) + r.val) (0 + d.val) := by
  blk_simp [iblk, (idx t).2.2.1]
  rw [show V (F := Ideal) m c (Pipeline.arrRef spec0 2) = _ from V_main_arg0 m c, emb2]
  refine (Tb_of (n := 16384) (w := 8192) (A0 m c) _ _).trans ?_
  show Tb _ _ (0 + d.val) = _
  rw [Nat.zero_add]

theorem emb3 (t : Fin cfg0.N) (r : Fin 32) (d : Fin 512) :
    (win0_3.blk t).view.emb (ix2 r d) = ix2 (⟨32 * ((gi t).val * 16 - 1) + r.val, by have := (gi t).2; omega⟩ : Fin 16384) (⟨512 + d.val, by omega⟩ : Fin 8192) := by
  refine funext (Fin.forall_fin_two.mpr ⟨Fin.ext ?_, Fin.ext ?_⟩) <;> blk_simp [(idx t).2.2.2.1] <;> (try dsimp only) <;> omega

theorem blk3_at (t : Fin cfg0.N) (r : Fin 32) (d : Fin 512) :
    (iblk (F := Ideal) m c 3 t : S32x512.Idx → EReal) (ix2 r d) = Tb (n := 16384) (w := 8192) (A0 m c) (32 * ((gi t).val * 16 - 1) + r.val) (512 + d.val) := by
  blk_simp [iblk, (idx t).2.2.2.1]
  rw [show V (F := Ideal) m c (Pipeline.arrRef spec0 3) = _ from V_main_arg0 m c, emb3]
  exact Tb_of (n := 16384) (w := 8192) (A0 m c) _ _

theorem emb4 (t : Fin cfg0.N) (r : Fin 512) (d : Fin 512) :
    (win0_4.blk t).view.emb (ix2 r d) = ix2 (⟨512 * (gi t).val + r.val, by have := (gi t).2; omega⟩ : Fin 16384) (⟨1024 + d.val, by omega⟩ : Fin 8192) := by
  refine funext (Fin.forall_fin_two.mpr ⟨Fin.ext ?_, Fin.ext ?_⟩) <;> blk_simp [(idx t).2.2.2.2.1] <;> (try dsimp only) <;> omega

theorem blk4_at (t : Fin cfg0.N) (r : Fin 512) (d : Fin 512) :
    (iblk (F := Ideal) m c 4 t : S512x512.Idx → EReal) (ix2 r d) = Tb (n := 16384) (w := 8192) (A0 m c) (512 * (gi t).val + r.val) (1024 + d.val) := by
  blk_simp [iblk, (idx t).2.2.2.2.1]
  rw [show V (F := Ideal) m c (Pipeline.arrRef spec0 4) = _ from V_main_arg0 m c, emb4]
  exact Tb_of (n := 16384) (w := 8192) (A0 m c) _ _

theorem emb5 (t : Fin cfg0.N) (r : Fin 512) (d : Fin 512) :
    (win0_5.blk t).view.emb (ix2 r d) = ix2 (⟨512 * (gi t).val + r.val, by have := (gi t).2; omega⟩ : Fin 16384) (⟨1536 + d.val, by omega⟩ : Fin 8192) := by
  refine funext (Fin.forall_fin_two.mpr ⟨Fin.ext ?_, Fin.ext ?_⟩) <;> blk_simp [(idx t).2.2.2.2.2.1] <;> (try dsimp only) <;> omega

theorem blk5_at (t : Fin cfg0.N) (r : Fin 512) (d : Fin 512) :
    (iblk (F := Ideal) m c 5 t : S512x512.Idx → EReal) (ix2 r d) = Tb (n := 16384) (w := 8192) (A0 m c) (512 * (gi t).val + r.val) (1536 + d.val) := by
  blk_simp [iblk, (idx t).2.2.2.2.2.1]
  rw [show V (F := Ideal) m c (Pipeline.arrRef spec0 5) = _ from V_main_arg0 m c, emb5]
  exact Tb_of (n := 16384) (w := 8192) (A0 m c) _ _

theorem emb6 (t : Fin cfg0.N) (r : Fin 512) (d : Fin 512) :
    (win0_6.blk t).view.emb (ix2 r d) = ix2 (⟨512 * (gi t).val + r.val, by have := (gi t).2; omega⟩ : Fin 16384) (⟨2048 + d.val, by omega⟩ : Fin 8192) := by
  refine funext (Fin.forall_fin_two.mpr ⟨Fin.ext ?_, Fin.ext ?_⟩) <;> blk_simp [(idx t).2.2.2.2.2.2.1] <;> (try dsimp only) <;> omega

theorem blk6_at (t : Fin cfg0.N) (r : Fin 512) (d : Fin 512) :
    (iblk (F := Ideal) m c 6 t : S512x512.Idx → EReal) (ix2 r d) = Tb (n := 16384) (w := 8192) (A0 m c) (512 * (gi t).val + r.val) (2048 + d.val) := by
  blk_simp [iblk, (idx t).2.2.2.2.2.2.1]
  rw [show V (F := Ideal) m c (Pipeline.arrRef spec0 6) = _ from V_main_arg0 m c, emb6]
  exact Tb_of (n := 16384) (w := 8192) (A0 m c) _ _

theorem emb7 (t : Fin cfg0.N) (r : Fin 16) (d : Fin 512) :
    (win0_7.blk t).view.emb (ix2 r d) = ix2 (⟨16 * ((gi t).val * 32 - 1) + r.val, by have := (gi t).2; omega⟩ : Fin 16384) (⟨1536 + d.val, by omega⟩ : Fin 8192) := by
  refine funext (Fin.forall_fin_two.mpr ⟨Fin.ext ?_, Fin.ext ?_⟩) <;> blk_simp [(idx t).2.2.2.2.2.2.2.1] <;> (try dsimp only) <;> omega

theorem blk7_at (t : Fin cfg0.N) (r : Fin 16) (d : Fin 512) :
    (iblk (F := Ideal) m c 7 t : S16x512.Idx → EReal) (ix2 r d) = Tb (n := 16384) (w := 8192) (A0 m c) (16 * ((gi t).val * 32 - 1) + r.val) (1536 + d.val) := by
  blk_simp [iblk, (idx t).2.2.2.2.2.2.2.1]
  rw [show V (F := Ideal) m c (Pipeline.arrRef spec0 7) = _ from V_main_arg0 m c, emb7]
  exact Tb_of (n := 16384) (w := 8192) (A0 m c) _ _

theorem emb8 (t : Fin cfg0.N) (r : Fin 16) (d : Fin 512) :
    (win0_8.blk t).view.emb (ix2 r d) = ix2 (⟨16 * ((gi t).val * 32 - 1) + r.val, by have := (gi t).2; omega⟩ : Fin 16384) (⟨2048 + d.val, by omega⟩ : Fin 8192) := by
  refine funext (Fin.forall_fin_two.mpr ⟨Fin.ext ?_, Fin.ext ?_⟩) <;> blk_simp [(idx t).2.2.2.2.2.2.2.2.1] <;> (try dsimp only) <;> omega

theorem blk8_at (t : Fin cfg0.N) (r : Fin 16) (d : Fin 512) :
    (iblk (F := Ideal) m c 8 t : S16x512.Idx → EReal) (ix2 r d) = Tb (n := 16384) (w := 8192) (A0 m c) (16 * ((gi t).val * 32 - 1) + r.val) (2048 + d.val) := by
  blk_simp [iblk, (idx t).2.2.2.2.2.2.2.2.1]
  rw [show V (F := Ideal) m c (Pipeline.arrRef spec0 8) = _ from V_main_arg0 m c, emb8]
  exact Tb_of (n := 16384) (w := 8192) (A0 m c) _ _

theorem emb9 (t : Fin cfg0.N) (i : Fin 32) (d : Fin 512) :
    (win0_9.blk t).view.emb (ix2 i d) = ix2 i d := by
  refine funext (Fin.forall_fin_two.mpr ⟨Fin.ext ?_, Fin.ext ?_⟩) <;> blk_simp [(idx t).2.2.2.2.2.2.2.2.2.1] <;> (try dsimp only) <;> omega

theorem blk9_at (t : Fin cfg0.N) (i : Fin 32) (hi : i.val < 31) (d : Fin 512) :
    (iblk (F := Ideal) m c 9 t : S32x512.Idx → EReal) (ix2 i d) = A1 m c (ix2 (⟨i.val, hi⟩ : Fin 31) d) := by
  blk_simp [iblk, (idx t).2.2.2.2.2.2.2.2.2.1]
  rw [show V (F := Ideal) m c (Pipeline.arrRef spec0 9) = _ from entW m c, emb9]
  pointwise
  rw [dif_pos]
  intro a
  fin_cases a
  · exact ⟨Nat.zero_le _, by show (i.val - 0) % 1 = 0; omega, by show (i.val - 0) / 1 < 31; omega⟩
  · exact ⟨Nat.zero_le _, by show (d.val - 0) % 1 = 0; omega, by show (d.val - 0) / 1 < 512; have := d.2; omega⟩

theorem emb13 (t : Fin cfg0.N) (i : Fin 8) (d : Fin 512) :
    (win0_13.blk t).view.emb (ix2 i d) = ix2 i d := by
  refine funext (Fin.forall_fin_two.mpr ⟨Fin.ext ?_, Fin.ext ?_⟩) <;> blk_simp [(idx t).2.2.2.2.2.2.2.2.2.2.2.2.2.1] <;> (try dsimp only) <;> omega

theorem blk13_at (t : Fin cfg0.N) (i : Fin 8) (hi : i.val < 3) (d : Fin 512) :
    (iblk (F := Ideal) m c 13 t : S8x512.Idx → EReal) (ix2 i d) = A5 m c (ix2 (⟨i.val, hi⟩ : Fin 3) d) := by
  blk_simp [iblk, (idx t).2.2.2.2.2.2.2.2.2.2.2.2.2.1]
  rw [show V (F := Ideal) m c (Pipeline.arrRef spec0 13) = _ from entC m c, emb13]
  pointwise
  rw [dif_pos]
  intro a
  fin_cases a
  · exact ⟨Nat.zero_le _, by show (i.val - 0) % 1 = 0; omega, by show (i.val - 0) / 1 < 3; omega⟩
  · exact ⟨Nat.zero_le _, by show (d.val - 0) % 1 = 0; omega, by show (d.val - 0) / 1 < 512; have := d.2; omega⟩

theorem blk10_at (t : Fin cfg0.N) (d : Fin 512) :
    (iblk (F := Ideal) m c 10 t : S1x512.Idx → EReal) (ix2 (0 : Fin 1) d) = A2 m c (ix1 d) := by
  blk_simp [iblk, (idx t).2.2.2.2.2.2.2.2.2.2.1]
  rw [show V (F := Ideal) m c (Pipeline.arrRef spec0 10) = _ from entB m c]
  pointwise
  blk_ext [iblk, V, (idx t).2.2.2.2.2.2.2.2.2.2.1]

theorem blk11_at (t : Fin cfg0.N) (d : Fin 512) :
    (iblk (F := Ideal) m c 11 t : S1x512.Idx → EReal) (ix2 (0 : Fin 1) d) = A3 m c (ix1 d) := by
  blk_simp [iblk, (idx t).2.2.2.2.2.2.2.2.2.2.2.1]
  rw [show V (F := Ideal) m c (Pipeline.arrRef spec0 11) = _ from entG m c]
  pointwise
  blk_ext [iblk, V, (idx t).2.2.2.2.2.2.2.2.2.2.2.1]

theorem blk12_at (t : Fin cfg0.N) (d : Fin 512) :
    (iblk (F := Ideal) m c 12 t : S1x512.Idx → EReal) (ix2 (0 : Fin 1) d) = A4 m c (ix1 d) := by
  blk_simp [iblk, (idx t).2.2.2.2.2.2.2.2.2.2.2.2.1]
  rw [show V (F := Ideal) m c (Pipeline.arrRef spec0 12) = _ from entL m c]
  pointwise
  blk_ext [iblk, V, (idx t).2.2.2.2.2.2.2.2.2.2.2.2.1]

/-! ### The results as functions of the arguments -/

section Spec

variable (X : S16384x8192.Idx → EReal) (wb : S31x512.Idx → EReal) (bb lg lb : S512.Idx → EReal) (wc : S3x512.Idx → EReal)

/-- A gated entry: the first part times the second's logistic. -/
def gat (n C : ℕ) : EReal := Tb (n := 16384) (w := 8192) X n (0 + C) * Ideal.logistic (Tb (n := 16384) (w := 8192) X n (512 + C))

/-- The product of the fourth and fifth parts. -/
def prd (n C : ℕ) : EReal := Tb (n := 16384) (w := 8192) X n (1536 + C) * Tb (n := 16384) (w := 8192) X n (2048 + C)

/-- A function of rows, `e` rows before row `n`, zero before the sequence. -/
def tap (f : ℕ → ℕ → EReal) (n e C : ℕ) : EReal := if e ≤ n % 8192 then f (n - e) C else 0

/-- The first causal convolution with its bias. -/
def conv (n : ℕ) (C : Fin 512) : EReal := bb (ix1 C) + ∑ k : Fin 31, wb (ix2 k C) * tap (gat X) n (30 - k.val) C.val

/-- The first result: rows are batch by position. -/
def GB : S16384x512.Idx → EReal := fun j => act (nrm (conv X wb bb (j 0).val) (lg (ix1 (j 1))) (lb (ix1 (j 1))) (j 1))

/-- The second result: rows are batch by position. -/
def GC : S16384x512.Idx → EReal := fun j => Tb (n := 16384) (w := 8192) X (j 0).val (1024 + (j 1).val)
  * (wc (ix2 (0 : Fin 3) (j 1)) * tap (prd X) (j 0).val 2 (j 1).val + wc (ix2 (1 : Fin 3) (j 1)) * tap (prd X) (j 0).val 1 (j 1).val
    + wc (ix2 (2 : Fin 3) (j 1)) * tap (prd X) (j 0).val 0 (j 1).val)

end Spec

/-- The rows before a tile, then its own, are the taps of the tile's rows. -/
theorem two_tap {h : ℕ} (e R i C : ℕ) (he : e ≤ h) (hi : i < 32) (hR : R < 512) (hC : C < 512) (f : ℕ → ℕ → EReal)
    (lo : (⟨2, ![h, 512]⟩ : Shape).Idx → EReal) (own : S512x512.Idx → EReal) (h512 : h ≤ 512)
    (hlo : ∀ (r : Fin h) (d : Fin 512), lo (ix2 r d) = f (512 * i + r.val - h) d.val * Cert.Ffn.keep i ∨ i = 0 ∧ lo (ix2 r d) = 0)
    (hown : ∀ r d : Fin 512, own (ix2 r d) = f (512 * i + r.val) d.val) :
    Two lo own (h - e + R) C = tap f (512 * i + R) e C := by
  unfold Two tap
  by_cases h1 : h - e + R < h
  · rw [if_pos h1, ← Tb_of lo (⟨h - e + R, h1⟩ : Fin h) (⟨C, hC⟩ : Fin 512)]
    rcases hlo ⟨h - e + R, h1⟩ ⟨C, hC⟩ with h2 | ⟨h2, h3⟩
    · rw [h2]
      unfold Cert.Ffn.keep
      by_cases h16 : i % 16 = 0
      · rw [if_pos h16, mul_zero, if_neg (by omega)]
      · rw [if_neg h16, mul_one, if_pos (by omega)]
        congr 1
        show 512 * i + (h - e + R) - h = _
        omega
    · rw [h3, if_neg (by omega)]
  · rw [if_neg h1, if_pos (by omega), ← Tb_of (n := 512) (w := 512) own (⟨h - e + R - h, by omega⟩ : Fin 512) (⟨C, hC⟩ : Fin 512), hown]
    congr 1
    show 512 * i + (h - e + R - h) = _
    omega

/-- The gated rows of a tile. -/
theorem two_gat (t : Fin cfg0.N) (e R C : ℕ) (he : e ≤ 32) (hR : R < 512) (hC : C < 512) :
    Two (k0_pay3 (F := Ideal) (grid0.coords t) (iblk (F := Ideal) m c 2 t) (iblk (F := Ideal) m c 3 t))
        (k0_pay4 (F := Ideal) (iblk (F := Ideal) m c 0 t) (iblk (F := Ideal) m c 1 t)) (32 - e + R) C
      = tap (gat (A0 m c)) (512 * (gi t).val + R) e C := by
  refine two_tap (h := 32) e R (gi t).val C he (gi t).2 hR hC _ _ _ (by omega) (fun r d => ?_) fun r d => ?_
  · rw [halo_at, blk2_at, blk3_at]
    by_cases h0 : (gi t).val = 0
    · right
      refine ⟨h0, ?_⟩
      rw [show ((grid0.coords t) 0).val = 0 from h0]
      unfold Cert.Ffn.keep
      rw [if_pos rfl, mul_zero]
    · left
      rw [show 32 * ((gi t).val * 16 - 1) + r.val = 512 * (gi t).val + r.val - 32 by omega]
      rfl
  · rw [own_at, blk0_at, blk1_at]
    rfl

/-- The products of a tile. -/
theorem two_prd (t : Fin cfg0.N) (e R C : ℕ) (he : e ≤ 16) (hR : R < 512) (hC : C < 512) :
    Two (k0_pay436 (F := Ideal) (k0_pay2 (F := Ideal) (grid0.coords t)) (iblk (F := Ideal) m c 7 t) (iblk (F := Ideal) m c 8 t))
        (k0_pay437 (F := Ideal) (iblk (F := Ideal) m c 5 t) (iblk (F := Ideal) m c 6 t)) (16 - e + R) C
      = tap (prd (A0 m c)) (512 * (gi t).val + R) e C := by
  refine two_tap (h := 16) e R (gi t).val C he (gi t).2 hR hC _ _ _ (by omega) (fun r d => ?_) fun r d => ?_
  · rw [halo2_at, blk7_at, blk8_at]
    by_cases h0 : (gi t).val = 0
    · right
      refine ⟨h0, ?_⟩
      rw [show ((grid0.coords t) 0).val = 0 from h0]
      unfold Cert.Ffn.keep
      rw [if_pos rfl, mul_zero]
    · left
      rw [show 16 * ((gi t).val * 32 - 1) + r.val = 512 * (gi t).val + r.val - 16 by omega]
      rfl
  · rw [own2_at, blk5_at, blk6_at]
    rfl

/-- The first output block of a point. -/
theorem outsB_at (t : Fin cfg0.N) (r d : Fin 512) :
    (outsAt0 (F := Ideal) m c t).1 (ix2 r d)
      = GB (A0 m c) (A1 m c) (A2 m c) (A3 m c) (A4 m c) (ix2 (⟨512 * (gi t).val + r.val, by have := (gi t).2; omega⟩ : Fin 16384) d) := by
  unfold outsAt0
  dsimp only
  rw [out14_at, blk11_at, blk12_at]
  show _ = act (nrm (conv (A0 m c) (A1 m c) (A2 m c) (512 * (gi t).val + r.val)) (A3 m c (ix1 d)) (A4 m c (ix1 d)) d)
  refine congrArg (fun u => act (nrm u _ _ d)) ?_
  funext x
  rw [U_eq]
  unfold conv
  refine congrArg₂ (fun a b : EReal => a + b) ?_ (Finset.sum_congr rfl fun k _ => ?_)
  · exact (Tb_of (n := 1) (w := 512) _ (0 : Fin 1) x).symm.trans (blk10_at m c t x)
  · refine congrArg₂ (fun a b : EReal => a * b) ?_ ?_
    · exact (Tb_of (n := 32) (w := 512) _ (⟨k.val, by omega⟩ : Fin 32) x).symm.trans (blk9_at m c t _ k.2 x)
    · rw [show k.val + 2 + r.val = 32 - (30 - k.val) + r.val by omega]
      exact two_gat m c t _ _ _ (by omega) r.2 x.2

/-- The second output block of a point. -/
theorem outsC_at (t : Fin cfg0.N) (r d : Fin 512) :
    (outsAt0 (F := Ideal) m c t).2 (ix2 r d)
      = GC (A0 m c) (A5 m c) (ix2 (⟨512 * (gi t).val + r.val, by have := (gi t).2; omega⟩ : Fin 16384) d) := by
  unfold outsAt0
  dsimp only
  rw [out15_at, blk4_at, blk13_at _ _ _ _ (by decide), blk13_at _ _ _ _ (by decide), blk13_at _ _ _ _ (by decide)]
  have e2 := two_prd m c t 2 r.val d.val (by omega) r.2 d.2
  have e1 := two_prd m c t 1 r.val d.val (by omega) r.2 d.2
  have e0 := two_prd m c t 0 r.val d.val (by omega) r.2 d.2
  rw [show 16 - 2 = 14 from rfl] at e2
  rw [show 16 - 1 = 15 from rfl] at e1
  rw [show 16 - 0 = 16 from rfl] at e0
  rw [e2, e1, e0]
  rfl

/-- The first result array after the run. -/
theorem arrB_eq : (dats (F := Ideal) m 0 c).arrAt 14 cfg0.N = GB (A0 m c) (A1 m c) (A2 m c) (A3 m c) (A4 m c) := by
  refine (dats (F := Ideal) m 0 c).arrAt_eq_of_covers 14 _ (by decide +kernel) fun t hf y => ?_
  obtain ⟨r, d, rfl⟩ : ∃ (r d : Fin 512), y = ix2 r d := ⟨y 0, y 1, eq_ix2 y⟩
  blk_simp
  rw [after0_14, outsB_at m c t]
  congr 1
  refine funext (Fin.forall_fin_two.mpr ⟨Fin.ext ?_, Fin.ext ?_⟩) <;> blk_simp [(idx t).2.2.2.2.2.2.2.2.2.2.2.2.2.2.1] <;> (try dsimp only) <;> omega

/-- The second result array after the run. -/
theorem arrC_eq : (dats (F := Ideal) m 0 c).arrAt 15 cfg0.N = GC (A0 m c) (A5 m c) := by
  refine (dats (F := Ideal) m 0 c).arrAt_eq_of_covers 15 _ (by decide +kernel) fun t hf y => ?_
  obtain ⟨r, d, rfl⟩ : ∃ (r d : Fin 512), y = ix2 r d := ⟨y 0, y 1, eq_ix2 y⟩
  blk_simp
  rw [after0_15, outsC_at m c t]
  congr 1
  refine funext (Fin.forall_fin_two.mpr ⟨Fin.ext ?_, Fin.ext ?_⟩) <;> blk_simp [(idx t).2.2.2.2.2.2.2.2.2.2.2.2.2.2.2] <;> (try dsimp only) <;> omega

end Cert.Conv

end
-- ==== Proof.ConvRef.lean ====
/- The convolution mixers' reference read at an index. -/
module

public import proofs.«01_k».proof.Proof.ConvBlocks
public import proofs.«01_k».proof.Proof.Gen.Reference6Ideal.Run
public import Idealize.ShloMosaic.Lib.Pointwise

@[expose] public section

noncomputable section

namespace Cert.Conv

open Cert.Reference6Ideal Cert.Reference6Ideal.Facts₀ Cert.Reference6Ideal.Value Idealize.ShloMosaic Idealize.ShloMosaic.TcCoe Idealize.ShloMosaic.StableHlo

set_option maxRecDepth 16384
section At

variable (V0 : Valuation τ sig (Elt Ideal)) (b : Fin 2) (t : Fin 8192)

/-- The arguments of a valuation. -/
abbrev R0 : S16384x8192.Idx → EReal := V0 (Proc.devRef .tc main_arg0)
abbrev R1 : S31x512.Idx → EReal := V0 (Proc.devRef .tc main_arg1)
abbrev R2 : S512.Idx → EReal := V0 (Proc.devRef .tc main_arg2)
abbrev R3 : S512.Idx → EReal := V0 (Proc.devRef .tc main_arg3)
abbrev R4 : S512.Idx → EReal := V0 (Proc.devRef .tc main_arg4)
abbrev R5 : S3x512.Idx → EReal := V0 (Proc.devRef .tc main_arg5)

theorem v1_at (K : Fin 8192) : res_main_v1 (F := Ideal) V0 (ix3 b t K) = Tb (n := 16384) (w := 8192) (R0 V0) (8192 * b.val + t.val) K.val := by
  pointwise [res_main_v1]
  refine (Tb_of (n := 16384) (w := 8192) (R0 V0) _ _).trans ?_
  congr 1 <;> dsimp only <;> omega

theorem v14_at (s : Fin 8222) (f : Fin 512) :
    res_main_v14 (F := Ideal) V0 (ix3 b s f) = if 30 ≤ s.val then gat (R0 V0) (8192 * b.val + (s.val - 30)) f.val else 0 := by
  have hs := s.2
  have hb := b.2
  have hf := f.2
  unfold res_main_v14
  obtain ⟨p, hp⟩ : ∃ p : S2x8192x8192.Idx → EReal, p = res_main_v1 (F := Ideal) V0 := ⟨_, rfl⟩
  rw [← hp]
  pointwise
  by_cases h : 30 ≤ s.val
  · rw [if_pos h, dif_pos ⟨h, by omega⟩, hp, v1_at, v1_at]
    unfold gat
    rw [Nat.zero_add]
    rfl
  · rw [if_neg h, dif_neg (fun hh => h hh.1)]
    show (((0#32 : BitVec 32).toInt : ℝ) : EReal) = 0
    simp

theorem v258_at (s : Fin 8194) (f : Fin 512) :
    res_main_v258 (F := Ideal) V0 (ix3 b s f) = if 2 ≤ s.val then prd (R0 V0) (8192 * b.val + (s.val - 2)) f.val else 0 := by
  have hs := s.2
  have hb := b.2
  have hf := f.2
  unfold res_main_v258
  obtain ⟨p, hp⟩ : ∃ p : S2x8192x8192.Idx → EReal, p = res_main_v1 (F := Ideal) V0 := ⟨_, rfl⟩
  rw [← hp]
  pointwise
  by_cases h : 2 ≤ s.val
  · rw [if_pos h, dif_pos ⟨h, by omega⟩, hp, v1_at, v1_at]
    rfl
  · rw [if_neg h, dif_neg (fun hh => h hh.1)]
    show (((0#32 : BitVec 32).toInt : ℝ) : EReal) = 0
    simp

/-- The padded gated rows are the taps. -/
theorem tap14 (k : ℕ) (hk : k ≤ 30) (s : Fin 8222) (hs : s.val = k + t.val) (f : Fin 512) :
    res_main_v14 (F := Ideal) V0 (ix3 b s f) = tap (gat (R0 V0)) (8192 * b.val + t.val) (30 - k) f.val := by
  have ht := t.2
  rw [v14_at]
  unfold tap
  by_cases h : 30 ≤ s.val
  · rw [if_pos h, if_pos (by omega)]
    congr 1
    omega
  · rw [if_neg h, if_neg (by omega)]

/-- The padded products are the taps. -/
theorem tap258 (k : ℕ) (hk : k ≤ 2) (s : Fin 8194) (hs : s.val = k + t.val) (f : Fin 512) :
    res_main_v258 (F := Ideal) V0 (ix3 b s f) = tap (prd (R0 V0)) (8192 * b.val + t.val) (2 - k) f.val := by
  have ht := t.2
  rw [v258_at]
  unfold tap
  by_cases h : 2 ≤ s.val
  · rw [if_pos h, if_pos (by omega)]
    congr 1
    omega
  · rw [if_neg h, if_neg (by omega)]

/-- A sum of 31 numbers, written out. -/
theorem sum31_fin (g : Fin 31 → EReal) : ∑ k : Fin 31, g k
    = g 0 + g 1 + g 2 + g 3 + g 4 + g 5 + g 6 + g 7 + g 8 + g 9 + g 10 + g 11 + g 12 + g 13 + g 14 + g 15 + g 16 + g 17 + g 18 + g 19 + g 20 + g 21 + g 22 + g 23 + g 24 + g 25 + g 26 + g 27 + g 28 + g 29 + g 30 := by
  simp only [Fin.sum_univ_castSucc, Finset.univ_eq_empty, Finset.sum_empty, zero_add]
  rfl

/-- The convolution with its bias. -/
theorem v233_at (f : Fin 512) :
    res_main_v233 (F := Ideal) V0 (ix3 b t f) = conv (R0 V0) (R1 V0) (R2 V0) (8192 * b.val + t.val) f := by
  obtain ⟨p, hp⟩ : ∃ p : S2x8222x512.Idx → EReal, p = res_main_v14 (F := Ideal) V0 := ⟨_, rfl⟩
  obtain ⟨w, hw⟩ : ∃ w : S31x512.Idx → EReal, w = R1 V0 := ⟨_, rfl⟩
  obtain ⟨v, hv⟩ : ∃ v : S512.Idx → EReal, v = R2 V0 := ⟨_, rfl⟩
  unfold conv
  rw [← hw, ← hv]
  have e : ∀ k : Fin 31, w (ix2 k f) * tap (gat (R0 V0)) (8192 * b.val + t.val) (30 - k.val) f.val
      = w (ix2 k f) * p (ix3 b (⟨k.val + t.val, by omega⟩ : Fin 8222) f) := fun k => by
    rw [hp, tap14 V0 b t k.val (by omega) _ rfl]
  simp only [e]
  clear e
  unfold res_main_v233 res_main_v167 res_main_v90
  rw [← hp]
  rw [show V0 (Proc.devRef .tc main_arg1) = w from hw.symm, show V0 (Proc.devRef .tc main_arg2) = v from hv.symm]
  clear hp hw hv
  pointwise
  rw [add_comm]
  refine congrArg₂ (fun a b : EReal => a + b) rfl ?_
  rw [show (⟨t.val, by omega⟩ : Fin 8222) = ⟨0 + t.val, by omega⟩ from Fin.ext (Nat.zero_add _).symm]
  exact (sum31_fin fun k : Fin 31 => w (ix2 k f) * p (ix3 b (⟨k.val + t.val, by omega⟩ : Fin 8222) f)).symm

/-- The normalized convolution. -/
theorem v255_at (f : Fin 512) :
    res_main_v255 (F := Ideal) V0 (ix3 b t f)
      = nrm (conv (R0 V0) (R1 V0) (R2 V0) (8192 * b.val + t.val)) (R3 V0 (ix1 f)) (R4 V0 (ix1 f)) f := by
  obtain ⟨q, hq⟩ : ∃ q : S2x8192x512.Idx → EReal, q = res_main_v233 (F := Ideal) V0 := ⟨_, rfl⟩
  have e : conv (R0 V0) (R1 V0) (R2 V0) (8192 * b.val + t.val) = fun x => q (ix3 b t x) := by
    funext x
    rw [hq, v233_at]
  rw [e]
  clear e
  obtain ⟨g, hg⟩ : ∃ g : S512.Idx → EReal, g = R3 V0 := ⟨_, rfl⟩
  obtain ⟨l, hl⟩ : ∃ l : S512.Idx → EReal, l = R4 V0 := ⟨_, rfl⟩
  rw [← hg, ← hl]
  unfold res_main_v255 res_main_v239
  rw [← hq, show V0 (Proc.devRef .tc main_arg3) = g from hg.symm, show V0 (Proc.devRef .tc main_arg4) = l from hl.symm]
  clear hq hg hl
  pointwise
  rfl

/-- Batch and position of a row. -/
theorem row_split (n : Fin 16384) : ∃ (b : Fin 2) (t : Fin 8192), n = ⟨8192 * b.val + t.val, by omega⟩ :=
  ⟨⟨n.val / 8192, by omega⟩, ⟨n.val % 8192, by omega⟩, Fin.ext (by dsimp only; omega)⟩

/-- The first result's term. -/
def bV : FVec Ideal S16384x512 .bf16 :=
  truncf .bf16 (shapeCast _ (mulf (res_main_v255 (F := Ideal) V0) (Host.divf (broadcastInDim S2x8192x512 ![] bcast_S_S2x8192x512 (constant S_ .f32 0x3F800000#32)) (addf (broadcastInDim S2x8192x512 ![] bcast_S_S2x8192x512 (constant S_ .f32 0x3F800000#32)) (Host.exp (Host.negf (res_main_v255 (F := Ideal) V0)))))) shapeCasts_S2x8192x512_S16384x512) bitsLt_bf16_f32

/-- The second result's term. -/
def cV : FVec Ideal S16384x512 .bf16 :=
  truncf .bf16 (shapeCast _ (mulf (extractStridedSlice S2x8192x512 ![0, 0, 1024] (res_main_v1 (F := Ideal) V0) slices_S2x8192x8192_S2x8192x512_0_0_1024) (addf (addf (mulf (broadcastInDim S2x8192x512 ![0, 1, 2] bcast_S1x1x512_S2x8192x512_0_1_2 (broadcastInDim S1x1x512 ![2] bcast_S512_S1x1x512_2 (shapeCast _ (extractStridedSlice S1x512 ![0, 0] (V0 (Proc.devRef .tc main_arg5)) slices_S3x512_S1x512_0_0) shapeCasts_S1x512_S512))) (extractStridedSlice S2x8192x512 ![0, 0, 0] (res_main_v258 (F := Ideal) V0) slices_S2x8194x512_S2x8192x512_0_0_0)) (mulf (broadcastInDim S2x8192x512 ![0, 1, 2] bcast_S1x1x512_S2x8192x512_0_1_2 (broadcastInDim S1x1x512 ![2] bcast_S512_S1x1x512_2 (shapeCast _ (extractStridedSlice S1x512 ![1, 0] (V0 (Proc.devRef .tc main_arg5)) slices_S3x512_S1x512_1_0) shapeCasts_S1x512_S512))) (extractStridedSlice S2x8192x512 ![0, 1, 0] (res_main_v258 (F := Ideal) V0) slices_S2x8194x512_S2x8192x512_0_1_0))) (mulf (broadcastInDim S2x8192x512 ![0, 1, 2] bcast_S1x1x512_S2x8192x512_0_1_2 (broadcastInDim S1x1x512 ![2] bcast_S512_S1x1x512_2 (shapeCast _ (extractStridedSlice S1x512 ![2, 0] (V0 (Proc.devRef .tc main_arg5)) slices_S3x512_S1x512_2_0) shapeCasts_S1x512_S512))) (extractStridedSlice S2x8192x512 ![0, 2, 0] (res_main_v258 (F := Ideal) V0) slices_S2x8194x512_S2x8192x512_0_2_0)))) shapeCasts_S2x8192x512_S16384x512) bitsLt_bf16_f32

theorem bV_eq : bV V0 = GB (R0 V0) (R1 V0) (R2 V0) (R3 V0) (R4 V0) := by
  funext j
  obtain ⟨n, f, rfl⟩ : ∃ (n : Fin 16384) (f : Fin 512), j = ix2 n f := ⟨j 0, j 1, eq_ix2 j⟩
  obtain ⟨b, t, rfl⟩ := row_split n
  show _ = act (nrm (conv (R0 V0) (R1 V0) (R2 V0) (8192 * b.val + t.val)) (R3 V0 (ix1 f)) (R4 V0 (ix1 f)) f)
  rw [← v255_at]
  unfold bV
  obtain ⟨q, hq⟩ : ∃ q : S2x8192x512.Idx → EReal, q = res_main_v255 (F := Ideal) V0 := ⟨_, rfl⟩
  rw [← hq]
  pointwise
  rfl

theorem cV_eq : cV V0 = GC (R0 V0) (R5 V0) := by
  funext j
  obtain ⟨n, f, rfl⟩ : ∃ (n : Fin 16384) (f : Fin 512), j = ix2 n f := ⟨j 0, j 1, eq_ix2 j⟩
  obtain ⟨b, t, rfl⟩ := row_split n
  show _ = Tb (n := 16384) (w := 8192) (R0 V0) (8192 * b.val + t.val) (1024 + f.val)
    * (R5 V0 (ix2 (0 : Fin 3) f) * tap (prd (R0 V0)) (8192 * b.val + t.val) (2 - 0) f.val
      + R5 V0 (ix2 (1 : Fin 3) f) * tap (prd (R0 V0)) (8192 * b.val + t.val) (2 - 1) f.val
      + R5 V0 (ix2 (2 : Fin 3) f) * tap (prd (R0 V0)) (8192 * b.val + t.val) (2 - 2) f.val)
  rw [← tap258 V0 b t 0 (by omega) (⟨t.val, by omega⟩ : Fin 8194) (Nat.zero_add _).symm f,
    ← tap258 V0 b t 1 (by omega) (⟨1 + t.val, by omega⟩ : Fin 8194) rfl f,
    ← tap258 V0 b t 2 (by omega) (⟨2 + t.val, by omega⟩ : Fin 8194) rfl f]
  rw [← v1_at V0 b t (⟨1024 + f.val, by omega⟩ : Fin 8192)]
  unfold cV
  obtain ⟨q, hq⟩ : ∃ q : S2x8194x512.Idx → EReal, q = res_main_v258 (F := Ideal) V0 := ⟨_, rfl⟩
  obtain ⟨p, hp⟩ : ∃ p : S2x8192x8192.Idx → EReal, p = res_main_v1 (F := Ideal) V0 := ⟨_, rfl⟩
  obtain ⟨w, hw⟩ : ∃ w : S3x512.Idx → EReal, w = R5 V0 := ⟨_, rfl⟩
  rw [← hq, ← hp, ← hw, show V0 (Proc.devRef .tc main_arg5) = w from hw.symm]
  pointwise

end At

end Cert.Conv

end
-- ==== Proof.ConvClaims.lean ====
/- The claims about the two convolution mixers. -/
module

public import proofs.«01_k».proof.Defs
public import proofs.«01_k».proof.Proof.ConvRef

@[expose] public section

noncomputable section

namespace Cert.Conv

open Idealize.ShloMosaic Idealize.SL.Sem

/-- The plain reference runs, leaves its arguments alone and ends with every counter at zero. -/
theorem frame_ri : Cert.quiescent_Reference6Ideal (hReference6Ideal := Cert.Reference6Ideal.Gen.facts) := fun m ρ _ =>
  (θ_run Cert.Reference6Ideal.defs _ _).mono (fun r h => ⟨fun c => (h c).2.2,
      Idealize.ShloMosaic.sem_eq_zero_of_no_sems (by decide) r.2⟩)
    (Cert.Reference6Ideal.Value.run (F := Ideal) m ρ)

/-- The kernel and the plain mixers end at the same two functions of the arguments. -/
theorem algebraic : Cert.algebraic_Kernel6Ideal_Reference6Ideal (hKernel6Ideal := Cert.Kernel6Ideal.Gen.facts)
    (hReference6Ideal := Cert.Reference6Ideal.Gen.facts) := by
  intro m ρ m' ρ' _ hag
  refine ⟨fun c => GB (m (c.tc.loc Cert.Kernel6Ideal.main_arg0)) (m (c.tc.loc Cert.Kernel6Ideal.main_arg1))
      (m (c.tc.loc Cert.Kernel6Ideal.main_arg2)) (m (c.tc.loc Cert.Kernel6Ideal.main_arg3)) (m (c.tc.loc Cert.Kernel6Ideal.main_arg4)),
    fun c => GC (m (c.tc.loc Cert.Kernel6Ideal.main_arg0)) (m (c.tc.loc Cert.Kernel6Ideal.main_arg5)), ?_, ?_⟩
  · exact (θ_run Cert.Kernel6Ideal.defs _ _).mono
      (fun r h c => ⟨((h.1 c).1 14).trans (arrB_eq m c), ((h.1 c).1 15).trans (arrC_eq m c), h.2.1 c⟩)
      (θ_run_and (Cert.Kernel6Ideal.Gen.run_main m ρ) (Cert.Kernel6Ideal.Gen.frame m ρ))
  · refine (θ_run Cert.Reference6Ideal.defs _ _).mono (fun r h c => ⟨(h c).1.trans ?_, (h c).2.1.trans ?_, (h c).2.2⟩) (Cert.Reference6Ideal.Value.run m' ρ')
    · obtain ⟨h0, h1, h2, h3, h4, h5⟩ := hag c
      refine (bV_eq (StableHlo.launchContents m' c)).trans ?_
      refine Eq.trans (b := GB (m' (c.tc.loc Cert.Reference6Ideal.main_arg0)) (m' (c.tc.loc Cert.Reference6Ideal.main_arg1))
        (m' (c.tc.loc Cert.Reference6Ideal.main_arg2)) (m' (c.tc.loc Cert.Reference6Ideal.main_arg3)) (m' (c.tc.loc Cert.Reference6Ideal.main_arg4))) rfl ?_
      rw [h0, h1, h2, h3, h4]
    · obtain ⟨h0, h1, h2, h3, h4, h5⟩ := hag c
      refine (cV_eq (StableHlo.launchContents m' c)).trans ?_
      refine Eq.trans (b := GC (m' (c.tc.loc Cert.Reference6Ideal.main_arg0)) (m' (c.tc.loc Cert.Reference6Ideal.main_arg5))) rfl ?_
      rw [h0, h5]

end Cert.Conv

end
-- ==== Proof.PrepPay.lean ====
/- The values the preparation kernel computes, read at an index. -/
module

public import proofs.«01_k».proof.Proof.Gen.Kernel7Ideal.Value
public import Idealize.ShloMosaic.Lib.Pointwise
public import Idealize.ShloMosaic.Lib.Pipeline.ReadBack
public import Idealize.ShloMosaic.Lib.Pipeline.ValueKit
public import Idealize.ShloMosaic.Lib.Pipeline.ValueKit.Point

@[expose] public section

noncomputable section

namespace Cert.Prep

open Cert.Kernel7Ideal Cert.Kernel7Ideal.Gen Idealize.ShloMosaic Idealize.ShloMosaic.TcCoe

set_option maxRecDepth 16384

/-- A row of numbers by their mean square, times the gains; `k` is one over the count. -/
def nrm (k : EReal) (x g : ℕ → EReal) (d : ℕ) : EReal :=
  x d * Ideal.rsqrt ((∑ j : Fin 128, x j.val * x j.val) * k + Ideal.ofBits .f32 0x358637BD#32) * g d

/-- The rotary step on 128 lanes: lanes of a period's first `half` take their partner `half` above, the others `half` below. -/
def rp (half period : ℕ) (x c s : ℕ → EReal) (d : ℕ) : EReal :=
  x d * c d + (if d % period < half then 0 - x ((d + half) % 128) else x ((d + (128 - half)) % 128)) * s d

/-- The lanes the kernel takes for the lower ones of a period of 128. -/
theorem msk128 : ∀ (d : Fin 128), IntOp.cmpi CmpIPredicate.slt
      (Scalar.select (IntOp.andi (IntOp.xori (IntOp.cmpi CmpIPredicate.slt (IntOp.remsi ArithUnit.vector (BitVec.ofNat 32 d.val) (Scalar.select (Scalar.cmpi CmpIPredicate.eq 128#32 0#32) 1#32 128#32)) 0#32) (Scalar.cmpi CmpIPredicate.slt (Scalar.select (Scalar.cmpi CmpIPredicate.eq 128#32 0#32) 1#32 128#32) 0#32))
          (IntOp.cmpi CmpIPredicate.ne (IntOp.remsi ArithUnit.vector (BitVec.ofNat 32 d.val) (Scalar.select (Scalar.cmpi CmpIPredicate.eq 128#32 0#32) 1#32 128#32)) 0#32))
        (IntOp.addi (IntOp.remsi ArithUnit.vector (BitVec.ofNat 32 d.val) (Scalar.select (Scalar.cmpi CmpIPredicate.eq 128#32 0#32) 1#32 128#32)) (Scalar.select (Scalar.cmpi CmpIPredicate.eq 128#32 0#32) 1#32 128#32)) (IntOp.remsi ArithUnit.vector (BitVec.ofNat 32 d.val) (Scalar.select (Scalar.cmpi CmpIPredicate.eq 128#32 0#32) 1#32 128#32))) 16#32 = if d.val % 128 < 16 then 1#1 else 0#1 := by
  decide +kernel

/-- The lanes the kernel takes for the lower ones of a period of 64. -/
theorem msk64 : ∀ (d : Fin 128), IntOp.cmpi CmpIPredicate.slt
      (Scalar.select (IntOp.andi (IntOp.xori (IntOp.cmpi CmpIPredicate.slt (IntOp.remsi ArithUnit.vector (BitVec.ofNat 32 d.val) (Scalar.select (Scalar.cmpi CmpIPredicate.eq 64#32 0#32) 1#32 64#32)) 0#32) (Scalar.cmpi CmpIPredicate.slt (Scalar.select (Scalar.cmpi CmpIPredicate.eq 64#32 0#32) 1#32 64#32) 0#32))
          (IntOp.cmpi CmpIPredicate.ne (IntOp.remsi ArithUnit.vector (BitVec.ofNat 32 d.val) (Scalar.select (Scalar.cmpi CmpIPredicate.eq 64#32 0#32) 1#32 64#32)) 0#32))
        (IntOp.addi (IntOp.remsi ArithUnit.vector (BitVec.ofNat 32 d.val) (Scalar.select (Scalar.cmpi CmpIPredicate.eq 64#32 0#32) 1#32 64#32)) (Scalar.select (Scalar.cmpi CmpIPredicate.eq 64#32 0#32) 1#32 64#32)) (IntOp.remsi ArithUnit.vector (BitVec.ofNat 32 d.val) (Scalar.select (Scalar.cmpi CmpIPredicate.eq 64#32 0#32) 1#32 64#32))) 8#32 = if d.val % 64 < 8 then 1#1 else 0#1 := by
  decide +kernel

/-- The lanes the kernel takes for the lower ones of a period of 64. -/
theorem msk64n : ∀ (d : ℕ) (_ : d < 128), IntOp.cmpi CmpIPredicate.slt
      (Scalar.select (IntOp.andi (IntOp.xori (IntOp.cmpi CmpIPredicate.slt (IntOp.remsi ArithUnit.vector (BitVec.ofNat 32 d) (Scalar.select (Scalar.cmpi CmpIPredicate.eq 64#32 0#32) 1#32 64#32)) 0#32) (Scalar.cmpi CmpIPredicate.slt (Scalar.select (Scalar.cmpi CmpIPredicate.eq 64#32 0#32) 1#32 64#32) 0#32))
          (IntOp.cmpi CmpIPredicate.ne (IntOp.remsi ArithUnit.vector (BitVec.ofNat 32 d) (Scalar.select (Scalar.cmpi CmpIPredicate.eq 64#32 0#32) 1#32 64#32)) 0#32))
        (IntOp.addi (IntOp.remsi ArithUnit.vector (BitVec.ofNat 32 d) (Scalar.select (Scalar.cmpi CmpIPredicate.eq 64#32 0#32) 1#32 64#32)) (Scalar.select (Scalar.cmpi CmpIPredicate.eq 64#32 0#32) 1#32 64#32)) (IntOp.remsi ArithUnit.vector (BitVec.ofNat 32 d) (Scalar.select (Scalar.cmpi CmpIPredicate.eq 64#32 0#32) 1#32 64#32))) 8#32 = if d % 64 < 8 then 1#1 else 0#1 := by
  exact fun d hd => msk64 ⟨d, hd⟩

theorem sel_ite (p : Prop) [Decidable p] (a b : EReal) : Scalar.select (if p then 1#1 else 0#1 : BitVec 1) a b = if p then a else b := by
  by_cases h : p
  · rw [if_pos h, if_pos h]; rfl
  · rw [if_neg h, if_neg h]; rfl

theorem lane16 (n : ℕ) : n + 128 - 16 = n + 112 := by omega
theorem lane112 (n : ℕ) : n + 128 - 112 = n + 16 := by omega
theorem lane8 (n : ℕ) : n + 128 - 8 = n + 120 := by omega
theorem lane120 (n : ℕ) : n + 128 - 120 = n + 8 := by omega
theorem lane64 (n : ℕ) : n + 128 - 64 = n + 64 := by omega

theorem slt64 : ∀ d : Fin 128, IntOp.cmpi CmpIPredicate.slt (BitVec.ofNat 32 d.val) 64#32 = if d.val < 64 then 1#1 else 0#1 := by
  decide +kernel

theorem sge64 : ∀ d : Fin 128, IntOp.cmpi CmpIPredicate.sge (BitVec.ofNat 32 d.val) 64#32 = if 64 ≤ d.val then 1#1 else 0#1 := by
  decide +kernel

section Pieces

variable (h c s : S512x128.Idx → EReal) (g : S1x128.Idx → EReal) (r : Fin 512) (H G C S : ℕ → EReal)
  (hh : ∀ j : Fin 128, h (ix2 r j) = H j.val) (hg : ∀ j : Fin 128, g (ix2 (0 : Fin 1) j) = G j.val)
  (hc : ∀ j : Fin 128, c (ix2 r j) = C j.val) (hs : ∀ j : Fin 128, s (ix2 r j) = S j.val)

include hh hg hc hs in
theorem q15 (d : Fin 128) : k0_pay15 (F := Ideal) (k0_pay5 s) (k0_pay9 c h g) (k0_pay10 h g) (k0_pay11 h g) (Scalar.select (Scalar.cmpi .eq 128#32 0#32) 1#32 128#32) k0_pay12 k0_pay13 k0_pay14 (ix3 (0 : Fin 1) d r)
      = rp 16 128 (nrm (Ideal.ofBits .f32 0x3C000000#32) H G) C S d.val * Ideal.ofBits .f32 0x3E0293EE#32 := by
  unfold rp nrm
  pointwise [k0_pay15, k0_pay9, k0_pay10, k0_pay11, k0_pay12, k0_pay13, k0_pay14, k0_pay8, k0_pay4, k0_pay5]
  simp only [hh, hg, hc, hs, msk128, sel_ite, lane16, lane112, lane8, lane120, lane64, Nat.reduceSub]

include hh hg hc hs in
theorem q25 (d : Fin 128) : k0_pay25 (F := Ideal) (k0_pay24 (k0_pay4 c) (k0_pay5 s) (k0_pay22 h) (k0_pay23 g)) (ix3 (0 : Fin 1) d r)
      = rp 16 128 (nrm (Ideal.ofBits .f32 0x3C000000#32) H G) C S d.val * Ideal.ofBits .f32 0x3E0293EE#32 := by
  unfold rp nrm
  pointwise [k0_pay25, k0_pay24, k0_pay22, k0_pay23, k0_pay4, k0_pay5]
  simp only [hh, hg, hc, hs, msk128, sel_ite, lane16, lane112, lane8, lane120, lane64, Nat.reduceSub]

include hh hg hc hs in
theorem q38 (d : Fin 128) : k0_pay38 (F := Ideal) (k0_pay5 s) (k0_pay35 (k0_pay4 c) h g) (iota .tc S512x128 32 [1] iota_S512x128_d1_w32) (k0_pay36 h g) (k0_pay37 h g) (Scalar.select (Scalar.cmpi .eq 128#32 0#32) 1#32 128#32) (ix3 (0 : Fin 1) d r)
      = rp 16 128 (nrm (Ideal.ofBits .f32 0x3C000000#32) H G) C S d.val * Ideal.ofBits .f32 0x3E0293EE#32 := by
  unfold rp nrm
  pointwise [k0_pay38, k0_pay35, k0_pay36, k0_pay37, k0_pay34, k0_pay4, k0_pay5]
  simp only [hh, hg, hc, hs, msk128, sel_ite, lane16, lane112, lane8, lane120, lane64, Nat.reduceSub]

include hh hg hc hs in
theorem q44 (d : Fin 128) : k0_pay44 (F := Ideal) (k0_pay43 (k0_pay4 c) (k0_pay5 s) h g) (ix3 (0 : Fin 1) d r)
      = rp 16 128 (nrm (Ideal.ofBits .f32 0x3C000000#32) H G) C S d.val * Ideal.ofBits .f32 0x3E0293EE#32 := by
  unfold rp nrm
  pointwise [k0_pay44, k0_pay43, k0_pay4, k0_pay5]
  simp only [hh, hg, hc, hs, msk128, sel_ite, lane16, lane112, lane8, lane120, lane64, Nat.reduceSub]

include hh hg hc hs in
theorem k20 (d : Fin 128) : k0_pay20 (F := Ideal) (k0_pay5 s) (k0_pay17 (k0_pay4 c) h g) (iota .tc S512x128 32 [1] iota_S512x128_d1_w32) (k0_pay18 h g) (k0_pay19 h g) 128#32 (ix3 (0 : Fin 1) r d)
      = rp 16 128 (nrm (Ideal.ofBits .f32 0x3C000000#32) H G) C S d.val := by
  unfold rp nrm
  pointwise [k0_pay20, k0_pay17, k0_pay18, k0_pay19, k0_pay16, k0_pay4, k0_pay5]
  simp only [hh, hg, hc, hs, msk128, sel_ite, lane16, lane112, lane8, lane120, lane64, Nat.reduceSub]

include hh hg hc hs in
theorem k32 (d : Fin 128) : k0_pay32 (F := Ideal) (k0_pay5 s) (k0_pay27 (k0_pay4 c) h g) (k0_pay28 h g) (k0_pay29 h g) k0_pay30 (k0_pay31 (F := Ideal)) (ix3 (0 : Fin 1) r d)
      = rp 16 128 (nrm (Ideal.ofBits .f32 0x3C000000#32) H G) C S d.val := by
  unfold rp nrm
  pointwise [k0_pay32, k0_pay27, k0_pay28, k0_pay29, k0_pay30, k0_pay31, k0_pay26, k0_pay4, k0_pay5]
  simp only [hh, hg, hc, hs, msk128, sel_ite, lane16, lane112, lane8, lane120, lane64, Nat.reduceSub]

include hh hg hc hs in
theorem k41 (d : Fin 128) : k0_pay41 (F := Ideal) (k0_pay4 c) (k0_pay5 s) (k0_pay39 h) (k0_pay40 g) (ix3 (0 : Fin 1) r d)
      = rp 16 128 (nrm (Ideal.ofBits .f32 0x3C000000#32) H G) C S d.val := by
  unfold rp nrm
  pointwise [k0_pay41, k0_pay39, k0_pay40, k0_pay4, k0_pay5]
  simp only [hh, hg, hc, hs, msk128, sel_ite, lane16, lane112, lane8, lane120, lane64, Nat.reduceSub]

include hh hg hc hs in
theorem k51 (d : Fin 128) : k0_pay51 (F := Ideal) (k0_pay5 s) (k0_pay46 (k0_pay4 c) h g) (k0_pay47 h g) (k0_pay48 h g) (Scalar.select (Scalar.cmpi .eq 128#32 0#32) 1#32 128#32) k0_pay49 k0_pay50 (ix3 (0 : Fin 1) r d)
      = rp 16 128 (nrm (Ideal.ofBits .f32 0x3C000000#32) H G) C S d.val := by
  unfold rp nrm
  pointwise [k0_pay51, k0_pay46, k0_pay47, k0_pay48, k0_pay49, k0_pay50, k0_pay45, k0_pay4, k0_pay5]
  simp only [hh, hg, hc, hs, msk128, sel_ite, lane16, lane112, lane8, lane120, lane64, Nat.reduceSub]

include hh hc hs in
theorem i61 (d : Fin 128) : k0_pay61 (F := Ideal) (k0_pay7 s) (iota .tc S128x512 32 [0] iota_S128x512_d0_w32) (k0_pay54 (k0_pay6 c) h) (k0_pay55 h) (k0_pay56 h) (Scalar.select (Scalar.cmpi .eq 64#32 0#32) 1#32 64#32) k0_pay57 k0_pay58 k0_pay59 (Scalar.cmpi .slt (Scalar.select (Scalar.cmpi .eq 64#32 0#32) 1#32 64#32) 0#32) (ix3 (0 : Fin 1) d r)
      = if d.val < 64 then rp 8 64 H C S d.val else 0 := by
  unfold rp
  pointwise [k0_pay61, k0_pay60, k0_pay57, k0_pay58, k0_pay59, k0_pay54, k0_pay55, k0_pay56, k0_pay53, k0_pay6, k0_pay7]
  simp only [hh, hc, hs, msk64, slt64, sge64, sel_ite, lane16, lane112, lane8, lane120, lane64, Nat.reduceSub]

include hh hc hs in
theorem i62 (d : Fin 128) : k0_pay62 (F := Ideal) (k0_pay7 s) (iota .tc S128x512 32 [0] iota_S128x512_d0_w32) (k0_pay54 (k0_pay6 c) h) (k0_pay55 h) (k0_pay56 h) (Scalar.select (Scalar.cmpi .eq 64#32 0#32) 1#32 64#32) k0_pay57 k0_pay58 k0_pay59 (Scalar.cmpi .slt (Scalar.select (Scalar.cmpi .eq 64#32 0#32) 1#32 64#32) 0#32) (ix3 (0 : Fin 1) d r)
      = if 64 ≤ d.val then rp 8 64 H C S d.val else 0 := by
  unfold rp
  pointwise [k0_pay62, k0_pay60, k0_pay57, k0_pay58, k0_pay59, k0_pay54, k0_pay55, k0_pay56, k0_pay53, k0_pay6, k0_pay7]
  simp only [hh, hc, hs, msk64, slt64, sge64, sel_ite, lane16, lane112, lane8, lane120, lane64, Nat.reduceSub]

include hh hc hs in
theorem i68 (d : Fin 128) : k0_pay68 (F := Ideal) (k0_pay7 s) (iota .tc S128x512 32 [0] iota_S128x512_d0_w32) (k0_pay64 (k0_pay6 c) h) (iota .tc S512x128 32 [1] iota_S512x128_d1_w32) (k0_pay65 h) (k0_pay66 h) (Scalar.select (Scalar.cmpi .eq 64#32 0#32) 1#32 64#32) (ix3 (0 : Fin 1) d r)
      = if d.val < 64 then rp 8 64 H C S d.val else 0 := by
  unfold rp
  pointwise [k0_pay68, k0_pay67, k0_pay64, k0_pay65, k0_pay66, k0_pay63, k0_pay6, k0_pay7]
  simp only [hh, hc, hs, msk64, slt64, sge64, sel_ite, lane16, lane112, lane8, lane120, lane64, Nat.reduceSub]

include hh hc hs in
theorem i69 (d : Fin 128) : k0_pay69 (F := Ideal) (k0_pay7 s) (iota .tc S128x512 32 [0] iota_S128x512_d0_w32) (k0_pay64 (k0_pay6 c) h) (iota .tc S512x128 32 [1] iota_S512x128_d1_w32) (k0_pay65 h) (k0_pay66 h) (Scalar.select (Scalar.cmpi .eq 64#32 0#32) 1#32 64#32) (ix3 (0 : Fin 1) d r)
      = if 64 ≤ d.val then rp 8 64 H C S d.val else 0 := by
  unfold rp
  pointwise [k0_pay69, k0_pay67, k0_pay64, k0_pay65, k0_pay66, k0_pay63, k0_pay6, k0_pay7]
  simp only [hh, hc, hs, msk64, slt64, sge64, sel_ite, lane16, lane112, lane8, lane120, lane64, Nat.reduceSub]

include hh hg hc hs in
theorem i72 (d : Fin 128) : k0_pay72 (F := Ideal) (k0_pay71 (k0_pay6 c) (k0_pay7 s) (k0_pay70 h) g) (ix3 (0 : Fin 1) r d)
      = rp 8 64 (nrm (Ideal.ofBits .f32 0x3C800000#32) H G) C S d.val + rp 8 64 (nrm (Ideal.ofBits .f32 0x3C800000#32) H G) C S ((d.val + 64) % 128) := by
  unfold rp nrm
  pointwise [k0_pay72, k0_pay71, k0_pay70, k0_pay6, k0_pay7]
  rw [msk64n ((d.val + 128 - 64) % 128) (Nat.mod_lt _ (by norm_num))]
  simp only [hh, hg, hc, hs, msk64, sel_ite, lane16, lane112, lane8, lane120, lane64, Nat.reduceSub]

include hh in
theorem w73 (e : Fin 8) : k0_pay73 (F := Ideal) h (ix3 (0 : Fin 1) e r) = H e.val * Ideal.ofBits .f32 0x3D800000#32 := by
  pointwise [k0_pay73]
  simp only [hh]

include hh in
theorem v21 (d : Fin 128) : k0_pay21 (F := Ideal) h (ix4 (0 : Fin 1) (0 : Fin 1) d r) = H d.val := by
  pointwise [k0_pay21]
  simp only [hh]

include hh in
theorem v33 (d : Fin 128) : k0_pay33 (F := Ideal) h (ix4 (0 : Fin 1) (0 : Fin 1) d r) = H d.val := by
  pointwise [k0_pay33]
  simp only [hh]

include hh in
theorem v42 (d : Fin 128) : k0_pay42 (F := Ideal) h (ix4 (0 : Fin 1) (0 : Fin 1) d r) = H d.val := by
  pointwise [k0_pay42]
  simp only [hh]

include hh in
theorem v52 (d : Fin 128) : k0_pay52 (F := Ideal) h (ix4 (0 : Fin 1) (0 : Fin 1) d r) = H d.val := by
  pointwise [k0_pay52]
  simp only [hh]

end Pieces

end Cert.Prep

end
-- ==== Proof.PrepOut.lean ====
/- What one grid point of the preparation kernel stores in its result blocks. -/
module

public import proofs.«01_k».proof.Proof.PrepPay
public import proofs.«01_k».proof.Proof.ConvPay

@[expose] public section

noncomputable section

namespace Cert.Prep

open Cert.Kernel7Ideal Cert.Kernel7Ideal.Gen Idealize.ShloMosaic Idealize.ShloMosaic.TcCoe

set_option maxRecDepth 16384

/-- A normalized and rotated head's entry: column `o + e` of the projection, row `r`. -/
def hd (o : ℕ) (X : ℕ → ℕ → EReal) (G : ℕ → EReal) (C S : ℕ → ℕ → EReal) (e r : ℕ) : EReal :=
  rp 16 128 (nrm (Ideal.ofBits .f32 0x3C000000#32) (fun j => X r (o + 128 * (e / 128) + j)) G) (C r) (S r) (e % 128)

/-- An index head's entry: rotated in its own half of 128 lanes, zero in the other. -/
def ih (X C S : ℕ → ℕ → EReal) (e r : ℕ) : EReal :=
  if e % 128 / 64 = e / 128 % 2 then rp 8 64 (fun j => X r (1536 + 128 * (e / 256) + j)) (C r) (S r) (e % 128) else 0

/-- The index key before its halves are added. -/
def kh (X : ℕ → ℕ → EReal) (G : ℕ → EReal) (C S : ℕ → ℕ → EReal) (e r : ℕ) : EReal :=
  rp 8 64 (nrm (Ideal.ofBits .f32 0x3C800000#32) (fun j => X r (1792 + j)) G) (C r) (S r) e

theorem ix_col (o : ℕ) (inb : ∀ a, (![0, o] : Fin 2 → ℕ) a + S512x128.size a ≤ S512x2048.size a) (r : Fin 512) (j : Fin 128) (ho : o + 128 ≤ 2048) :
    (Rect.unit (s := S512x2048) ![0, o] S512x128.size inb).idx (ix2 r j) = ix2 r (⟨o + j.val, by omega⟩ : Fin 2048) := by
  funext b
  fin_cases b <;> apply Fin.ext
  · show 0 + 1 * r.val = r.val; omega
  · show o + 1 * j.val = o + j.val; omega

theorem ix_colb (o : ℕ) (inb : ∀ a, (![0, o] : Fin 2 → ℕ) a + S512x128.size a ≤ S512x512.size a) (r : Fin 512) (j : Fin 128) (ho : o + 128 ≤ 512) :
    (Rect.unit (s := S512x512) ![0, o] S512x128.size inb).idx (ix2 r j) = ix2 r (⟨o + j.val, by omega⟩ : Fin 512) := by
  funext b
  fin_cases b <;> apply Fin.ext
  · show 0 + 1 * r.val = r.val; omega
  · show o + 1 * j.val = o + j.val; omega

section Out

variable (x0 : S512x2048.Idx → EReal) (x1 x2 x3 : S512x512.Idx → EReal) (x4 x5 x6 x7 : S512x128.Idx → EReal) (x8 x9 x10 : S1x128.Idx → EReal)
  (X C S : ℕ → ℕ → EReal) (G : ℕ → EReal)

theorem ld0 (hx : ∀ (r : Fin 512) (k : Fin 2048), x0 (ix2 r k) = X r.val k.val) (o : ℕ)
    (inb : ∀ a, (![0, o] : Fin 2 → ℕ) a + S512x128.size a ≤ S512x2048.size a) (ho : o + 128 ≤ 2048) (r : Fin 512) (j : Fin 128) :
    View.ld (Val := Elt Ideal) (e' := .f32) x0 (Rect.unit (s := S512x2048) ![0, o] S512x128.size inb) (ix2 r j) = X r.val (o + j.val) :=
  (congrArg x0 (ix_col o inb r j ho)).trans (hx r _)

theorem ldt (x4 : S512x128.Idx → EReal) (hc : ∀ (r : Fin 512) (k : Fin 128), x4 (ix2 r k) = C r.val k.val) (r : Fin 512) (j : Fin 128) :
    View.ld (Val := Elt Ideal) (e' := .f32) x4 r0_0 (ix2 r j) = C r.val j.val := by
  refine (congrArg x4 ?_).trans (hc r j)
  funext b
  fin_cases b <;> apply Fin.ext
  · show 0 + 1 * r.val = r.val; omega
  · show 0 + 1 * j.val = j.val; omega

theorem ldg (x8 : S1x128.Idx → EReal) (hg : ∀ (k : Fin 128), x8 (ix2 (0 : Fin 1) k) = G k.val) (j : Fin 128) :
    View.ld (Val := Elt Ideal) (e' := .f32) x8 r0_2 (ix2 (0 : Fin 1) j) = G j.val := by
  refine (congrArg x8 ?_).trans (hg j)
  funext b
  fin_cases b <;> apply Fin.ext
  · rfl
  · show 0 + 1 * j.val = j.val; omega

/-- The queries' block, transposed. -/
theorem out11_at (hx : ∀ (r : Fin 512) (k : Fin 2048), x0 (ix2 r k) = X r.val k.val) (hc : ∀ (r : Fin 512) (k : Fin 128), x4 (ix2 r k) = C r.val k.val) (hs : ∀ (r : Fin 512) (k : Fin 128), x5 (ix2 r k) = S r.val k.val) (hg : ∀ (k : Fin 128), x8 (ix2 (0 : Fin 1) k) = G k.val) (e r : Fin 512) :
    out0_11 (F := Ideal) x0 x1 x2 x3 x4 x5 x6 x7 x8 x9 x10 (ix3 (0 : Fin 1) e r) = hd 0 X G C S e.val r.val * Ideal.ofBits .f32 0x3E0293EE#32 := by
  unfold out0_11
  refine View.canon_apply_of_pieces (Val := Elt Ideal) (fun y : S1x512x512.Idx => hd 0 X G C S (y 1).val (y 2).val * Ideal.ofBits .f32 0x3E0293EE#32) _ ?_ _ (cover0_11 _ _ _ _ _)
  intro p hp
  simp only [List.mem_cons, List.not_mem_nil, or_false] at hp
  rcases hp with rfl | rfl | rfl | rfl
  · intro x
    obtain ⟨d, r, rfl⟩ : ∃ (d : Fin 128) (r : Fin 512), x = ix3 (0 : Fin 1) d r := ⟨x 1, x 2, by funext b; fin_cases b <;> first | rfl | exact Subsingleton.elim (α := Fin 1) _ _⟩
    refine (q44 _ _ _ _ r (fun j => X r.val (384 + j)) G (C r.val) (S r.val) (ld0 x0 X hx 384 _ (by norm_num) r) (ldg G x8 hg) (ldt C x4 hc r) (ldt S x5 hs r) d).trans ?_
    show _ = hd 0 X G C S (384 + 1 * d.val) (0 + 1 * r.val) * _
    unfold hd
    rw [show (384 + 1 * d.val) / 128 = 3 by omega, show (384 + 1 * d.val) % 128 = d.val by omega, show 0 + 1 * r.val = r.val by omega]
  · intro x
    obtain ⟨d, r, rfl⟩ : ∃ (d : Fin 128) (r : Fin 512), x = ix3 (0 : Fin 1) d r := ⟨x 1, x 2, by funext b; fin_cases b <;> first | rfl | exact Subsingleton.elim (α := Fin 1) _ _⟩
    refine (q38 _ _ _ _ r (fun j => X r.val (256 + j)) G (C r.val) (S r.val) (ld0 x0 X hx 256 _ (by norm_num) r) (ldg G x8 hg) (ldt C x4 hc r) (ldt S x5 hs r) d).trans ?_
    show _ = hd 0 X G C S (256 + 1 * d.val) (0 + 1 * r.val) * _
    unfold hd
    rw [show (256 + 1 * d.val) / 128 = 2 by omega, show (256 + 1 * d.val) % 128 = d.val by omega, show 0 + 1 * r.val = r.val by omega]
  · intro x
    obtain ⟨d, r, rfl⟩ : ∃ (d : Fin 128) (r : Fin 512), x = ix3 (0 : Fin 1) d r := ⟨x 1, x 2, by funext b; fin_cases b <;> first | rfl | exact Subsingleton.elim (α := Fin 1) _ _⟩
    refine (q25 _ _ _ _ r (fun j => X r.val (128 + j)) G (C r.val) (S r.val) (ld0 x0 X hx 128 _ (by norm_num) r) (ldg G x8 hg) (ldt C x4 hc r) (ldt S x5 hs r) d).trans ?_
    show _ = hd 0 X G C S (128 + 1 * d.val) (0 + 1 * r.val) * _
    unfold hd
    rw [show (128 + 1 * d.val) / 128 = 1 by omega, show (128 + 1 * d.val) % 128 = d.val by omega, show 0 + 1 * r.val = r.val by omega]
  · intro x
    obtain ⟨d, r, rfl⟩ : ∃ (d : Fin 128) (r : Fin 512), x = ix3 (0 : Fin 1) d r := ⟨x 1, x 2, by funext b; fin_cases b <;> first | rfl | exact Subsingleton.elim (α := Fin 1) _ _⟩
    refine (q15 _ _ _ _ r (fun j => X r.val (0 + j)) G (C r.val) (S r.val) (ld0 x0 X hx 0 _ (by norm_num) r) (ldg G x8 hg) (ldt C x4 hc r) (ldt S x5 hs r) d).trans ?_
    show _ = hd 0 X G C S (0 + 1 * d.val) (0 + 1 * r.val) * _
    unfold hd
    rw [show (0 + 1 * d.val) / 128 = 0 by omega, show (0 + 1 * d.val) % 128 = d.val by omega, show 0 + 1 * r.val = r.val by omega]

/-- The keys' block. -/
theorem out15_at (hx : ∀ (r : Fin 512) (k : Fin 2048), x0 (ix2 r k) = X r.val k.val) (hc : ∀ (r : Fin 512) (k : Fin 128), x4 (ix2 r k) = C r.val k.val) (hs : ∀ (r : Fin 512) (k : Fin 128), x5 (ix2 r k) = S r.val k.val) (hg : ∀ (k : Fin 128), x9 (ix2 (0 : Fin 1) k) = G k.val) (r e : Fin 512) :
    out0_15 (F := Ideal) x0 x1 x2 x3 x4 x5 x6 x7 x8 x9 x10 (ix3 (0 : Fin 1) r e) = hd 512 X G C S e.val r.val := by
  unfold out0_15
  refine View.canon_apply_of_pieces (Val := Elt Ideal) (fun y : S1x512x512.Idx => hd 512 X G C S (y 2).val (y 1).val) _ ?_ _ (cover0_15 _ _ _ _ _)
  intro p hp
  simp only [List.mem_cons, List.not_mem_nil, or_false] at hp
  rcases hp with rfl | rfl | rfl | rfl
  · intro x
    obtain ⟨r, d, rfl⟩ : ∃ (r : Fin 512) (d : Fin 128), x = ix3 (0 : Fin 1) r d := ⟨x 1, x 2, by funext b; fin_cases b <;> first | rfl | exact Subsingleton.elim (α := Fin 1) _ _⟩
    refine (k51 _ _ _ _ r (fun j => X r.val (896 + j)) G (C r.val) (S r.val) (ld0 x0 X hx 896 _ (by norm_num) r) (ldg G x9 hg) (ldt C x4 hc r) (ldt S x5 hs r) d).trans ?_
    show _ = hd 512 X G C S (384 + 1 * d.val) (0 + 1 * r.val)
    unfold hd
    rw [show (384 + 1 * d.val) / 128 = 3 by omega, show (384 + 1 * d.val) % 128 = d.val by omega, show 0 + 1 * r.val = r.val by omega]
  · intro x
    obtain ⟨r, d, rfl⟩ : ∃ (r : Fin 512) (d : Fin 128), x = ix3 (0 : Fin 1) r d := ⟨x 1, x 2, by funext b; fin_cases b <;> first | rfl | exact Subsingleton.elim (α := Fin 1) _ _⟩
    refine (k41 _ _ _ _ r (fun j => X r.val (768 + j)) G (C r.val) (S r.val) (ld0 x0 X hx 768 _ (by norm_num) r) (ldg G x9 hg) (ldt C x4 hc r) (ldt S x5 hs r) d).trans ?_
    show _ = hd 512 X G C S (256 + 1 * d.val) (0 + 1 * r.val)
    unfold hd
    rw [show (256 + 1 * d.val) / 128 = 2 by omega, show (256 + 1 * d.val) % 128 = d.val by omega, show 0 + 1 * r.val = r.val by omega]
  · intro x
    obtain ⟨r, d, rfl⟩ : ∃ (r : Fin 512) (d : Fin 128), x = ix3 (0 : Fin 1) r d := ⟨x 1, x 2, by funext b; fin_cases b <;> first | rfl | exact Subsingleton.elim (α := Fin 1) _ _⟩
    refine (k32 _ _ _ _ r (fun j => X r.val (640 + j)) G (C r.val) (S r.val) (ld0 x0 X hx 640 _ (by norm_num) r) (ldg G x9 hg) (ldt C x4 hc r) (ldt S x5 hs r) d).trans ?_
    show _ = hd 512 X G C S (128 + 1 * d.val) (0 + 1 * r.val)
    unfold hd
    rw [show (128 + 1 * d.val) / 128 = 1 by omega, show (128 + 1 * d.val) % 128 = d.val by omega, show 0 + 1 * r.val = r.val by omega]
  · intro x
    obtain ⟨r, d, rfl⟩ : ∃ (r : Fin 512) (d : Fin 128), x = ix3 (0 : Fin 1) r d := ⟨x 1, x 2, by funext b; fin_cases b <;> first | rfl | exact Subsingleton.elim (α := Fin 1) _ _⟩
    refine (k20 _ _ _ _ r (fun j => X r.val (512 + j)) G (C r.val) (S r.val) (ld0 x0 X hx 512 _ (by norm_num) r) (ldg G x9 hg) (ldt C x4 hc r) (ldt S x5 hs r) d).trans ?_
    show _ = hd 512 X G C S (0 + 1 * d.val) (0 + 1 * r.val)
    unfold hd
    rw [show (0 + 1 * d.val) / 128 = 0 by omega, show (0 + 1 * d.val) % 128 = d.val by omega, show 0 + 1 * r.val = r.val by omega]

/-- The index queries' block, transposed. -/
theorem out12_at (hx : ∀ (r : Fin 512) (k : Fin 2048), x0 (ix2 r k) = X r.val k.val) (hc : ∀ (r : Fin 512) (k : Fin 128), x6 (ix2 r k) = C r.val k.val) (hs : ∀ (r : Fin 512) (k : Fin 128), x7 (ix2 r k) = S r.val k.val) (e r : Fin 512) :
    out0_12 (F := Ideal) x0 x1 x2 x3 x4 x5 x6 x7 x8 x9 x10 (ix3 (0 : Fin 1) e r) = ih X C S e.val r.val := by
  unfold out0_12
  refine View.canon_apply_of_pieces (Val := Elt Ideal) (fun y : S1x512x512.Idx => ih X C S (y 1).val (y 2).val) _ ?_ _ (cover0_12 _ _ _ _ _)
  intro p hp
  simp only [List.mem_cons, List.not_mem_nil, or_false] at hp
  rcases hp with rfl | rfl | rfl | rfl
  · intro x
    obtain ⟨d, r, rfl⟩ : ∃ (d : Fin 128) (r : Fin 512), x = ix3 (0 : Fin 1) d r := ⟨x 1, x 2, by funext b; fin_cases b <;> first | rfl | exact Subsingleton.elim (α := Fin 1) _ _⟩
    refine (i69 _ _ _ r (fun j => X r.val (1664 + j)) (C r.val) (S r.val) (ld0 x0 X hx 1664 _ (by norm_num) r) (ldt C x6 hc r) (ldt S x7 hs r) d).trans ?_
    show _ = ih X C S (384 + 1 * d.val) (0 + 1 * r.val)
    unfold ih
    rw [show (384 + 1 * d.val) / 128 = 3 by omega, show (384 + 1 * d.val) / 256 = 1 by omega, show (384 + 1 * d.val) % 128 = d.val by omega, show 0 + 1 * r.val = r.val by omega]
    exact if_congr (by omega) rfl rfl
  · intro x
    obtain ⟨d, r, rfl⟩ : ∃ (d : Fin 128) (r : Fin 512), x = ix3 (0 : Fin 1) d r := ⟨x 1, x 2, by funext b; fin_cases b <;> first | rfl | exact Subsingleton.elim (α := Fin 1) _ _⟩
    refine (i68 _ _ _ r (fun j => X r.val (1664 + j)) (C r.val) (S r.val) (ld0 x0 X hx 1664 _ (by norm_num) r) (ldt C x6 hc r) (ldt S x7 hs r) d).trans ?_
    show _ = ih X C S (256 + 1 * d.val) (0 + 1 * r.val)
    unfold ih
    rw [show (256 + 1 * d.val) / 128 = 2 by omega, show (256 + 1 * d.val) / 256 = 1 by omega, show (256 + 1 * d.val) % 128 = d.val by omega, show 0 + 1 * r.val = r.val by omega]
    exact if_congr (by omega) rfl rfl
  · intro x
    obtain ⟨d, r, rfl⟩ : ∃ (d : Fin 128) (r : Fin 512), x = ix3 (0 : Fin 1) d r := ⟨x 1, x 2, by funext b; fin_cases b <;> first | rfl | exact Subsingleton.elim (α := Fin 1) _ _⟩
    refine (i62 _ _ _ r (fun j => X r.val (1536 + j)) (C r.val) (S r.val) (ld0 x0 X hx 1536 _ (by norm_num) r) (ldt C x6 hc r) (ldt S x7 hs r) d).trans ?_
    show _ = ih X C S (128 + 1 * d.val) (0 + 1 * r.val)
    unfold ih
    rw [show (128 + 1 * d.val) / 128 = 1 by omega, show (128 + 1 * d.val) / 256 = 0 by omega, show (128 + 1 * d.val) % 128 = d.val by omega, show 0 + 1 * r.val = r.val by omega]
    exact if_congr (by omega) rfl rfl
  · intro x
    obtain ⟨d, r, rfl⟩ : ∃ (d : Fin 128) (r : Fin 512), x = ix3 (0 : Fin 1) d r := ⟨x 1, x 2, by funext b; fin_cases b <;> first | rfl | exact Subsingleton.elim (α := Fin 1) _ _⟩
    refine (i61 _ _ _ r (fun j => X r.val (1536 + j)) (C r.val) (S r.val) (ld0 x0 X hx 1536 _ (by norm_num) r) (ldt C x6 hc r) (ldt S x7 hs r) d).trans ?_
    show _ = ih X C S (0 + 1 * d.val) (0 + 1 * r.val)
    unfold ih
    rw [show (0 + 1 * d.val) / 128 = 0 by omega, show (0 + 1 * d.val) / 256 = 0 by omega, show (0 + 1 * d.val) % 128 = d.val by omega, show 0 + 1 * r.val = r.val by omega]
    exact if_congr (by omega) rfl rfl

/-- The values' block, transposed. -/
theorem out16_at (hx : ∀ (r : Fin 512) (k : Fin 2048), x0 (ix2 r k) = X r.val k.val) (e r : Fin 512) :
    out0_16 (F := Ideal) x0 x1 x2 x3 x4 x5 x6 x7 x8 x9 x10 (ix4 (0 : Fin 1) (0 : Fin 1) e r) = X r.val (1024 + e.val) := by
  unfold out0_16
  refine View.canon_apply_of_pieces (Val := Elt Ideal) (fun y : S1x1x512x512.Idx => X (y 3).val (1024 + (y 2).val)) _ ?_ _ (cover0_16 _ _ _ _ _)
  intro p hp
  simp only [List.mem_cons, List.not_mem_nil, or_false] at hp
  rcases hp with rfl | rfl | rfl | rfl
  · intro x
    obtain ⟨d, r, rfl⟩ : ∃ (d : Fin 128) (r : Fin 512), x = ix4 (0 : Fin 1) (0 : Fin 1) d r := ⟨x 2, x 3, by funext b; fin_cases b <;> first | rfl | exact Subsingleton.elim (α := Fin 1) _ _⟩
    refine (v52 _ r (fun j => X r.val (1408 + j)) (ld0 x0 X hx 1408 _ (by norm_num) r) d).trans ?_
    show _ = X (0 + 1 * r.val) (1024 + (384 + 1 * d.val))
    rw [show 1024 + (384 + 1 * d.val) = 1408 + d.val by omega, show 0 + 1 * r.val = r.val by omega]
  · intro x
    obtain ⟨d, r, rfl⟩ : ∃ (d : Fin 128) (r : Fin 512), x = ix4 (0 : Fin 1) (0 : Fin 1) d r := ⟨x 2, x 3, by funext b; fin_cases b <;> first | rfl | exact Subsingleton.elim (α := Fin 1) _ _⟩
    refine (v42 _ r (fun j => X r.val (1280 + j)) (ld0 x0 X hx 1280 _ (by norm_num) r) d).trans ?_
    show _ = X (0 + 1 * r.val) (1024 + (256 + 1 * d.val))
    rw [show 1024 + (256 + 1 * d.val) = 1280 + d.val by omega, show 0 + 1 * r.val = r.val by omega]
  · intro x
    obtain ⟨d, r, rfl⟩ : ∃ (d : Fin 128) (r : Fin 512), x = ix4 (0 : Fin 1) (0 : Fin 1) d r := ⟨x 2, x 3, by funext b; fin_cases b <;> first | rfl | exact Subsingleton.elim (α := Fin 1) _ _⟩
    refine (v33 _ r (fun j => X r.val (1152 + j)) (ld0 x0 X hx 1152 _ (by norm_num) r) d).trans ?_
    show _ = X (0 + 1 * r.val) (1024 + (128 + 1 * d.val))
    rw [show 1024 + (128 + 1 * d.val) = 1152 + d.val by omega, show 0 + 1 * r.val = r.val by omega]
  · intro x
    obtain ⟨d, r, rfl⟩ : ∃ (d : Fin 128) (r : Fin 512), x = ix4 (0 : Fin 1) (0 : Fin 1) d r := ⟨x 2, x 3, by funext b; fin_cases b <;> first | rfl | exact Subsingleton.elim (α := Fin 1) _ _⟩
    refine (v21 _ r (fun j => X r.val (1024 + j)) (ld0 x0 X hx 1024 _ (by norm_num) r) d).trans ?_
    show _ = X (0 + 1 * r.val) (1024 + (0 + 1 * d.val))
    rw [show 1024 + (0 + 1 * d.val) = 1024 + d.val by omega, show 0 + 1 * r.val = r.val by omega]

/-- The index weights' block, transposed. -/
theorem out13_at (hx : ∀ (r : Fin 512) (k : Fin 2048), x0 (ix2 r k) = X r.val k.val) (e : Fin 8) (r : Fin 512) :
    out0_13 (F := Ideal) x0 x1 x2 x3 x4 x5 x6 x7 x8 x9 x10 (ix3 (0 : Fin 1) e r) = X r.val (1920 + e.val) * Ideal.ofBits .f32 0x3D800000#32 := by
  unfold out0_13
  refine View.canon_apply_of_pieces (Val := Elt Ideal) (fun y : S1x8x512.Idx => X (y 2).val (1920 + (y 1).val) * Ideal.ofBits .f32 0x3D800000#32) _ ?_ _ (cover0_13 _ _)
  intro p hp
  simp only [List.mem_cons, List.not_mem_nil, or_false] at hp
  subst hp
  intro x
  obtain ⟨d, r, rfl⟩ : ∃ (d : Fin 8) (r : Fin 512), x = ix3 (0 : Fin 1) d r := ⟨x 1, x 2, by funext b; fin_cases b <;> first | rfl | exact Subsingleton.elim (α := Fin 1) _ _⟩
  refine (w73 _ r (fun j => X r.val (1920 + j)) (ld0 x0 X hx 1920 _ (by norm_num) r) d).trans ?_
  show _ = X (0 + 1 * r.val) (1920 + (0 + 1 * d.val)) * _
  rw [show 1920 + (0 + 1 * d.val) = 1920 + d.val by omega, show 0 + 1 * r.val = r.val by omega]

/-- The index keys' block. -/
theorem out14_at (hx : ∀ (r : Fin 512) (k : Fin 2048), x0 (ix2 r k) = X r.val k.val) (hc : ∀ (r : Fin 512) (k : Fin 128), x6 (ix2 r k) = C r.val k.val) (hs : ∀ (r : Fin 512) (k : Fin 128), x7 (ix2 r k) = S r.val k.val) (hg : ∀ (k : Fin 128), x10 (ix2 (0 : Fin 1) k) = G k.val) (r : Fin 512) (d : Fin 128) :
    out0_14 (F := Ideal) x0 x1 x2 x3 x4 x5 x6 x7 x8 x9 x10 (ix3 (0 : Fin 1) r d) = kh X G C S d.val r.val + kh X G C S ((d.val + 64) % 128) r.val := by
  unfold out0_14
  refine View.canon_apply_of_pieces (Val := Elt Ideal) (fun y : S1x512x128.Idx => kh X G C S (y 2).val (y 1).val + kh X G C S (((y 2).val + 64) % 128) (y 1).val) _ ?_ _ (cover0_14 _ _)
  intro p hp
  simp only [List.mem_cons, List.not_mem_nil, or_false] at hp
  subst hp
  intro x
  obtain ⟨r, d, rfl⟩ : ∃ (r : Fin 512) (d : Fin 128), x = ix3 (0 : Fin 1) r d := ⟨x 1, x 2, by funext b; fin_cases b <;> first | rfl | exact Subsingleton.elim (α := Fin 1) _ _⟩
  refine (i72 _ _ _ _ r (fun j => X r.val (1792 + j)) G (C r.val) (S r.val) (ld0 x0 X hx 1792 _ (by norm_num) r) (ldg G x10 hg) (ldt C x6 hc r) (ldt S x7 hs r) d).trans ?_
  show _ = kh X G C S (0 + 1 * d.val) (0 + 1 * r.val) + kh X G C S ((0 + 1 * d.val + 64) % 128) (0 + 1 * r.val)
  unfold kh
  rw [show 0 + 1 * d.val = d.val by omega, show 0 + 1 * r.val = r.val by omega]

/-- The stick-breaking queries' block. -/
theorem out17_at (r e : Fin 512) : out0_17 (F := Ideal) x0 x1 x2 x3 x4 x5 x6 x7 x8 x9 x10 (ix2 r e) = x1 (ix2 r e) * Ideal.ofBits .f32 0x3E0293EE#32 := by
  frame_out
  pointwise [k0_pay74]

/-- The stick-breaking values' block. -/
theorem out19_at (r e : Fin 512) : out0_19 (F := Ideal) x0 x1 x2 x3 x4 x5 x6 x7 x8 x9 x10 (ix3 (0 : Fin 1) r e) = x3 (ix2 r e) := by
  frame_out
  pointwise [k0_pay3]

/-- The stick-breaking keys' block: a head's transposed halves. -/
theorem out18_at (h : Fin 4) (q : Fin 2) (d : Fin 128) (s : Fin 256) :
    out0_18 (F := Ideal) x0 x1 x2 x3 x4 x5 x6 x7 x8 x9 x10 (ix5 (0 : Fin 1) h q d s) = Cert.Conv.Tb (n := 512) (w := 512) x2 (256 * q.val + s.val) (128 * h.val + d.val) := by
  unfold out0_18
  refine View.canon_apply_of_pieces (Val := Elt Ideal) (fun y : S1x4x2x128x256.Idx => Cert.Conv.Tb (n := 512) (w := 512) x2 (256 * (y 2).val + (y 4).val) (128 * (y 1).val + (y 3).val)) _ ?_ _ (cover0_18 _ _ _ _ _ _ _ _ _)
  intro p hp
  simp only [List.mem_cons, List.not_mem_nil, or_false] at hp
  rcases hp with rfl | rfl | rfl | rfl | rfl | rfl | rfl | rfl
  all_goals
    intro x
    obtain ⟨d, s, rfl⟩ : ∃ (d : Fin 128) (s : Fin 256), x = ix5 (0 : Fin 1) (0 : Fin 1) (0 : Fin 1) d s := ⟨x 3, x 4, by funext b; fin_cases b <;> first | rfl | exact Subsingleton.elim (α := Fin 1) _ _⟩
    pointwise [k0_pay1, k0_pay2, k0_pay75, k0_pay76, k0_pay77, k0_pay78, k0_pay79, k0_pay80, k0_pay81, k0_pay82, k0_pay83, k0_pay84, k0_pay85]
  · refine (Cert.Conv.Tb_of (n := 512) (w := 512) x2 _ _).trans ?_
    show _ = Cert.Conv.Tb (n := 512) (w := 512) x2 (256 * (1 + 1 * 0) + (0 + 1 * s.val)) (128 * (3 + 1 * 0) + (0 + 1 * d.val))
    congr 1 <;> dsimp only <;> omega
  · refine (Cert.Conv.Tb_of (n := 512) (w := 512) x2 _ _).trans ?_
    show _ = Cert.Conv.Tb (n := 512) (w := 512) x2 (256 * (0 + 1 * 0) + (0 + 1 * s.val)) (128 * (3 + 1 * 0) + (0 + 1 * d.val))
    congr 1 <;> dsimp only <;> omega
  · refine (Cert.Conv.Tb_of (n := 512) (w := 512) x2 _ _).trans ?_
    show _ = Cert.Conv.Tb (n := 512) (w := 512) x2 (256 * (1 + 1 * 0) + (0 + 1 * s.val)) (128 * (2 + 1 * 0) + (0 + 1 * d.val))
    congr 1 <;> dsimp only <;> omega
  · refine (Cert.Conv.Tb_of (n := 512) (w := 512) x2 _ _).trans ?_
    show _ = Cert.Conv.Tb (n := 512) (w := 512) x2 (256 * (0 + 1 * 0) + (0 + 1 * s.val)) (128 * (2 + 1 * 0) + (0 + 1 * d.val))
    congr 1 <;> dsimp only <;> omega
  · refine (Cert.Conv.Tb_of (n := 512) (w := 512) x2 _ _).trans ?_
    show _ = Cert.Conv.Tb (n := 512) (w := 512) x2 (256 * (1 + 1 * 0) + (0 + 1 * s.val)) (128 * (1 + 1 * 0) + (0 + 1 * d.val))
    congr 1 <;> dsimp only <;> omega
  · refine (Cert.Conv.Tb_of (n := 512) (w := 512) x2 _ _).trans ?_
    show _ = Cert.Conv.Tb (n := 512) (w := 512) x2 (256 * (0 + 1 * 0) + (0 + 1 * s.val)) (128 * (1 + 1 * 0) + (0 + 1 * d.val))
    congr 1 <;> dsimp only <;> omega
  · refine (Cert.Conv.Tb_of (n := 512) (w := 512) x2 _ _).trans ?_
    show _ = Cert.Conv.Tb (n := 512) (w := 512) x2 (256 * (1 + 1 * 0) + (0 + 1 * s.val)) (128 * (0 + 1 * 0) + (0 + 1 * d.val))
    congr 1 <;> dsimp only <;> omega
  · refine (Cert.Conv.Tb_of (n := 512) (w := 512) x2 _ _).trans ?_
    show _ = Cert.Conv.Tb (n := 512) (w := 512) x2 (256 * (0 + 1 * 0) + (0 + 1 * s.val)) (128 * (0 + 1 * 0) + (0 + 1 * d.val))
    congr 1 <;> dsimp only <;> omega

end Out

end Cert.Prep

end
-- ==== Proof.PrepMath.lean ====
/- The prepared arrays as plain functions, and the kernel's 128-lane forms of them. -/
module

public import proofs.«01_k».proof.Proof.PrepOut

@[expose] public section

noncomputable section

namespace Cert.Prep

open Idealize.ShloMosaic Idealize.ShloMosaic.TcCoe

/-- The rotary step: the first `half` entries with the next `half`, the rest as they are. -/
def rope (half : ℕ) (x c s : ℕ → EReal) (d : ℕ) : EReal :=
  if d < half then x d * c d - x (d + half) * s d
  else if d < 2 * half then x d * c (d - half) + x (d - half) * s (d - half) else x d

/-- A table of `half` entries over lanes of the given period: twice, then a fill. -/
def lane (half period : ℕ) (z : EReal) (c : ℕ → EReal) (d : ℕ) : EReal :=
  if d % period < half then c (d % period) else if d % period < 2 * half then c (d % period - half) else z

/-- A row of `w` numbers by their mean square, times the gains; `k` is one over `w`. -/
def rmsn (w : ℕ) (k : EReal) (x g : ℕ → EReal) (d : ℕ) : EReal :=
  x d * Ideal.rsqrt ((∑ j : Fin w, x j.val * x j.val) * k + Ideal.ofBits .f32 0x358637BD#32) * g d

/-- The packed projection: two zero columns' groups where the kernel pads. -/
def Xk (P : ℕ → ℕ → EReal) (n k : ℕ) : EReal :=
  if k < 1856 then P n k else if k < 1920 then 0 else if k < 1924 then P n (k - 64) else 0

/-- The index key's gains over 128 lanes. -/
def gik (g : ℕ → EReal) (d : ℕ) : EReal := if d < 64 then g d else 1

/-- A normalized and rotated attention head. -/
def hq (o : ℕ) (P ca sa : ℕ → ℕ → EReal) (g : ℕ → EReal) (n e : ℕ) : EReal :=
  rope 16 (rmsn 128 (Ideal.ofBits .f32 0x3C000000#32) (fun j => P n (o + 128 * (e / 128) + j)) g) (ca n) (sa n) (e % 128)

/-- A rotated index head in its half of 128 columns. -/
def hi (P ci si : ℕ → ℕ → EReal) (n e : ℕ) : EReal :=
  if e % 128 / 64 = e / 128 % 2 then rope 8 (fun j => P n (1536 + 64 * (e / 128) + j)) (ci n) (si n) (e % 64) else 0

/-- The normalized and rotated index key, twice. -/
def hk (P ci si : ℕ → ℕ → EReal) (g : ℕ → EReal) (n d : ℕ) : EReal :=
  rope 8 (rmsn 64 (Ideal.ofBits .f32 0x3C800000#32) (fun j => P n (1792 + j)) g) (ci n) (si n) (d % 64)

/-- The index weights before their scale, with four rows of zeros. -/
def hw (P : ℕ → ℕ → EReal) (n e : ℕ) : EReal := if e < 4 then P n (1856 + e) else 0

theorem rp_lane16 (x c s : ℕ → EReal) (d : ℕ) (hd : d < 128) :
    rp 16 128 x (lane 16 128 1 c) (lane 16 128 0 s) d = rope 16 x c s d := by
  unfold rp lane rope
  rw [Nat.mod_eq_of_lt hd]
  by_cases h1 : d < 16
  · rw [if_pos h1, if_pos h1, if_pos h1, if_pos h1, Nat.mod_eq_of_lt (by omega), zero_sub, EReal.neg_mul, sub_eq_add_neg]
  · by_cases h2 : d < 2 * 16
    · rw [if_neg h1, if_neg h1, if_neg h1, if_neg h1, if_pos h2, if_pos h2, if_pos h2, show (d + (128 - 16)) % 128 = d - 16 by omega]
    · rw [if_neg h1, if_neg h1, if_neg h1, if_neg h1, if_neg h2, if_neg h2, if_neg h2, mul_one, mul_zero, add_zero]

theorem rp_lane8 (x c s : ℕ → EReal) (q d : ℕ) (hq : q < 2) (hd : d < 64) :
    rp 8 64 x (lane 8 64 1 c) (lane 8 64 0 s) (64 * q + d) = rope 8 (fun j => x (64 * q + j)) c s d := by
  unfold rp lane rope
  rw [show (64 * q + d) % 64 = d by omega]
  by_cases h1 : d < 8
  · rw [if_pos h1, if_pos h1, if_pos h1, if_pos h1, Nat.mod_eq_of_lt (by omega), zero_sub, EReal.neg_mul, sub_eq_add_neg, Nat.add_assoc]
  · by_cases h2 : d < 2 * 8
    · rw [if_neg h1, if_neg h1, if_neg h1, if_neg h1, if_pos h2, if_pos h2, if_pos h2, show (64 * q + d + (128 - 8)) % 128 = 64 * q + (d - 8) by omega]
    · rw [if_neg h1, if_neg h1, if_neg h1, if_neg h1, if_neg h2, if_neg h2, if_neg h2, mul_one, mul_zero, add_zero]

theorem rp8_zero (x c s : ℕ → EReal) (hx : ∀ j, 64 ≤ j → j < 128 → x j = 0) (d : ℕ) (h1 : 64 ≤ d) (h2 : d < 128) :
    rp 8 64 x c s d = 0 := by
  unfold rp
  rw [hx d h1 h2, zero_mul, zero_add]
  by_cases h : d % 64 < 8
  · rw [if_pos h, hx _ (by omega) (by omega), sub_zero, zero_mul]
  · rw [if_neg h, hx _ (by omega) (by omega), zero_mul]

theorem rope_congr (half N : ℕ) (x y c s : ℕ → EReal) (h : ∀ j, j < N → x j = y j) (hN : 2 * half ≤ N) (d : ℕ) (hd : d < N) :
    rope half x c s d = rope half y c s d := by
  unfold rope
  rw [h d hd]
  by_cases h1 : d < half
  · rw [if_pos h1, if_pos h1, h (d + half) (by omega)]
  · by_cases h2 : d < 2 * half
    · rw [if_neg h1, if_neg h1, if_pos h2, if_pos h2, h (d - half) (by omega)]
    · rw [if_neg h1, if_neg h1, if_neg h2, if_neg h2]

theorem nrm_eq (k : EReal) (x g : ℕ → EReal) (d : ℕ) : nrm k x g d = rmsn 128 k x g d := rfl

theorem rmsn_congr (w : ℕ) (k : EReal) (x y g : ℕ → EReal) (h : ∀ j, j < w → x j = y j) (d : ℕ) (hd : d < w) :
    rmsn w k x g d = rmsn w k y g d := by
  unfold rmsn
  rw [h d hd, Finset.sum_congr rfl fun (j : Fin w) _ => by rw [h j.val j.2]]

/-- A head of the packed projection is a head of the projection. -/
theorem hd_eq (o : ℕ) (P ca sa : ℕ → ℕ → EReal) (g : ℕ → EReal) (B e r : ℕ) (ho : o + 512 ≤ 1856) (he : e < 512) :
    hd o (fun r k => Xk P (B + r) k) g (fun r => lane 16 128 1 (ca (B + r))) (fun r => lane 16 128 0 (sa (B + r))) e r
      = hq o P ca sa g (B + r) e := by
  unfold hd hq
  rw [rp_lane16 _ _ _ _ (by omega)]
  refine rope_congr 16 128 _ _ _ _ (fun j hj => ?_) (by norm_num) _ (by omega)
  refine (nrm_eq _ _ _ _).trans (rmsn_congr 128 _ _ _ g (fun i hi => ?_) j hj)
  show Xk P (B + r) _ = _
  unfold Xk
  rw [if_pos (by omega)]

/-- An index head of the packed projection is one of the projection. -/
theorem ih_eq (P ci si : ℕ → ℕ → EReal) (B e r : ℕ) (he : e < 512) :
    ih (fun r k => Xk P (B + r) k) (fun r => lane 8 64 1 (ci (B + r))) (fun r => lane 8 64 0 (si (B + r))) e r
      = hi P ci si (B + r) e := by
  unfold ih hi
  by_cases h : e % 128 / 64 = e / 128 % 2
  · rw [if_pos h, if_pos h, show e % 128 = 64 * (e / 128 % 2) + e % 64 by omega, rp_lane8 _ _ _ _ _ (by omega) (by omega)]
    refine rope_congr 8 64 _ _ _ _ (fun j hj => ?_) (by norm_num) _ (by omega)
    show Xk P (B + r) _ = _
    unfold Xk
    rw [if_pos (by omega)]
    congr 1
    omega
  · rw [if_neg h, if_neg h]

/-- The index key on 128 lanes, before its halves are added. -/
theorem kh_eq (P ci si : ℕ → ℕ → EReal) (g : ℕ → EReal) (B d r : ℕ) (hd : d < 128) :
    kh (fun r k => Xk P (B + r) k) (gik g) (fun r => lane 8 64 1 (ci (B + r))) (fun r => lane 8 64 0 (si (B + r))) d r
      = if d < 64 then hk P ci si g (B + r) d else 0 := by
  unfold kh hk
  by_cases h : d < 64
  · rw [if_pos h, show d = 64 * 0 + d by omega, rp_lane8 _ _ _ 0 _ (by omega) h, show (64 * 0 + d) % 64 = d by omega]
    refine rope_congr 8 64 _ _ _ _ (fun j hj => ?_) (by norm_num) _ h
    unfold nrm rmsn
    simp only [Nat.mul_zero, Nat.zero_add]
    have e1 : ∀ i, i < 64 → Xk P (B + r) (1792 + i) = P (B + r) (1792 + i) := fun i hi => by
      unfold Xk
      rw [if_pos (by omega)]
    have e2 : ∀ i, 64 ≤ i → i < 128 → Xk P (B + r) (1792 + i) = 0 := fun i hi hj => by
      unfold Xk
      rw [if_neg (by omega), if_pos (by omega)]
    rw [e1 j hj, show gik g j = g j from if_pos hj]
    have e3 : (∑ i : Fin 128, Xk P (B + r) (1792 + i.val) * Xk P (B + r) (1792 + i.val))
        = ∑ i : Fin 64, P (B + r) (1792 + i.val) * P (B + r) (1792 + i.val) := by
      refine (Fin.sum_univ_add (a := 64) (b := 64) (fun i : Fin 128 => Xk P (B + r) (1792 + i.val) * Xk P (B + r) (1792 + i.val))).trans ?_
      refine (congrArg₂ (fun a b : EReal => a + b) (Finset.sum_congr rfl fun i _ => ?_) (Finset.sum_eq_zero fun i _ => ?_)).trans (add_zero _)
      · show Xk P (B + r) (1792 + i.val) * Xk P (B + r) (1792 + i.val) = _
        rw [e1 _ i.2]
      · show Xk P (B + r) (1792 + (64 + i.val)) * Xk P (B + r) (1792 + (64 + i.val)) = _
        rw [e2 _ (by omega) (by omega), zero_mul]
    rw [e3]
  · rw [if_neg h]
    refine rp8_zero _ _ _ (fun j h1 h2 => ?_) d (by omega) hd
    unfold nrm
    have e2 : Xk P (B + r) (1792 + j) = 0 := by
      unfold Xk
      rw [if_neg (by omega), if_pos (by omega)]
    dsimp only
    rw [e2, zero_mul, zero_mul]

/-- The index key on 128 lanes. -/
theorem kk_eq (P ci si : ℕ → ℕ → EReal) (g : ℕ → EReal) (B d r : ℕ) (hd : d < 128) :
    kh (fun r k => Xk P (B + r) k) (gik g) (fun r => lane 8 64 1 (ci (B + r))) (fun r => lane 8 64 0 (si (B + r))) d r
      + kh (fun r k => Xk P (B + r) k) (gik g) (fun r => lane 8 64 1 (ci (B + r))) (fun r => lane 8 64 0 (si (B + r))) ((d + 64) % 128) r
      = hk P ci si g (B + r) d := by
  rw [kh_eq _ _ _ _ _ _ _ hd, kh_eq _ _ _ _ _ _ _ (Nat.mod_lt _ (by norm_num))]
  by_cases h : d < 64
  · rw [if_pos h, if_neg (by omega), add_zero]
  · rw [if_neg h, if_pos (by omega), zero_add]
    unfold hk
    congr 1
    omega

/-- The packed projection's last columns. -/
theorem xw_eq (P : ℕ → ℕ → EReal) (n e : ℕ) (he : e < 8) : Xk P n (1920 + e) = hw P n e := by
  unfold Xk hw
  rw [if_neg (by omega), if_neg (by omega)]
  by_cases h : e < 4
  · rw [if_pos (by omega), if_pos h]
    congr 1
    omega
  · rw [if_neg (by omega), if_neg h]

end Cert.Prep

end
-- ==== Proof.PrepEnt.lean ====
/- The arrays the preparation kernel's launch reads, as functions of the arguments. -/
module

public import proofs.«01_k».proof.Proof.PrepMath

@[expose] public section

noncomputable section

namespace Cert.Prep

open Cert.Kernel7Ideal Cert.Kernel7Ideal.Gen Idealize.ShloMosaic Idealize.ShloMosaic.TcCoe

set_option maxRecDepth 16384

variable (m : (ℓ : Loc nD τ sig) → Buf (Elt Ideal) ℓ) (c : Dev nD)

/-- An array of one axis as a function of naturals. -/
def T1 {w : ℕ} (g : (⟨1, ![w]⟩ : Shape).Idx → EReal) (d : ℕ) : EReal := if h : d < w then g (ix1 ⟨d, h⟩) else 0

theorem T1_of {w : ℕ} (g : (⟨1, ![w]⟩ : Shape).Idx → EReal) (d : Fin w) : g (ix1 d) = T1 g d.val := by
  unfold T1
  rw [dif_pos d.2]

/-- The projection, in columns. -/
abbrev Pm : ℕ → ℕ → EReal := Cert.Conv.Tb (n := 16384) (w := 1860) (m ((c : Thread nD τ).loc main_arg0))
abbrev Qm : ℕ → ℕ → EReal := Cert.Conv.Tb (n := 16384) (w := 8192) (m ((c : Thread nD τ).loc main_arg1))
abbrev Ca : ℕ → ℕ → EReal := Cert.Conv.Tb (n := 16384) (w := 16) (m ((c : Thread nD τ).loc main_arg2))
abbrev Sa : ℕ → ℕ → EReal := Cert.Conv.Tb (n := 16384) (w := 16) (m ((c : Thread nD τ).loc main_arg3))
abbrev Ci : ℕ → ℕ → EReal := Cert.Conv.Tb (n := 16384) (w := 8) (m ((c : Thread nD τ).loc main_arg4))
abbrev Si : ℕ → ℕ → EReal := Cert.Conv.Tb (n := 16384) (w := 8) (m ((c : Thread nD τ).loc main_arg5))
abbrev Gq : ℕ → EReal := T1 (w := 128) (m ((c : Thread nD τ).loc main_arg6))
abbrev Gk : ℕ → EReal := T1 (w := 128) (m ((c : Thread nD τ).loc main_arg7))
abbrev Gi : ℕ → EReal := T1 (w := 64) (m ((c : Thread nD τ).loc main_arg8))

theorem sit0 : (FloatOps.sitofp (F := Ideal) .f32 (0#32) : EReal) = 0 := by
  show (((0#32 : BitVec 32).toInt : ℝ) : EReal) = 0
  simp

open Idealize.ShloMosaic.StableHlo in
/-- The packed projection the launch reads. -/
theorem entX (n : Fin 16384) (k : Fin 2048) :
    (V (F := Ideal) m c main_v4 : S16384x2048.Idx → EReal) (ix2 n k) = Xk (Pm m c) n.val k.val := by
  have e : V (F := Ideal) m c main_v4 = concatenate S16384x2048 1 [⟨S16384x1920, pad S16384x1920 ![0, 0] ![0, 64] ![0, 0] (extractStridedSlice S16384x1856 ![0, 0] (m ((c : Thread nD τ).loc main_arg0)) slices_S16384x1860_S16384x1856_0_0) (sitofp (F := Ideal) .f32 (constantI S_ 32 0#32)) pads_S16384x1856_S16384x1920_000_0640 h_S_⟩, ⟨S16384x128, pad S16384x128 ![0, 0] ![0, 124] ![0, 0] (extractStridedSlice S16384x4 ![0, 1856] (m ((c : Thread nD τ).loc main_arg0)) slices_S16384x1860_S16384x4_0_1856) (sitofp (F := Ideal) .f32 (constantI S_ 32 0#32)) pads_S16384x4_S16384x128_000_01240 h_S_⟩] concatenates_S16384x1920_S16384x128_S16384x2048_d1 := by
    show StableHlo.after [hostOps0, hostOps0_1, hostOps0_2, hostOps0_3, hostOps0_4].flatten (fun b => m (c, b)) (Proc.tc.devRef main_v4) = _
    simp only [hostOps0, hostOps0_1, hostOps0_2, hostOps0_3, hostOps0_4, List.flatten_cons, List.flatten_nil, List.cons_append, List.nil_append, List.append_nil, TRef.binary, TRef.nullary, TRef.unary, TRef.toBuf, TRef.ofBuf, cast_eq]
    after_results_simp <;> (try dsimp only [Matrix.cons_val]) <;> (try after_results_simp) <;> (try dsimp only [Matrix.cons_val]) <;> (try after_results_simp) <;> rfl
  rw [e]
  pointwise
  unfold Xk
  by_cases h1 : k.val < 1856
  · rw [dif_pos (by omega), dif_pos h1, if_pos h1]
    exact Cert.Conv.Tb_of (n := 16384) (w := 1860) _ _ _
  · by_cases h2 : k.val < 1920
    · rw [dif_pos h2, dif_neg h1, if_neg h1, if_pos h2]
      exact sit0
    · by_cases h3 : k.val < 1924
      · rw [dif_neg h2, dif_pos (by omega), if_neg h1, if_neg h2, if_pos h3]
        refine (Cert.Conv.Tb_of (n := 16384) (w := 1860) _ _ _).trans ?_
        congr 1
        show 1856 + (k.val - 1920) = _
        omega
      · rw [dif_neg h2, dif_neg (by omega), if_neg h1, if_neg h2, if_neg h3]
        exact sit0

open Idealize.ShloMosaic.StableHlo in
/-- The cosines the launch reads for the attention heads. -/
theorem entCa (n : Fin 16384) (d : Fin 128) :
    (V (F := Ideal) m c main_v11 : S16384x128.Idx → EReal) (ix2 n d) = lane 16 128 1 (Ca m c n.val) d.val := by
  have e : V (F := Ideal) m c main_v11 = shapeCast S16384x128 (broadcastInDim S1x16384x1x128 ![0, 1, 2, 3] bcast_S1x16384x1x128_S1x16384x1x128_0_1_2_3 (shapeCast S1x16384x1x128 (concatenate S16384x128 1 [⟨S16384x16, m ((c : Thread nD τ).loc main_arg2)⟩, ⟨S16384x16, m ((c : Thread nD τ).loc main_arg2)⟩, ⟨S16384x96, broadcastInDim S16384x96 ![] bcast_S_S16384x96 (constant (F := Ideal) S_ .f32 0x3F800000#32)⟩] concatenates_S16384x16_S16384x16_S16384x96_S16384x128_d1) shapeCasts_S16384x128_S1x16384x1x128)) shapeCasts_S1x16384x1x128_S16384x128 := by
    show StableHlo.after [hostOps0, hostOps0_1, hostOps0_2, hostOps0_3, hostOps0_4].flatten (fun b => m (c, b)) (Proc.tc.devRef main_v11) = _
    simp only [hostOps0, hostOps0_1, hostOps0_2, hostOps0_3, hostOps0_4, List.flatten_cons, List.flatten_nil, List.cons_append, List.nil_append, List.append_nil, TRef.binary, TRef.nullary, TRef.unary, TRef.toBuf, TRef.ofBuf, cast_eq]
    after_results_simp <;> (try dsimp only [Matrix.cons_val]) <;> (try after_results_simp) <;> (try dsimp only [Matrix.cons_val]) <;> (try after_results_simp) <;> rfl
  rw [e]
  pointwise
  unfold lane
  rw [Nat.mod_eq_of_lt d.2]
  by_cases h1 : d.val < 16
  · rw [dif_pos h1, if_pos h1]
    exact Cert.Conv.Tb_of (n := 16384) (w := 16) _ _ _
  · by_cases h2 : d.val < 2 * 16
    · rw [dif_neg h1, dif_pos (by omega), if_neg h1, if_pos h2]
      exact Cert.Conv.Tb_of (n := 16384) (w := 16) _ _ _
    · rw [dif_neg h1, dif_neg (by omega), if_neg h1, if_neg h2]

open Idealize.ShloMosaic.StableHlo in
/-- The sines the launch reads for the attention heads. -/
theorem entSa (n : Fin 16384) (d : Fin 128) :
    (V (F := Ideal) m c main_v14 : S16384x128.Idx → EReal) (ix2 n d) = lane 16 128 0 (Sa m c n.val) d.val := by
  have e : V (F := Ideal) m c main_v14 = shapeCast S16384x128 (broadcastInDim S1x16384x1x128 ![0, 1, 2, 3] bcast_S1x16384x1x128_S1x16384x1x128_0_1_2_3 (shapeCast S1x16384x1x128 (concatenate S16384x128 1 [⟨S16384x16, m ((c : Thread nD τ).loc main_arg3)⟩, ⟨S16384x16, m ((c : Thread nD τ).loc main_arg3)⟩, ⟨S16384x96, broadcastInDim S16384x96 ![] bcast_S_S16384x96 (constant (F := Ideal) S_ .f32 0x00000000#32)⟩] concatenates_S16384x16_S16384x16_S16384x96_S16384x128_d1) shapeCasts_S16384x128_S1x16384x1x128)) shapeCasts_S1x16384x1x128_S16384x128 := by
    show StableHlo.after [hostOps0, hostOps0_1, hostOps0_2, hostOps0_3, hostOps0_4].flatten (fun b => m (c, b)) (Proc.tc.devRef main_v14) = _
    simp only [hostOps0, hostOps0_1, hostOps0_2, hostOps0_3, hostOps0_4, List.flatten_cons, List.flatten_nil, List.cons_append, List.nil_append, List.append_nil, TRef.binary, TRef.nullary, TRef.unary, TRef.toBuf, TRef.ofBuf, cast_eq]
    after_results_simp <;> (try dsimp only [Matrix.cons_val]) <;> (try after_results_simp) <;> (try dsimp only [Matrix.cons_val]) <;> (try after_results_simp) <;> rfl
  rw [e]
  pointwise
  unfold lane
  rw [Nat.mod_eq_of_lt d.2]
  by_cases h1 : d.val < 16
  · rw [dif_pos h1, if_pos h1]
    exact Cert.Conv.Tb_of (n := 16384) (w := 16) _ _ _
  · by_cases h2 : d.val < 2 * 16
    · rw [dif_neg h1, dif_pos (by omega), if_neg h1, if_pos h2]
      exact Cert.Conv.Tb_of (n := 16384) (w := 16) _ _ _
    · rw [dif_neg h1, dif_neg (by omega), if_neg h1, if_neg h2]

open Idealize.ShloMosaic.StableHlo in
/-- The cosines the launch reads for the index heads. -/
theorem entCi (n : Fin 16384) (d : Fin 128) :
    (V (F := Ideal) m c main_v21 : S16384x128.Idx → EReal) (ix2 n d) = lane 8 64 1 (Ci m c n.val) d.val := by
  have e : V (F := Ideal) m c main_v21 = shapeCast S16384x128 (broadcastInDim S1x16384x2x64 ![0, 1, 2, 3] bcast_S1x16384x1x64_S1x16384x2x64_0_1_2_3 (shapeCast S1x16384x1x64 (concatenate S16384x64 1 [⟨S16384x8, m ((c : Thread nD τ).loc main_arg4)⟩, ⟨S16384x8, m ((c : Thread nD τ).loc main_arg4)⟩, ⟨S16384x48, broadcastInDim S16384x48 ![] bcast_S_S16384x48 (constant (F := Ideal) S_ .f32 0x3F800000#32)⟩] concatenates_S16384x8_S16384x8_S16384x48_S16384x64_d1) shapeCasts_S16384x64_S1x16384x1x64)) shapeCasts_S1x16384x2x64_S16384x128 := by
    show StableHlo.after [hostOps0, hostOps0_1, hostOps0_2, hostOps0_3, hostOps0_4].flatten (fun b => m (c, b)) (Proc.tc.devRef main_v21) = _
    simp only [hostOps0, hostOps0_1, hostOps0_2, hostOps0_3, hostOps0_4, List.flatten_cons, List.flatten_nil, List.cons_append, List.nil_append, List.append_nil, TRef.binary, TRef.nullary, TRef.unary, TRef.toBuf, TRef.ofBuf, cast_eq]
    after_results_simp <;> (try dsimp only [Matrix.cons_val]) <;> (try after_results_simp) <;> (try dsimp only [Matrix.cons_val]) <;> (try after_results_simp) <;> rfl
  rw [e]
  pointwise
  unfold lane
  by_cases h1 : d.val % 64 < 8
  · rw [dif_pos h1, if_pos h1]
    exact Cert.Conv.Tb_of (n := 16384) (w := 8) _ _ _
  · by_cases h2 : d.val % 64 < 2 * 8
    · rw [dif_neg h1, dif_pos (by omega), if_neg h1, if_pos h2]
      exact Cert.Conv.Tb_of (n := 16384) (w := 8) _ _ _
    · rw [dif_neg h1, dif_neg (by omega), if_neg h1, if_neg h2]

open Idealize.ShloMosaic.StableHlo in
/-- The sines the launch reads for the index heads. -/
theorem entSi (n : Fin 16384) (d : Fin 128) :
    (V (F := Ideal) m c main_v24 : S16384x128.Idx → EReal) (ix2 n d) = lane 8 64 0 (Si m c n.val) d.val := by
  have e : V (F := Ideal) m c main_v24 = shapeCast S16384x128 (broadcastInDim S1x16384x2x64 ![0, 1, 2, 3] bcast_S1x16384x1x64_S1x16384x2x64_0_1_2_3 (shapeCast S1x16384x1x64 (concatenate S16384x64 1 [⟨S16384x8, m ((c : Thread nD τ).loc main_arg5)⟩, ⟨S16384x8, m ((c : Thread nD τ).loc main_arg5)⟩, ⟨S16384x48, broadcastInDim S16384x48 ![] bcast_S_S16384x48 (constant (F := Ideal) S_ .f32 0x00000000#32)⟩] concatenates_S16384x8_S16384x8_S16384x48_S16384x64_d1) shapeCasts_S16384x64_S1x16384x1x64)) shapeCasts_S1x16384x2x64_S16384x128 := by
    show StableHlo.after [hostOps0, hostOps0_1, hostOps0_2, hostOps0_3, hostOps0_4].flatten (fun b => m (c, b)) (Proc.tc.devRef main_v24) = _
    simp only [hostOps0, hostOps0_1, hostOps0_2, hostOps0_3, hostOps0_4, List.flatten_cons, List.flatten_nil, List.cons_append, List.nil_append, List.append_nil, TRef.binary, TRef.nullary, TRef.unary, TRef.toBuf, TRef.ofBuf, cast_eq]
    after_results_simp <;> (try dsimp only [Matrix.cons_val]) <;> (try after_results_simp) <;> (try dsimp only [Matrix.cons_val]) <;> (try after_results_simp) <;> rfl
  rw [e]
  pointwise
  unfold lane
  by_cases h1 : d.val % 64 < 8
  · rw [dif_pos h1, if_pos h1]
    exact Cert.Conv.Tb_of (n := 16384) (w := 8) _ _ _
  · by_cases h2 : d.val % 64 < 2 * 8
    · rw [dif_neg h1, dif_pos (by omega), if_neg h1, if_pos h2]
      exact Cert.Conv.Tb_of (n := 16384) (w := 8) _ _ _
    · rw [dif_neg h1, dif_neg (by omega), if_neg h1, if_neg h2]

open Idealize.ShloMosaic.StableHlo in
/-- The queries' gains the launch reads. -/
theorem entGq (d : Fin 128) :
    (V (F := Ideal) m c main_v28 : S1x128.Idx → EReal) (ix2 (0 : Fin 1) d) = Gq m c d.val := by
  have e : V (F := Ideal) m c main_v28 = shapeCast S1x128 (m ((c : Thread nD τ).loc main_arg6)) shapeCasts_S128_S1x128 := by
    show StableHlo.after [hostOps0, hostOps0_1, hostOps0_2, hostOps0_3, hostOps0_4].flatten (fun b => m (c, b)) (Proc.tc.devRef main_v28) = _
    simp only [hostOps0, hostOps0_1, hostOps0_2, hostOps0_3, hostOps0_4, List.flatten_cons, List.flatten_nil, List.cons_append, List.nil_append, List.append_nil, TRef.binary, TRef.nullary, TRef.unary, TRef.toBuf, TRef.ofBuf, cast_eq]
    after_results_simp <;> (try dsimp only [Matrix.cons_val]) <;> (try after_results_simp) <;> (try dsimp only [Matrix.cons_val]) <;> (try after_results_simp) <;> rfl
  rw [e]
  pointwise
  exact T1_of (w := 128) _ _

open Idealize.ShloMosaic.StableHlo in
/-- The keys' gains the launch reads. -/
theorem entGk (d : Fin 128) :
    (V (F := Ideal) m c main_v29 : S1x128.Idx → EReal) (ix2 (0 : Fin 1) d) = Gk m c d.val := by
  have e : V (F := Ideal) m c main_v29 = shapeCast S1x128 (m ((c : Thread nD τ).loc main_arg7)) shapeCasts_S128_S1x128 := by
    show StableHlo.after [hostOps0, hostOps0_1, hostOps0_2, hostOps0_3, hostOps0_4].flatten (fun b => m (c, b)) (Proc.tc.devRef main_v29) = _
    simp only [hostOps0, hostOps0_1, hostOps0_2, hostOps0_3, hostOps0_4, List.flatten_cons, List.flatten_nil, List.cons_append, List.nil_append, List.append_nil, TRef.binary, TRef.nullary, TRef.unary, TRef.toBuf, TRef.ofBuf, cast_eq]
    after_results_simp <;> (try dsimp only [Matrix.cons_val]) <;> (try after_results_simp) <;> (try dsimp only [Matrix.cons_val]) <;> (try after_results_simp) <;> rfl
  rw [e]
  pointwise
  exact T1_of (w := 128) _ _

open Idealize.ShloMosaic.StableHlo in
/-- The index key's gains the launch reads. -/
theorem entGi (d : Fin 128) :
    (V (F := Ideal) m c main_v27 : S1x128.Idx → EReal) (ix2 (0 : Fin 1) d) = gik (Gi m c) d.val := by
  have e : V (F := Ideal) m c main_v27 = shapeCast S1x128 (concatenate S128 0 [⟨S64, m ((c : Thread nD τ).loc main_arg8)⟩, ⟨S64, broadcastInDim S64 ![] bcast_S_S64 (constant (F := Ideal) S_ .f32 0x3F800000#32)⟩] concatenates_S64_S64_S128_d0) shapeCasts_S128_S1x128 := by
    show StableHlo.after [hostOps0, hostOps0_1, hostOps0_2, hostOps0_3, hostOps0_4].flatten (fun b => m (c, b)) (Proc.tc.devRef main_v27) = _
    simp only [hostOps0, hostOps0_1, hostOps0_2, hostOps0_3, hostOps0_4, List.flatten_cons, List.flatten_nil, List.cons_append, List.nil_append, List.append_nil, TRef.binary, TRef.nullary, TRef.unary, TRef.toBuf, TRef.ofBuf, cast_eq]
    after_results_simp <;> (try dsimp only [Matrix.cons_val]) <;> (try after_results_simp) <;> (try dsimp only [Matrix.cons_val]) <;> (try after_results_simp) <;> rfl
  rw [e]
  pointwise
  unfold gik
  by_cases h : d.val < 64
  · rw [dif_pos h, if_pos h]
    exact T1_of (w := 64) _ _
  · rw [dif_neg h, if_neg h]

end Cert.Prep

end
-- ==== Proof.PrepBlocks.lean ====
/- The prepared arrays as functions of the launched arguments. -/
module

public import proofs.«01_k».proof.Proof.PrepEnt

@[expose] public section

noncomputable section

namespace Cert.Prep

open Cert.Kernel7Ideal Cert.Kernel7Ideal.Gen Idealize.ShloMosaic Idealize.ShloMosaic.TcCoe

set_option maxRecDepth 16384

variable (m : (ℓ : Loc nD τ sig) → Buf (Elt Ideal) ℓ) (c : Dev nD)

/-- Where each window's block stands at a grid point. -/
theorem idx : ∀ t : Fin cfg0.N,
    win0_0.index t = ![(grid0.coords t 0).val * 16 + (grid0.coords t 1).val, 0]
    ∧ win0_1.index t = ![(grid0.coords t 0).val * 16 + (grid0.coords t 1).val, 5]
    ∧ win0_2.index t = ![(grid0.coords t 0).val * 16 + (grid0.coords t 1).val, 6]
    ∧ win0_3.index t = ![(grid0.coords t 0).val * 16 + (grid0.coords t 1).val, 7]
    ∧ win0_4.index t = ![(grid0.coords t 0).val * 16 + (grid0.coords t 1).val, 0]
    ∧ win0_5.index t = ![(grid0.coords t 0).val * 16 + (grid0.coords t 1).val, 0]
    ∧ win0_6.index t = ![(grid0.coords t 0).val * 16 + (grid0.coords t 1).val, 0]
    ∧ win0_7.index t = ![(grid0.coords t 0).val * 16 + (grid0.coords t 1).val, 0]
    ∧ win0_8.index t = ![0, 0]
    ∧ win0_9.index t = ![0, 0]
    ∧ win0_10.index t = ![0, 0]
    ∧ win0_11.index t = ![(grid0.coords t 0).val, 0, (grid0.coords t 1).val]
    ∧ win0_12.index t = ![(grid0.coords t 0).val, 0, (grid0.coords t 1).val]
    ∧ win0_13.index t = ![(grid0.coords t 0).val, 0, (grid0.coords t 1).val]
    ∧ win0_14.index t = ![(grid0.coords t 0).val, (grid0.coords t 1).val, 0]
    ∧ win0_15.index t = ![(grid0.coords t 0).val, (grid0.coords t 1).val, 0]
    ∧ win0_16.index t = ![(grid0.coords t 0).val, (grid0.coords t 1).val, 0, 0]
    ∧ win0_17.index t = ![(grid0.coords t 0).val * 16 + (grid0.coords t 1).val, 0]
    ∧ win0_18.index t = ![(grid0.coords t 0).val, 0, (grid0.coords t 1).val, 0, 0]
    ∧ win0_19.index t = ![(grid0.coords t 0).val, (grid0.coords t 1).val, 0] := by
  decide +kernel

/-- The coordinates of a grid point: the batch and the tile of rows. -/
abbrev gb (t : Fin cfg0.N) : Fin 2 := ⟨(grid0.coords t 0).val, (grid0.coords t 0).2⟩
abbrev gc (t : Fin cfg0.N) : Fin 16 := ⟨(grid0.coords t 1).val, (grid0.coords t 1).2⟩
/-- The first row of a grid point. -/
abbrev bs (t : Fin cfg0.N) : ℕ := 512 * ((gb t).val * 16 + (gc t).val)

theorem emb0 (t : Fin cfg0.N) (r : Fin 512) (k : Fin 2048) :
    (win0_0.blk t).view.emb (ix2 r k) = ix2 (⟨bs t + r.val, by have := (gb t).2; have := (gc t).2; unfold bs; omega⟩ : Fin 16384) k := by
  have h0 := (gb t).2
  have h1 := (gc t).2
  refine (eq_ix2 _).trans ?_
  congr 1 <;> apply Fin.ext <;> blk_simp [(idx t).1] <;> (try dsimp only [bs, gb, gc]) <;> (try dsimp only [gb, gc] at h0 h1) <;> omega

theorem emb1 (t : Fin cfg0.N) (r k : Fin 512) :
    (win0_1.blk t).view.emb (ix2 r k) = ix2 (⟨bs t + r.val, by have := (gb t).2; have := (gc t).2; unfold bs; omega⟩ : Fin 16384) (⟨2560 + k.val, by omega⟩ : Fin 8192) := by
  have h0 := (gb t).2
  have h1 := (gc t).2
  refine (eq_ix2 _).trans ?_
  congr 1 <;> apply Fin.ext <;> blk_simp [(idx t).2.1] <;> (try dsimp only [bs, gb, gc]) <;> (try dsimp only [gb, gc] at h0 h1) <;> omega

theorem emb2 (t : Fin cfg0.N) (r k : Fin 512) :
    (win0_2.blk t).view.emb (ix2 r k) = ix2 (⟨bs t + r.val, by have := (gb t).2; have := (gc t).2; unfold bs; omega⟩ : Fin 16384) (⟨3072 + k.val, by omega⟩ : Fin 8192) := by
  have h0 := (gb t).2
  have h1 := (gc t).2
  refine (eq_ix2 _).trans ?_
  congr 1 <;> apply Fin.ext <;> blk_simp [(idx t).2.2.1] <;> (try dsimp only [bs, gb, gc]) <;> (try dsimp only [gb, gc] at h0 h1) <;> omega

theorem emb3 (t : Fin cfg0.N) (r k : Fin 512) :
    (win0_3.blk t).view.emb (ix2 r k) = ix2 (⟨bs t + r.val, by have := (gb t).2; have := (gc t).2; unfold bs; omega⟩ : Fin 16384) (⟨3584 + k.val, by omega⟩ : Fin 8192) := by
  have h0 := (gb t).2
  have h1 := (gc t).2
  refine (eq_ix2 _).trans ?_
  congr 1 <;> apply Fin.ext <;> blk_simp [(idx t).2.2.2.1] <;> (try dsimp only [bs, gb, gc]) <;> (try dsimp only [gb, gc] at h0 h1) <;> omega

theorem emb4 (t : Fin cfg0.N) (r : Fin 512) (k : Fin 128) :
    (win0_4.blk t).view.emb (ix2 r k) = ix2 (⟨bs t + r.val, by have := (gb t).2; have := (gc t).2; unfold bs; omega⟩ : Fin 16384) k := by
  have h0 := (gb t).2
  have h1 := (gc t).2
  refine (eq_ix2 _).trans ?_
  congr 1 <;> apply Fin.ext <;> blk_simp [(idx t).2.2.2.2.1] <;> (try dsimp only [bs, gb, gc]) <;> (try dsimp only [gb, gc] at h0 h1) <;> omega

theorem emb5 (t : Fin cfg0.N) (r : Fin 512) (k : Fin 128) :
    (win0_5.blk t).view.emb (ix2 r k) = ix2 (⟨bs t + r.val, by have := (gb t).2; have := (gc t).2; unfold bs; omega⟩ : Fin 16384) k := by
  have h0 := (gb t).2
  have h1 := (gc t).2
  refine (eq_ix2 _).trans ?_
  congr 1 <;> apply Fin.ext <;> blk_simp [(idx t).2.2.2.2.2.1] <;> (try dsimp only [bs, gb, gc]) <;> (try dsimp only [gb, gc] at h0 h1) <;> omega

theorem emb6 (t : Fin cfg0.N) (r : Fin 512) (k : Fin 128) :
    (win0_6.blk t).view.emb (ix2 r k) = ix2 (⟨bs t + r.val, by have := (gb t).2; have := (gc t).2; unfold bs; omega⟩ : Fin 16384) k := by
  have h0 := (gb t).2
  have h1 := (gc t).2
  refine (eq_ix2 _).trans ?_
  congr 1 <;> apply Fin.ext <;> blk_simp [(idx t).2.2.2.2.2.2.1] <;> (try dsimp only [bs, gb, gc]) <;> (try dsimp only [gb, gc] at h0 h1) <;> omega

theorem emb7 (t : Fin cfg0.N) (r : Fin 512) (k : Fin 128) :
    (win0_7.blk t).view.emb (ix2 r k) = ix2 (⟨bs t + r.val, by have := (gb t).2; have := (gc t).2; unfold bs; omega⟩ : Fin 16384) k := by
  have h0 := (gb t).2
  have h1 := (gc t).2
  refine (eq_ix2 _).trans ?_
  congr 1 <;> apply Fin.ext <;> blk_simp [(idx t).2.2.2.2.2.2.2.1] <;> (try dsimp only [bs, gb, gc]) <;> (try dsimp only [gb, gc] at h0 h1) <;> omega

theorem emb8 (t : Fin cfg0.N) (k : Fin 128) :
    (win0_8.blk t).view.emb (ix2 (0 : Fin 1) k) = ix2 (0 : Fin 1) k := by
  have h0 := (gb t).2
  have h1 := (gc t).2
  refine (eq_ix2 _).trans ?_
  congr 1 <;> apply Fin.ext <;> blk_simp [(idx t).2.2.2.2.2.2.2.2.1] <;> (try dsimp only [bs, gb, gc]) <;> (try dsimp only [gb, gc] at h0 h1) <;> omega

theorem emb9 (t : Fin cfg0.N) (k : Fin 128) :
    (win0_9.blk t).view.emb (ix2 (0 : Fin 1) k) = ix2 (0 : Fin 1) k := by
  have h0 := (gb t).2
  have h1 := (gc t).2
  refine (eq_ix2 _).trans ?_
  congr 1 <;> apply Fin.ext <;> blk_simp [(idx t).2.2.2.2.2.2.2.2.2.1] <;> (try dsimp only [bs, gb, gc]) <;> (try dsimp only [gb, gc] at h0 h1) <;> omega

theorem emb10 (t : Fin cfg0.N) (k : Fin 128) :
    (win0_10.blk t).view.emb (ix2 (0 : Fin 1) k) = ix2 (0 : Fin 1) k := by
  have h0 := (gb t).2
  have h1 := (gc t).2
  refine (eq_ix2 _).trans ?_
  congr 1 <;> apply Fin.ext <;> blk_simp [(idx t).2.2.2.2.2.2.2.2.2.2.1] <;> (try dsimp only [bs, gb, gc]) <;> (try dsimp only [gb, gc] at h0 h1) <;> omega

theorem emb11 (t : Fin cfg0.N) (e r : Fin 512) :
    (win0_11.blk t).view.emb (ix3 (0 : Fin 1) e r) = ix3 (gb t) e (⟨512 * (gc t).val + r.val, by have := (gc t).2; omega⟩ : Fin 8192) := by
  have h0 := (gb t).2
  have h1 := (gc t).2
  refine (eq_ix3 _).trans ?_
  congr 1 <;> apply Fin.ext <;> blk_simp [(idx t).2.2.2.2.2.2.2.2.2.2.2.1] <;> (try dsimp only [bs, gb, gc]) <;> (try dsimp only [gb, gc] at h0 h1) <;> omega

theorem emb12 (t : Fin cfg0.N) (e r : Fin 512) :
    (win0_12.blk t).view.emb (ix3 (0 : Fin 1) e r) = ix3 (gb t) e (⟨512 * (gc t).val + r.val, by have := (gc t).2; omega⟩ : Fin 8192) := by
  have h0 := (gb t).2
  have h1 := (gc t).2
  refine (eq_ix3 _).trans ?_
  congr 1 <;> apply Fin.ext <;> blk_simp [(idx t).2.2.2.2.2.2.2.2.2.2.2.2.1] <;> (try dsimp only [bs, gb, gc]) <;> (try dsimp only [gb, gc] at h0 h1) <;> omega

theorem emb13 (t : Fin cfg0.N) (e : Fin 8) (r : Fin 512) :
    (win0_13.blk t).view.emb (ix3 (0 : Fin 1) e r) = ix3 (gb t) e (⟨512 * (gc t).val + r.val, by have := (gc t).2; omega⟩ : Fin 8192) := by
  have h0 := (gb t).2
  have h1 := (gc t).2
  refine (eq_ix3 _).trans ?_
  congr 1 <;> apply Fin.ext <;> blk_simp [(idx t).2.2.2.2.2.2.2.2.2.2.2.2.2.1] <;> (try dsimp only [bs, gb, gc]) <;> (try dsimp only [gb, gc] at h0 h1) <;> omega

theorem emb14 (t : Fin cfg0.N) (r : Fin 512) (e : Fin 128) :
    (win0_14.blk t).view.emb (ix3 (0 : Fin 1) r e) = ix3 (gb t) (⟨512 * (gc t).val + r.val, by have := (gc t).2; omega⟩ : Fin 8192) e := by
  have h0 := (gb t).2
  have h1 := (gc t).2
  refine (eq_ix3 _).trans ?_
  congr 1 <;> apply Fin.ext <;> blk_simp [(idx t).2.2.2.2.2.2.2.2.2.2.2.2.2.2.1] <;> (try dsimp only [bs, gb, gc]) <;> (try dsimp only [gb, gc] at h0 h1) <;> omega

theorem emb15 (t : Fin cfg0.N) (r e : Fin 512) :
    (win0_15.blk t).view.emb (ix3 (0 : Fin 1) r e) = ix3 (gb t) (⟨512 * (gc t).val + r.val, by have := (gc t).2; omega⟩ : Fin 8192) e := by
  have h0 := (gb t).2
  have h1 := (gc t).2
  refine (eq_ix3 _).trans ?_
  congr 1 <;> apply Fin.ext <;> blk_simp [(idx t).2.2.2.2.2.2.2.2.2.2.2.2.2.2.2.1] <;> (try dsimp only [bs, gb, gc]) <;> (try dsimp only [gb, gc] at h0 h1) <;> omega

theorem emb16 (t : Fin cfg0.N) (e r : Fin 512) :
    (win0_16.blk t).view.emb (ix4 (0 : Fin 1) (0 : Fin 1) e r) = ix4 (gb t) (gc t) e r := by
  have h0 := (gb t).2
  have h1 := (gc t).2
  refine (eq_ix4 _).trans ?_
  congr 1 <;> apply Fin.ext <;> blk_simp [(idx t).2.2.2.2.2.2.2.2.2.2.2.2.2.2.2.2.1] <;> (try dsimp only [bs, gb, gc]) <;> (try dsimp only [gb, gc] at h0 h1) <;> omega

theorem emb17 (t : Fin cfg0.N) (r e : Fin 512) :
    (win0_17.blk t).view.emb (ix2 r e) = ix2 (⟨bs t + r.val, by have := (gb t).2; have := (gc t).2; unfold bs; omega⟩ : Fin 16384) e := by
  have h0 := (gb t).2
  have h1 := (gc t).2
  refine (eq_ix2 _).trans ?_
  congr 1 <;> apply Fin.ext <;> blk_simp [(idx t).2.2.2.2.2.2.2.2.2.2.2.2.2.2.2.2.2.1] <;> (try dsimp only [bs, gb, gc]) <;> (try dsimp only [gb, gc] at h0 h1) <;> omega

theorem emb18 (t : Fin cfg0.N) (h : Fin 4) (q : Fin 2) (d : Fin 128) (s : Fin 256) :
    (win0_18.blk t).view.emb (ix5 (0 : Fin 1) h q d s) = ix5 (gb t) h (⟨2 * (gc t).val + q.val, by have := (gc t).2; omega⟩ : Fin 32) d s := by
  have h0 := (gb t).2
  have h1 := (gc t).2
  refine (eq_ix5 _).trans ?_
  congr 1 <;> apply Fin.ext <;> blk_simp [(idx t).2.2.2.2.2.2.2.2.2.2.2.2.2.2.2.2.2.2.1] <;> (try dsimp only [bs, gb, gc]) <;> (try dsimp only [gb, gc] at h0 h1) <;> omega

theorem emb19 (t : Fin cfg0.N) (r e : Fin 512) :
    (win0_19.blk t).view.emb (ix3 (0 : Fin 1) r e) = ix3 (gb t) (⟨512 * (gc t).val + r.val, by have := (gc t).2; omega⟩ : Fin 8192) e := by
  have h0 := (gb t).2
  have h1 := (gc t).2
  refine (eq_ix3 _).trans ?_
  congr 1 <;> apply Fin.ext <;> blk_simp [(idx t).2.2.2.2.2.2.2.2.2.2.2.2.2.2.2.2.2.2.2] <;> (try dsimp only [bs, gb, gc]) <;> (try dsimp only [gb, gc] at h0 h1) <;> omega

theorem blk0_at (t : Fin cfg0.N) (r : Fin 512) (k : Fin 2048) :
    (iblk (F := Ideal) m c 0 t : S512x2048.Idx → EReal) (ix2 r k) = Xk (Pm m c) (bs t + r.val) k.val := by
  blk_simp [iblk, (idx t).1]
  rw [emb0]
  exact entX m c _ _

theorem blk1_at (t : Fin cfg0.N) (r k : Fin 512) :
    (iblk (F := Ideal) m c 1 t : S512x512.Idx → EReal) (ix2 r k) = Qm m c (bs t + r.val) (2560 + k.val) := by
  blk_simp [iblk, (idx t).2.1]
  rw [emb1]
  rw [show V (F := Ideal) m c (Pipeline.arrRef spec0 1) = _ from V_main_arg1 m c]
  exact Cert.Conv.Tb_of (n := 16384) (w := 8192) _ _ _

theorem blk2_at (t : Fin cfg0.N) (r k : Fin 512) :
    (iblk (F := Ideal) m c 2 t : S512x512.Idx → EReal) (ix2 r k) = Qm m c (bs t + r.val) (3072 + k.val) := by
  blk_simp [iblk, (idx t).2.2.1]
  rw [emb2]
  rw [show V (F := Ideal) m c (Pipeline.arrRef spec0 2) = _ from V_main_arg1 m c]
  exact Cert.Conv.Tb_of (n := 16384) (w := 8192) _ _ _

theorem blk3_at (t : Fin cfg0.N) (r k : Fin 512) :
    (iblk (F := Ideal) m c 3 t : S512x512.Idx → EReal) (ix2 r k) = Qm m c (bs t + r.val) (3584 + k.val) := by
  blk_simp [iblk, (idx t).2.2.2.1]
  rw [emb3]
  rw [show V (F := Ideal) m c (Pipeline.arrRef spec0 3) = _ from V_main_arg1 m c]
  exact Cert.Conv.Tb_of (n := 16384) (w := 8192) _ _ _

theorem blk4_at (t : Fin cfg0.N) (r : Fin 512) (k : Fin 128) :
    (iblk (F := Ideal) m c 4 t : S512x128.Idx → EReal) (ix2 r k) = lane 16 128 1 (Ca m c (bs t + r.val)) k.val := by
  blk_simp [iblk, (idx t).2.2.2.2.1]
  rw [emb4]
  exact entCa m c _ _

theorem blk5_at (t : Fin cfg0.N) (r : Fin 512) (k : Fin 128) :
    (iblk (F := Ideal) m c 5 t : S512x128.Idx → EReal) (ix2 r k) = lane 16 128 0 (Sa m c (bs t + r.val)) k.val := by
  blk_simp [iblk, (idx t).2.2.2.2.2.1]
  rw [emb5]
  exact entSa m c _ _

theorem blk6_at (t : Fin cfg0.N) (r : Fin 512) (k : Fin 128) :
    (iblk (F := Ideal) m c 6 t : S512x128.Idx → EReal) (ix2 r k) = lane 8 64 1 (Ci m c (bs t + r.val)) k.val := by
  blk_simp [iblk, (idx t).2.2.2.2.2.2.1]
  rw [emb6]
  exact entCi m c _ _

theorem blk7_at (t : Fin cfg0.N) (r : Fin 512) (k : Fin 128) :
    (iblk (F := Ideal) m c 7 t : S512x128.Idx → EReal) (ix2 r k) = lane 8 64 0 (Si m c (bs t + r.val)) k.val := by
  blk_simp [iblk, (idx t).2.2.2.2.2.2.2.1]
  rw [emb7]
  exact entSi m c _ _

theorem blk8_at (t : Fin cfg0.N) (k : Fin 128) :
    (iblk (F := Ideal) m c 8 t : S1x128.Idx → EReal) (ix2 (0 : Fin 1) k) = Gq m c k.val := by
  blk_simp [iblk, (idx t).2.2.2.2.2.2.2.2.1]
  rw [emb8]
  exact entGq m c _

theorem blk9_at (t : Fin cfg0.N) (k : Fin 128) :
    (iblk (F := Ideal) m c 9 t : S1x128.Idx → EReal) (ix2 (0 : Fin 1) k) = Gk m c k.val := by
  blk_simp [iblk, (idx t).2.2.2.2.2.2.2.2.2.1]
  rw [emb9]
  exact entGk m c _

theorem blk10_at (t : Fin cfg0.N) (k : Fin 128) :
    (iblk (F := Ideal) m c 10 t : S1x128.Idx → EReal) (ix2 (0 : Fin 1) k) = gik (Gi m c) k.val := by
  blk_simp [iblk, (idx t).2.2.2.2.2.2.2.2.2.2.1]
  rw [emb10]
  exact entGi m c _

/-! ### The results -/

section Spec

variable (P Q ca sa ci si : ℕ → ℕ → EReal) (gq gk gi : ℕ → EReal)

/-- The queries, rotated, scaled and transposed. -/
def G11 : S2x512x8192.Idx → EReal := fun y => hq 0 P ca sa gq (8192 * (y 0).val + (y 2).val) (y 1).val * Ideal.ofBits .f32 0x3E0293EE#32
/-- The index queries, rotated, spread and transposed. -/
def G12 : S2x512x8192.Idx → EReal := fun y => hi P ci si (8192 * (y 0).val + (y 2).val) (y 1).val
/-- The index weights, scaled and transposed. -/
def G13 : S2x8x8192.Idx → EReal := fun y => hw P (8192 * (y 0).val + (y 2).val) (y 1).val * Ideal.ofBits .f32 0x3D800000#32
/-- The index keys, twice. -/
def G14 : S2x8192x128.Idx → EReal := fun y => hk P ci si gi (8192 * (y 0).val + (y 1).val) (y 2).val
/-- The keys. -/
def G15 : S2x8192x512.Idx → EReal := fun y => hq 512 P ca sa gk (8192 * (y 0).val + (y 1).val) (y 2).val
/-- The values, a chunk at a time, transposed. -/
def G16 : S2x16x512x512.Idx → EReal := fun y => P (8192 * (y 0).val + 512 * (y 1).val + (y 3).val) (1024 + (y 2).val)
/-- The stick-breaking queries, scaled. -/
def G17 : S16384x512.Idx → EReal := fun y => Q (y 0).val (2560 + (y 1).val) * Ideal.ofBits .f32 0x3E0293EE#32
/-- The stick-breaking keys, a chunk of a head at a time, transposed. -/
def G18 : S2x4x32x128x256.Idx → EReal := fun y => Q (8192 * (y 0).val + 256 * (y 2).val + (y 4).val) (3072 + 128 * (y 1).val + (y 3).val)
/-- The stick-breaking values. -/
def G19 : S2x8192x512.Idx → EReal := fun y => Q (8192 * (y 0).val + (y 1).val) (3584 + (y 2).val)

end Spec

/-- The queries' array after the run. -/
theorem arr11_eq : (dats (F := Ideal) m 0 c).arrAt 11 cfg0.N = G11 (Pm m c) (Ca m c) (Sa m c) (Gq m c) := by
  refine (dats (F := Ideal) m 0 c).arrAt_eq_of_covers 11 _ (by decide +kernel) fun t hf y => ?_
  obtain ⟨e, r, rfl⟩ : ∃ (e : Fin 512) (r : Fin 512), y = ix3 (0 : Fin 1) e r := ⟨y 1, y 2, by funext b; fin_cases b <;> first | rfl | exact Subsingleton.elim (α := Fin 1) _ _⟩
  blk_simp
  rw [after0_11, emb11]
  refine (out11_at _ _ _ _ _ _ _ _ _ _ _ (fun r k => Xk (Pm m c) (bs t + r) k) (fun r => lane 16 128 1 (Ca m c (bs t + r))) (fun r => lane 16 128 0 (Sa m c (bs t + r))) (Gq m c) (fun r k => blk0_at m c t r k) (fun r k => blk4_at m c t r k) (fun r k => blk5_at m c t r k) (fun k => blk8_at m c t k) e r).trans ?_
  rw [hd_eq _ _ _ _ _ _ _ _ (by norm_num) e.2]
  show _ = hq 0 _ _ _ _ (8192 * (gb t).val + (512 * (gc t).val + r.val)) e.val * _
  rw [show 8192 * (gb t).val + (512 * (gc t).val + r.val) = bs t + r.val by unfold bs; omega]

/-- The index queries' array after the run. -/
theorem arr12_eq : (dats (F := Ideal) m 0 c).arrAt 12 cfg0.N = G12 (Pm m c) (Ci m c) (Si m c) := by
  refine (dats (F := Ideal) m 0 c).arrAt_eq_of_covers 12 _ (by decide +kernel) fun t hf y => ?_
  obtain ⟨e, r, rfl⟩ : ∃ (e : Fin 512) (r : Fin 512), y = ix3 (0 : Fin 1) e r := ⟨y 1, y 2, by funext b; fin_cases b <;> first | rfl | exact Subsingleton.elim (α := Fin 1) _ _⟩
  blk_simp
  rw [after0_12, emb12]
  refine (out12_at _ _ _ _ _ _ _ _ _ _ _ (fun r k => Xk (Pm m c) (bs t + r) k) (fun r => lane 8 64 1 (Ci m c (bs t + r))) (fun r => lane 8 64 0 (Si m c (bs t + r))) (fun r k => blk0_at m c t r k) (fun r k => blk6_at m c t r k) (fun r k => blk7_at m c t r k) e r).trans ?_
  rw [ih_eq _ _ _ _ _ _ e.2]
  show _ = hi _ _ _ (8192 * (gb t).val + (512 * (gc t).val + r.val)) e.val
  rw [show 8192 * (gb t).val + (512 * (gc t).val + r.val) = bs t + r.val by unfold bs; omega]

/-- The index weights' array after the run. -/
theorem arr13_eq : (dats (F := Ideal) m 0 c).arrAt 13 cfg0.N = G13 (Pm m c) := by
  refine (dats (F := Ideal) m 0 c).arrAt_eq_of_covers 13 _ (by decide +kernel) fun t hf y => ?_
  obtain ⟨e, r, rfl⟩ : ∃ (e : Fin 8) (r : Fin 512), y = ix3 (0 : Fin 1) e r := ⟨y 1, y 2, by funext b; fin_cases b <;> first | rfl | exact Subsingleton.elim (α := Fin 1) _ _⟩
  blk_simp
  rw [after0_13, emb13]
  refine (out13_at _ _ _ _ _ _ _ _ _ _ _ (fun r k => Xk (Pm m c) (bs t + r) k) (fun r k => blk0_at m c t r k) e r).trans ?_
  show Xk (Pm m c) (bs t + r.val) (1920 + e.val) * _ = hw _ (8192 * (gb t).val + (512 * (gc t).val + r.val)) e.val * _
  rw [xw_eq _ _ _ e.2, show 8192 * (gb t).val + (512 * (gc t).val + r.val) = bs t + r.val by unfold bs; omega]

/-- The index keys' array after the run. -/
theorem arr14_eq : (dats (F := Ideal) m 0 c).arrAt 14 cfg0.N = G14 (Pm m c) (Ci m c) (Si m c) (Gi m c) := by
  refine (dats (F := Ideal) m 0 c).arrAt_eq_of_covers 14 _ (by decide +kernel) fun t hf y => ?_
  obtain ⟨r, e, rfl⟩ : ∃ (r : Fin 512) (e : Fin 128), y = ix3 (0 : Fin 1) r e := ⟨y 1, y 2, by funext b; fin_cases b <;> first | rfl | exact Subsingleton.elim (α := Fin 1) _ _⟩
  blk_simp
  rw [after0_14, emb14]
  refine (out14_at _ _ _ _ _ _ _ _ _ _ _ (fun r k => Xk (Pm m c) (bs t + r) k) (fun r => lane 8 64 1 (Ci m c (bs t + r))) (fun r => lane 8 64 0 (Si m c (bs t + r))) (gik (Gi m c)) (fun r k => blk0_at m c t r k) (fun r k => blk6_at m c t r k) (fun r k => blk7_at m c t r k) (fun k => blk10_at m c t k) r e).trans ?_
  rw [kk_eq _ _ _ _ _ _ _ e.2]
  show _ = hk _ _ _ _ (8192 * (gb t).val + (512 * (gc t).val + r.val)) e.val
  rw [show 8192 * (gb t).val + (512 * (gc t).val + r.val) = bs t + r.val by unfold bs; omega]

/-- The keys' array after the run. -/
theorem arr15_eq : (dats (F := Ideal) m 0 c).arrAt 15 cfg0.N = G15 (Pm m c) (Ca m c) (Sa m c) (Gk m c) := by
  refine (dats (F := Ideal) m 0 c).arrAt_eq_of_covers 15 _ (by decide +kernel) fun t hf y => ?_
  obtain ⟨r, e, rfl⟩ : ∃ (r : Fin 512) (e : Fin 512), y = ix3 (0 : Fin 1) r e := ⟨y 1, y 2, by funext b; fin_cases b <;> first | rfl | exact Subsingleton.elim (α := Fin 1) _ _⟩
  blk_simp
  rw [after0_15, emb15]
  refine (out15_at _ _ _ _ _ _ _ _ _ _ _ (fun r k => Xk (Pm m c) (bs t + r) k) (fun r => lane 16 128 1 (Ca m c (bs t + r))) (fun r => lane 16 128 0 (Sa m c (bs t + r))) (Gk m c) (fun r k => blk0_at m c t r k) (fun r k => blk4_at m c t r k) (fun r k => blk5_at m c t r k) (fun k => blk9_at m c t k) r e).trans ?_
  rw [hd_eq _ _ _ _ _ _ _ _ (by norm_num) e.2]
  show _ = hq 512 _ _ _ _ (8192 * (gb t).val + (512 * (gc t).val + r.val)) e.val
  rw [show 8192 * (gb t).val + (512 * (gc t).val + r.val) = bs t + r.val by unfold bs; omega]

/-- The values' array after the run. -/
theorem arr16_eq : (dats (F := Ideal) m 0 c).arrAt 16 cfg0.N = G16 (Pm m c) := by
  refine (dats (F := Ideal) m 0 c).arrAt_eq_of_covers 16 _ (by decide +kernel) fun t hf y => ?_
  obtain ⟨e, r, rfl⟩ : ∃ (e r : Fin 512), y = ix4 (0 : Fin 1) (0 : Fin 1) e r := ⟨y 2, y 3, by funext b; fin_cases b <;> first | rfl | exact Subsingleton.elim (α := Fin 1) _ _⟩
  blk_simp
  rw [after0_16, emb16]
  refine (out16_at _ _ _ _ _ _ _ _ _ _ _ (fun r k => Xk (Pm m c) (bs t + r) k) (fun r k => blk0_at m c t r k) e r).trans ?_
  have := e.2
  show Xk (Pm m c) (bs t + r.val) (1024 + e.val) = Pm m c (8192 * (gb t).val + 512 * (gc t).val + r.val) (1024 + e.val)
  unfold Xk
  rw [if_pos (by omega), show 8192 * (gb t).val + 512 * (gc t).val + r.val = bs t + r.val by unfold bs; omega]

/-- The stick-breaking queries' array after the run. -/
theorem arr17_eq : (dats (F := Ideal) m 0 c).arrAt 17 cfg0.N = G17 (Qm m c) := by
  refine (dats (F := Ideal) m 0 c).arrAt_eq_of_covers 17 _ (by decide +kernel) fun t hf y => ?_
  obtain ⟨r, e, rfl⟩ : ∃ (r e : Fin 512), y = ix2 r e := ⟨y 0, y 1, eq_ix2 y⟩
  blk_simp
  rw [after0_17, emb17]
  refine (out17_at _ _ _ _ _ _ _ _ _ _ _ r e).trans ?_
  rw [blk1_at]
  rfl

/-- The stick-breaking keys' array after the run. -/
theorem arr18_eq : (dats (F := Ideal) m 0 c).arrAt 18 cfg0.N = G18 (Qm m c) := by
  refine (dats (F := Ideal) m 0 c).arrAt_eq_of_covers 18 _ (by decide +kernel) fun t hf y => ?_
  obtain ⟨h, q, d, s, rfl⟩ : ∃ (h : Fin 4) (q : Fin 2) (d : Fin 128) (s : Fin 256), y = ix5 (0 : Fin 1) h q d s := ⟨y 1, y 2, y 3, y 4, by funext b; fin_cases b <;> first | rfl | exact Subsingleton.elim (α := Fin 1) _ _⟩
  blk_simp
  rw [after0_18, emb18]
  refine (out18_at _ _ _ _ _ _ _ _ _ _ _ h q d s).trans ?_
  have hh := h.2
  have hqq := q.2
  refine (Cert.Conv.Tb_of (n := 512) (w := 512) _ (⟨256 * q.val + s.val, by omega⟩ : Fin 512) (⟨128 * h.val + d.val, by omega⟩ : Fin 512)).symm.trans ?_
  rw [blk2_at]
  show Qm m c (bs t + (256 * q.val + s.val)) (3072 + (128 * h.val + d.val)) = Qm m c (8192 * (gb t).val + 256 * (2 * (gc t).val + q.val) + s.val) (3072 + 128 * h.val + d.val)
  congr 1 <;> (try unfold bs) <;> omega

/-- The stick-breaking values' array after the run. -/
theorem arr19_eq : (dats (F := Ideal) m 0 c).arrAt 19 cfg0.N = G19 (Qm m c) := by
  refine (dats (F := Ideal) m 0 c).arrAt_eq_of_covers 19 _ (by decide +kernel) fun t hf y => ?_
  obtain ⟨r, e, rfl⟩ : ∃ (r : Fin 512) (e : Fin 512), y = ix3 (0 : Fin 1) r e := ⟨y 1, y 2, by funext b; fin_cases b <;> first | rfl | exact Subsingleton.elim (α := Fin 1) _ _⟩
  blk_simp
  rw [after0_19, emb19]
  refine (out19_at _ _ _ _ _ _ _ _ _ _ _ r e).trans ?_
  rw [blk3_at]
  show _ = Qm m c (8192 * (gb t).val + (512 * (gc t).val + r.val)) (3584 + e.val)
  rw [show 8192 * (gb t).val + (512 * (gc t).val + r.val) = bs t + r.val by unfold bs; omega]

end Cert.Prep

end
-- ==== Proof.PrepRef.lean ====
/- The preparation's reference read at an index. -/
module

public import proofs.«01_k».proof.Proof.PrepBlocks
public import proofs.«01_k».proof.Proof.Gen.Reference7Ideal.Run
public import Idealize.ShloMosaic.Lib.Pointwise

@[expose] public section

noncomputable section

namespace Cert.Prep

open Cert.Reference7Ideal Cert.Reference7Ideal.Facts₀ Cert.Reference7Ideal.Value Idealize.ShloMosaic Idealize.ShloMosaic.TcCoe Idealize.ShloMosaic.StableHlo

set_option maxRecDepth 16384

/-- The query columns as heads. -/
def xQ (a0 : FVec Ideal S16384x1860 .f32) : FVec Ideal S2x8192x4x128 .f32 :=
  shapeCast _ (extractStridedSlice S16384x512 ![0, 0] a0 slices_S16384x1860_S16384x512_0_0) shapeCasts_S16384x512_S2x8192x4x128

/-- The key columns as heads. -/
def xK (a0 : FVec Ideal S16384x1860 .f32) : FVec Ideal S2x8192x4x128 .f32 :=
  shapeCast _ (extractStridedSlice S16384x512 ![0, 512] a0 slices_S16384x1860_S16384x512_0_512) shapeCasts_S16384x512_S2x8192x4x128

/-- The index query columns as heads. -/
def xI (a0 : FVec Ideal S16384x1860 .f32) : FVec Ideal S2x8192x4x64 .f32 :=
  shapeCast _ (extractStridedSlice S16384x256 ![0, 1536] a0 slices_S16384x1860_S16384x256_0_1536) shapeCasts_S16384x256_S2x8192x4x64

/-- The index key columns as one head. -/
def xJ (a0 : FVec Ideal S16384x1860 .f32) : FVec Ideal S2x8192x1x64 .f32 :=
  shapeCast _ (extractStridedSlice S16384x64 ![0, 1792] a0 slices_S16384x1860_S16384x64_0_1792) shapeCasts_S16384x64_S2x8192x1x64

/-- The attention heads by their mean squares. -/
def nA (x : FVec Ideal S2x8192x4x128 .f32) (g : FVec Ideal S128 .f32) : FVec Ideal S2x8192x4x128 .f32 :=
  mulf (mulf x (broadcastInDim S2x8192x4x128 ![0, 1, 2, 3] bcast_S2x8192x4x1_S2x8192x4x128_0_1_2_3 (Host.rsqrt (addf (Host.divf (broadcastInDim S2x8192x4x1 ![0, 1, 2] bcast_S2x8192x4_S2x8192x4x1_0_1_2 (Host.reduceAdd (mulf x x) (constant S_ .f32 0x00000000#32) reducesTo_S2x8192x4x128_S2x8192x4_d3 h_S_)) (broadcastInDim S2x8192x4x1 ![] bcast_S_S2x8192x4x1 (constant S_ .f32 0x43000000#32))) (broadcastInDim S2x8192x4x1 ![] bcast_S_S2x8192x4x1 (constant S_ .f32 0x358637BD#32)))))) (broadcastInDim S2x8192x4x128 ![0, 1, 2, 3] bcast_S1x1x1x128_S2x8192x4x128_0_1_2_3 (broadcastInDim S1x1x1x128 ![3] bcast_S128_S1x1x1x128_3 g))

/-- The index key by its mean square. -/
def nJ (x : FVec Ideal S2x8192x1x64 .f32) (g : FVec Ideal S64 .f32) : FVec Ideal S2x8192x1x64 .f32 :=
  mulf (mulf x (broadcastInDim S2x8192x1x64 ![0, 1, 2, 3] bcast_S2x8192x1x1_S2x8192x1x64_0_1_2_3 (Host.rsqrt (addf (Host.divf (broadcastInDim S2x8192x1x1 ![0, 1, 2] bcast_S2x8192x1_S2x8192x1x1_0_1_2 (Host.reduceAdd (mulf x x) (constant S_ .f32 0x00000000#32) reducesTo_S2x8192x1x64_S2x8192x1_d3 h_S_)) (broadcastInDim S2x8192x1x1 ![] bcast_S_S2x8192x1x1 (constant S_ .f32 0x42800000#32))) (broadcastInDim S2x8192x1x1 ![] bcast_S_S2x8192x1x1 (constant S_ .f32 0x358637BD#32)))))) (broadcastInDim S2x8192x1x64 ![0, 1, 2, 3] bcast_S1x1x1x64_S2x8192x1x64_0_1_2_3 (broadcastInDim S1x1x1x64 ![3] bcast_S64_S1x1x1x64_3 g))

/-- The rotary step of the attention heads. -/
def rA (y : FVec Ideal S2x8192x4x128 .f32) (a2 a3 : FVec Ideal S16384x16 .f32) : FVec Ideal S2x8192x4x128 .f32 :=
  (concatenate S2x8192x4x128 3 [⟨S2x8192x4x16, ((subf (mulf (extractStridedSlice S2x8192x4x16 ![0, 0, 0, 0] y slices_S2x8192x4x128_S2x8192x4x16_0_0_0_0) (broadcastInDim S2x8192x4x16 ![0, 1, 2, 3] bcast_S2x8192x1x16_S2x8192x4x16_0_1_2_3 (shapeCast _ a2 shapeCasts_S16384x16_S2x8192x1x16))) (mulf (extractStridedSlice S2x8192x4x16 ![0, 0, 0, 16] y slices_S2x8192x4x128_S2x8192x4x16_0_0_0_16) (broadcastInDim S2x8192x4x16 ![0, 1, 2, 3] bcast_S2x8192x1x16_S2x8192x4x16_0_1_2_3 (shapeCast _ a3 shapeCasts_S16384x16_S2x8192x1x16)))) : (⟨S2x8192x4x16, .f32⟩ : BufTy).Contents (Elt Ideal))⟩, ⟨S2x8192x4x16, ((addf (mulf (extractStridedSlice S2x8192x4x16 ![0, 0, 0, 16] y slices_S2x8192x4x128_S2x8192x4x16_0_0_0_16) (broadcastInDim S2x8192x4x16 ![0, 1, 2, 3] bcast_S2x8192x1x16_S2x8192x4x16_0_1_2_3 (shapeCast _ a2 shapeCasts_S16384x16_S2x8192x1x16))) (mulf (extractStridedSlice S2x8192x4x16 ![0, 0, 0, 0] y slices_S2x8192x4x128_S2x8192x4x16_0_0_0_0) (broadcastInDim S2x8192x4x16 ![0, 1, 2, 3] bcast_S2x8192x1x16_S2x8192x4x16_0_1_2_3 (shapeCast _ a3 shapeCasts_S16384x16_S2x8192x1x16)))) : (⟨S2x8192x4x16, .f32⟩ : BufTy).Contents (Elt Ideal))⟩, ⟨S2x8192x4x96, ((extractStridedSlice S2x8192x4x96 ![0, 0, 0, 32] y slices_S2x8192x4x128_S2x8192x4x96_0_0_0_32) : (⟨S2x8192x4x96, .f32⟩ : BufTy).Contents (Elt Ideal))⟩] concatenates_S2x8192x4x16_S2x8192x4x16_S2x8192x4x96_S2x8192x4x128_d3 : (⟨S2x8192x4x128, .f32⟩ : BufTy).Contents (Elt Ideal))

/-- The rotary step of the index queries. -/
def rI (y : FVec Ideal S2x8192x4x64 .f32) (a4 a5 : FVec Ideal S16384x8 .f32) : FVec Ideal S2x8192x4x64 .f32 :=
  (concatenate S2x8192x4x64 3 [⟨S2x8192x4x8, ((subf (mulf (extractStridedSlice S2x8192x4x8 ![0, 0, 0, 0] y slices_S2x8192x4x64_S2x8192x4x8_0_0_0_0) (broadcastInDim S2x8192x4x8 ![0, 1, 2, 3] bcast_S2x8192x1x8_S2x8192x4x8_0_1_2_3 (shapeCast _ a4 shapeCasts_S16384x8_S2x8192x1x8))) (mulf (extractStridedSlice S2x8192x4x8 ![0, 0, 0, 8] y slices_S2x8192x4x64_S2x8192x4x8_0_0_0_8) (broadcastInDim S2x8192x4x8 ![0, 1, 2, 3] bcast_S2x8192x1x8_S2x8192x4x8_0_1_2_3 (shapeCast _ a5 shapeCasts_S16384x8_S2x8192x1x8)))) : (⟨S2x8192x4x8, .f32⟩ : BufTy).Contents (Elt Ideal))⟩, ⟨S2x8192x4x8, ((addf (mulf (extractStridedSlice S2x8192x4x8 ![0, 0, 0, 8] y slices_S2x8192x4x64_S2x8192x4x8_0_0_0_8) (broadcastInDim S2x8192x4x8 ![0, 1, 2, 3] bcast_S2x8192x1x8_S2x8192x4x8_0_1_2_3 (shapeCast _ a4 shapeCasts_S16384x8_S2x8192x1x8))) (mulf (extractStridedSlice S2x8192x4x8 ![0, 0, 0, 0] y slices_S2x8192x4x64_S2x8192x4x8_0_0_0_0) (broadcastInDim S2x8192x4x8 ![0, 1, 2, 3] bcast_S2x8192x1x8_S2x8192x4x8_0_1_2_3 (shapeCast _ a5 shapeCasts_S16384x8_S2x8192x1x8)))) : (⟨S2x8192x4x8, .f32⟩ : BufTy).Contents (Elt Ideal))⟩, ⟨S2x8192x4x48, ((extractStridedSlice S2x8192x4x48 ![0, 0, 0, 16] y slices_S2x8192x4x64_S2x8192x4x48_0_0_0_16) : (⟨S2x8192x4x48, .f32⟩ : BufTy).Contents (Elt Ideal))⟩] concatenates_S2x8192x4x8_S2x8192x4x8_S2x8192x4x48_S2x8192x4x64_d3 : (⟨S2x8192x4x64, .f32⟩ : BufTy).Contents (Elt Ideal))

/-- The rotary step of the index key. -/
def rJ (y : FVec Ideal S2x8192x1x64 .f32) (a4 a5 : FVec Ideal S16384x8 .f32) : FVec Ideal S2x8192x1x64 .f32 :=
  (concatenate S2x8192x1x64 3 [⟨S2x8192x1x8, ((subf (mulf (extractStridedSlice S2x8192x1x8 ![0, 0, 0, 0] y slices_S2x8192x1x64_S2x8192x1x8_0_0_0_0) (shapeCast _ a4 shapeCasts_S16384x8_S2x8192x1x8)) (mulf (extractStridedSlice S2x8192x1x8 ![0, 0, 0, 8] y slices_S2x8192x1x64_S2x8192x1x8_0_0_0_8) (shapeCast _ a5 shapeCasts_S16384x8_S2x8192x1x8))) : (⟨S2x8192x1x8, .f32⟩ : BufTy).Contents (Elt Ideal))⟩, ⟨S2x8192x1x8, ((addf (mulf (extractStridedSlice S2x8192x1x8 ![0, 0, 0, 8] y slices_S2x8192x1x64_S2x8192x1x8_0_0_0_8) (shapeCast _ a4 shapeCasts_S16384x8_S2x8192x1x8)) (mulf (extractStridedSlice S2x8192x1x8 ![0, 0, 0, 0] y slices_S2x8192x1x64_S2x8192x1x8_0_0_0_0) (shapeCast _ a5 shapeCasts_S16384x8_S2x8192x1x8))) : (⟨S2x8192x1x8, .f32⟩ : BufTy).Contents (Elt Ideal))⟩, ⟨S2x8192x1x48, ((extractStridedSlice S2x8192x1x48 ![0, 0, 0, 16] y slices_S2x8192x1x64_S2x8192x1x48_0_0_0_16) : (⟨S2x8192x1x48, .f32⟩ : BufTy).Contents (Elt Ideal))⟩] concatenates_S2x8192x1x8_S2x8192x1x8_S2x8192x1x48_S2x8192x1x64_d3 : (⟨S2x8192x1x64, .f32⟩ : BufTy).Contents (Elt Ideal))

/-- The index heads, each in its half of 128 columns. -/
def pI (RI : FVec Ideal S2x8192x4x64 .f32) : FVec Ideal S2x8192x4x128 .f32 :=
  (concatenate S2x8192x4x128 2 [⟨S2x8192x1x128, ((broadcastInDim S2x8192x1x128 ![0, 1, 3] bcast_S2x8192x128_S2x8192x1x128_0_1_3 (pad S2x8192x128 ![0, 0, 0] ![0, 0, 64] ![0, 0, 0] (shapeCast _ (extractStridedSlice S2x8192x1x64 ![0, 0, 0, 0] (RI) slices_S2x8192x4x64_S2x8192x1x64_0_0_0_0) shapeCasts_S2x8192x1x64_S2x8192x64) (sitofp (F := Ideal) .f32 (constantI S_ 32 0#32)) pads_S2x8192x64_S2x8192x128_000_000_0640 h_S_)) : (⟨S2x8192x1x128, .f32⟩ : BufTy).Contents (Elt Ideal))⟩, ⟨S2x8192x1x128, ((broadcastInDim S2x8192x1x128 ![0, 1, 3] bcast_S2x8192x128_S2x8192x1x128_0_1_3 (pad S2x8192x128 ![0, 0, 64] ![0, 0, 0] ![0, 0, 0] (shapeCast _ (extractStridedSlice S2x8192x1x64 ![0, 0, 1, 0] (RI) slices_S2x8192x4x64_S2x8192x1x64_0_0_1_0) shapeCasts_S2x8192x1x64_S2x8192x64) (sitofp (F := Ideal) .f32 (constantI S_ 32 0#32)) pads_S2x8192x64_S2x8192x128_000_000_6400 h_S_)) : (⟨S2x8192x1x128, .f32⟩ : BufTy).Contents (Elt Ideal))⟩, ⟨S2x8192x1x128, ((broadcastInDim S2x8192x1x128 ![0, 1, 3] bcast_S2x8192x128_S2x8192x1x128_0_1_3 (pad S2x8192x128 ![0, 0, 0] ![0, 0, 64] ![0, 0, 0] (shapeCast _ (extractStridedSlice S2x8192x1x64 ![0, 0, 2, 0] (RI) slices_S2x8192x4x64_S2x8192x1x64_0_0_2_0) shapeCasts_S2x8192x1x64_S2x8192x64) (sitofp (F := Ideal) .f32 (constantI S_ 32 0#32)) pads_S2x8192x64_S2x8192x128_000_000_0640 h_S_)) : (⟨S2x8192x1x128, .f32⟩ : BufTy).Contents (Elt Ideal))⟩, ⟨S2x8192x1x128, ((broadcastInDim S2x8192x1x128 ![0, 1, 3] bcast_S2x8192x128_S2x8192x1x128_0_1_3 (pad S2x8192x128 ![0, 0, 64] ![0, 0, 0] ![0, 0, 0] (shapeCast _ (extractStridedSlice S2x8192x1x64 ![0, 0, 3, 0] (RI) slices_S2x8192x4x64_S2x8192x1x64_0_0_3_0) shapeCasts_S2x8192x1x64_S2x8192x64) (sitofp (F := Ideal) .f32 (constantI S_ 32 0#32)) pads_S2x8192x64_S2x8192x128_000_000_6400 h_S_)) : (⟨S2x8192x1x128, .f32⟩ : BufTy).Contents (Elt Ideal))⟩] concatenates_S2x8192x1x128_S2x8192x1x128_S2x8192x1x128_S2x8192x1x128_S2x8192x4x128_d2 : (⟨S2x8192x4x128, .f32⟩ : BufTy).Contents (Elt Ideal))

variable (m : (ℓ : Loc nD τ sig) → Buf (Elt Ideal) ℓ) (c : Dev nD)

/-- The named result over the steps. -/
theorem v112_eq : res_main_v112 (F := Ideal) m c = truncf (F := Ideal) (φ := .f32) .bf16 (transpose S2x512x8192 [0, 2, 1] (shapeCast _ (mulf (rA (nA (xQ (m ((c.tc : Thread nD τ).loc main_arg0))) (m ((c.tc : Thread nD τ).loc main_arg6))) (m ((c.tc : Thread nD τ).loc main_arg2)) (m ((c.tc : Thread nD τ).loc main_arg3))) (broadcastInDim S2x8192x4x128 ![] bcast_S_S2x8192x4x128 (constant S_ .f32 0x3E0293EE#32))) shapeCasts_S2x8192x4x128_S2x8192x512) transposes_S2x8192x512_S2x512x8192_0_2_1) bitsLt_bf16_f32 := rfl

/-- The named result over the steps. -/
theorem v142_eq : res_main_v142 (F := Ideal) m c = truncf (F := Ideal) (φ := .f32) .bf16 (shapeCast _ (rA (nA (xK (m ((c.tc : Thread nD τ).loc main_arg0))) (m ((c.tc : Thread nD τ).loc main_arg7))) (m ((c.tc : Thread nD τ).loc main_arg2)) (m ((c.tc : Thread nD τ).loc main_arg3))) shapeCasts_S2x8192x4x128_S2x8192x512) bitsLt_bf16_f32 := rfl

/-- The named result over the steps. -/
theorem v140_eq : res_main_v140 (F := Ideal) m c = truncf (F := Ideal) (φ := .f32) .bf16 (shapeCast _ (concatenate S2x8192x1x128 3 [⟨S2x8192x1x64, (rJ (nJ (xJ (m ((c.tc : Thread nD τ).loc main_arg0))) (m ((c.tc : Thread nD τ).loc main_arg8))) (m ((c.tc : Thread nD τ).loc main_arg4)) (m ((c.tc : Thread nD τ).loc main_arg5)))⟩, ⟨S2x8192x1x64, (rJ (nJ (xJ (m ((c.tc : Thread nD τ).loc main_arg0))) (m ((c.tc : Thread nD τ).loc main_arg8))) (m ((c.tc : Thread nD τ).loc main_arg4)) (m ((c.tc : Thread nD τ).loc main_arg5)))⟩] concatenates_S2x8192x1x64_S2x8192x1x64_S2x8192x1x128_d3) shapeCasts_S2x8192x1x128_S2x8192x128) bitsLt_bf16_f32 := rfl

/-- The named result over the steps. -/
theorem v132_eq : res_main_v132 (F := Ideal) m c = truncf (F := Ideal) (φ := .f32) .bf16 (transpose S2x512x8192 [0, 2, 1] (shapeCast _ (pI (rI (xI (m ((c.tc : Thread nD τ).loc main_arg0))) (m ((c.tc : Thread nD τ).loc main_arg4)) (m ((c.tc : Thread nD τ).loc main_arg5)))) shapeCasts_S2x8192x4x128_S2x8192x512) transposes_S2x8192x512_S2x512x8192_0_2_1) bitsLt_bf16_f32 := rfl

/-- A table of two axes at an index, as a function of naturals. -/
theorem tb {n w : ℕ} (a : (⟨2, ![n, w]⟩ : Shape).Idx → EReal) (r k R K : ℕ) (hr : r < n) (hk : k < w) (eR : r = R) (eK : k = K) :
    a (ix2 ⟨r, hr⟩ ⟨k, hk⟩) = Cert.Conv.Tb (n := n) (w := w) a R K := by
  subst eR eK
  exact Cert.Conv.Tb_of (n := n) (w := w) a _ _

/-- A row of four coordinates read through a function of its last. -/
theorem row4 {n0 n1 n2 w : ℕ} (y : (⟨4, ![n0, n1, n2, w]⟩ : Shape).Idx → EReal) (b : Fin n0) (t : Fin n1) (h : Fin n2) (X : ℕ → EReal)
    (hy : ∀ j : Fin w, y (ix4 b t h j) = X j.val) (k K : ℕ) (hk : k < w) (eK : k = K) : y (ix4 b t h ⟨k, hk⟩) = X K := by
  subst eK
  exact hy _

/-- Dividing by 128 is multiplying by its inverse. -/
theorem div128 (x : EReal) : Ideal.div x (Ideal.ofBits .f32 0x43000000#32) = x * Ideal.ofBits .f32 0x3C000000#32 := by
  rw [show Ideal.ofBits .f32 0x43000000#32 = ((128 : ℝ) : EReal) by simp [Ideal.ofBits, Ideal.ieee, -EReal.coe_mul]; norm_num,
    show Ideal.ofBits .f32 0x3C000000#32 = ((1 / 128 : ℝ) : EReal) by simp [Ideal.ofBits, Ideal.ieee, -EReal.coe_mul]; norm_num,
    Ideal.div_coe (by norm_num)]

/-- Dividing by 64 is multiplying by its inverse. -/
theorem div64 (x : EReal) : Ideal.div x (Ideal.ofBits .f32 0x42800000#32) = x * Ideal.ofBits .f32 0x3C800000#32 := by
  rw [show Ideal.ofBits .f32 0x42800000#32 = ((64 : ℝ) : EReal) by simp [Ideal.ofBits, Ideal.ieee, -EReal.coe_mul]; norm_num,
    show Ideal.ofBits .f32 0x3C800000#32 = ((1 / 64 : ℝ) : EReal) by simp [Ideal.ofBits, Ideal.ieee, -EReal.coe_mul]; norm_num,
    Ideal.div_coe (by norm_num)]

theorem nA_at (x : FVec Ideal S2x8192x4x128 .f32) (g : FVec Ideal S128 .f32) (b : Fin 2) (t : Fin 8192) (h : Fin 4) (X : ℕ → EReal)
    (hx : ∀ j : Fin 128, x (ix4 b t h j) = X j.val) (d : Fin 128) :
    nA x g (ix4 b t h d) = rmsn 128 (Ideal.ofBits .f32 0x3C000000#32) X (T1 (w := 128) g) d.val := by
  pointwise [nA]
  unfold rmsn
  rw [← T1_of (w := 128) g d, ← div128, hx d]
  simp only [hx]

theorem nJ_at (x : FVec Ideal S2x8192x1x64 .f32) (g : FVec Ideal S64 .f32) (b : Fin 2) (t : Fin 8192) (X : ℕ → EReal)
    (hx : ∀ j : Fin 64, x (ix4 b t (0 : Fin 1) j) = X j.val) (d : Fin 64) :
    nJ x g (ix4 b t (0 : Fin 1) d) = rmsn 64 (Ideal.ofBits .f32 0x3C800000#32) X (T1 (w := 64) g) d.val := by
  pointwise [nJ]
  unfold rmsn
  rw [← T1_of (w := 64) g d, ← div64, hx d]
  simp only [hx]

theorem rA_at (y : FVec Ideal S2x8192x4x128 .f32) (a2 a3 : FVec Ideal S16384x16 .f32) (b : Fin 2) (t : Fin 8192) (h : Fin 4) (X : ℕ → EReal)
    (hy : ∀ j : Fin 128, y (ix4 b t h j) = X j.val) (d : Fin 128) :
    rA y a2 a3 (ix4 b t h d) = rope 16 X (Cert.Conv.Tb (n := 16384) (w := 16) a2 (8192 * b.val + t.val)) (Cert.Conv.Tb (n := 16384) (w := 16) a3 (8192 * b.val + t.val)) d.val := by
  have hd := d.2
  pointwise [rA]
  unfold rope
  by_cases h1 : d.val < 16
  · rw [dif_pos h1, if_pos h1, hy, row4 y b t h X hy _ (d.val + 16) _ (by omega), tb a2 _ _ (8192 * b.val + t.val) _ _ _ (by omega) rfl, tb a3 _ _ (8192 * b.val + t.val) _ _ _ (by omega) rfl]
  · by_cases h2 : d.val < 2 * 16
    · rw [dif_neg h1, dif_pos (by omega), if_neg h1, if_pos h2, row4 y b t h X hy _ d.val _ (by omega), row4 y b t h X hy _ (d.val - 16) _ rfl, tb a2 _ _ (8192 * b.val + t.val) _ _ _ (by omega) rfl, tb a3 _ _ (8192 * b.val + t.val) _ _ _ (by omega) rfl]
    · rw [dif_neg h1, dif_neg (by omega), if_neg h1, if_neg h2, row4 y b t h X hy _ d.val _ (by omega)]

theorem rI_at (y : FVec Ideal S2x8192x4x64 .f32) (a4 a5 : FVec Ideal S16384x8 .f32) (b : Fin 2) (t : Fin 8192) (h : Fin 4) (X : ℕ → EReal)
    (hy : ∀ j : Fin 64, y (ix4 b t h j) = X j.val) (d : Fin 64) :
    rI y a4 a5 (ix4 b t h d) = rope 8 X (Cert.Conv.Tb (n := 16384) (w := 8) a4 (8192 * b.val + t.val)) (Cert.Conv.Tb (n := 16384) (w := 8) a5 (8192 * b.val + t.val)) d.val := by
  have hd := d.2
  pointwise [rI]
  unfold rope
  by_cases h1 : d.val < 8
  · rw [dif_pos h1, if_pos h1, hy, row4 y b t h X hy _ (d.val + 8) _ (by omega), tb a4 _ _ (8192 * b.val + t.val) _ _ _ (by omega) rfl, tb a5 _ _ (8192 * b.val + t.val) _ _ _ (by omega) rfl]
  · by_cases h2 : d.val < 2 * 8
    · rw [dif_neg h1, dif_pos (by omega), if_neg h1, if_pos h2, row4 y b t h X hy _ d.val _ (by omega), row4 y b t h X hy _ (d.val - 8) _ rfl, tb a4 _ _ (8192 * b.val + t.val) _ _ _ (by omega) rfl, tb a5 _ _ (8192 * b.val + t.val) _ _ _ (by omega) rfl]
    · rw [dif_neg h1, dif_neg (by omega), if_neg h1, if_neg h2, row4 y b t h X hy _ d.val _ (by omega)]

theorem rJ_at (y : FVec Ideal S2x8192x1x64 .f32) (a4 a5 : FVec Ideal S16384x8 .f32) (b : Fin 2) (t : Fin 8192) (X : ℕ → EReal)
    (hy : ∀ j : Fin 64, y (ix4 b t (0 : Fin 1) j) = X j.val) (d : Fin 64) :
    rJ y a4 a5 (ix4 b t (0 : Fin 1) d) = rope 8 X (Cert.Conv.Tb (n := 16384) (w := 8) a4 (8192 * b.val + t.val)) (Cert.Conv.Tb (n := 16384) (w := 8) a5 (8192 * b.val + t.val)) d.val := by
  have hd := d.2
  pointwise [rJ]
  unfold rope
  by_cases h1 : d.val < 8
  · rw [dif_pos h1, if_pos h1, hy, row4 y b t 0 X hy _ (d.val + 8) _ (by omega), tb a4 _ _ (8192 * b.val + t.val) _ _ _ (by omega) rfl, tb a5 _ _ (8192 * b.val + t.val) _ _ _ (by omega) rfl]
  · by_cases h2 : d.val < 2 * 8
    · rw [dif_neg h1, dif_pos (by omega), if_neg h1, if_pos h2, row4 y b t 0 X hy _ d.val _ (by omega), row4 y b t 0 X hy _ (d.val - 8) _ rfl, tb a4 _ _ (8192 * b.val + t.val) _ _ _ (by omega) rfl, tb a5 _ _ (8192 * b.val + t.val) _ _ _ (by omega) rfl]
    · rw [dif_neg h1, dif_neg (by omega), if_neg h1, if_neg h2, row4 y b t 0 X hy _ d.val _ (by omega)]

theorem pI_at (y : FVec Ideal S2x8192x4x64 .f32) (b : Fin 2) (t : Fin 8192) (Y : ℕ → ℕ → EReal)
    (hy : ∀ (h : Fin 4) (j : Fin 64), y (ix4 b t h j) = Y h.val j.val) (h : Fin 4) (d : Fin 128) :
    pI y (ix4 b t h d) = if d.val / 64 = h.val % 2 then Y h.val (d.val % 64) else 0 := by
  have hd := d.2
  pointwise [pI]
  have e0 := hy 0
  have e1 := hy 1
  have e2 := hy 2
  have e3 := hy 3
  by_cases hl : d.val < 64
  · have m0 : d.val % 64 = d.val := Nat.mod_eq_of_lt hl
    have m1 : d.val / 64 = 0 := Nat.div_eq_of_lt hl
    rw [m0, m1]
    simp only [dif_pos hl, dif_neg (show ¬ (64 ≤ d.val ∧ d.val - 64 < 64) by omega), sit0, e0, e2]
    fin_cases h <;> simp
  · have m0 : d.val % 64 = d.val - 64 := by omega
    have m1 : d.val / 64 = 1 := by omega
    rw [m0, m1]
    simp only [dif_neg hl, dif_pos (show 64 ≤ d.val ∧ d.val - 64 < 64 by omega), sit0, e1, e3]
    fin_cases h <;> simp

theorem xQ_at (a : FVec Ideal S16384x1860 .f32) (b : Fin 2) (t : Fin 8192) (h : Fin 4) (d : Fin 128) :
    xQ a (ix4 b t h d) = Cert.Conv.Tb (n := 16384) (w := 1860) a (8192 * b.val + t.val) (0 + 128 * h.val + d.val) := by
  pointwise [xQ]
  exact tb a _ _ _ _ _ _ (by omega) (by omega)

theorem xK_at (a : FVec Ideal S16384x1860 .f32) (b : Fin 2) (t : Fin 8192) (h : Fin 4) (d : Fin 128) :
    xK a (ix4 b t h d) = Cert.Conv.Tb (n := 16384) (w := 1860) a (8192 * b.val + t.val) (512 + 128 * h.val + d.val) := by
  pointwise [xK]
  exact tb a _ _ _ _ _ _ (by omega) (by omega)

theorem xI_at (a : FVec Ideal S16384x1860 .f32) (b : Fin 2) (t : Fin 8192) (h : Fin 4) (d : Fin 64) :
    xI a (ix4 b t h d) = Cert.Conv.Tb (n := 16384) (w := 1860) a (8192 * b.val + t.val) (1536 + 64 * h.val + d.val) := by
  pointwise [xI]
  exact tb a _ _ _ _ _ _ (by omega) (by omega)

theorem xJ_at (a : FVec Ideal S16384x1860 .f32) (b : Fin 2) (t : Fin 8192) (d : Fin 64) :
    xJ a (ix4 b t (0 : Fin 1) d) = Cert.Conv.Tb (n := 16384) (w := 1860) a (8192 * b.val + t.val) (1792 + d.val) := by
  pointwise [xJ]
  exact tb a _ _ _ _ _ _ (by omega) (by omega)

section Results

variable (a0 : FVec Ideal S16384x1860 .f32) (a1 : FVec Ideal S16384x8192 .bf16) (a2 a3 : FVec Ideal S16384x16 .f32) (a4 a5 : FVec Ideal S16384x8 .f32)
  (a6 a7 : FVec Ideal S128 .f32) (a8 : FVec Ideal S64 .f32)

/-- A plain query head. -/
theorem hQ_at (b : Fin 2) (t : Fin 8192) (e : ℕ) (h : Fin 4) (d : Fin 128) (eh : h.val = e / 128) (ed : d.val = e % 128) :
    rA (nA (xQ a0) a6) a2 a3 (ix4 b t h d) = hq 0 (Cert.Conv.Tb (n := 16384) (w := 1860) a0) (Cert.Conv.Tb (n := 16384) (w := 16) a2) (Cert.Conv.Tb (n := 16384) (w := 16) a3) (T1 (w := 128) a6) (8192 * b.val + t.val) e := by
  unfold hq
  rw [← eh, ← ed]
  exact rA_at _ _ _ b t h _ (fun j => nA_at _ _ b t h (fun j => Cert.Conv.Tb (n := 16384) (w := 1860) a0 (8192 * b.val + t.val) (0 + 128 * h.val + j)) (fun k => xQ_at a0 b t h k) j) d

/-- A plain key head. -/
theorem hK_at (b : Fin 2) (t : Fin 8192) (e : ℕ) (h : Fin 4) (d : Fin 128) (eh : h.val = e / 128) (ed : d.val = e % 128) :
    rA (nA (xK a0) a7) a2 a3 (ix4 b t h d) = hq 512 (Cert.Conv.Tb (n := 16384) (w := 1860) a0) (Cert.Conv.Tb (n := 16384) (w := 16) a2) (Cert.Conv.Tb (n := 16384) (w := 16) a3) (T1 (w := 128) a7) (8192 * b.val + t.val) e := by
  unfold hq
  rw [← eh, ← ed]
  exact rA_at _ _ _ b t h _ (fun j => nA_at _ _ b t h (fun j => Cert.Conv.Tb (n := 16384) (w := 1860) a0 (8192 * b.val + t.val) (512 + 128 * h.val + j)) (fun k => xK_at a0 b t h k) j) d

/-- A plain index head in its half. -/
theorem hI_at (b : Fin 2) (t : Fin 8192) (e : ℕ) (h : Fin 4) (d : Fin 128) (eh : h.val = e / 128) (ed : d.val = e % 128) :
    pI (rI (xI a0) a4 a5) (ix4 b t h d) = hi (Cert.Conv.Tb (n := 16384) (w := 1860) a0) (Cert.Conv.Tb (n := 16384) (w := 8) a4) (Cert.Conv.Tb (n := 16384) (w := 8) a5) (8192 * b.val + t.val) e := by
  unfold hi
  rw [← eh, ← ed, show e % 64 = d.val % 64 by omega]
  exact pI_at _ b t (fun h d => rope 8 (fun j => Cert.Conv.Tb (n := 16384) (w := 1860) a0 (8192 * b.val + t.val) (1536 + 64 * h + j)) (Cert.Conv.Tb (n := 16384) (w := 8) a4 (8192 * b.val + t.val)) (Cert.Conv.Tb (n := 16384) (w := 8) a5 (8192 * b.val + t.val)) d)
    (fun h j => rI_at _ _ _ b t h _ (fun k => xI_at a0 b t h k) j) h d

/-- The plain index key. -/
theorem hJ_at (b : Fin 2) (t : Fin 8192) (e : ℕ) (d : Fin 64) (ed : d.val = e % 64) :
    rJ (nJ (xJ a0) a8) a4 a5 (ix4 b t (0 : Fin 1) d) = hk (Cert.Conv.Tb (n := 16384) (w := 1860) a0) (Cert.Conv.Tb (n := 16384) (w := 8) a4) (Cert.Conv.Tb (n := 16384) (w := 8) a5) (T1 (w := 64) a8) (8192 * b.val + t.val) e := by
  unfold hk
  rw [← ed]
  exact rJ_at _ _ _ b t _ (fun j => nJ_at _ _ b t (fun j => Cert.Conv.Tb (n := 16384) (w := 1860) a0 (8192 * b.val + t.val) (1792 + j)) (fun k => xJ_at a0 b t k) j) d

end Results

abbrev B0 : S16384x1860.Idx → EReal := m ((c.tc : Thread nD τ).loc main_arg0)
abbrev B1 : S16384x8192.Idx → EReal := m ((c.tc : Thread nD τ).loc main_arg1)
abbrev B2 : S16384x16.Idx → EReal := m ((c.tc : Thread nD τ).loc main_arg2)
abbrev B3 : S16384x16.Idx → EReal := m ((c.tc : Thread nD τ).loc main_arg3)
abbrev B4 : S16384x8.Idx → EReal := m ((c.tc : Thread nD τ).loc main_arg4)
abbrev B5 : S16384x8.Idx → EReal := m ((c.tc : Thread nD τ).loc main_arg5)
abbrev B6 : S128.Idx → EReal := m ((c.tc : Thread nD τ).loc main_arg6)
abbrev B7 : S128.Idx → EReal := m ((c.tc : Thread nD τ).loc main_arg7)
abbrev B8 : S64.Idx → EReal := m ((c.tc : Thread nD τ).loc main_arg8)

/-- The queries' last steps at an index. -/
theorem t112 (p : FVec Ideal S2x8192x4x128 .f32) (b : Fin 2) (t : Fin 8192) (e : Fin 512) :
    (truncf .bf16 (transpose S2x512x8192 [0, 2, 1] (shapeCast S2x8192x512 (mulf p (broadcastInDim S2x8192x4x128 ![] bcast_S_S2x8192x4x128 (constant S_ .f32 0x3E0293EE#32))) shapeCasts_S2x8192x4x128_S2x8192x512) transposes_S2x8192x512_S2x512x8192_0_2_1) bitsLt_bf16_f32 : S2x512x8192.Idx → EReal) (ix3 b e t)
      = p (ix4 b t (⟨e.val / 128, by omega⟩ : Fin 4) (⟨e.val % 128, by omega⟩ : Fin 128)) * Ideal.ofBits .f32 0x3E0293EE#32 := by
  pointwise

/-- The index queries' last steps at an index. -/
theorem t132 (p : FVec Ideal S2x8192x4x128 .f32) (b : Fin 2) (t : Fin 8192) (e : Fin 512) :
    (truncf .bf16 (transpose S2x512x8192 [0, 2, 1] (shapeCast S2x8192x512 p shapeCasts_S2x8192x4x128_S2x8192x512) transposes_S2x8192x512_S2x512x8192_0_2_1) bitsLt_bf16_f32 : S2x512x8192.Idx → EReal) (ix3 b e t)
      = p (ix4 b t (⟨e.val / 128, by omega⟩ : Fin 4) (⟨e.val % 128, by omega⟩ : Fin 128)) := by
  pointwise

/-- The index key's last steps at an index. -/
theorem t140 (p : FVec Ideal S2x8192x1x64 .f32) (b : Fin 2) (t : Fin 8192) (e : Fin 128) :
    (truncf .bf16 (shapeCast S2x8192x128 (concatenate S2x8192x1x128 3 [⟨S2x8192x1x64, p⟩, ⟨S2x8192x1x64, p⟩] concatenates_S2x8192x1x64_S2x8192x1x64_S2x8192x1x128_d3) shapeCasts_S2x8192x1x128_S2x8192x128) bitsLt_bf16_f32 : S2x8192x128.Idx → EReal) (ix3 b t e)
      = p (ix4 b t (0 : Fin 1) (⟨e.val % 64, by omega⟩ : Fin 64)) := by
  have he := e.2
  pointwise
  by_cases h : e.val < 64
  · rw [dif_pos h]
    exact congrArg (fun k => p (ix4 b t (0 : Fin 1) k)) (Fin.ext (Nat.mod_eq_of_lt h).symm)
  · rw [dif_neg h]
    exact congrArg (fun k => p (ix4 b t (0 : Fin 1) k)) (Fin.ext (show e.val - 64 = e.val % 64 by omega))

/-- The keys' last steps at an index. -/
theorem t142 (p : FVec Ideal S2x8192x4x128 .f32) (b : Fin 2) (t : Fin 8192) (e : Fin 512) :
    (truncf .bf16 (shapeCast S2x8192x512 p shapeCasts_S2x8192x4x128_S2x8192x512) bitsLt_bf16_f32 : S2x8192x512.Idx → EReal) (ix3 b t e)
      = p (ix4 b t (⟨e.val / 128, by omega⟩ : Fin 4) (⟨e.val % 128, by omega⟩ : Fin 128)) := by
  pointwise

/-- The plain queries. -/
theorem v112_fn : (res_main_v112 (F := Ideal) m c : S2x512x8192.Idx → EReal) = G11 (Cert.Conv.Tb (n := 16384) (w := 1860) (B0 m c)) (Cert.Conv.Tb (n := 16384) (w := 16) (B2 m c)) (Cert.Conv.Tb (n := 16384) (w := 16) (B3 m c)) (T1 (w := 128) (B6 m c)) := by
  funext y
  obtain ⟨b, e, t, rfl⟩ : ∃ (b : Fin 2) (e : Fin 512) (t : Fin 8192), y = ix3 b e t := ⟨y 0, y 1, y 2, eq_ix3 y⟩
  refine (congrFun (v112_eq m c) _).trans ((t112 _ b t e).trans ?_)
  exact congrArg (· * Ideal.ofBits .f32 0x3E0293EE#32) (hQ_at (B0 m c) (B2 m c) (B3 m c) (B6 m c) b t e.val _ _ rfl rfl)

/-- The plain index queries. -/
theorem v132_fn : (res_main_v132 (F := Ideal) m c : S2x512x8192.Idx → EReal) = G12 (Cert.Conv.Tb (n := 16384) (w := 1860) (B0 m c)) (Cert.Conv.Tb (n := 16384) (w := 8) (B4 m c)) (Cert.Conv.Tb (n := 16384) (w := 8) (B5 m c)) := by
  funext y
  obtain ⟨b, e, t, rfl⟩ : ∃ (b : Fin 2) (e : Fin 512) (t : Fin 8192), y = ix3 b e t := ⟨y 0, y 1, y 2, eq_ix3 y⟩
  refine (congrFun (v132_eq m c) _).trans ((t132 _ b t e).trans ?_)
  exact hI_at (B0 m c) (B4 m c) (B5 m c) b t e.val _ _ rfl rfl

/-- The plain index key, twice. -/
theorem v140_fn : (res_main_v140 (F := Ideal) m c : S2x8192x128.Idx → EReal) = G14 (Cert.Conv.Tb (n := 16384) (w := 1860) (B0 m c)) (Cert.Conv.Tb (n := 16384) (w := 8) (B4 m c)) (Cert.Conv.Tb (n := 16384) (w := 8) (B5 m c)) (T1 (w := 64) (B8 m c)) := by
  funext y
  obtain ⟨b, t, e, rfl⟩ : ∃ (b : Fin 2) (t : Fin 8192) (e : Fin 128), y = ix3 b t e := ⟨y 0, y 1, y 2, eq_ix3 y⟩
  refine (congrFun (v140_eq m c) _).trans ((t140 _ b t e).trans ?_)
  exact hJ_at (B0 m c) (B4 m c) (B5 m c) (B8 m c) b t e.val _ rfl

/-- The plain keys. -/
theorem v142_fn : (res_main_v142 (F := Ideal) m c : S2x8192x512.Idx → EReal) = G15 (Cert.Conv.Tb (n := 16384) (w := 1860) (B0 m c)) (Cert.Conv.Tb (n := 16384) (w := 16) (B2 m c)) (Cert.Conv.Tb (n := 16384) (w := 16) (B3 m c)) (T1 (w := 128) (B7 m c)) := by
  funext y
  obtain ⟨b, t, e, rfl⟩ : ∃ (b : Fin 2) (t : Fin 8192) (e : Fin 512), y = ix3 b t e := ⟨y 0, y 1, y 2, eq_ix3 y⟩
  refine (congrFun (v142_eq m c) _).trans ((t142 _ b t e).trans ?_)
  exact hK_at (B0 m c) (B2 m c) (B3 m c) (B7 m c) b t e.val _ _ rfl rfl

/-- The plain index weights. -/
theorem v137_fn (a : FVec Ideal S16384x1860 .f32) :
    (transpose S2x8x8192 [0, 2, 1] (shapeCast S2x8192x8 (mulf (pad S16384x8 ![0, 0] ![0, 4] ![0, 0] (extractStridedSlice S16384x4 ![0, 1856] a slices_S16384x1860_S16384x4_0_1856) (sitofp (F := Ideal) .f32 (constantI S_ 32 0#32)) pads_S16384x4_S16384x8_000_040 h_S_) (broadcastInDim S16384x8 ![] bcast_S_S16384x8 (constant S_ .f32 0x3D800000#32))) shapeCasts_S16384x8_S2x8192x8) transposes_S2x8192x8_S2x8x8192_0_2_1 : S2x8x8192.Idx → EReal)
      = G13 (Cert.Conv.Tb (n := 16384) (w := 1860) a) := by
  funext y
  obtain ⟨b, e, t, rfl⟩ : ∃ (b : Fin 2) (e : Fin 8) (t : Fin 8192), y = ix3 b e t := ⟨y 0, y 1, y 2, eq_ix3 y⟩
  show _ = hw _ (8192 * b.val + t.val) e.val * Ideal.ofBits .f32 0x3D800000#32
  pointwise
  unfold hw
  by_cases h : e.val < 4
  · rw [dif_pos ⟨by omega, h⟩, if_pos h, tb a _ _ (8192 * b.val + t.val) _ _ _ (by omega) rfl]
  · rw [dif_neg (fun hh => h hh.2), if_neg h, sit0]

/-- The plain values, chunk by chunk. -/
theorem v145_fn (a : FVec Ideal S16384x1860 .f32) :
    (truncf .bf16 (transpose S2x16x512x512 [0, 1, 3, 2] (shapeCast S2x16x512x512 (extractStridedSlice S16384x512 ![0, 1024] a slices_S16384x1860_S16384x512_0_1024) shapeCasts_S16384x512_S2x16x512x512) transposes_S2x16x512x512_S2x16x512x512_0_1_3_2) bitsLt_bf16_f32 : S2x16x512x512.Idx → EReal)
      = G16 (Cert.Conv.Tb (n := 16384) (w := 1860) a) := by
  funext y
  obtain ⟨b, s, e, t, rfl⟩ : ∃ (b : Fin 2) (s : Fin 16) (e : Fin 512) (t : Fin 512), y = ix4 b s e t := ⟨y 0, y 1, y 2, y 3, eq_ix4 y⟩
  show _ = Cert.Conv.Tb (n := 16384) (w := 1860) a (8192 * b.val + 512 * s.val + t.val) (1024 + e.val)
  pointwise
  exact tb a _ _ _ _ _ _ (by omega) (by omega)

/-- The plain stick-breaking queries. -/
theorem v149_fn (a : FVec Ideal S16384x8192 .bf16) :
    (truncf .bf16 (mulf (extf .f32 (extractStridedSlice S16384x512 ![0, 2560] a slices_S16384x8192_S16384x512_0_2560) bitsLt_bf16_f32) (broadcastInDim S16384x512 ![] bcast_S_S16384x512 (constant S_ .f32 0x3E0293EE#32))) bitsLt_bf16_f32 : S16384x512.Idx → EReal)
      = G17 (Cert.Conv.Tb (n := 16384) (w := 8192) a) := by
  funext y
  obtain ⟨n, e, rfl⟩ : ∃ (n : Fin 16384) (e : Fin 512), y = ix2 n e := ⟨y 0, y 1, eq_ix2 y⟩
  show _ = Cert.Conv.Tb (n := 16384) (w := 8192) a n.val (2560 + e.val) * Ideal.ofBits .f32 0x3E0293EE#32
  pointwise
  rw [← tb a n.val (2560 + e.val) _ _ n.2 (by omega) rfl rfl]

/-- The plain stick-breaking keys. -/
theorem v151_fn (a : FVec Ideal S16384x8192 .bf16) :
    (transpose S2x4x32x128x256 [0, 3, 1, 4, 2] (shapeCast S2x32x256x4x128 (extractStridedSlice S16384x512 ![0, 3072] a slices_S16384x8192_S16384x512_0_3072) shapeCasts_S16384x512_S2x32x256x4x128) transposes_S2x32x256x4x128_S2x4x32x128x256_0_3_1_4_2 : S2x4x32x128x256.Idx → EReal)
      = G18 (Cert.Conv.Tb (n := 16384) (w := 8192) a) := by
  funext y
  obtain ⟨b, h, s, d, t, rfl⟩ : ∃ (b : Fin 2) (h : Fin 4) (s : Fin 32) (d : Fin 128) (t : Fin 256), y = ix5 b h s d t := ⟨y 0, y 1, y 2, y 3, y 4, eq_ix5 y⟩
  show _ = Cert.Conv.Tb (n := 16384) (w := 8192) a (8192 * b.val + 256 * s.val + t.val) (3072 + 128 * h.val + d.val)
  pointwise
  exact tb a _ _ _ _ _ _ (by omega) (by omega)

/-- The plain stick-breaking values. -/
theorem v152_fn (a : FVec Ideal S16384x8192 .bf16) :
    (shapeCast S2x8192x512 (extractStridedSlice S16384x512 ![0, 3584] a slices_S16384x8192_S16384x512_0_3584) shapeCasts_S16384x512_S2x8192x512 : S2x8192x512.Idx → EReal)
      = G19 (Cert.Conv.Tb (n := 16384) (w := 8192) a) := by
  funext y
  obtain ⟨b, t, e, rfl⟩ : ∃ (b : Fin 2) (t : Fin 8192) (e : Fin 512), y = ix3 b t e := ⟨y 0, y 1, y 2, eq_ix3 y⟩
  show _ = Cert.Conv.Tb (n := 16384) (w := 8192) a (8192 * b.val + t.val) (3584 + e.val)
  pointwise
  exact tb a _ _ _ _ _ _ (by omega) (by omega)

end Cert.Prep

end
-- ==== Proof.PrepClaims.lean ====
/- The claims about the preparation of the attention mixers' arguments. -/
module

public import proofs.«01_k».proof.Defs
public import proofs.«01_k».proof.Proof.PrepRef

@[expose] public section

noncomputable section

namespace Cert.Prep

open Idealize.ShloMosaic Idealize.SL.Sem

/-- The plain reference runs, leaves its arguments alone and ends with every counter at zero. -/
theorem frame_ri : Cert.quiescent_Reference7Ideal (hReference7Ideal := Cert.Reference7Ideal.Gen.facts) := fun m ρ _ =>
  (θ_run Cert.Reference7Ideal.defs _ _).mono (fun r h => ⟨fun c => (h c).2.2.2.2.2.2.2.2.2,
      Idealize.ShloMosaic.sem_eq_zero_of_no_sems (by decide) r.2⟩)
    (Cert.Reference7Ideal.Value.run (F := Ideal) m ρ)

set_option maxHeartbeats 4000000 in
/-- The kernel and the plain preparation end at the same nine functions of the arguments. -/
theorem algebraic : Cert.algebraic_Kernel7Ideal_Reference7Ideal (hKernel7Ideal := Cert.Kernel7Ideal.Gen.facts)
    (hReference7Ideal := Cert.Reference7Ideal.Gen.facts) := by
  intro m ρ m' ρ' _ hag
  refine ⟨fun c => G11 (Pm m c) (Ca m c) (Sa m c) (Gq m c), fun c => G12 (Pm m c) (Ci m c) (Si m c), fun c => G13 (Pm m c),
    fun c => G14 (Pm m c) (Ci m c) (Si m c) (Gi m c), fun c => G15 (Pm m c) (Ca m c) (Sa m c) (Gk m c), fun c => G16 (Pm m c),
    fun c => G17 (Qm m c), fun c => G18 (Qm m c), fun c => G19 (Qm m c), ?_, ?_⟩
  · exact (θ_run Cert.Kernel7Ideal.defs _ _).mono
      (fun r h c => ⟨((h.1 c).1 11).trans (arr11_eq m c), ((h.1 c).1 12).trans (arr12_eq m c), ((h.1 c).1 13).trans (arr13_eq m c),
        ((h.1 c).1 14).trans (arr14_eq m c), ((h.1 c).1 15).trans (arr15_eq m c), ((h.1 c).1 16).trans (arr16_eq m c),
        ((h.1 c).1 17).trans (arr17_eq m c), ((h.1 c).1 18).trans (arr18_eq m c), ((h.1 c).1 19).trans (arr19_eq m c), h.2.1 c⟩)
      (θ_run_and (Cert.Kernel7Ideal.Gen.run_main m ρ) (Cert.Kernel7Ideal.Gen.frame m ρ))
  · refine (θ_run Cert.Reference7Ideal.defs _ _).mono (fun r h c => ?_) (Cert.Reference7Ideal.Value.run m' ρ')
    obtain ⟨h0, h1, h2, h3, h4, h5, h6, h7, h8⟩ := hag c
    obtain ⟨r0, r1, r2, r3, r4, r5, r6, r7, r8, ra⟩ := h c
    refine ⟨r0.trans ((v112_fn m' c).trans ?_), r1.trans ((v132_fn m' c).trans ?_), r2.trans ((v137_fn (B0 m' c)).trans ?_),
      r3.trans ((v140_fn m' c).trans ?_), r4.trans ((v142_fn m' c).trans ?_), r5.trans ((v145_fn (B0 m' c)).trans ?_),
      r6.trans ((v149_fn (B1 m' c)).trans ?_), r7.trans ((v151_fn (B1 m' c)).trans ?_), r8.trans ((v152_fn (B1 m' c)).trans ?_), ra⟩
    · unfold B0 B2 B3 B6
      rw [h0, h2, h3, h6]
    · unfold B0 B4 B5
      rw [h0, h4, h5]
    · unfold B0
      rw [h0]
    · unfold B0 B4 B5 B8
      rw [h0, h4, h5, h8]
    · unfold B0 B2 B3 B7
      rw [h0, h2, h3, h7]
    · unfold B0
      rw [h0]
    · unfold B1
      rw [h1]
    · unfold B1
      rw [h1]
    · unfold B1
      rw [h1]

end Cert.Prep

end
-- ==== Proof.RopeA.lean ====
/- The rotary tables of 16 angles per position: the kernel's two result arrays and the reference's as one function of the positions. -/
module

public import proofs.«01_k».proof.Defs
public import proofs.«01_k».proof.Proof.Gen.Kernel8Ideal.Value
public import proofs.«01_k».proof.Proof.Gen.Reference8Ideal.Run
public import Idealize.ShloMosaic.Lib.Pointwise
public import Idealize.ShloMosaic.Lib.Pipeline.ValueKit
public import Idealize.ShloMosaic.Lib.Pipeline.ValueKit.Point

@[expose] public section

noncomputable section

namespace Cert.RopeA

open Cert.Kernel8Ideal Cert.Kernel8Ideal.Gen Idealize.ShloMosaic Idealize.ShloMosaic.TcCoe

set_option maxRecDepth 16384

/-- What a grid point stores in the first table. -/
theorem cos_at (x0 : S512x128.Idx → EReal) (x1 : S1x128.Idx → EReal) (r : Fin 512) (l : Fin 128) :
    out0_2 (F := Ideal) x0 x1 (ix2 r l) = FloatOps.cos (F := Ideal) (φ := .f32) (x0 (ix2 r l) * x1 (ix2 (0 : Fin 1) l)) := by
  frame_out
  pointwise [k0_pay1, k0_pay2]

/-- What a grid point stores in the second table. -/
theorem sin_at (x0 : S512x128.Idx → EReal) (x1 : S1x128.Idx → EReal) (r : Fin 512) (l : Fin 128) :
    out0_3 (F := Ideal) x0 x1 (ix2 r l) = FloatOps.sin (F := Ideal) (φ := .f32) (x0 (ix2 r l) * x1 (ix2 (0 : Fin 1) l)) := by
  frame_out
  pointwise [k0_pay1, k0_pay3]

/-! ### The tables as functions of the positions -/

/-- The inverse frequencies, one per angle. -/
def freq : S16.Idx → EReal :=
  (Host.powf (broadcastInDim S16 ![] bcast_S_S16 (constant S_ .f32 0x48F42400#32)) (Host.divf (Host.negf (mulf (sitofp .f32 (iotaInDim S16 32 0)) (broadcastInDim S16 ![] bcast_S_S16 (constant S_ .f32 0x40000000#32)))) (broadcastInDim S16 ![] bcast_S_S16 (constant S_ .f32 0x42000000#32))) : FVec Ideal S16 .f32)

/-- The angle at a row of 8 positions and a lane of 16 angles each. -/
def ang (p : IVec S2x8192 32) (r : Fin 2048) (l : Fin 128) : EReal :=
  (sitofp .f32 p : FVec Ideal S2x8192 .f32) (ix2 (⟨(8 * r.val + l.val / 16) / 8192, by omega⟩ : Fin 2) (⟨(8 * r.val + l.val / 16) % 8192, by omega⟩ : Fin 8192))
    * freq (ix1 (⟨l.val % 16, by omega⟩ : Fin 16))

/-- The cosines. -/
def GC (p : IVec S2x8192 32) : S2048x128.Idx → EReal := fun j => FloatOps.cos (F := Ideal) (φ := .f32) (ang p (j 0) (j 1))

/-- The sines. -/
def GS (p : IVec S2x8192 32) : S2048x128.Idx → EReal := fun j => FloatOps.sin (F := Ideal) (φ := .f32) (ang p (j 0) (j 1))

variable (m : (ℓ : Loc nD τ sig) → Buf (Elt Ideal) ℓ) (c : Dev nD)

/-- The positions at the launch. -/
abbrev A0 : IVec S2x8192 32 := m ((c : Thread nD τ).loc main_arg0)

/-- Where each window's block stands at a grid point. -/
theorem idx : ∀ t : Fin cfg0.N,
    win0_0.index t = ![(grid0.coords t 0).val, 0]
    ∧ win0_1.index t = ![0, 0]
    ∧ win0_2.index t = ![(grid0.coords t 0).val, 0]
    ∧ win0_3.index t = ![(grid0.coords t 0).val, 0] := by
  decide +kernel

open Idealize.ShloMosaic.StableHlo in
/-- The positions the launch reads, each on 16 lanes. -/
theorem entP : V (F := Ideal) m c main_v11 = shapeCast S2048x128 (broadcastInDim S16384x16 ![0, 1] bcast_S16384x1_S16384x16_0_1 (shapeCast S16384x1 (sitofp .f32 (A0 m c) : FVec Ideal S2x8192 .f32) shapeCasts_S2x8192_S16384x1)) shapeCasts_S16384x16_S2048x128 := by
  show StableHlo.after [hostOps0].flatten (fun b => m (c, b)) (Proc.tc.devRef main_v11) = _
  simp only [hostOps0, List.flatten_cons, List.flatten_nil, List.cons_append, List.nil_append, List.append_nil, TRef.binary, TRef.nullary, TRef.unary, TRef.toBuf, TRef.ofBuf, cast_eq]
  after_results_simp <;> rfl

open Idealize.ShloMosaic.StableHlo in
/-- The frequencies the launch reads, 8 times over. -/
theorem entF : V (F := Ideal) m c main_v15 = shapeCast S1x128 (shapeCast S128 (broadcastInDim S8x16 ![0, 1] bcast_S1x16_S8x16_0_1 (shapeCast S1x16 freq shapeCasts_S16_S1x16)) shapeCasts_S8x16_S128) shapeCasts_S128_S1x128 := by
  show StableHlo.after [hostOps0].flatten (fun b => m (c, b)) (Proc.tc.devRef main_v15) = _
  simp only [hostOps0, List.flatten_cons, List.flatten_nil, List.cons_append, List.nil_append, List.append_nil, TRef.binary, TRef.nullary, TRef.unary, TRef.toBuf, TRef.ofBuf, cast_eq]
  after_results_simp <;> rfl

/-- The row of the tables at a tile's row. -/
abbrev rw0 (t : Fin cfg0.N) (r : Fin 512) : Fin 2048 :=
  ⟨512 * (grid0.coords t 0).val + r.val, by have : (grid0.coords t 0).val < 4 := (grid0.coords t 0).2; omega⟩

theorem blk0_at (t : Fin cfg0.N) (r : Fin 512) (l : Fin 128) :
    (iblk (F := Ideal) m c 0 t : S512x128.Idx → EReal) (ix2 r l)
      = (sitofp .f32 (A0 m c) : FVec Ideal S2x8192 .f32) (ix2 (⟨(8 * (rw0 t r).val + l.val / 16) / 8192, by omega⟩ : Fin 2) (⟨(8 * (rw0 t r).val + l.val / 16) % 8192, by omega⟩ : Fin 8192)) := by
  have h0 : (grid0.coords t 0).val < 4 := (grid0.coords t 0).2
  have e : (win0_0.blk t).view.emb (ix2 r l) = ix2 (rw0 t r) l := by
    refine funext (Fin.forall_fin_two.mpr ⟨Fin.ext ?_, Fin.ext ?_⟩) <;> blk_simp [(idx t).1] <;> (try dsimp only) <;> omega
  blk_simp [iblk, (idx t).1]
  rw [show V (F := Ideal) m c (Pipeline.arrRef spec0 0) = _ from entP m c, e]
  pointwise
  refine congrArg _ (congrArg _ (congrArg₂ ix2 (Fin.ext ?_) (Fin.ext ?_))) <;> (try dsimp only) <;> omega

theorem blk1_at (t : Fin cfg0.N) (l : Fin 128) :
    (iblk (F := Ideal) m c 1 t : S1x128.Idx → EReal) (ix2 (0 : Fin 1) l) = freq (ix1 (⟨l.val % 16, by omega⟩ : Fin 16)) := by
  have e : (win0_1.blk t).view.emb (ix2 (0 : Fin 1) l) = ix2 (0 : Fin 1) l := by
    refine funext (Fin.forall_fin_two.mpr ⟨Fin.ext ?_, Fin.ext ?_⟩) <;> blk_simp [(idx t).2.1] <;> (try dsimp only) <;> omega
  blk_simp [iblk, (idx t).2.1]
  rw [show V (F := Ideal) m c (Pipeline.arrRef spec0 1) = _ from entF m c, e]
  generalize freq = f
  pointwise

/-- The first table after the run. -/
theorem arrC_eq : (dats (F := Ideal) m 0 c).arrAt 2 cfg0.N = GC (A0 m c) := by
  refine (dats (F := Ideal) m 0 c).arrAt_eq_of_covers 2 _ (by decide +kernel) fun t hf y => ?_
  obtain ⟨r, d, rfl⟩ : ∃ (r : Fin 512) (d : Fin 128), y = ix2 r d := ⟨y 0, y 1, eq_ix2 y⟩
  have e2 : (win0_2.blk t).view.emb (ix2 r d) = ix2 (rw0 t r) d := by
    refine funext (Fin.forall_fin_two.mpr ⟨Fin.ext ?_, Fin.ext ?_⟩) <;> blk_simp [(idx t).2.2.1] <;> (try dsimp only) <;> omega
  have key : out0_2 (F := Ideal) (iblk m c 0 t) (iblk m c 1 t) (ix2 r d) = GC (A0 m c) (ix2 (rw0 t r) d) :=
    (cos_at _ _ r d).trans (congrArg _ (congrArg₂ (fun a b : EReal => a * b) (blk0_at m c t r d) (blk1_at m c t d)))
  blk_simp
  rw [after0_2, e2]
  exact key

/-- The second table after the run. -/
theorem arrS_eq : (dats (F := Ideal) m 0 c).arrAt 3 cfg0.N = GS (A0 m c) := by
  refine (dats (F := Ideal) m 0 c).arrAt_eq_of_covers 3 _ (by decide +kernel) fun t hf y => ?_
  obtain ⟨r, d, rfl⟩ : ∃ (r : Fin 512) (d : Fin 128), y = ix2 r d := ⟨y 0, y 1, eq_ix2 y⟩
  have e2 : (win0_3.blk t).view.emb (ix2 r d) = ix2 (rw0 t r) d := by
    refine funext (Fin.forall_fin_two.mpr ⟨Fin.ext ?_, Fin.ext ?_⟩) <;> blk_simp [(idx t).2.2.2] <;> (try dsimp only) <;> omega
  have key : out0_3 (F := Ideal) (iblk m c 0 t) (iblk m c 1 t) (ix2 r d) = GS (A0 m c) (ix2 (rw0 t r) d) :=
    (sin_at _ _ r d).trans (congrArg _ (congrArg₂ (fun a b : EReal => a * b) (blk0_at m c t r d) (blk1_at m c t d)))
  blk_simp
  rw [after0_3, e2]
  exact key

/-! ### The reference -/

/-- The reference's angles. -/
def angV (p : IVec S2x8192 32) : FVec Ideal S2048x128 .f32 :=
  shapeCast _ (mulf (broadcastInDim Cert.Reference8Ideal.S2x8192x16 ![0, 1, 2] Cert.Reference8Ideal.Facts₀.bcast_S2x8192x1_S2x8192x16_0_1_2 (broadcastInDim Cert.Reference8Ideal.S2x8192x1 ![0, 1] Cert.Reference8Ideal.Facts₀.bcast_S2x8192_S2x8192x1_0_1 (sitofp .f32 p))) (broadcastInDim Cert.Reference8Ideal.S2x8192x16 ![0, 1, 2] Cert.Reference8Ideal.Facts₀.bcast_S1x1x16_S2x8192x16_0_1_2 (broadcastInDim Cert.Reference8Ideal.S1x1x16 ![2] Cert.Reference8Ideal.Facts₀.bcast_S16_S1x1x16_2 freq))) Cert.Reference8Ideal.Facts₀.shapeCasts_S2x8192x16_S2048x128

theorem angV_at (p : IVec S2x8192 32) (r : Fin 2048) (l : Fin 128) : angV p (ix2 r l) = ang p r l := by
  unfold ang angV
  generalize freq = f
  pointwise
  refine congrArg₂ (fun a b : EReal => a * b) (congrArg _ (congrArg _ (congrArg₂ ix2 (Fin.ext ?_) (Fin.ext ?_)))) (congrArg f (congrArg ix1 (Fin.ext ?_))) <;> (try dsimp only) <;> omega

theorem cosV_eq (p : IVec S2x8192 32) : (Host.cos (angV p) : FVec Ideal S2048x128 .f32) = GC p := by
  funext j
  obtain ⟨r, d, rfl⟩ : ∃ (r : Fin 2048) (d : Fin 128), j = ix2 r d := ⟨j 0, j 1, eq_ix2 j⟩
  exact congrArg (FloatOps.cos (F := Ideal) (φ := .f32)) (angV_at p r d)

theorem sinV_eq (p : IVec S2x8192 32) : (Host.sin (angV p) : FVec Ideal S2048x128 .f32) = GS p := by
  funext j
  obtain ⟨r, d, rfl⟩ : ∃ (r : Fin 2048) (d : Fin 128), j = ix2 r d := ⟨j 0, j 1, eq_ix2 j⟩
  exact congrArg (FloatOps.sin (F := Ideal) (φ := .f32)) (angV_at p r d)

open Idealize.SL.Sem

/-- The plain reference runs, leaves its argument alone and ends with every counter at zero. -/
theorem frame_ri : Cert.quiescent_Reference8Ideal (hReference8Ideal := Cert.Reference8Ideal.Gen.facts) := fun m ρ _ =>
  (θ_run Cert.Reference8Ideal.defs _ _).mono (fun r h => ⟨fun c => (h c).2.2,
      Idealize.ShloMosaic.sem_eq_zero_of_no_sems (by decide) r.2⟩)
    (Cert.Reference8Ideal.Value.run (F := Ideal) m ρ)

/-- The kernel and the plain formula end at the same two tables. -/
theorem algebraic : Cert.algebraic_Kernel8Ideal_Reference8Ideal (hKernel8Ideal := Cert.Kernel8Ideal.Gen.facts)
    (hReference8Ideal := Cert.Reference8Ideal.Gen.facts) := by
  intro m ρ m' ρ' _ hag
  refine ⟨fun c => GC (A0 m c), fun c => GS (A0 m c), ?_, ?_⟩
  · exact (θ_run Cert.Kernel8Ideal.defs _ _).mono
      (fun r h c => ⟨(h c).1.trans (arrC_eq m c), (h c).2.1.trans (arrS_eq m c), (h c).2.2⟩) (Cert.Kernel8Ideal.Value.run_blocks m ρ)
  · refine (θ_run Cert.Reference8Ideal.defs _ _).mono (fun r h c => ⟨(h c).1.trans ?_, (h c).2.1.trans ?_, (h c).2.2⟩) (Cert.Reference8Ideal.Value.run m' ρ')
    · have h0 := hag c
      refine (cosV_eq _).trans ?_
      rw [h0]
    · have h0 := hag c
      refine (sinV_eq _).trans ?_
      rw [h0]

end Cert.RopeA

end
-- ==== Proof.RopeI.lean ====
/- The rotary tables of 8 angles per position: the kernel's two result arrays and the reference's as one function of the positions. -/
module

public import proofs.«01_k».proof.Defs
public import proofs.«01_k».proof.Proof.Gen.Kernel9Ideal.Value
public import proofs.«01_k».proof.Proof.Gen.Reference9Ideal.Run
public import Idealize.ShloMosaic.Lib.Pointwise
public import Idealize.ShloMosaic.Lib.Pipeline.ValueKit
public import Idealize.ShloMosaic.Lib.Pipeline.ValueKit.Point

@[expose] public section

noncomputable section

namespace Cert.RopeI

open Cert.Kernel9Ideal Cert.Kernel9Ideal.Gen Idealize.ShloMosaic Idealize.ShloMosaic.TcCoe

set_option maxRecDepth 16384

/-- What a grid point stores in the first table. -/
theorem cos_at (x0 : S512x128.Idx → EReal) (x1 : S1x128.Idx → EReal) (r : Fin 512) (l : Fin 128) :
    out0_2 (F := Ideal) x0 x1 (ix2 r l) = FloatOps.cos (F := Ideal) (φ := .f32) (x0 (ix2 r l) * x1 (ix2 (0 : Fin 1) l)) := by
  frame_out
  pointwise [k0_pay1, k0_pay2]

/-- What a grid point stores in the second table. -/
theorem sin_at (x0 : S512x128.Idx → EReal) (x1 : S1x128.Idx → EReal) (r : Fin 512) (l : Fin 128) :
    out0_3 (F := Ideal) x0 x1 (ix2 r l) = FloatOps.sin (F := Ideal) (φ := .f32) (x0 (ix2 r l) * x1 (ix2 (0 : Fin 1) l)) := by
  frame_out
  pointwise [k0_pay1, k0_pay3]

/-! ### The tables as functions of the positions -/

/-- The inverse frequencies, one per angle. -/
def freq : S8.Idx → EReal :=
  (Host.powf (broadcastInDim S8 ![] bcast_S_S8 (constant S_ .f32 0x48F42400#32)) (Host.divf (Host.negf (mulf (sitofp .f32 (iotaInDim S8 32 0)) (broadcastInDim S8 ![] bcast_S_S8 (constant S_ .f32 0x40000000#32)))) (broadcastInDim S8 ![] bcast_S_S8 (constant S_ .f32 0x41800000#32))) : FVec Ideal S8 .f32)

/-- The angle at a row of 16 positions and a lane of 8 angles each. -/
def ang (p : IVec S2x8192 32) (r : Fin 1024) (l : Fin 128) : EReal :=
  (sitofp .f32 p : FVec Ideal S2x8192 .f32) (ix2 (⟨(16 * r.val + l.val / 8) / 8192, by omega⟩ : Fin 2) (⟨(16 * r.val + l.val / 8) % 8192, by omega⟩ : Fin 8192))
    * freq (ix1 (⟨l.val % 8, by omega⟩ : Fin 8))

/-- The cosines. -/
def GC (p : IVec S2x8192 32) : S1024x128.Idx → EReal := fun j => FloatOps.cos (F := Ideal) (φ := .f32) (ang p (j 0) (j 1))

/-- The sines. -/
def GS (p : IVec S2x8192 32) : S1024x128.Idx → EReal := fun j => FloatOps.sin (F := Ideal) (φ := .f32) (ang p (j 0) (j 1))

variable (m : (ℓ : Loc nD τ sig) → Buf (Elt Ideal) ℓ) (c : Dev nD)

/-- The positions at the launch. -/
abbrev A0 : IVec S2x8192 32 := m ((c : Thread nD τ).loc main_arg0)

/-- Where each window's block stands at a grid point. -/
theorem idx : ∀ t : Fin cfg0.N,
    win0_0.index t = ![(grid0.coords t 0).val, 0]
    ∧ win0_1.index t = ![0, 0]
    ∧ win0_2.index t = ![(grid0.coords t 0).val, 0]
    ∧ win0_3.index t = ![(grid0.coords t 0).val, 0] := by
  decide +kernel

open Idealize.ShloMosaic.StableHlo in
/-- The positions the launch reads, each on 8 lanes. -/
theorem entP : V (F := Ideal) m c main_v11 = shapeCast S1024x128 (broadcastInDim S16384x8 ![0, 1] bcast_S16384x1_S16384x8_0_1 (shapeCast S16384x1 (sitofp .f32 (A0 m c) : FVec Ideal S2x8192 .f32) shapeCasts_S2x8192_S16384x1)) shapeCasts_S16384x8_S1024x128 := by
  show StableHlo.after [hostOps0].flatten (fun b => m (c, b)) (Proc.tc.devRef main_v11) = _
  simp only [hostOps0, List.flatten_cons, List.flatten_nil, List.cons_append, List.nil_append, List.append_nil, TRef.binary, TRef.nullary, TRef.unary, TRef.toBuf, TRef.ofBuf, cast_eq]
  after_results_simp <;> rfl

open Idealize.ShloMosaic.StableHlo in
/-- The frequencies the launch reads, 16 times over. -/
theorem entF : V (F := Ideal) m c main_v15 = shapeCast S1x128 (shapeCast S128 (broadcastInDim S16x8 ![0, 1] bcast_S1x8_S16x8_0_1 (shapeCast S1x8 freq shapeCasts_S8_S1x8)) shapeCasts_S16x8_S128) shapeCasts_S128_S1x128 := by
  show StableHlo.after [hostOps0].flatten (fun b => m (c, b)) (Proc.tc.devRef main_v15) = _
  simp only [hostOps0, List.flatten_cons, List.flatten_nil, List.cons_append, List.nil_append, List.append_nil, TRef.binary, TRef.nullary, TRef.unary, TRef.toBuf, TRef.ofBuf, cast_eq]
  after_results_simp <;> rfl

/-- The row of the tables at a tile's row. -/
abbrev rw0 (t : Fin cfg0.N) (r : Fin 512) : Fin 1024 :=
  ⟨512 * (grid0.coords t 0).val + r.val, by have : (grid0.coords t 0).val < 2 := (grid0.coords t 0).2; omega⟩

theorem blk0_at (t : Fin cfg0.N) (r : Fin 512) (l : Fin 128) :
    (iblk (F := Ideal) m c 0 t : S512x128.Idx → EReal) (ix2 r l)
      = (sitofp .f32 (A0 m c) : FVec Ideal S2x8192 .f32) (ix2 (⟨(16 * (rw0 t r).val + l.val / 8) / 8192, by omega⟩ : Fin 2) (⟨(16 * (rw0 t r).val + l.val / 8) % 8192, by omega⟩ : Fin 8192)) := by
  have h0 : (grid0.coords t 0).val < 2 := (grid0.coords t 0).2
  have e : (win0_0.blk t).view.emb (ix2 r l) = ix2 (rw0 t r) l := by
    refine funext (Fin.forall_fin_two.mpr ⟨Fin.ext ?_, Fin.ext ?_⟩) <;> blk_simp [(idx t).1] <;> (try dsimp only) <;> omega
  blk_simp [iblk, (idx t).1]
  rw [show V (F := Ideal) m c (Pipeline.arrRef spec0 0) = _ from entP m c, e]
  pointwise
  refine congrArg _ (congrArg _ (congrArg₂ ix2 (Fin.ext ?_) (Fin.ext ?_))) <;> (try dsimp only) <;> omega

theorem blk1_at (t : Fin cfg0.N) (l : Fin 128) :
    (iblk (F := Ideal) m c 1 t : S1x128.Idx → EReal) (ix2 (0 : Fin 1) l) = freq (ix1 (⟨l.val % 8, by omega⟩ : Fin 8)) := by
  have e : (win0_1.blk t).view.emb (ix2 (0 : Fin 1) l) = ix2 (0 : Fin 1) l := by
    refine funext (Fin.forall_fin_two.mpr ⟨Fin.ext ?_, Fin.ext ?_⟩) <;> blk_simp [(idx t).2.1] <;> (try dsimp only) <;> omega
  blk_simp [iblk, (idx t).2.1]
  rw [show V (F := Ideal) m c (Pipeline.arrRef spec0 1) = _ from entF m c, e]
  generalize freq = f
  pointwise

/-- The first table after the run. -/
theorem arrC_eq : (dats (F := Ideal) m 0 c).arrAt 2 cfg0.N = GC (A0 m c) := by
  refine (dats (F := Ideal) m 0 c).arrAt_eq_of_covers 2 _ (by decide +kernel) fun t hf y => ?_
  obtain ⟨r, d, rfl⟩ : ∃ (r : Fin 512) (d : Fin 128), y = ix2 r d := ⟨y 0, y 1, eq_ix2 y⟩
  have e2 : (win0_2.blk t).view.emb (ix2 r d) = ix2 (rw0 t r) d := by
    refine funext (Fin.forall_fin_two.mpr ⟨Fin.ext ?_, Fin.ext ?_⟩) <;> blk_simp [(idx t).2.2.1] <;> (try dsimp only) <;> omega
  have key : out0_2 (F := Ideal) (iblk m c 0 t) (iblk m c 1 t) (ix2 r d) = GC (A0 m c) (ix2 (rw0 t r) d) :=
    (cos_at _ _ r d).trans (congrArg _ (congrArg₂ (fun a b : EReal => a * b) (blk0_at m c t r d) (blk1_at m c t d)))
  blk_simp
  rw [after0_2, e2]
  exact key

/-- The second table after the run. -/
theorem arrS_eq : (dats (F := Ideal) m 0 c).arrAt 3 cfg0.N = GS (A0 m c) := by
  refine (dats (F := Ideal) m 0 c).arrAt_eq_of_covers 3 _ (by decide +kernel) fun t hf y => ?_
  obtain ⟨r, d, rfl⟩ : ∃ (r : Fin 512) (d : Fin 128), y = ix2 r d := ⟨y 0, y 1, eq_ix2 y⟩
  have e2 : (win0_3.blk t).view.emb (ix2 r d) = ix2 (rw0 t r) d := by
    refine funext (Fin.forall_fin_two.mpr ⟨Fin.ext ?_, Fin.ext ?_⟩) <;> blk_simp [(idx t).2.2.2] <;> (try dsimp only) <;> omega
  have key : out0_3 (F := Ideal) (iblk m c 0 t) (iblk m c 1 t) (ix2 r d) = GS (A0 m c) (ix2 (rw0 t r) d) :=
    (sin_at _ _ r d).trans (congrArg _ (congrArg₂ (fun a b : EReal => a * b) (blk0_at m c t r d) (blk1_at m c t d)))
  blk_simp
  rw [after0_3, e2]
  exact key

/-! ### The reference -/

/-- The reference's angles. -/
def angV (p : IVec S2x8192 32) : FVec Ideal S1024x128 .f32 :=
  shapeCast _ (mulf (broadcastInDim Cert.Reference9Ideal.S2x8192x8 ![0, 1, 2] Cert.Reference9Ideal.Facts₀.bcast_S2x8192x1_S2x8192x8_0_1_2 (broadcastInDim Cert.Reference9Ideal.S2x8192x1 ![0, 1] Cert.Reference9Ideal.Facts₀.bcast_S2x8192_S2x8192x1_0_1 (sitofp .f32 p))) (broadcastInDim Cert.Reference9Ideal.S2x8192x8 ![0, 1, 2] Cert.Reference9Ideal.Facts₀.bcast_S1x1x8_S2x8192x8_0_1_2 (broadcastInDim Cert.Reference9Ideal.S1x1x8 ![2] Cert.Reference9Ideal.Facts₀.bcast_S8_S1x1x8_2 freq))) Cert.Reference9Ideal.Facts₀.shapeCasts_S2x8192x8_S1024x128

theorem angV_at (p : IVec S2x8192 32) (r : Fin 1024) (l : Fin 128) : angV p (ix2 r l) = ang p r l := by
  unfold ang angV
  generalize freq = f
  pointwise
  refine congrArg₂ (fun a b : EReal => a * b) (congrArg _ (congrArg _ (congrArg₂ ix2 (Fin.ext ?_) (Fin.ext ?_)))) (congrArg f (congrArg ix1 (Fin.ext ?_))) <;> (try dsimp only) <;> omega

theorem cosV_eq (p : IVec S2x8192 32) : (Host.cos (angV p) : FVec Ideal S1024x128 .f32) = GC p := by
  funext j
  obtain ⟨r, d, rfl⟩ : ∃ (r : Fin 1024) (d : Fin 128), j = ix2 r d := ⟨j 0, j 1, eq_ix2 j⟩
  exact congrArg (FloatOps.cos (F := Ideal) (φ := .f32)) (angV_at p r d)

theorem sinV_eq (p : IVec S2x8192 32) : (Host.sin (angV p) : FVec Ideal S1024x128 .f32) = GS p := by
  funext j
  obtain ⟨r, d, rfl⟩ : ∃ (r : Fin 1024) (d : Fin 128), j = ix2 r d := ⟨j 0, j 1, eq_ix2 j⟩
  exact congrArg (FloatOps.sin (F := Ideal) (φ := .f32)) (angV_at p r d)

open Idealize.SL.Sem

/-- The plain reference runs, leaves its argument alone and ends with every counter at zero. -/
theorem frame_ri : Cert.quiescent_Reference9Ideal (hReference9Ideal := Cert.Reference9Ideal.Gen.facts) := fun m ρ _ =>
  (θ_run Cert.Reference9Ideal.defs _ _).mono (fun r h => ⟨fun c => (h c).2.2,
      Idealize.ShloMosaic.sem_eq_zero_of_no_sems (by decide) r.2⟩)
    (Cert.Reference9Ideal.Value.run (F := Ideal) m ρ)

/-- The kernel and the plain formula end at the same two tables. -/
theorem algebraic : Cert.algebraic_Kernel9Ideal_Reference9Ideal (hKernel9Ideal := Cert.Kernel9Ideal.Gen.facts)
    (hReference9Ideal := Cert.Reference9Ideal.Gen.facts) := by
  intro m ρ m' ρ' _ hag
  refine ⟨fun c => GC (A0 m c), fun c => GS (A0 m c), ?_, ?_⟩
  · exact (θ_run Cert.Kernel9Ideal.defs _ _).mono
      (fun r h c => ⟨(h c).1.trans (arrC_eq m c), (h c).2.1.trans (arrS_eq m c), (h c).2.2⟩) (Cert.Kernel9Ideal.Value.run_blocks m ρ)
  · refine (θ_run Cert.Reference9Ideal.defs _ _).mono (fun r h c => ⟨(h c).1.trans ?_, (h c).2.1.trans ?_, (h c).2.2⟩) (Cert.Reference9Ideal.Value.run m' ρ')
    · have h0 := hag c
      refine (cosV_eq _).trans ?_
      rw [h0]
    · have h0 := hag c
      refine (sinV_eq _).trans ?_
      rw [h0]

end Cert.RopeI

end
-- ==== Proof.lean ====
/- The claims of the layer's calls, assembled. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Kernel.Loops
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Loops
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.StickClaims
public import proofs.«01_k».proof.Proof.FfnClaims
public import proofs.«01_k».proof.Proof.InprojClaims
public import proofs.«01_k».proof.Proof.MergeClaims
public import proofs.«01_k».proof.Proof.ConvClaims
public import proofs.«01_k».proof.Proof.PrepClaims
public import proofs.«01_k».proof.Proof.RopeA
public import proofs.«01_k».proof.Proof.RopeI
public import Idealize.ShloMosaic.Adequacy
public import Idealize.ShloMosaic.Init

@[expose] public section

noncomputable section

namespace Cert.Proof

open Idealize.ShloMosaic Idealize.SL.Sem

/-- Every claim: the frames of the eight calls and of their references, and their values. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    fun m ρ _ => Cert.Kernel.Gen.frame m ρ,
    fun m ρ _ => Cert.KernelIdeal.Gen.frame m ρ,
    Cert.Stick.frame_ri,
    fun m ρ _ => Cert.Kernel2.Gen.frame m ρ,
    fun m ρ _ => Cert.Kernel2Ideal.Gen.frame m ρ,
    Cert.Ffn.frame_ri,
    fun m ρ _ => Cert.Kernel3.Inproj.frame m ρ,
    fun m ρ _ => Cert.Kernel3Ideal.Inproj.frame m ρ,
    Cert.Inproj.frame_ri,
    fun m ρ _ => Cert.Kernel4.Gen.frame m ρ,
    fun m ρ _ => Cert.Kernel4Ideal.Gen.frame m ρ,
    Cert.Merge.frame_ri,
    fun m ρ _ => Cert.Kernel6.Gen.frame m ρ,
    fun m ρ _ => Cert.Kernel6Ideal.Gen.frame m ρ,
    Cert.Conv.frame_ri,
    fun m ρ _ => Cert.Kernel7.Gen.frame m ρ,
    fun m ρ _ => Cert.Kernel7Ideal.Gen.frame m ρ,
    Cert.Prep.frame_ri,
    fun m ρ _ => Cert.Kernel8.Gen.frame m ρ,
    fun m ρ _ => Cert.Kernel8Ideal.Gen.frame m ρ,
    Cert.RopeA.frame_ri,
    fun m ρ _ => Cert.Kernel9.Gen.frame m ρ,
    fun m ρ _ => Cert.Kernel9Ideal.Gen.frame m ρ,
    Cert.RopeI.frame_ri,
    Cert.Stick.preserves, Cert.Stick.algebraic,
    trivial, Cert.Ffn.algebraic,
    trivial, Cert.Inproj.algebraic,
    trivial, Cert.Merge.algebraic,
    trivial, Cert.Conv.algebraic,
    trivial, Cert.Prep.algebraic,
    trivial, Cert.RopeA.algebraic,
    trivial, Cert.RopeI.algebraic⟩

end Cert.Proof

end
